-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite23 [hPre_finite23 : Cert.Pre_finite23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite23 [hPre_finite23 : Cert.Pre_finite23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite22 [hPre_finite22 : Cert.Pre_finite22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite22 [hPre_finite22 : Cert.Pre_finite22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Kernel23Ideal_pre_finite23 [hKernel23Ideal : Cert.Kernel23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Reference23Ideal_pre_finite23 [hReference23Ideal : Cert.Reference23Ideal.Facts] [hPre_finite23 : Cert.Pre_finite23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Kernel22Ideal_pre_finite22 [hKernel22Ideal : Cert.Kernel22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Reference22Ideal_pre_finite22 [hReference22Ideal : Cert.Reference22Ideal.Facts] [hPre_finite22 : Cert.Pre_finite22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v29_3)) (v4 : (c : Dev Cert.KernelIdeal.nD) → Buf (Elt Ideal) ((c.tc : Thread Cert.KernelIdeal.nD Cert.KernelIdeal.τ).loc Cert.KernelIdeal.main_v29_4)) (v5 : (c : Dev Cert.KernelIdeal.nD) → Buf (Elt Ideal) ((c.tc : Thread Cert.KernelIdeal.nD Cert.KernelIdeal.τ).loc Cert.KernelIdeal.main_v29_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v29_3) = v3 c
          ∧ r.2.mem ((c.tc : Thread Cert.KernelIdeal.nD Cert.KernelIdeal.τ).loc Cert.KernelIdeal.main_v29_4) = v4 c
          ∧ r.2.mem ((c.tc : Thread Cert.KernelIdeal.nD Cert.KernelIdeal.τ).loc Cert.KernelIdeal.main_v29_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_v149) = v4 c
          ∧ r.2.mem ((c.tc : Thread Cert.ReferenceIdeal.nD Cert.ReferenceIdeal.τ).loc Cert.ReferenceIdeal.main_v147) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v33_0)) (v1 : (c : Dev Cert.Kernel3Ideal.nD) → Buf (Elt Ideal) ((c.tc : Thread Cert.Kernel3Ideal.nD Cert.Kernel3Ideal.τ).loc Cert.Kernel3Ideal.main_v33_1)) (v2 : (c : Dev Cert.Kernel3Ideal.nD) → Buf (Elt Ideal) ((c.tc : Thread Cert.Kernel3Ideal.nD Cert.Kernel3Ideal.τ).loc Cert.Kernel3Ideal.main_v33_2)) (v3 : (c : Dev Cert.Kernel3Ideal.nD) → Buf (Elt Ideal) ((c.tc : Thread Cert.Kernel3Ideal.nD Cert.Kernel3Ideal.τ).loc Cert.Kernel3Ideal.main_v33_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33_0) = v0 c
          ∧ r.2.mem ((c.tc : Thread Cert.Kernel3Ideal.nD Cert.Kernel3Ideal.τ).loc Cert.Kernel3Ideal.main_v33_1) = v1 c
          ∧ r.2.mem ((c.tc : Thread Cert.Kernel3Ideal.nD Cert.Kernel3Ideal.τ).loc Cert.Kernel3Ideal.main_v33_2) = v2 c
          ∧ r.2.mem ((c.tc : Thread Cert.Kernel3Ideal.nD Cert.Kernel3Ideal.τ).loc Cert.Kernel3Ideal.main_v33_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_v87) = v2 c
          ∧ r.2.mem ((c.tc : Thread Cert.Reference3Ideal.nD Cert.Reference3Ideal.τ).loc Cert.Reference3Ideal.main_v86) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v51) = v2 c
          ∧ r.2.mem ((c.tc : Thread Cert.Reference7Ideal.nD Cert.Reference7Ideal.τ).loc Cert.Reference7Ideal.main_v20) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v43) = v0 c
          ∧ r.2.mem ((c.tc : Thread Cert.Reference11Ideal.nD Cert.Reference11Ideal.τ).loc Cert.Reference11Ideal.main_v44) = v1 c
          ∧ r.2.mem ((c.tc : Thread Cert.Reference11Ideal.nD Cert.Reference11Ideal.τ).loc Cert.Reference11Ideal.main_v48) = v2 c
          ∧ r.2.mem ((c.tc : Thread Cert.Reference11Ideal.nD Cert.Reference11Ideal.τ).loc Cert.Reference11Ideal.main_v17) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)) (v2 : (c : Dev Cert.Kernel18Ideal.nD) → Buf (Elt Ideal) ((c.tc : Thread Cert.Kernel18Ideal.nD Cert.Kernel18Ideal.τ).loc Cert.Kernel18Ideal.main_v6_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_v6_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v1) = v1 c
          ∧ r.2.mem ((c.tc : Thread Cert.Reference18Ideal.nD Cert.Reference18Ideal.τ).loc Cert.Reference18Ideal.main_v29) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v2_1)) (v2 : (c : Dev Cert.Kernel19Ideal.nD) → Buf (Elt Ideal) ((c.tc : Thread Cert.Kernel19Ideal.nD Cert.Kernel19Ideal.τ).loc Cert.Kernel19Ideal.main_v2_3)) (v3 : (c : Dev Cert.Kernel19Ideal.nD) → Buf (Elt Ideal) ((c.tc : Thread Cert.Kernel19Ideal.nD Cert.Kernel19Ideal.τ).loc Cert.Kernel19Ideal.main_v2_4)) (v4 : (c : Dev Cert.Kernel19Ideal.nD) → Buf (Elt Ideal) ((c.tc : Thread Cert.Kernel19Ideal.nD Cert.Kernel19Ideal.τ).loc Cert.Kernel19Ideal.main_v2_5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v2_1) = v1 c
          ∧ r.2.mem ((c.tc : Thread Cert.Kernel19Ideal.nD Cert.Kernel19Ideal.τ).loc Cert.Kernel19Ideal.main_v2_3) = v2 c
          ∧ r.2.mem ((c.tc : Thread Cert.Kernel19Ideal.nD Cert.Kernel19Ideal.τ).loc Cert.Kernel19Ideal.main_v2_4) = v3 c
          ∧ r.2.mem ((c.tc : Thread Cert.Kernel19Ideal.nD Cert.Kernel19Ideal.τ).loc Cert.Kernel19Ideal.main_v2_5) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v49) = v0 c
          ∧ r.2.mem ((c.tc : Thread Cert.Reference19Ideal.nD Cert.Reference19Ideal.τ).loc Cert.Reference19Ideal.main_v50) = v1 c
          ∧ r.2.mem ((c.tc : Thread Cert.Reference19Ideal.nD Cert.Reference19Ideal.τ).loc Cert.Reference19Ideal.main_v51) = v2 c
          ∧ r.2.mem ((c.tc : Thread Cert.Reference19Ideal.nD Cert.Reference19Ideal.τ).loc Cert.Reference19Ideal.main_v48) = v3 c
          ∧ r.2.mem ((c.tc : Thread Cert.Reference19Ideal.nD Cert.Reference19Ideal.τ).loc Cert.Reference19Ideal.main_v41) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v5_1)) (v2 : (c : Dev Cert.Kernel20Ideal.nD) → Buf (Elt Ideal) ((c.tc : Thread Cert.Kernel20Ideal.nD Cert.Kernel20Ideal.τ).loc Cert.Kernel20Ideal.main_v5_2)) (v3 : (c : Dev Cert.Kernel20Ideal.nD) → Buf (Elt Ideal) ((c.tc : Thread Cert.Kernel20Ideal.nD Cert.Kernel20Ideal.τ).loc Cert.Kernel20Ideal.main_v5_3)) (v4 : (c : Dev Cert.Kernel20Ideal.nD) → Buf (Elt Ideal) ((c.tc : Thread Cert.Kernel20Ideal.nD Cert.Kernel20Ideal.τ).loc Cert.Kernel20Ideal.main_v5_4)) (v5 : (c : Dev Cert.Kernel20Ideal.nD) → Buf (Elt Ideal) ((c.tc : Thread Cert.Kernel20Ideal.nD Cert.Kernel20Ideal.τ).loc Cert.Kernel20Ideal.main_v5_5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v5_1) = v1 c
          ∧ r.2.mem ((c.tc : Thread Cert.Kernel20Ideal.nD Cert.Kernel20Ideal.τ).loc Cert.Kernel20Ideal.main_v5_2) = v2 c
          ∧ r.2.mem ((c.tc : Thread Cert.Kernel20Ideal.nD Cert.Kernel20Ideal.τ).loc Cert.Kernel20Ideal.main_v5_3) = v3 c
          ∧ r.2.mem ((c.tc : Thread Cert.Kernel20Ideal.nD Cert.Kernel20Ideal.τ).loc Cert.Kernel20Ideal.main_v5_4) = v4 c
          ∧ r.2.mem ((c.tc : Thread Cert.Kernel20Ideal.nD Cert.Kernel20Ideal.τ).loc Cert.Kernel20Ideal.main_v5_5) = v5 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v66) = v0 c
          ∧ r.2.mem ((c.tc : Thread Cert.Reference20Ideal.nD Cert.Reference20Ideal.τ).loc Cert.Reference20Ideal.main_v67) = v1 c
          ∧ r.2.mem ((c.tc : Thread Cert.Reference20Ideal.nD Cert.Reference20Ideal.τ).loc Cert.Reference20Ideal.main_v71) = v2 c
          ∧ r.2.mem ((c.tc : Thread Cert.Reference20Ideal.nD Cert.Reference20Ideal.τ).loc Cert.Reference20Ideal.main_v40) = v3 c
          ∧ r.2.mem ((c.tc : Thread Cert.Reference20Ideal.nD Cert.Reference20Ideal.τ).loc Cert.Reference20Ideal.main_v72) = v4 c
          ∧ r.2.mem ((c.tc : Thread Cert.Reference20Ideal.nD Cert.Reference20Ideal.τ).loc Cert.Reference20Ideal.main_v73) = v5 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel23_Kernel23Ideal : Prop :=
  True

def algebraic_Kernel23Ideal_Reference23Ideal_pre_finite23 [hKernel23Ideal : Cert.Kernel23Ideal.Facts] [hReference23Ideal : Cert.Reference23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v22_0)) (v1 : (c : Dev Cert.Kernel23Ideal.nD) → Buf (Elt Ideal) ((c.tc : Thread Cert.Kernel23Ideal.nD Cert.Kernel23Ideal.τ).loc Cert.Kernel23Ideal.main_v22_1)) (v2 : (c : Dev Cert.Kernel23Ideal.nD) → Buf (Elt Ideal) ((c.tc : Thread Cert.Kernel23Ideal.nD Cert.Kernel23Ideal.τ).loc Cert.Kernel23Ideal.main_v22_2)) (v3 : (c : Dev Cert.Kernel23Ideal.nD) → Buf (Elt Ideal) ((c.tc : Thread Cert.Kernel23Ideal.nD Cert.Kernel23Ideal.τ).loc Cert.Kernel23Ideal.main_v22_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v22_0) = v0 c
          ∧ r.2.mem ((c.tc : Thread Cert.Kernel23Ideal.nD Cert.Kernel23Ideal.τ).loc Cert.Kernel23Ideal.main_v22_1) = v1 c
          ∧ r.2.mem ((c.tc : Thread Cert.Kernel23Ideal.nD Cert.Kernel23Ideal.τ).loc Cert.Kernel23Ideal.main_v22_2) = v2 c
          ∧ r.2.mem ((c.tc : Thread Cert.Kernel23Ideal.nD Cert.Kernel23Ideal.τ).loc Cert.Kernel23Ideal.main_v22_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v64) = v0 c
          ∧ r.2.mem ((c.tc : Thread Cert.Reference23Ideal.nD Cert.Reference23Ideal.τ).loc Cert.Reference23Ideal.main_v67) = v1 c
          ∧ r.2.mem ((c.tc : Thread Cert.Reference23Ideal.nD Cert.Reference23Ideal.τ).loc Cert.Reference23Ideal.main_v66) = v2 c
          ∧ r.2.mem ((c.tc : Thread Cert.Reference23Ideal.nD Cert.Reference23Ideal.τ).loc Cert.Reference23Ideal.main_v65) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel22_Kernel22Ideal : Prop :=
  True

def algebraic_Kernel22Ideal_Reference22Ideal_pre_finite22 [hKernel22Ideal : Cert.Kernel22Ideal.Facts] [hReference22Ideal : Cert.Reference22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v22_0)) (v1 : (c : Dev Cert.Kernel22Ideal.nD) → Buf (Elt Ideal) ((c.tc : Thread Cert.Kernel22Ideal.nD Cert.Kernel22Ideal.τ).loc Cert.Kernel22Ideal.main_v22_1)) (v2 : (c : Dev Cert.Kernel22Ideal.nD) → Buf (Elt Ideal) ((c.tc : Thread Cert.Kernel22Ideal.nD Cert.Kernel22Ideal.τ).loc Cert.Kernel22Ideal.main_v22_2)) (v3 : (c : Dev Cert.Kernel22Ideal.nD) → Buf (Elt Ideal) ((c.tc : Thread Cert.Kernel22Ideal.nD Cert.Kernel22Ideal.τ).loc Cert.Kernel22Ideal.main_v22_3)) (v4 : (c : Dev Cert.Kernel22Ideal.nD) → Buf (Elt Ideal) ((c.tc : Thread Cert.Kernel22Ideal.nD Cert.Kernel22Ideal.τ).loc Cert.Kernel22Ideal.main_v22_4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v22_0) = v0 c
          ∧ r.2.mem ((c.tc : Thread Cert.Kernel22Ideal.nD Cert.Kernel22Ideal.τ).loc Cert.Kernel22Ideal.main_v22_1) = v1 c
          ∧ r.2.mem ((c.tc : Thread Cert.Kernel22Ideal.nD Cert.Kernel22Ideal.τ).loc Cert.Kernel22Ideal.main_v22_2) = v2 c
          ∧ r.2.mem ((c.tc : Thread Cert.Kernel22Ideal.nD Cert.Kernel22Ideal.τ).loc Cert.Kernel22Ideal.main_v22_3) = v3 c
          ∧ r.2.mem ((c.tc : Thread Cert.Kernel22Ideal.nD Cert.Kernel22Ideal.τ).loc Cert.Kernel22Ideal.main_v22_4) = v4 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v78) = v0 c
          ∧ r.2.mem ((c.tc : Thread Cert.Reference22Ideal.nD Cert.Reference22Ideal.τ).loc Cert.Reference22Ideal.main_v81) = v1 c
          ∧ r.2.mem ((c.tc : Thread Cert.Reference22Ideal.nD Cert.Reference22Ideal.τ).loc Cert.Reference22Ideal.main_v80) = v2 c
          ∧ r.2.mem ((c.tc : Thread Cert.Reference22Ideal.nD Cert.Reference22Ideal.τ).loc Cert.Reference22Ideal.main_v79) = v3 c
          ∧ r.2.mem ((c.tc : Thread Cert.Reference22Ideal.nD Cert.Reference22Ideal.τ).loc Cert.Reference22Ideal.main_v82) = v4 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel23 : Cert.Kernel23.Facts) (hKernel23Ideal : Cert.Kernel23Ideal.Facts) (hReference23Ideal : Cert.Reference23Ideal.Facts) (hKernel22 : Cert.Kernel22.Facts) (hKernel22Ideal : Cert.Kernel22Ideal.Facts) (hReference22Ideal : Cert.Reference22Ideal.Facts) (hPre_finite : Cert.Pre_finite.Facts) (hPre_finite3 : Cert.Pre_finite3.Facts) (hPre_finite23 : Cert.Pre_finite23.Facts) (hPre_finite22 : Cert.Pre_finite22.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel23 (hKernel23 := hKernel23)
    ∧ quiescent_Kernel23Ideal (hKernel23Ideal := hKernel23Ideal)
    ∧ quiescent_Kernel23Ideal_pre_finite23 (hKernel23Ideal := hKernel23Ideal) (hPre_finite23 := hPre_finite23)
    ∧ quiescent_Reference23Ideal (hReference23Ideal := hReference23Ideal)
    ∧ quiescent_Reference23Ideal_pre_finite23 (hReference23Ideal := hReference23Ideal) (hPre_finite23 := hPre_finite23)
    ∧ quiescent_Kernel22 (hKernel22 := hKernel22)
    ∧ quiescent_Kernel22Ideal (hKernel22Ideal := hKernel22Ideal)
    ∧ quiescent_Kernel22Ideal_pre_finite22 (hKernel22Ideal := hKernel22Ideal) (hPre_finite22 := hPre_finite22)
    ∧ quiescent_Reference22Ideal (hReference22Ideal := hReference22Ideal)
    ∧ quiescent_Reference22Ideal_pre_finite22 (hReference22Ideal := hReference22Ideal) (hPre_finite22 := hPre_finite22)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel23_Kernel23Ideal
    ∧ algebraic_Kernel23Ideal_Reference23Ideal_pre_finite23 (hKernel23Ideal := hKernel23Ideal) (hReference23Ideal := hReference23Ideal) (hPre_finite23 := hPre_finite23)
    ∧ preserves_Kernel22_Kernel22Ideal
    ∧ algebraic_Kernel22Ideal_Reference22Ideal_pre_finite22 (hKernel22Ideal := hKernel22Ideal) (hReference22Ideal := hReference22Ideal) (hPre_finite22 := hPre_finite22)
-- ==== Pre_finite.lean ====
abbrev S4096x2048 : Shape := ⟨2, ![4096, 2048]⟩
abbrev S1x2048 : Shape := ⟨2, ![1, 2048]⟩
abbrev S256x1024 : Shape := ⟨2, ![256, 1024]⟩
abbrev S2048x512 : Shape := ⟨2, ![2048, 512]⟩
abbrev S512x2048 : Shape := ⟨2, ![512, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S256x1024 : S_.BroadcastsInDim S256x1024 (![] : Fin 0 → Fin S256x1024.rank)
  reducesTo_S256x1024_S_d0_1 : S256x1024.ReducesTo [0, 1] S_
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_arg4 : FVec F S2048x512 .f32) (main_arg5 : FVec F S512x2048 .f32) (main_arg6 : FVec F S4096x2048 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  main_v33

def fn {F : FTy → Type} [FloatOps F] (main_arg0 : FVec F S4096x2048 .f32) (main_arg1 : FVec F S1x2048 .f32) (main_arg2 : FVec F S1x2048 .f32) (main_arg3 : FVec F S256x1024 .f32) (main_arg4 : FVec F S2048x512 .f32) (main_arg5 : FVec F S512x2048 .f32) (main_arg6 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_v13 main_v16
-- ==== Pre_finite22.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .f32) (main_arg1 : FVec F S1x2048 .f32) (main_arg2 : FVec F S1x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Pre_finite23.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S4096x2048 .f32) (main_arg1 : FVec F S1x2048 .f32) (main_arg2 : FVec F S1x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_finite3.lean ====
abbrev S4096x2048 : Shape := ⟨2, ![4096, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S8192x2048 .f32) (main_arg5 : FVec F S4096x2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  main_v28

def fn {F : FTy → Type} [FloatOps F] (main_arg0 : FVec F S4096x2048 .f32) (main_arg1 : FVec F S1x2048 .f32) (main_arg2 : FVec F S1x2048 .f32) (main_arg3 : FVec F S2048x8192 .f32) (main_arg4 : FVec F S8192x2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_v13 main_v16
-- ==== Kernel.lean ====
abbrev S4096x2048 : Shape := ⟨2, ![4096, 2048]⟩
abbrev S1x2048 : Shape := ⟨2, ![1, 2048]⟩
abbrev S256x1024 : Shape := ⟨2, ![256, 1024]⟩
abbrev S2048x512 : Shape := ⟨2, ![2048, 512]⟩
abbrev S512x2048 : Shape := ⟨2, ![512, 2048]⟩
abbrev S_ : Shape := ⟨0, ![]⟩
abbrev S4096 : Shape := ⟨1, ![4096]⟩
abbrev S4096x1 : Shape := ⟨2, ![4096, 1]⟩
abbrev S4096x512 : Shape := ⟨2, ![4096, 512]⟩
abbrev S8x256x128 : Shape := ⟨3, ![8, 256, 128]⟩
abbrev S256x2048 : Shape := ⟨2, ![256, 2048]⟩
abbrev S256x512 : Shape := ⟨2, ![256, 512]⟩
abbrev S256x1 : Shape := ⟨2, ![256, 1]⟩
abbrev S256x128 : Shape := ⟨2, ![256, 128]⟩
abbrev S256x256 : Shape := ⟨2, ![256, 256]⟩
abbrev S256 : Shape := ⟨1, ![256]⟩
abbrev S1x256x128 : Shape := ⟨3, ![1, 256, 128]⟩
abbrev S2048 : Shape := ⟨1, ![2048]⟩

abbrev nBuf : Space → Nat
  | .hbm => 47
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S256x1024, .f32⟩
  | .hbm, ⟨4, _⟩ => ⟨S2048x512, .f32⟩
  | .hbm, ⟨5, _⟩ => ⟨S512x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S2048x512, .bf16⟩
  | .hbm, ⟨31, _⟩ => ⟨S2048x512, .f32⟩
  | .hbm, ⟨32, _⟩ => ⟨S2048x512, .bf16⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x512, .f32⟩
  | .hbm, ⟨38, _⟩ => ⟨S4096x2048, .bf16⟩
  | .hbm, ⟨39, _⟩ => ⟨S4096x512, .bf16⟩
  | .hbm, ⟨40, _⟩ => ⟨S256x1024, .bf16⟩
  | .hbm, ⟨41, _⟩ => ⟨S4096x2048, .f32⟩
  | .hbm, ⟨42, _⟩ => ⟨S4096x2048, .bf16⟩
  | .hbm, ⟨43, _⟩ => ⟨S1x2048, .f32⟩
  | .hbm, ⟨44, _⟩ => ⟨S1x2048, .f32⟩
  | .hbm, ⟨45, _⟩ => ⟨S4096x512, .bf16⟩
  | .hbm, ⟨46, _⟩ => ⟨S8x256x128, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S2048x512, .bf16⟩
  | .local _ .vmem, ⟨8, _⟩ => ⟨S2048x512, .bf16⟩
  | .local _ .vmem, ⟨9, _⟩ => ⟨S256x2048, .f32⟩
  | .local _ .vmem, ⟨10, _⟩ => ⟨S256x2048, .f32⟩
  | .local _ .vmem, ⟨11, _⟩ => ⟨S256x1, .f32⟩
  | .local _ .vmem, ⟨12, _⟩ => ⟨S256x1, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | .local _ .vmem, ⟨19, _⟩ => ⟨S1x2048, .f32⟩
  | .local _ .vmem, ⟨20, _⟩ => ⟨S256x512, .bf16⟩
  | .local _ .vmem, ⟨21, _⟩ => ⟨S256x512, .bf16⟩
  | .local _ .vmem, ⟨22, _⟩ => ⟨S8x256x128, .f32⟩
  | .local _ .vmem, ⟨23, _⟩ => ⟨S256x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev main_v29_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v239 : BitVec 32 := Scalar.extui v0
  let c0_i32_125 : BitVec 32 := 0#32
  let v240 : BitVec 1 := Scalar.cmpi .ne v239 c0_i32_125
  v240

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_126 : BitVec 1 := 1#1
  let v241 : BitVec 1 := Scalar.xori v0 true_126
  let v242 : BitVec 32 := Scalar.extui v241
  let c0_i32_127 : BitVec 32 := 0#32
  let v243 : BitVec 1 := Scalar.cmpi .ne v242 c0_i32_127
  v243

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let v246 : BitVec 32 := Scalar.extui v0
  let c0_i32_129 : BitVec 32 := 0#32
  let v247 : BitVec 1 := Scalar.cmpi .ne v246 c0_i32_129
  v247

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let true_130 : BitVec 1 := 1#1
  let v248 : BitVec 1 := Scalar.xori v0 true_130
  let v249 : BitVec 32 := Scalar.extui v248
  let c0_i32_131 : BitVec 32 := 0#32
  let v250 : BitVec 1 := Scalar.cmpi .ne v249 c0_i32_131
  v250

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v42 : BitVec 32 := Scalar.extui v0
  let c0_i32_20 : BitVec 32 := 0#32
  let v43 : BitVec 1 := Scalar.cmpi .ne v42 c0_i32_20
  v43

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v44 : BitVec 1 := Scalar.xori v0 v_true
  let v45 : BitVec 32 := Scalar.extui v44
  let c0_i32_22 : BitVec 32 := 0#32
  let v46 : BitVec 1 := Scalar.cmpi .ne v45 c0_i32_22
  v46

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v49 : BitVec 32 := Scalar.extui v0
  let c0_i32_24 : BitVec 32 := 0#32
  let v50 : BitVec 1 := Scalar.cmpi .ne v49 c0_i32_24
  v50

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_25 : BitVec 1 := 1#1
  let v51 : BitVec 1 := Scalar.xori v0 true_25
  let v52 : BitVec 32 := Scalar.extui v51
  let c0_i32_27 : BitVec 32 := 0#32
  let v53 : BitVec 1 := Scalar.cmpi .ne v52 c0_i32_27
  v53

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v89 : BitVec 32 := Scalar.extui v0
  let c0_i32_43 : BitVec 32 := 0#32
  let v90 : BitVec 1 := Scalar.cmpi .ne v89 c0_i32_43
  v90

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_44 : BitVec 1 := 1#1
  let v91 : BitVec 1 := Scalar.xori v0 true_44
  let v92 : BitVec 32 := Scalar.extui v91
  let c0_i32_46 : BitVec 32 := 0#32
  let v93 : BitVec 1 := Scalar.cmpi .ne v92 c0_i32_46
  v93

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v96 : BitVec 32 := Scalar.extui v0
  let c0_i32_48 : BitVec 32 := 0#32
  let v97 : BitVec 1 := Scalar.cmpi .ne v96 c0_i32_48
  v97

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_49 : BitVec 1 := 1#1
  let v98 : BitVec 1 := Scalar.xori v0 true_49
  let v99 : BitVec 32 := Scalar.extui v98
  let c0_i32_51 : BitVec 32 := 0#32
  let v100 : BitVec 1 := Scalar.cmpi .ne v99 c0_i32_51
  v100

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v136 : BitVec 32 := Scalar.extui v0
  let c0_i32_67 : BitVec 32 := 0#32
  let v137 : BitVec 1 := Scalar.cmpi .ne v136 c0_i32_67
  v137

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_68 : BitVec 1 := 1#1
  let v138 : BitVec 1 := Scalar.xori v0 true_68
  let v139 : BitVec 32 := Scalar.extui v138
  let c0_i32_70 : BitVec 32 := 0#32
  let v140 : BitVec 1 := Scalar.cmpi .ne v139 c0_i32_70
  v140

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v143 : BitVec 32 := Scalar.extui v0
  let c0_i32_72 : BitVec 32 := 0#32
  let v144 : BitVec 1 := Scalar.cmpi .ne v143 c0_i32_72
  v144

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_73 : BitVec 1 := 1#1
  let v145 : BitVec 1 := Scalar.xori v0 true_73
  let v146 : BitVec 32 := Scalar.extui v145
  let c0_i32_75 : BitVec 32 := 0#32
  let v147 : BitVec 1 := Scalar.cmpi .ne v146 c0_i32_75
  v147

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v183 : BitVec 32 := Scalar.extui v0
  let c0_i32_91 : BitVec 32 := 0#32
  let v184 : BitVec 1 := Scalar.cmpi .ne v183 c0_i32_91
  v184

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_92 : BitVec 1 := 1#1
  let v185 : BitVec 1 := Scalar.xori v0 true_92
  let v186 : BitVec 32 := Scalar.extui v185
  let c0_i32_94 : BitVec 32 := 0#32
  let v187 : BitVec 1 := Scalar.cmpi .ne v186 c0_i32_94
  v187

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v190 : BitVec 32 := Scalar.extui v0
  let c0_i32_96 : BitVec 32 := 0#32
  let v191 : BitVec 1 := Scalar.cmpi .ne v190 c0_i32_96
  v191

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_97 : BitVec 1 := 1#1
  let v192 : BitVec 1 := Scalar.xori v0 true_97
  let v193 : BitVec 32 := Scalar.extui v192
  let c0_i32_99 : BitVec 32 := 0#32
  let v194 : BitVec 1 := Scalar.cmpi .ne v193 c0_i32_99
  v194

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4096x2048 : Shape := ⟨2, ![4096, 2048]⟩
abbrev S1x2048 : Shape := ⟨2, ![1, 2048]⟩
abbrev S256x1024 : Shape := ⟨2, ![256, 1024]⟩
abbrev S2048x512 : Shape := ⟨2, ![2048, 512]⟩
abbrev S512x2048 : Shape := ⟨2, ![512, 2048]⟩
abbrev S_ : Shape := ⟨0, ![]⟩
abbrev S4096x512 : Shape := ⟨2, ![4096, 512]⟩
abbrev S2048 : Shape := ⟨1, ![2048]⟩
abbrev S4096 : Shape := ⟨1, ![4096]⟩
abbrev S4096x1 : Shape := ⟨2, ![4096, 1]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩
abbrev S256x8x128 : Shape := ⟨3, ![256, 8, 128]⟩
abbrev S8x256x128 : Shape := ⟨3, ![8, 256, 128]⟩

abbrev nBuf : Space → Nat
  | .hbm => 192
  | .vmem => 0
  | .smem => 0
  | _ => 0

abbrev hbmTy0_0 (i : Nat) : BufTy := match i % 128 with
  | 0 => ⟨S4096x2048, .f32⟩
  | 1 => ⟨S1x2048, .f32⟩
  | 2 => ⟨S1x2048, .f32⟩
  | 3 => ⟨S256x1024, .f32⟩
  | 4 => ⟨S2048x512, .f32⟩
  | 5 => ⟨S512x2048, .f32⟩
  | 6 => ⟨S4096x2048, .f32⟩
  | 7 => ⟨S_, .f32⟩
  | 8 => ⟨S4096x512, .f32⟩
  | 9 => ⟨S2048, .f32⟩
  | 10 => ⟨S2048, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S4096x2048, .f32⟩
  | 18 => ⟨S4096x2048, .f32⟩
  | 19 => ⟨S4096x2048, .f32⟩
  | 20 => ⟨S_, .f32⟩
  | 21 => ⟨S4096x2048, .f32⟩
  | 22 => ⟨S4096x2048, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x2048, .f32⟩
  | 30 => ⟨S4096x2048, .f32⟩
  | 31 => ⟨S_, .f32⟩
  | 32 => ⟨S4096x1, .f32⟩
  | 33 => ⟨S4096x1, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x2048, .f32⟩
  | 40 => ⟨S4096x2048, .f32⟩
  | 41 => ⟨S1x2048, .f32⟩
  | 42 => ⟨S4096x2048, .f32⟩
  | 43 => ⟨S4096x2048, .f32⟩
  | 44 => ⟨S1x2048, .f32⟩
  | 45 => ⟨S4096x2048, .f32⟩
  | 46 => ⟨S4096x2048, .f32⟩
  | 47 => ⟨S4096x512, .f32⟩
  | 48 => ⟨S4096x512, .f32⟩
  | 49 => ⟨S4096x4x128, .f32⟩
  | 50 => ⟨S256x512, .f32⟩
  | 51 => ⟨S256x512, .f32⟩
  | 52 => ⟨S256x4x128, .f32⟩
  | 53 => ⟨S256x4x128, .f32⟩
  | 54 => ⟨S4x4096x256, .f32⟩
  | 55 => ⟨S_, .f32⟩
  | 56 => ⟨S4x4096x256, .f32⟩
  | 57 => ⟨S4x4096x256, .f32⟩
  | 58 => ⟨S_, .f32⟩
  | 59 => ⟨S4x4096, .f32⟩
  | 60 => ⟨S4x4096x1, .f32⟩
  | 61 => ⟨S4x4096x256, .f32⟩
  | 62 => ⟨S4x4096x256, .i1⟩
  | 63 => ⟨S4x4096x256, .f32⟩
  | 64 => ⟨S_, .f32⟩
  | 65 => ⟨S4x4096, .f32⟩
  | 66 => ⟨S_, .f32⟩
  | 67 => ⟨S4x4096, .f32⟩
  | 68 => ⟨S4x4096, .f32⟩
  | 69 => ⟨S_, .f32⟩
  | 70 => ⟨S4x4096, .f32⟩
  | 71 => ⟨S4x4096, .i1⟩
  | 72 => ⟨S_, .f32⟩
  | 73 => ⟨S4x4096, .f32⟩
  | 74 => ⟨S4x4096, .i1⟩
  | 75 => ⟨S_, .f32⟩
  | 76 => ⟨S4x4096, .f32⟩
  | 77 => ⟨S_, .f32⟩
  | 78 => ⟨S4x4096, .f32⟩
  | 79 => ⟨S_, .f32⟩
  | 80 => ⟨S4x4096, .f32⟩
  | 81 => ⟨S4x4096, .f32⟩
  | 82 => ⟨S4x4096, .f32⟩
  | 83 => ⟨S4x4096x1, .f32⟩
  | 84 => ⟨S4x4096x256, .f32⟩
  | 85 => ⟨S4x4096x256, .f32⟩
  | 86 => ⟨S4x4096x256, .f32⟩
  | 87 => ⟨S_, .f32⟩
  | 88 => ⟨S4x4096, .f32⟩
  | 89 => ⟨S4x4096x1, .f32⟩
  | 90 => ⟨S4x4096x256, .f32⟩
  | 91 => ⟨S4x4096x256, .f32⟩
  | 92 => ⟨S4x4096x1, .f32⟩
  | 93 => ⟨S_, .f32⟩
  | 94 => ⟨S4x4096x1, .f32⟩
  | 95 => ⟨S4x4096x1, .f32⟩
  | 96 => ⟨S4x128x4096, .f32⟩
  | 97 => ⟨S4096x4x128, .f32⟩
  | 98 => ⟨S4096x512, .f32⟩
  | 99 => ⟨S_, .f32⟩
  | 100 => ⟨S4096x2048, .f32⟩
  | 101 => ⟨S4096x2048, .f32⟩
  | 102 => ⟨S4096x2048, .f32⟩
  | 103 => ⟨S4096x2048, .f32⟩
  | 104 => ⟨S4096x2048, .f32⟩
  | 105 => ⟨S4096x2048, .f32⟩
  | 106 => ⟨S4096x512, .f32⟩
  | 107 => ⟨S_, .f32⟩
  | 108 => ⟨S4096x2048, .f32⟩
  | 109 => ⟨S4096x2048, .f32⟩
  | 110 => ⟨S4096x4x128, .f32⟩
  | 111 => ⟨S4x128x4096, .f32⟩
  | 112 => ⟨S4x4096x256, .f32⟩
  | 113 => ⟨S4x128x256, .f32⟩
  | 114 => ⟨S256x4x128, .f32⟩
  | 115 => ⟨S4x4096x256, .f32⟩
  | 116 => ⟨S4x4096x256, .f32⟩
  | 117 => ⟨S4x4096x256, .f32⟩
  | 118 => ⟨S_, .f32⟩
  | 119 => ⟨S4x4096, .f32⟩
  | 120 => ⟨S4x4096x1, .f32⟩
  | 121 => ⟨S4x4096x1, .f32⟩
  | 122 => ⟨S4x4096x256, .f32⟩
  | 123 => ⟨S4x4096x256, .f32⟩
  | 124 => ⟨S_, .f32⟩
  | 125 => ⟨S4x4096, .f32⟩
  | 126 => ⟨S4x4096x256, .f32⟩
  | 127 => ⟨S4x4096x256, .f32⟩
  | _ => ⟨S4096x2048, .f32⟩

abbrev hbmTy0_1 (i : Nat) : BufTy := match i % 128 with
  | 0 => ⟨S4x4096x256, .f32⟩
  | 1 => ⟨S_, .f32⟩
  | 2 => ⟨S4x4096x256, .f32⟩
  | 3 => ⟨S4x4096x256, .f32⟩
  | 4 => ⟨S4x256x128, .f32⟩
  | 5 => ⟨S256x4x128, .f32⟩
  | 6 => ⟨S4x4096x128, .f32⟩
  | 7 => ⟨S4096x4x128, .f32⟩
  | 8 => ⟨S256x512, .f32⟩
  | 9 => ⟨S256x512, .f32⟩
  | 10 => ⟨S256x1024, .f32⟩
  | 11 => ⟨S4096x512, .f32⟩
  | 12 => ⟨S4096x2048, .f32⟩
  | 13 => ⟨S4096x2048, .f32⟩
  | 14 => ⟨S_, .f32⟩
  | 15 => ⟨S2048, .f32⟩
  | 16 => ⟨S1x2048, .f32⟩
  | 17 => ⟨S_, .f32⟩
  | 18 => ⟨S2048, .f32⟩
  | 19 => ⟨S4096x2048, .f32⟩
  | 20 => ⟨S_, .f32⟩
  | 21 => ⟨S2048, .f32⟩
  | 22 => ⟨S1x2048, .f32⟩
  | 23 => ⟨S4096x2048, .f32⟩
  | 24 => ⟨S4096x2048, .f32⟩
  | 25 => ⟨S_, .f32⟩
  | 26 => ⟨S2048, .f32⟩
  | 27 => ⟨S4096x2048, .f32⟩
  | 28 => ⟨S_, .f32⟩
  | 29 => ⟨S4096, .f32⟩
  | 30 => ⟨S4096x1, .f32⟩
  | 31 => ⟨S4096x2048, .f32⟩
  | 32 => ⟨S4096x2048, .f32⟩
  | 33 => ⟨S4096x1, .f32⟩
  | 34 => ⟨S4096x2048, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096, .f32⟩
  | 43 => ⟨S4096x2048, .f32⟩
  | 44 => ⟨S4096x2048, .f32⟩
  | 45 => ⟨S4096x2048, .f32⟩
  | 46 => ⟨S_, .f32⟩
  | 47 => ⟨S4096, .f32⟩
  | 48 => ⟨S4096x1, .f32⟩
  | 49 => ⟨S4096x2048, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096, .f32⟩
  | 56 => ⟨S4096x2048, .f32⟩
  | 57 => ⟨S4096x2048, .f32⟩
  | 58 => ⟨S1x2048, .f32⟩
  | 59 => ⟨S1x2048, .f32⟩
  | 60 => ⟨S256x8x128, .f32⟩
  | 61 => ⟨S8x256x128, .f32⟩
  | 62 => ⟨S4096x2048, .bf16⟩
  | 63 => ⟨S4096x512, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_19 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_20 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_21 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_22 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_23 : Ref sig .tc := ⟨.hbm, 142, rfl⟩
abbrev main_v111 : Ref sig .tc := ⟨.hbm, 143, rfl⟩
abbrev main_v112 : Ref sig .tc := ⟨.hbm, 144, rfl⟩
abbrev main_cst_24 : Ref sig .tc := ⟨.hbm, 145, rfl⟩
abbrev main_v113 : Ref sig .tc := ⟨.hbm, 146, rfl⟩
abbrev main_v114 : Ref sig .tc := ⟨.hbm, 147, rfl⟩
abbrev main_cst_25 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_26 : Ref sig .tc := ⟨.hbm, 153, rfl⟩
abbrev main_v119 : Ref sig .tc := ⟨.hbm, 154, rfl⟩
abbrev main_v120 : Ref sig .tc := ⟨.hbm, 155, rfl⟩
abbrev main_cst_27 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_28 : Ref sig .tc := ⟨.hbm, 163, rfl⟩
abbrev main_v127 : Ref sig .tc := ⟨.hbm, 164, rfl⟩
abbrev main_v128 : Ref sig .tc := ⟨.hbm, 165, rfl⟩
abbrev main_cst_29 : Ref sig .tc := ⟨.hbm, 166, rfl⟩
abbrev main_v129 : Ref sig .tc := ⟨.hbm, 167, rfl⟩
abbrev main_v130 : Ref sig .tc := ⟨.hbm, 168, rfl⟩
abbrev main_cst_30 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_31 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_32 : Ref sig .tc := ⟨.hbm, 179, rfl⟩
abbrev main_v139 : Ref sig .tc := ⟨.hbm, 180, rfl⟩
abbrev main_v140 : Ref sig .tc := ⟨.hbm, 181, rfl⟩
abbrev main_cst_33 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩

abbrev nD : Nat := 1
abbrev τ : Topo := Topo.v7x

variable {F : FTy → Type} [FloatOps F]
-- ==== Kernel2.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S4096x2048, .bf16⟩
  | .hbm, ⟨6, _⟩ => ⟨S8192x2048, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel3.lean ====
abbrev S4096x2048 : Shape := ⟨2, ![4096, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩
abbrev S512x2048 : Shape := ⟨2, ![512, 2048]⟩
abbrev S2048x2048 : Shape := ⟨2, ![2048, 2048]⟩
abbrev S512x1 : Shape := ⟨2, ![512, 1]⟩
abbrev S512 : Shape := ⟨1, ![512]⟩
abbrev S2048 : Shape := ⟨1, ![2048]⟩

abbrev nBuf : Space → Nat
  | .hbm => 50
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048x8192, .f32⟩
  | .hbm, ⟨4, _⟩ => ⟨S8192x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S2048x8192, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096x8192, .f32⟩
  | .hbm, ⟨38, _⟩ => ⟨S4096x8192, .f32⟩
  | .hbm, ⟨39, _⟩ => ⟨S_, .f32⟩
  | .hbm, ⟨40, _⟩ => ⟨S4096x8192, .f32⟩
  | .hbm, ⟨41, _⟩ => ⟨S4096x8192, .f32⟩
  | .hbm, ⟨42, _⟩ => ⟨S4096x8192, .f32⟩
  | .hbm, ⟨43, _⟩ => ⟨S4096x8192, .bf16⟩
  | .hbm, ⟨44, _⟩ => ⟨S8192x2048, .f32⟩
  | .hbm, ⟨45, _⟩ => ⟨S8192x2048, .bf16⟩
  | .hbm, ⟨46, _⟩ => ⟨S4096x2048, .f32⟩
  | .hbm, ⟨47, _⟩ => ⟨S4096x2048, .bf16⟩
  | .hbm, ⟨48, _⟩ => ⟨S1x2048, .f32⟩
  | .hbm, ⟨49, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x1, .f32⟩
  | .local _ .vmem, ⟨9, _⟩ => ⟨S512x1, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1x2048, .f32⟩
  | .local _ .vmem, ⟨17, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev main_v33_2 : Ref sig .tc := ⟨.hbm, 48, rfl⟩
abbrev main_v33_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c0_i32_29 : BitVec 32 := 0#32
  let v57 : BitVec 1 := Scalar.cmpi .eq arg1 c0_i32_29
  let v58 : BitVec 32 := Scalar.extui v57
  let c0_i32_30 : BitVec 32 := 0#32
  let v59 : BitVec 1 := Scalar.cmpi .ne v58 c0_i32_30
  v59

def k0_cond5 (i : grid0.Coords) : BitVec 1 :=
  let arg1 : BitVec 32 := BitVec.ofNat 32 (i 1).val
  let c0_i32_29 : BitVec 32 := 0#32
  let v57 : BitVec 1 := Scalar.cmpi .eq arg1 c0_i32_29
  let v_true : BitVec 1 := 1#1
  let v60 : BitVec 1 := Scalar.xori v57 v_true
  let v61 : BitVec 32 := Scalar.extui v60
  let c0_i32_31 : BitVec 32 := 0#32
  let v62 : BitVec 1 := Scalar.cmpi .ne v61 c0_i32_31
  v62

def k0_cond6 (i : grid0.Coords) : BitVec 1 :=
  let arg1 : BitVec 32 := BitVec.ofNat 32 (i 1).val
  let c0_i32_32 : BitVec 32 := 0#32
  let v63 : BitVec 1 := Scalar.cmpi .eq arg1 c0_i32_32
  let v64 : BitVec 32 := Scalar.extui v63
  let c0_i32_33 : BitVec 32 := 0#32
  let v65 : BitVec 1 := Scalar.cmpi .ne v64 c0_i32_33
  v65

def k0_cond7 (i : grid0.Coords) : BitVec 1 :=
  let arg1 : BitVec 32 := BitVec.ofNat 32 (i 1).val
  let c0_i32_32 : BitVec 32 := 0#32
  let v63 : BitVec 1 := Scalar.cmpi .eq arg1 c0_i32_32
  let true_34 : BitVec 1 := 1#1
  let v66 : BitVec 1 := Scalar.xori v63 true_34
  let v67 : BitVec 32 := Scalar.extui v66
  let c0_i32_35 : BitVec 32 := 0#32
  let v68 : BitVec 1 := Scalar.cmpi .ne v67 c0_i32_35
  v68

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false, false]
-- ==== Reference3Ideal.lean ====
abbrev S4096x2048 : Shape := ⟨2, ![4096, 2048]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩

abbrev nBuf : Space → Nat
  | .hbm => 121
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048x8192, .f32⟩
  | .hbm, ⟨4, _⟩ => ⟨S8192x2048, .f32⟩
  | .hbm, ⟨5, _⟩ => ⟨S4096x2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x8192, .f32⟩
  | .hbm, ⟨48, _⟩ => ⟨S_, .f32⟩
  | .hbm, ⟨49, _⟩ => ⟨S4096x8192, .f32⟩
  | .hbm, ⟨50, _⟩ => ⟨S4096x8192, .f32⟩
  | .hbm, ⟨51, _⟩ => ⟨S_, .f32⟩
  | .hbm, ⟨52, _⟩ => ⟨S4096x8192, .f32⟩
  | .hbm, ⟨53, _⟩ => ⟨S4096x8192, .i1⟩
  | .hbm, ⟨54, _⟩ => ⟨S_, .f32⟩
  | .hbm, ⟨55, _⟩ => ⟨S4096x8192, .f32⟩
  | .hbm, ⟨56, _⟩ => ⟨S4096x8192, .f32⟩
  | .hbm, ⟨57, _⟩ => ⟨S_, .f32⟩
  | .hbm, ⟨58, _⟩ => ⟨S4096x8192, .f32⟩
  | .hbm, ⟨59, _⟩ => ⟨S4096x8192, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x8192, .f32⟩
  | .hbm, ⟨65, _⟩ => ⟨S4096x8192, .f32⟩
  | .hbm, ⟨66, _⟩ => ⟨S_, .f32⟩
  | .hbm, ⟨67, _⟩ => ⟨S4096x8192, .f32⟩
  | .hbm, ⟨68, _⟩ => ⟨S4096x8192, .f32⟩
  | .hbm, ⟨69, _⟩ => ⟨S4096x2048, .f32⟩
  | .hbm, ⟨70, _⟩ => ⟨S_, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S_, .f32⟩
  | .hbm, ⟨78, _⟩ => ⟨S2048, .f32⟩
  | .hbm, ⟨79, _⟩ => ⟨S4096x2048, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S2048, .f32⟩
  | .hbm, ⟨87, _⟩ => ⟨S4096x2048, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x2048, .f32⟩
  | .hbm, ⟨92, _⟩ => ⟨S4096x2048, .f32⟩
  | .hbm, ⟨93, _⟩ => ⟨S4096x1, .f32⟩
  | .hbm, ⟨94, _⟩ => ⟨S4096x2048, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x2048, .f32⟩
  | .hbm, ⟨104, _⟩ => ⟨S4096x2048, .f32⟩
  | .hbm, ⟨105, _⟩ => ⟨S4096x2048, .f32⟩
  | .hbm, ⟨106, _⟩ => ⟨S_, .f32⟩
  | .hbm, ⟨107, _⟩ => ⟨S4096, .f32⟩
  | .hbm, ⟨108, _⟩ => ⟨S4096x1, .f32⟩
  | .hbm, ⟨109, _⟩ => ⟨S4096x2048, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x2048, .f32⟩
  | .hbm, ⟨117, _⟩ => ⟨S4096x2048, .f32⟩
  | .hbm, ⟨118, _⟩ => ⟨S1x2048, .f32⟩
  | .hbm, ⟨119, _⟩ => ⟨S1x2048, .f32⟩
  | .hbm, ⟨120, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_cst : Ref sig .tc := ⟨.hbm, 48, rfl⟩
abbrev main_call0_v0 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_21 : Ref sig .tc := ⟨.hbm, 111, rfl⟩
abbrev main_v81 : Ref sig .tc := ⟨.hbm, 112, rfl⟩
abbrev main_v82 : Ref sig .tc := ⟨.hbm, 113, rfl⟩
abbrev main_cst_22 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]
-- ==== Kernel4.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩
abbrev S8192x2048 : Shape := ⟨2, ![8192, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 11
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x2048, .bf16⟩
  | .hbm, ⟨10, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x8192 : Shape := ⟨2, ![2048, 8192]⟩
abbrev S_ : Shape := ⟨0, ![]⟩
abbrev S8192x2048 : Shape := ⟨2, ![8192, 2048]⟩
abbrev S4096x8192 : Shape := ⟨2, ![4096, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .f32⟩
  | .hbm, ⟨3, _⟩ => ⟨S_, .f32⟩
  | .hbm, ⟨4, _⟩ => ⟨S8192x2048, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x2048, .f32⟩
  | .hbm, ⟨11, _⟩ => ⟨S2048x8192, .f32⟩
  | .hbm, ⟨12, _⟩ => ⟨S8192x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel5.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 17
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .bf16⟩
  | .hbm, ⟨15, _⟩ => ⟨S4096x2048, .bf16⟩
  | .hbm, ⟨16, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S8192x2048, .f32⟩
  | .hbm, ⟨24, _⟩ => ⟨S2048x8192, .f32⟩
  | .hbm, ⟨25, _⟩ => ⟨S8192x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel6.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S8192x2048, .f32⟩
  | .hbm, ⟨4, _⟩ => ⟨S8192x2048, .bf16⟩
  | .hbm, ⟨5, _⟩ => ⟨S4096x8192, .f32⟩
  | .hbm, ⟨6, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x8192 : Shape := ⟨2, ![2048, 8192]⟩
abbrev S8192x2048 : Shape := ⟨2, ![8192, 2048]⟩
abbrev S1x2048 : Shape := ⟨2, ![1, 2048]⟩
abbrev S4096x8192 : Shape := ⟨2, ![4096, 8192]⟩
abbrev S_ : Shape := ⟨0, ![]⟩
abbrev S4096x1 : Shape := ⟨2, ![4096, 1]⟩
abbrev S512x2048 : Shape := ⟨2, ![512, 2048]⟩
abbrev S2048x2048 : Shape := ⟨2, ![2048, 2048]⟩
abbrev S512x1 : Shape := ⟨2, ![512, 1]⟩
abbrev S512 : Shape := ⟨1, ![512]⟩

abbrev nBuf : Space → Nat
  | .hbm => 16
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S8192x2048, .bf16⟩
  | .hbm, ⟨12, _⟩ => ⟨S4096x2048, .f32⟩
  | .hbm, ⟨13, _⟩ => ⟨S4096x2048, .bf16⟩
  | .hbm, ⟨14, _⟩ => ⟨S4096x2048, .f32⟩
  | .hbm, ⟨15, _⟩ => ⟨S4096x1, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S512x1, .f32⟩
  | .local _ .vmem, ⟨15, _⟩ => ⟨S512x1, .f32⟩
  | .local _ .vmem, ⟨16, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]
-- ==== Reference7Ideal.lean ====
abbrev S4096x2048 : Shape := ⟨2, ![4096, 2048]⟩
abbrev S2048x8192 : Shape := ⟨2, ![2048, 8192]⟩
abbrev S8192x2048 : Shape := ⟨2, ![8192, 2048]⟩
abbrev S1x2048 : Shape := ⟨2, ![1, 2048]⟩
abbrev S_ : Shape := ⟨0, ![]⟩
abbrev S4096x8192 : Shape := ⟨2, ![4096, 8192]⟩
abbrev S4096 : Shape := ⟨1, ![4096]⟩
abbrev S4096x1 : Shape := ⟨2, ![4096, 1]⟩
abbrev S2048 : Shape := ⟨1, ![2048]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S1x2048, .f32⟩
  | .hbm, ⟨63, _⟩ => ⟨S4096x2048, .f32⟩
  | .hbm, ⟨64, _⟩ => ⟨S4096x2048, .f32⟩
  | .hbm, ⟨65, _⟩ => ⟨S4096x2048, .bf16⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel8.lean ====
abbrev S4096x2048 : Shape := ⟨2, ![4096, 2048]⟩
abbrev S2048x7680 : Shape := ⟨2, ![2048, 7680]⟩
abbrev S7680x2048 : Shape := ⟨2, ![7680, 2048]⟩
abbrev S4096x7680 : Shape := ⟨2, ![4096, 7680]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x7680, .f32⟩
  | .hbm, ⟨2, _⟩ => ⟨S4096x2048, .bf16⟩
  | .hbm, ⟨3, _⟩ => ⟨S7680x2048, .f32⟩
  | .hbm, ⟨4, _⟩ => ⟨S7680x2048, .bf16⟩
  | .hbm, ⟨5, _⟩ => ⟨S4096x7680, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x7680 : Shape := ⟨2, ![2048, 7680]⟩
abbrev S4096x7680 : Shape := ⟨2, ![4096, 7680]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x7680, .f32⟩
  | .hbm, ⟨2, _⟩ => ⟨S4096x7680, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x7680 : Shape := ⟨2, ![4096, 7680]⟩
abbrev S2048x7680 : Shape := ⟨2, ![2048, 7680]⟩
abbrev S4096x2048 : Shape := ⟨2, ![4096, 2048]⟩
abbrev S7680x2048 : Shape := ⟨2, ![7680, 2048]⟩
abbrev S512x2560 : Shape := ⟨2, ![512, 2560]⟩
abbrev S2560x2048 : Shape := ⟨2, ![2560, 2048]⟩
abbrev S512x2048 : Shape := ⟨2, ![512, 2048]⟩

abbrev nBuf : Space → Nat
  | .hbm => 7
  | .vmem => 9
  | .smem => 0
  | _ => 0

abbrev bufTy : (tb : Table) → Fin (tcTables nBuf tb) → BufTy
  | .hbm, ⟨0, _⟩ => ⟨S4096x7680, .f32⟩
  | .hbm, ⟨1, _⟩ => ⟨S2048x7680, .f32⟩
  | .hbm, ⟨2, _⟩ => ⟨S4096x2048, .f32⟩
  | .hbm, ⟨3, _⟩ => ⟨S4096x7680, .bf16⟩
  | .hbm, ⟨4, _⟩ => ⟨S7680x2048, .f32⟩
  | .hbm, ⟨5, _⟩ => ⟨S7680x2048, .bf16⟩
  | .hbm, ⟨6, _⟩ => ⟨S4096x2048, .f32⟩
  | .local _ .vmem, ⟨0, _⟩ => ⟨S512x2560, .bf16⟩
  | .local _ .vmem, ⟨1, _⟩ => ⟨S512x2560, .bf16⟩
  | .local _ .vmem, ⟨2, _⟩ => ⟨S2560x2048, .bf16⟩
  | .local _ .vmem, ⟨3, _⟩ => ⟨S2560x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2560x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x7680 : Shape := ⟨2, ![4096, 7680]⟩
abbrev S2048x7680 : Shape := ⟨2, ![2048, 7680]⟩
abbrev S4096x2048 : Shape := ⟨2, ![4096, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x7680, .f32⟩
  | .hbm, ⟨1, _⟩ => ⟨S2048x7680, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x7680, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | _, _ => ⟨S4096x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel10.lean ====
abbrev S4096x2048 : Shape := ⟨2, ![4096, 2048]⟩
abbrev S4096x7680 : Shape := ⟨2, ![4096, 7680]⟩
abbrev S7680x2048 : Shape := ⟨2, ![7680, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x7680, .f32⟩
  | .hbm, ⟨2, _⟩ => ⟨S4096x7680, .bf16⟩
  | .hbm, ⟨3, _⟩ => ⟨S4096x2048, .bf16⟩
  | .hbm, ⟨4, _⟩ => ⟨S7680x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 15, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x7680 : Shape := ⟨2, ![4096, 7680]⟩
abbrev S_ : Shape := ⟨0, ![]⟩
abbrev S2048x7680 : Shape := ⟨2, ![2048, 7680]⟩
abbrev S7680x2048 : Shape := ⟨2, ![7680, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x7680, .f32⟩
  | .hbm, ⟨2, _⟩ => ⟨S_, .f32⟩
  | .hbm, ⟨3, _⟩ => ⟨S2048x7680, .f32⟩
  | .hbm, ⟨4, _⟩ => ⟨S4096x7680, .f32⟩
  | .hbm, ⟨5, _⟩ => ⟨S7680x2048, .f32⟩
  | .hbm, ⟨6, _⟩ => ⟨S2048x7680, .f32⟩
  | .hbm, ⟨7, _⟩ => ⟨S7680x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S2048x2048, .bf16⟩
  | .hbm, ⟨7, _⟩ => ⟨S4096x2048, .f32⟩
  | .hbm, ⟨8, _⟩ => ⟨S4096x2048, .bf16⟩
  | .hbm, ⟨9, _⟩ => ⟨S4096x2048, .f32⟩
  | .hbm, ⟨10, _⟩ => ⟨S4096x1, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x1, .f32⟩
  | .local _ .vmem, ⟨14, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]
-- ==== Reference11Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S4096x2048, .bf16⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S4096x2048 : Shape := ⟨2, ![4096, 2048]⟩
abbrev S2048x1024 : Shape := ⟨2, ![2048, 1024]⟩
abbrev S2048x512 : Shape := ⟨2, ![2048, 512]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .bf16⟩
  | .hbm, ⟨3, _⟩ => ⟨S4096x1024, .bf16⟩
  | .hbm, ⟨4, _⟩ => ⟨S2048x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S2048x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x2048 : Shape := ⟨2, ![4096, 2048]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x2048, .bf16⟩
  | .hbm, ⟨3, _⟩ => ⟨S4096x512, .bf16⟩
  | .hbm, ⟨4, _⟩ => ⟨S2048x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S_, .f32⟩
  | .hbm, ⟨3, _⟩ => ⟨S2048x512, .f32⟩
  | .hbm, ⟨4, _⟩ => ⟨S4096x512, .f32⟩
  | .hbm, ⟨5, _⟩ => ⟨S512x2048, .f32⟩
  | .hbm, ⟨6, _⟩ => ⟨S2048x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x512 : Shape := ⟨2, ![4096, 512]⟩
abbrev S4096x2048 : Shape := ⟨2, ![4096, 2048]⟩
abbrev S2048x512 : Shape := ⟨2, ![2048, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x2048, .bf16⟩
  | .hbm, ⟨3, _⟩ => ⟨S4096x512, .bf16⟩
  | .hbm, ⟨4, _⟩ => ⟨S2048x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | .hbm, ⟨7, _⟩ => ⟨S2048x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S256x2048 : Shape := ⟨2, ![256, 2048]⟩
abbrev S256x1024 : Shape := ⟨2, ![256, 1024]⟩
abbrev S2048x1024 : Shape := ⟨2, ![2048, 1024]⟩
abbrev S256x512 : Shape := ⟨2, ![256, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x2048, .bf16⟩
  | .hbm, ⟨3, _⟩ => ⟨S256x1024, .bf16⟩
  | .hbm, ⟨4, _⟩ => ⟨S2048x1024, .f32⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x1024, .f32⟩
  | .hbm, ⟨5, _⟩ => ⟨S1024x2048, .f32⟩
  | .hbm, ⟨6, _⟩ => ⟨S2048x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x2048, .bf16⟩
  | .hbm, ⟨3, _⟩ => ⟨S2048x1024, .bf16⟩
  | .hbm, ⟨4, _⟩ => ⟨S256x1024, .bf16⟩
  | .local _ .vmem, ⟨0, _⟩ => ⟨S256x2048, .bf16⟩
  | .local _ .vmem, ⟨1, _⟩ => ⟨S2048x1024, .bf16⟩
  | .local _ .vmem, ⟨2, _⟩ => ⟨S256x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x1024, .f32⟩
  | .hbm, ⟨3, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S4096x1024 : Shape := ⟨2, ![4096, 1024]⟩
abbrev S1024x2048 : Shape := ⟨2, ![1024, 2048]⟩
abbrev S4096x7680 : Shape := ⟨2, ![4096, 7680]⟩
abbrev S1x4096 : Shape := ⟨2, ![1, 4096]⟩
abbrev S2048x1024 : Shape := ⟨2, ![2048, 1024]⟩
abbrev S4096x2048 : Shape := ⟨2, ![4096, 2048]⟩
abbrev S1024x1024 : Shape := ⟨2, ![1024, 1024]⟩
abbrev S512x1024 : Shape := ⟨2, ![512, 1024]⟩
abbrev S1024x512 : Shape := ⟨2, ![1024, 512]⟩
abbrev S1x512 : Shape := ⟨2, ![1, 512]⟩

abbrev nBuf : Space → Nat
  | .hbm => 15
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1024x2048, .f32⟩
  | .hbm, ⟨4, _⟩ => ⟨S4096x7680, .f32⟩
  | .hbm, ⟨5, _⟩ => ⟨S1x4096, .f32⟩
  | .hbm, ⟨6, _⟩ => ⟨S4096x1024, .bf16⟩
  | .hbm, ⟨7, _⟩ => ⟨S4096x1024, .bf16⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1024, .bf16⟩
  | .hbm, ⟨12, _⟩ => ⟨S4096x2048, .f32⟩
  | .hbm, ⟨13, _⟩ => ⟨S4096x2048, .f32⟩
  | .hbm, ⟨14, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .bf16⟩
  | .local _ .vmem, ⟨21, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg0 c7_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference18Ideal.lean ====
abbrev S4096x1024 : Shape := ⟨2, ![4096, 1024]⟩
abbrev S1024x2048 : Shape := ⟨2, ![1024, 2048]⟩
abbrev S4096x7680 : Shape := ⟨2, ![4096, 7680]⟩
abbrev S1x4096 : Shape := ⟨2, ![1, 4096]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1024x2048, .f32⟩
  | .hbm, ⟨4, _⟩ => ⟨S4096x7680, .f32⟩
  | .hbm, ⟨5, _⟩ => ⟨S1x4096, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel19.lean ====
abbrev S4096x2048 : Shape := ⟨2, ![4096, 2048]⟩
abbrev S2048x2048 : Shape := ⟨2, ![2048, 2048]⟩
abbrev S4096x7680 : Shape := ⟨2, ![4096, 7680]⟩
abbrev S1x4096 : Shape := ⟨2, ![1, 4096]⟩
abbrev S1x2048 : Shape := ⟨2, ![1, 2048]⟩
abbrev S1024x2048 : Shape := ⟨2, ![1024, 2048]⟩
abbrev S512x2048 : Shape := ⟨2, ![512, 2048]⟩
abbrev S1024x512 : Shape := ⟨2, ![1024, 512]⟩
abbrev S1x512 : Shape := ⟨2, ![1, 512]⟩
abbrev S512 : Shape := ⟨1, ![512]⟩

abbrev nBuf : Space → Nat
  | .hbm => 14
  | .vmem => 28
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x7680, .f32⟩
  | .hbm, ⟨3, _⟩ => ⟨S4096x2048, .f32⟩
  | .hbm, ⟨4, _⟩ => ⟨S4096x2048, .f32⟩
  | .hbm, ⟨5, _⟩ => ⟨S1x4096, .f32⟩
  | .hbm, ⟨6, _⟩ => ⟨S4096x2048, .bf16⟩
  | .hbm, ⟨7, _⟩ => ⟨S2048x2048, .bf16⟩
  | .hbm, ⟨8, _⟩ => ⟨S4096x2048, .bf16⟩
  | .hbm, ⟨9, _⟩ => ⟨S4096x2048, .bf16⟩
  | .hbm, ⟨10, _⟩ => ⟨S4096x7680, .bf16⟩
  | .hbm, ⟨11, _⟩ => ⟨S4096x2048, .bf16⟩
  | .hbm, ⟨12, _⟩ => ⟨S1x2048, .f32⟩
  | .hbm, ⟨13, _⟩ => ⟨S1x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg1 : BitVec 32 := BitVec.ofNat 32 (i 1).val
  let c0_i32 : BitVec 32 := 0#32
  let v49 : BitVec 1 := Scalar.cmpi .eq arg1 c0_i32
  let v50 : BitVec 32 := Scalar.extui v49
  let c0_i32_27 : BitVec 32 := 0#32
  let v51 : BitVec 1 := Scalar.cmpi .ne v50 c0_i32_27
  v51

def k0_cond2 (i : grid0.Coords) : BitVec 1 :=
  let arg1 : BitVec 32 := BitVec.ofNat 32 (i 1).val
  let c0_i32 : BitVec 32 := 0#32
  let v49 : BitVec 1 := Scalar.cmpi .eq arg1 c0_i32
  let v_true : BitVec 1 := 1#1
  let v52 : BitVec 1 := Scalar.xori v49 v_true
  let v53 : BitVec 32 := Scalar.extui v52
  let c0_i32_28 : BitVec 32 := 0#32
  let v54 : BitVec 1 := Scalar.cmpi .ne v53 c0_i32_28
  v54

def k0_cond3 (i : grid0.Coords) : BitVec 1 :=
  let arg1 : BitVec 32 := BitVec.ofNat 32 (i 1).val
  let c0_i32_29 : BitVec 32 := 0#32
  let v55 : BitVec 1 := Scalar.cmpi .eq arg1 c0_i32_29
  let v56 : BitVec 32 := Scalar.extui v55
  let c0_i32_30 : BitVec 32 := 0#32
  let v57 : BitVec 1 := Scalar.cmpi .ne v56 c0_i32_30
  v57

def k0_cond4 (i : grid0.Coords) : BitVec 1 :=
  let arg1 : BitVec 32 := BitVec.ofNat 32 (i 1).val
  let c0_i32_29 : BitVec 32 := 0#32
  let v55 : BitVec 1 := Scalar.cmpi .eq arg1 c0_i32_29
  let true_31 : BitVec 1 := 1#1
  let v58 : BitVec 1 := Scalar.xori v55 true_31
  let v59 : BitVec 32 := Scalar.extui v58
  let c0_i32_32 : BitVec 32 := 0#32
  let v60 : BitVec 1 := Scalar.cmpi .ne v59 c0_i32_32
  v60

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg0 c7_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg0 c11_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg0 c7_i32
  let c0_i32 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]
-- ==== Reference19Ideal.lean ====
abbrev S4096x2048 : Shape := ⟨2, ![4096, 2048]⟩
abbrev S2048x2048 : Shape := ⟨2, ![2048, 2048]⟩
abbrev S4096x7680 : Shape := ⟨2, ![4096, 7680]⟩
abbrev S1x4096 : Shape := ⟨2, ![1, 4096]⟩
abbrev S1x2048 : Shape := ⟨2, ![1, 2048]⟩
abbrev S2048 : Shape := ⟨1, ![2048]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x7680, .f32⟩
  | .hbm, ⟨3, _⟩ => ⟨S4096x2048, .f32⟩
  | .hbm, ⟨4, _⟩ => ⟨S4096x2048, .f32⟩
  | .hbm, ⟨5, _⟩ => ⟨S1x4096, .f32⟩
  | .hbm, ⟨6, _⟩ => ⟨S4096x2048, .f32⟩
  | .hbm, ⟨7, _⟩ => ⟨S4096x2048, .f32⟩
  | .hbm, ⟨8, _⟩ => ⟨S1x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S4096x2048, .bf16⟩
  | .hbm, ⟨66, _⟩ => ⟨S4096x2048, .bf16⟩
  | .hbm, ⟨67, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel20.lean ====
abbrev S4096x2048 : Shape := ⟨2, ![4096, 2048]⟩
abbrev S256x1024 : Shape := ⟨2, ![256, 1024]⟩
abbrev S2048x512 : Shape := ⟨2, ![2048, 512]⟩
abbrev S512x2048 : Shape := ⟨2, ![512, 2048]⟩
abbrev S1x2048 : Shape := ⟨2, ![1, 2048]⟩
abbrev S4096x1 : Shape := ⟨2, ![4096, 1]⟩
abbrev S4096x512 : Shape := ⟨2, ![4096, 512]⟩
abbrev S256x2048 : Shape := ⟨2, ![256, 2048]⟩
abbrev S256x1 : Shape := ⟨2, ![256, 1]⟩
abbrev S256x512 : Shape := ⟨2, ![256, 512]⟩
abbrev S256x128 : Shape := ⟨2, ![256, 128]⟩
abbrev S256x256 : Shape := ⟨2, ![256, 256]⟩
abbrev S256 : Shape := ⟨1, ![256]⟩

abbrev nBuf : Space → Nat
  | .hbm => 17
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S256x1024, .f32⟩
  | .hbm, ⟨2, _⟩ => ⟨S2048x512, .f32⟩
  | .hbm, ⟨3, _⟩ => ⟨S512x2048, .f32⟩
  | .hbm, ⟨4, _⟩ => ⟨S1x2048, .f32⟩
  | .hbm, ⟨5, _⟩ => ⟨S1x2048, .f32⟩
  | .hbm, ⟨6, _⟩ => ⟨S4096x2048, .bf16⟩
  | .hbm, ⟨7, _⟩ => ⟨S256x1024, .bf16⟩
  | .hbm, ⟨8, _⟩ => ⟨S2048x512, .bf16⟩
  | .hbm, ⟨9, _⟩ => ⟨S2048x512, .f32⟩
  | .hbm, ⟨10, _⟩ => ⟨S2048x512, .bf16⟩
  | .hbm, ⟨11, _⟩ => ⟨S4096x2048, .f32⟩
  | .hbm, ⟨12, _⟩ => ⟨S4096x2048, .bf16⟩
  | .hbm, ⟨13, _⟩ => ⟨S4096x2048, .f32⟩
  | .hbm, ⟨14, _⟩ => ⟨S4096x1, .f32⟩
  | .hbm, ⟨15, _⟩ => ⟨S4096x512, .bf16⟩
  | .hbm, ⟨16, _⟩ => ⟨S4096x512, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S2048x512, .bf16⟩
  | .local _ .vmem, ⟨6, _⟩ => ⟨S2048x512, .bf16⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S256x1, .f32⟩
  | .local _ .vmem, ⟨16, _⟩ => ⟨S256x1, .f32⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference20Ideal.lean ====
abbrev S4096x2048 : Shape := ⟨2, ![4096, 2048]⟩
abbrev S256x1024 : Shape := ⟨2, ![256, 1024]⟩
abbrev S2048x512 : Shape := ⟨2, ![2048, 512]⟩
abbrev S512x2048 : Shape := ⟨2, ![512, 2048]⟩
abbrev S1x2048 : Shape := ⟨2, ![1, 2048]⟩
abbrev S4096x512 : Shape := ⟨2, ![4096, 512]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4096 : Shape := ⟨1, ![4096]⟩
abbrev S4096x1 : Shape := ⟨2, ![4096, 1]⟩
abbrev S2048 : Shape := ⟨1, ![2048]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256x1024, .f32⟩
  | .hbm, ⟨2, _⟩ => ⟨S2048x512, .f32⟩
  | .hbm, ⟨3, _⟩ => ⟨S512x2048, .f32⟩
  | .hbm, ⟨4, _⟩ => ⟨S1x2048, .f32⟩
  | .hbm, ⟨5, _⟩ => ⟨S1x2048, .f32⟩
  | .hbm, ⟨6, _⟩ => ⟨S4096x512, .f32⟩
  | .hbm, ⟨7, _⟩ => ⟨S4096x4x128, .f32⟩
  | .hbm, ⟨8, _⟩ => ⟨S256x512, .f32⟩
  | .hbm, ⟨9, _⟩ => ⟨S256x512, .f32⟩
  | .hbm, ⟨10, _⟩ => ⟨S256x4x128, .f32⟩
  | .hbm, ⟨11, _⟩ => ⟨S256x4x128, .f32⟩
  | .hbm, ⟨12, _⟩ => ⟨S4x4096x256, .f32⟩
  | .hbm, ⟨13, _⟩ => ⟨S_, .f32⟩
  | .hbm, ⟨14, _⟩ => ⟨S4x4096x256, .f32⟩
  | .hbm, ⟨15, _⟩ => ⟨S4x4096x256, .f32⟩
  | .hbm, ⟨16, _⟩ => ⟨S_, .f32⟩
  | .hbm, ⟨17, _⟩ => ⟨S4x4096, .f32⟩
  | .hbm, ⟨18, _⟩ => ⟨S_, .f32⟩
  | .hbm, ⟨19, _⟩ => ⟨S4x4096, .f32⟩
  | .hbm, ⟨20, _⟩ => ⟨S4x4096, .f32⟩
  | .hbm, ⟨21, _⟩ => ⟨S4x4096x1, .f32⟩
  | .hbm, ⟨22, _⟩ => ⟨S4x4096x256, .f32⟩
  | .hbm, ⟨23, _⟩ => ⟨S4x4096x256, .f32⟩
  | .hbm, ⟨24, _⟩ => ⟨S4x4096x256, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S4x4096x256, .f32⟩
  | .hbm, ⟨29, _⟩ => ⟨S4x4096x256, .f32⟩
  | .hbm, ⟨30, _⟩ => ⟨S4x128x4096, .f32⟩
  | .hbm, ⟨31, _⟩ => ⟨S4096x4x128, .f32⟩
  | .hbm, ⟨32, _⟩ => ⟨S4096x512, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S2048, .f32⟩
  | .hbm, ⟨58, _⟩ => ⟨S2048, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x1, .f32⟩
  | .hbm, ⟨80, _⟩ => ⟨S4096x2048, .f32⟩
  | .hbm, ⟨81, _⟩ => ⟨S4096x2048, .f32⟩
  | .hbm, ⟨82, _⟩ => ⟨S1x2048, .f32⟩
  | .hbm, ⟨83, _⟩ => ⟨S4096x2048, .f32⟩
  | .hbm, ⟨84, _⟩ => ⟨S4096x2048, .f32⟩
  | .hbm, ⟨85, _⟩ => ⟨S1x2048, .f32⟩
  | .hbm, ⟨86, _⟩ => ⟨S4096x2048, .f32⟩
  | .hbm, ⟨87, _⟩ => ⟨S4096x2048, .f32⟩
  | .hbm, ⟨88, _⟩ => ⟨S4096x2048, .bf16⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x512, .bf16⟩
  | .hbm, ⟨94, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Kernel23.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 35
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | .hbm, ⟨33, _⟩ => ⟨S1x2048, .f32⟩
  | .hbm, ⟨34, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v35 : BitVec 32 := Scalar.extui v0
  let c0_i32_15 : BitVec 32 := 0#32
  let v36 : BitVec 1 := Scalar.cmpi .ne v35 c0_i32_15
  v36

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v37 : BitVec 1 := Scalar.xori v0 v_true
  let v38 : BitVec 32 := Scalar.extui v37
  let c0_i32_16 : BitVec 32 := 0#32
  let v39 : BitVec 1 := Scalar.cmpi .ne v38 c0_i32_16
  v39

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v42 : BitVec 32 := Scalar.extui v0
  let c0_i32_18 : BitVec 32 := 0#32
  let v43 : BitVec 1 := Scalar.cmpi .ne v42 c0_i32_18
  v43

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_19 : BitVec 1 := 1#1
  let v44 : BitVec 1 := Scalar.xori v0 true_19
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference23Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 90
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S_, .f32⟩
  | .hbm, ⟨47, _⟩ => ⟨S2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x2048, .f32⟩
  | .hbm, ⟨61, _⟩ => ⟨S4096x2048, .f32⟩
  | .hbm, ⟨62, _⟩ => ⟨S4096x1, .f32⟩
  | .hbm, ⟨63, _⟩ => ⟨S4096x2048, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x2048, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x2048, .f32⟩
  | .hbm, ⟨86, _⟩ => ⟨S4096x2048, .f32⟩
  | .hbm, ⟨87, _⟩ => ⟨S1x2048, .f32⟩
  | .hbm, ⟨88, _⟩ => ⟨S1x2048, .f32⟩
  | .hbm, ⟨89, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Kernel22.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S1x1 : Shape := ⟨2, ![1, 1]⟩
abbrev S256x2048 : Shape := ⟨2, ![256, 2048]⟩
abbrev S256x1 : Shape := ⟨2, ![256, 1]⟩
abbrev S256 : Shape := ⟨1, ![256]⟩
abbrev S1 : Shape := ⟨1, ![1]⟩
abbrev S2048 : Shape := ⟨1, ![2048]⟩

abbrev nBuf : Space → Nat
  | .hbm => 36
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | .hbm, ⟨33, _⟩ => ⟨S1x2048, .f32⟩
  | .hbm, ⟨34, _⟩ => ⟨S1x2048, .f32⟩
  | .hbm, ⟨35, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | .local _ .vmem, ⟨15, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v54 : BitVec 32 := Scalar.extui v0
  let c0_i32_24 : BitVec 32 := 0#32
  let v55 : BitVec 1 := Scalar.cmpi .ne v54 c0_i32_24
  v55

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_25 : BitVec 1 := 1#1
  let v56 : BitVec 1 := Scalar.xori v0 true_25
  let v57 : BitVec 32 := Scalar.extui v56
  let c0_i32_26 : BitVec 32 := 0#32
  let v58 : BitVec 1 := Scalar.cmpi .ne v57 c0_i32_26
  v58

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v61 : BitVec 32 := Scalar.extui v0
  let c0_i32_28 : BitVec 32 := 0#32
  let v62 : BitVec 1 := Scalar.cmpi .ne v61 c0_i32_28
  v62

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v63 : BitVec 1 := Scalar.xori v0 true_29
  let v64 : BitVec 32 := Scalar.extui v63
  let c0_i32_30 : BitVec 32 := 0#32
  let v65 : BitVec 1 := Scalar.cmpi .ne v64 c0_i32_30
  v65

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v18 : BitVec 32 := Scalar.extui v0
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v20 : BitVec 1 := Scalar.xori v0 v_true
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference22Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S_, .f32⟩
  | .hbm, ⟨69, _⟩ => ⟨S2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S2048, .f32⟩
  | .hbm, ⟨78, _⟩ => ⟨S4096x2048, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x2048, .f32⟩
  | .hbm, ⟨83, _⟩ => ⟨S4096x2048, .f32⟩
  | .hbm, ⟨84, _⟩ => ⟨S4096x1, .f32⟩
  | .hbm, ⟨85, _⟩ => ⟨S4096x2048, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x2048, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S_, .f32⟩
  | .hbm, ⟨106, _⟩ => ⟨S4096, .f32⟩
  | .hbm, ⟨107, _⟩ => ⟨S4096x2048, .f32⟩
  | .hbm, ⟨108, _⟩ => ⟨S4096x2048, .f32⟩
  | .hbm, ⟨109, _⟩ => ⟨S1x2048, .f32⟩
  | .hbm, ⟨110, _⟩ => ⟨S1x2048, .f32⟩
  | .hbm, ⟨111, _⟩ => ⟨S4096x2048, .bf16⟩
  | .hbm, ⟨112, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_cst_11 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_17 : Ref sig .tc := ⟨.hbm, 76, rfl⟩
abbrev main_v54 : Ref sig .tc := ⟨.hbm, 77, rfl⟩
abbrev main_v55 : Ref sig .tc := ⟨.hbm, 78, rfl⟩
abbrev main_cst_18 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_19 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_cst_21 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_23 : Ref sig .tc := ⟨.hbm, 102, rfl⟩
abbrev main_v74 : Ref sig .tc := ⟨.hbm, 103, rfl⟩
abbrev main_v75 : Ref sig .tc := ⟨.hbm, 104, rfl⟩
abbrev main_cst_24 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== Proof.Real.lean ====
module

public import Idealize.ShloMosaic.Lib.Pointwise
public import Idealize.ShloMosaic.Lib.IdealHost

/-! Real numbers inside the extended reals: the arithmetic of both programs on finite arrays, and the two identities the
    claim rests on (the gradient of a softmax and the gradient of a layer normalisation). -/

@[expose] public section

noncomputable section

namespace Cert.Proof

open Idealize.ShloMosaic

/-! ## Arithmetic on finite values -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_div {y : ℝ} (h : y ≠ 0) (x : ℝ) : Ideal.div (x : EReal) (y : EReal) = ((x / y : ℝ) : EReal) := by
  rw [Ideal.div_coe h, ← EReal.coe_mul, mul_one_div]

theorem coe_rsqrt {x : ℝ} (h : 0 < x) : Ideal.rsqrt (x : EReal) = (((√x)⁻¹ : ℝ) : EReal) := by
  rw [Ideal.rsqrt_coe, if_neg (not_lt.mpr h.le), if_neg h.ne']

/-- The largest of finitely many numbers. -/
def top {n : ℕ} (f : Fin n → ℝ) : ℝ := (Finset.univ.fold max (⊥ : EReal) fun k => (f k : EReal)).toReal

theorem fold_max_real {ι : Type*} (s : Finset ι) (hs : s.Nonempty) (f : ι → ℝ) :
    ∃ r : ℝ, s.fold max (⊥ : EReal) (fun k => (f k : EReal)) = r := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

theorem coe_top {n : ℕ} [NeZero n] (f : Fin n → ℝ) :
    Finset.univ.fold max (⊥ : EReal) (fun k => (f k : EReal)) = ((top f : ℝ) : EReal) := by
  obtain ⟨r, hr⟩ := fold_max_real Finset.univ ⟨(0 : Fin n), Finset.mem_univ _⟩ f
  rw [top, hr, EReal.toReal_coe]

/-! ## The constants -/

/-- The word both programs scale scores with. -/
def scale : ℝ := 11863283 / 2 ^ 27
/-- The word both programs weigh the residual with. -/
def alpha : ℝ := 11863283 / 2 ^ 23
/-- The word both programs add to a variance. -/
def eps : ℝ := 10995116 / 2 ^ 40

theorem scale_bits : Ideal.ofBits .f32 0x3DB504F3#32 = ((scale : ℝ) : EReal) := by
  simp [Ideal.ofBits, Ideal.ieee, scale, -EReal.coe_mul]; norm_num
theorem alpha_bits : Ideal.ofBits .f32 0x3FB504F3#32 = ((alpha : ℝ) : EReal) := by
  simp [Ideal.ofBits, Ideal.ieee, alpha, -EReal.coe_mul]; norm_num
theorem eps_bits : Ideal.ofBits .f32 0x3727C5AC#32 = ((eps : ℝ) : EReal) := by
  simp [Ideal.ofBits, Ideal.ieee, eps, -EReal.coe_mul]; norm_num
theorem width_bits : Ideal.ofBits .f32 0x45000000#32 = ((2048 : ℝ) : EReal) := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num
theorem neg_half_bits : Ideal.ofBits .f32 0xBF000000#32 = ((-(1 / 2) : ℝ) : EReal) := by
  simp [Ideal.ofBits, Ideal.ieee, -EReal.coe_mul, -EReal.coe_neg]; norm_num
theorem one_bits : Ideal.ofBits .f32 0x3F800000#32 = ((1 : ℝ) : EReal) := by
  rw [Ideal.ofBits_one_f32, EReal.coe_one]
theorem bot_bits : Ideal.ofBits .f32 0xFF800000#32 = (⊥ : EReal) := by
  simp [Ideal.ofBits, Ideal.ieee]
theorem top_bits : Ideal.ofBits .f32 0x7F800000#32 = (⊤ : EReal) := by
  simp [Ideal.ofBits, Ideal.ieee]

theorem width_ne : (2048 : ℝ) ≠ 0 := by norm_num
theorem eps_pos : 0 < eps := by unfold eps; norm_num

/-! ## Arrays of real numbers -/

/-- A matrix of real numbers as an array. -/
def lift2 {m n : ℕ} (f : Fin m → Fin n → ℝ) : (⟨2, ![m, n]⟩ : Shape).Idx → EReal := fun i => ((f (i 0) (i 1) : ℝ) : EReal)
/-- A row of real numbers as an array. -/
def liftRow {n : ℕ} (f : Fin n → ℝ) : (⟨2, ![1, n]⟩ : Shape).Idx → EReal := fun i => ((f (i 1) : ℝ) : EReal)
/-- A column of real numbers as an array. -/
def liftCol {n : ℕ} (f : Fin n → ℝ) : (⟨2, ![n, 1]⟩ : Shape).Idx → EReal := fun i => ((f (i 0) : ℝ) : EReal)

theorem lift2_apply {m n : ℕ} (f : Fin m → Fin n → ℝ) (i : (⟨2, ![m, n]⟩ : Shape).Idx) :
    lift2 f i = ((f (i 0) (i 1) : ℝ) : EReal) := rfl
theorem liftRow_apply {n : ℕ} (f : Fin n → ℝ) (i : (⟨2, ![1, n]⟩ : Shape).Idx) : liftRow f i = ((f (i 1) : ℝ) : EReal) := rfl
theorem liftCol_apply {n : ℕ} (f : Fin n → ℝ) (i : (⟨2, ![n, 1]⟩ : Shape).Idx) : liftCol f i = ((f (i 0) : ℝ) : EReal) := rfl

theorem exists_lift2 {m n : ℕ} (x : (⟨2, ![m, n]⟩ : Shape).Idx → EReal) (h : ∀ i, ∃ r : ℝ, x i = r) : ∃ f, x = lift2 f := by
  choose f hf using h
  exact ⟨fun a b => f (ix2 a b), funext fun i => by rw [hf, lift2_apply, ← eq_ix2]⟩

/-! ## One row of the layer normalisation -/

section Norm
variable {n : ℕ}

def mean (z : Fin n → ℝ) : ℝ := (∑ k, z k) / n
def var (z : Fin n → ℝ) : ℝ := (∑ k, (z k - mean z) * (z k - mean z)) / n
def rstd (z : Fin n → ℝ) : ℝ := (√(var z + eps))⁻¹
def xhat (z : Fin n → ℝ) (j : Fin n) : ℝ := (z j - mean z) * rstd z
/-- The gradient of the normalised row, from the gradient `u` of its normalised entries. -/
def normBack (s : ℝ) (x u : Fin n → ℝ) (j : Fin n) : ℝ :=
  s * (u j - (∑ k, u k) / n - x j * ((∑ k, u k * x k) / n))

theorem var_nonneg (z : Fin n → ℝ) : 0 ≤ var z :=
  div_nonneg (Finset.sum_nonneg fun _ _ => mul_self_nonneg _) (Nat.cast_nonneg n)
theorem var_eps_pos (z : Fin n → ℝ) : 0 < var z + eps := add_pos_of_nonneg_of_pos (var_nonneg z) eps_pos

theorem sum_centred (hn : (n : ℝ) ≠ 0) (z : Fin n → ℝ) : ∑ k, (z k - mean z) = 0 := by
  rw [Finset.sum_sub_distrib, Finset.sum_const, Finset.card_univ, Fintype.card_fin, nsmul_eq_mul, mean]
  field_simp; ring

/-- The chain rule written out through the mean, the variance and the reciprocal root is the closed form. -/
theorem normBack_chain (hn : (n : ℝ) ≠ 0) (z u : Fin n → ℝ) (j : Fin n) :
    (u j * rstd z + (∑ k, (z k - mean z) * u k) * (-(1 / 2) * (rstd z / (var z + eps))) / n * (2 * (z j - mean z)))
      + (∑ k, -(u k * rstd z)
          + ∑ k, -((∑ k, (z k - mean z) * u k) * (-(1 / 2) * (rstd z / (var z + eps))) / n * (2 * (z k - mean z)))) / n
      = normBack (rstd z) (xhat z) u j := by
  have hr : rstd z / (var z + eps) = rstd z * rstd z * rstd z := by
    have h := var_eps_pos z
    have hs : √(var z + eps) ≠ 0 := (Real.sqrt_pos.mpr h).ne'
    rw [rstd]
    nth_rewrite 2 [← Real.mul_self_sqrt h.le]
    field_simp
  have h0 : ∑ k, -((∑ k, (z k - mean z) * u k) * (-(1 / 2) * (rstd z / (var z + eps))) / n * (2 * (z k - mean z))) = 0 := by
    rw [Finset.sum_neg_distrib, ← Finset.mul_sum, ← Finset.mul_sum, sum_centred hn]; ring
  have h1 : ∑ k, u k * xhat z k = (∑ k, (z k - mean z) * u k) * rstd z := by
    rw [Finset.sum_mul]; exact Finset.sum_congr rfl fun k _ => by rw [xhat]; ring
  have h2 : ∑ k, -(u k * rstd z) = -((∑ k, u k) * rstd z) := by rw [Finset.sum_neg_distrib, Finset.sum_mul]
  rw [h0, h2, hr, normBack, h1, xhat]
  ring

end Norm

/-! ## One head's row of the attention -/

section Head
variable {m d : ℕ}

def score (q : Fin d → ℝ) (K : Fin m → Fin d → ℝ) (k : Fin m) : ℝ := (∑ e, q e * K k e) * scale
def weight (q : Fin d → ℝ) (K : Fin m → Fin d → ℝ) (k : Fin m) : ℝ := Real.exp (score q K k - top (score q K))
def total (q : Fin d → ℝ) (K : Fin m → Fin d → ℝ) : ℝ := ∑ k, weight q K k
def prob (q : Fin d → ℝ) (K : Fin m → Fin d → ℝ) (k : Fin m) : ℝ := weight q K k / total q K
def dprob (a : Fin d → ℝ) (V : Fin m → Fin d → ℝ) (k : Fin m) : ℝ := ∑ e, a e * V k e
/-- The gradient of the scaled scores. -/
def dscore (q a : Fin d → ℝ) (K V : Fin m → Fin d → ℝ) (k : Fin m) : ℝ :=
  prob q K k * (dprob a V k - ∑ l, prob q K l * dprob a V l) * scale

theorem total_pos [NeZero m] (q : Fin d → ℝ) (K : Fin m → Fin d → ℝ) : 0 < total q K :=
  Finset.sum_pos (fun _ _ => Real.exp_pos _) ⟨(0 : Fin m), Finset.mem_univ _⟩

/-- The quotient rule written out is the closed form. -/
theorem dscore_chain [NeZero m] (q a : Fin d → ℝ) (K V : Fin m → Fin d → ℝ) (k : Fin m) :
    (dprob a V k / total q K + -(∑ l, dprob a V l * (1 / (total q K * total q K)) * weight q K l)) * weight q K k * scale
      = dscore q a K V k := by
  have hS := (total_pos q K).ne'
  have h : ∑ l, dprob a V l * (1 / (total q K * total q K)) * weight q K l
      = (∑ l, prob q K l * dprob a V l) / total q K := by
    rw [Finset.sum_div]; exact Finset.sum_congr rfl fun l _ => by rw [prob]; field_simp
  rw [h, dscore, prob]
  field_simp
  ring

end Head

end Cert.Proof

end
-- ==== Proof.Spec.lean ====
module

public import proofs.«01_k».proof.Proof.Real

/-! The mathematics of the call, row by row, over the real numbers: the gradient of one row of
    `ALPHA * x + attention(x @ w_q, kv) @ w_o` at the normalised row `x`, and the row's share of the gradients that are
    summed over the rows. -/

@[expose] public section

noncomputable section

namespace Cert.Proof

open Idealize.ShloMosaic

/-- Entry `e` of head `h` among the 512 columns of the four heads. -/
def col (h : Fin 4) (e : Fin 128) : Fin 512 := ⟨128 * h + e, by omega⟩
/-- The head a column belongs to. -/
def headOf (a : Fin 512) : Fin 4 := ⟨a / 128, by omega⟩
/-- A column of the keys within the keys and values. -/
def keyCol (a : Fin 512) : Fin 1024 := ⟨a, by omega⟩
/-- A column of the values within the keys and values. -/
def valCol (a : Fin 512) : Fin 1024 := ⟨512 + a, by omega⟩

def head (q : Fin 512 → ℝ) (h : Fin 4) (e : Fin 128) : ℝ := q (col h e)
def keys (kv : Fin 256 → Fin 1024 → ℝ) (h : Fin 4) (k : Fin 256) (e : Fin 128) : ℝ := kv k (keyCol (col h e))
def vals (kv : Fin 256 → Fin 1024 → ℝ) (h : Fin 4) (k : Fin 256) (e : Fin 128) : ℝ := kv k (valCol (col h e))

/-- The row's query. -/
def query (z g b : Fin 2048 → ℝ) (wq : Fin 2048 → Fin 512 → ℝ) (a : Fin 512) : ℝ := ∑ j, (xhat z j * g j + b j) * wq j a
/-- The gradient of the row's attention output. -/
def dctx (dz : Fin 2048 → ℝ) (wo : Fin 512 → Fin 2048 → ℝ) (a : Fin 512) : ℝ := ∑ j, dz j * wo a j

section
variable (q a : Fin 512 → ℝ) (kv : Fin 256 → Fin 1024 → ℝ)

def prb (h : Fin 4) (k : Fin 256) : ℝ := prob (head q h) (keys kv h) k
def dsc (h : Fin 4) (k : Fin 256) : ℝ := dscore (head q h) (head a h) (keys kv h) (vals kv h) k
/-- The gradient of the row's query. -/
def dquery (c : Fin 512) : ℝ := ∑ k, dsc q a kv (headOf c) k * kv k (keyCol c)
/-- The row's share of the gradient of the keys (planes 0–3) and of the values (planes 4–7). -/
def dkv (c : Fin 8) (k : Fin 256) (e : Fin 128) : ℝ :=
  if hc : c.val < 4 then dsc q a kv ⟨c, hc⟩ k * q (col ⟨c, hc⟩ e)
  else prb q kv ⟨c - 4, by omega⟩ k * a (col ⟨c - 4, by omega⟩ e)
/-- The gradient of the normalised row. -/
def drow (dz : Fin 2048 → ℝ) (wq : Fin 2048 → Fin 512 → ℝ) (j : Fin 2048) : ℝ :=
  alpha * dz j + ∑ c, dquery q a kv c * wq j c
/-- A plane of the keys at an entry, by the column it stands for. -/
theorem dkv_key (c : Fin 8) (k : Fin 256) (e : Fin 128) (j : Fin 512) (hj : j.val = 128 * c.val + e.val) :
    dkv q a kv c k e = dsc q a kv (headOf j) k * q j := by
  have hc : c.val < 4 := by omega
  have h1 : headOf j = ⟨c, hc⟩ := Fin.ext (by simp only [headOf]; omega)
  have h2 : col ⟨c, hc⟩ e = j := Fin.ext (by simp only [col]; omega)
  unfold dkv
  rw [dif_pos hc, h1, h2]
/-- A plane of the values at an entry, by the column it stands for. -/
theorem dkv_val (c : Fin 8) (k : Fin 256) (e : Fin 128) (j : Fin 512) (hj : j.val + 512 = 128 * c.val + e.val) :
    dkv q a kv c k e = prb q kv (headOf j) k * a j := by
  have hc : ¬c.val < 4 := by omega
  have h1 : headOf j = ⟨c - 4, by omega⟩ := Fin.ext (by simp only [headOf]; omega)
  have h2 : col ⟨c - 4, by omega⟩ e = j := Fin.ext (by simp only [col]; omega)
  unfold dkv
  rw [dif_neg hc, h1, h2]
end

theorem headOf_col (h : Fin 4) (e : Fin 128) : headOf (col h e) = h := Fin.ext (by simp only [headOf, col]; omega)

end Cert.Proof

end
-- ==== Proof.Block.lean ====
module

public import proofs.«01_k».proof.Proof.Spec
public import proofs.«01_k».proof.Proof.Gen.KernelIdeal.Frame
public import Idealize.ShloMosaic.Lib.Pointwise

/-! One row block of the call as functions of the arrays it reads. The four heads run the same operations, so each
    head's operations are those of one function of the head's queries, keys, values and gradients. -/

@[expose] public section

set_option maxRecDepth 16384
noncomputable section

namespace Cert.Proof.Ker

open Idealize.ShloMosaic Idealize.SL.Sem Cert.KernelIdeal Cert.KernelIdeal.Gen

variable {F : FTy → Type} [FloatOps F]

/-! ## The columns of a head -/

def headCols (h : Fin 4) (x : FVec F S256x512 .bf16) : FVec F S256x128 .bf16 := fun i => x (ix2 (i 0) (col h (i 1)))
def keyCols (h : Fin 4) (x : FVec F S256x1024 .bf16) : FVec F S256x128 .bf16 := fun i => x (ix2 (i 0) (keyCol (col h (i 1))))
def valCols (h : Fin 4) (x : FVec F S256x1024 .bf16) : FVec F S256x128 .bf16 := fun i => x (ix2 (i 0) (valCol (col h (i 1))))

/-! ## One head's operations -/

/-- The attention probabilities. -/
def bProb (k q : FVec F S256x128 .bf16) : FVec F S256x256 .f32 := k0_pay23 (k0_pay21 k q) (k0_pay22 k q)
/-- The gradient of the scores. -/
def bDscore (a k v q : FVec F S256x128 .bf16) : FVec F S256x256 .bf16 :=
  k0_pay24 (k0_pay18 v) a (k0_pay21 k q) (k0_pay22 k q)
/-- The gradient of the queries. -/
def bDq (a k v q : FVec F S256x128 .bf16) : FVec F S256x128 .bf16 :=
  k0_pay25 (k0_pay17 k) (k0_pay18 v) a (k0_pay21 k q) (k0_pay22 k q)
/-- The block's share of the gradient of the keys, and of the values. -/
def bDk (a k v q : FVec F S256x128 .bf16) : FVec F S1x256x128 .f32 :=
  k0_pay27 (k0_pay18 v) (k0_pay19 q) a (k0_pay21 k q) (k0_pay22 k q)
def bDv (a k q : FVec F S256x128 .bf16) : FVec F S1x256x128 .f32 := k0_pay30 a (k0_pay21 k q) (k0_pay22 k q)
/-- The shares added to what the blocks before left. -/
def bDkAcc (a k v q : FVec F S256x128 .bf16) (o : FVec F S1x256x128 .f32) : FVec F S1x256x128 .f32 :=
  k0_pay28 (k0_pay18 v) (k0_pay19 q) a (k0_pay21 k q) (k0_pay22 k q) o
def bDvAcc (a k q : FVec F S256x128 .bf16) (o : FVec F S1x256x128 .f32) : FVec F S1x256x128 .f32 :=
  k0_pay31 a (k0_pay21 k q) (k0_pay22 k q) o

section
variable (x1 : FVec F S256x2048 .bf16) (x5 : FVec F S2048x512 .bf16) (A : FVec F S256x512 .bf16) (A' k v q : FVec F S256x128 .bf16)
  (o : FVec F S1x256x128 .f32)

theorem slice0 : k0_pay6 x1 x5 = headCols 0 (k0_pay3 x1 x5) := by
  funext i; pointwise [k0_pay6, headCols]; exact congrArg (k0_pay3 x1 x5) (congrArg (ix2 (i 0)) (Fin.ext (by simp [col])))
theorem slice1 : k0_pay20 A = headCols 1 A := by
  funext i; pointwise [k0_pay20, headCols]; exact congrArg A (congrArg (ix2 (i 0)) (Fin.ext (by simp [col])))
theorem slice2 : k0_pay34 A = headCols 2 A := by
  funext i; pointwise [k0_pay34, headCols]; exact congrArg A (congrArg (ix2 (i 0)) (Fin.ext (by simp [col])))
theorem slice3 : k0_pay47 A = headCols 3 A := by
  funext i; pointwise [k0_pay47, headCols]; exact congrArg A (congrArg (ix2 (i 0)) (Fin.ext (by simp [col])))

theorem dq0 : k0_pay10 (k0_pay9 x1 x5 k v q) = bDq (k0_pay6 x1 x5) k v q := rfl
theorem dq2 : k0_pay37 A (k0_pay32 k) v q = bDq (k0_pay34 A) k v q := rfl
theorem dq3 : k0_pay51 (k0_pay50 A k v q) = bDq (k0_pay47 A) k v q := rfl
theorem dk0 : k0_pay12 (k0_pay5 q) (k0_pay8 x1 x5 k v q) = bDk (k0_pay6 x1 x5) k v q := rfl
theorem dk2 : k0_pay39 A (k0_pay32 k) v q = bDk (k0_pay34 A) k v q := rfl
theorem dk3 : k0_pay53 (k0_pay46 q) (k0_pay49 A k v q) = bDk (k0_pay47 A) k v q := rfl
theorem dkAcc0 : k0_pay13 (k0_pay5 q) (k0_pay8 x1 x5 k v q) o = bDkAcc (k0_pay6 x1 x5) k v q o := rfl
theorem dkAcc2 : k0_pay40 A (k0_pay32 k) v q o = bDkAcc (k0_pay34 A) k v q o := rfl
theorem dkAcc3 : k0_pay54 (k0_pay46 q) (k0_pay49 A k v q) o = bDkAcc (k0_pay47 A) k v q o := rfl
theorem dv0 : k0_pay15 A' (k0_pay7 k q) = bDv A' k q := rfl
theorem dv2 : k0_pay43 A' (k0_pay41 (k0_pay32 k) q) = bDv A' k q := rfl
theorem dv3 : k0_pay56 A' (k0_pay48 k q) = bDv A' k q := rfl
theorem dvAcc0 : k0_pay16 A' (k0_pay7 k q) o = bDvAcc A' k q o := rfl
theorem dvAcc2 : k0_pay44 A' (k0_pay41 (k0_pay32 k) q) o = bDvAcc A' k q o := rfl
theorem dvAcc3 : k0_pay57 A' (k0_pay48 k q) o = bDvAcc A' k q o := rfl
end

/-! ## The block's results -/

/-- The gradient of the attention output. -/
abbrev bCtx (x1 : FVec F S256x2048 .bf16) (x5 : FVec F S2048x512 .bf16) : FVec F S256x512 .bf16 := k0_pay3 x1 x5

section
variable (x0 : FVec F S256x2048 .f32) (x1 : FVec F S256x2048 .bf16) (x2 : FVec F S256x512 .bf16) (x3 : FVec F S256x1024 .bf16)
  (x4 x5 : FVec F S2048x512 .bf16) (x6 : FVec F S256x2048 .f32) (x7 : FVec F S256x1 .f32) (x8 : FVec F S1x2048 .f32)

/-- The gradient of the queries, the four heads side by side. -/
def bDquery : FVec F S256x512 .bf16 := fun i =>
  bDq (headCols (headOf (i 1)) (bCtx x1 x5)) (keyCols (headOf (i 1)) x3) (valCols (headOf (i 1)) x3) (headCols (headOf (i 1)) x2)
    (ix2 (i 0) ⟨(i 1).val % 128, Nat.mod_lt _ (by decide)⟩)
/-- The gradient of the normalised rows. -/
def bDrow : FVec F S256x2048 .f32 := k0_pay59 (bDquery x1 x2 x3 x5) x0 x4
/-- The block's share of the gradients of the keys (planes 0–3) and of the values (planes 4–7). -/
def bDkv : FVec F S8x256x128 .f32 := fun i =>
  let h : Fin 4 := ⟨(i 0).val % 4, Nat.mod_lt _ (by decide)⟩
  if (i 0).val < 4 then
    bDk (headCols h (bCtx x1 x5)) (keyCols h x3) (valCols h x3) (headCols h x2) (ix3 0 (i 1) (i 2))
  else bDv (headCols h (bCtx x1 x5)) (keyCols h x3) (headCols h x2) (ix3 0 (i 1) (i 2))
/-- The share added to what the blocks before left. -/
def bDkvAcc (o : FVec F S8x256x128 .f32) : FVec F S8x256x128 .f32 := fun i =>
  let h : Fin 4 := ⟨(i 0).val % 4, Nat.mod_lt _ (by decide)⟩
  if (i 0).val < 4 then
    bDkAcc (headCols h (bCtx x1 x5)) (keyCols h x3) (valCols h x3) (headCols h x2) (fun j => o (ix3 (i 0) (j 1) (j 2)))
      (ix3 0 (i 1) (i 2))
  else bDvAcc (headCols h (bCtx x1 x5)) (keyCols h x3) (headCols h x2) (fun j => o (ix3 (i 0) (j 1) (j 2))) (ix3 0 (i 1) (i 2))
end

/-! ## One head on real arrays -/

section
variable (Q A : Fin 256 → Fin 128 → ℝ) (K V : Fin 256 → Fin 128 → ℝ)

theorem bProb_real (i : S256x256.Idx) :
    bProb (F := Ideal) (lift2 K) (lift2 Q) i = ((prob (Q (i 0)) K (i 1) : ℝ) : EReal) := by
  pointwise [bProb, k0_pay23, k0_pay22, k0_pay21, k0_pay19, k0_pay17]
  simp only [lift2_apply, scale_bits, bot_bits, ← EReal.coe_mul, coe_sum, coe_top, ← EReal.coe_sub, Ideal.exp_coe]
  exact coe_div (total_pos (Q (i 0)) K).ne' _
theorem bDscore_real (i : S256x256.Idx) :
    bDscore (F := Ideal) (lift2 A) (lift2 K) (lift2 V) (lift2 Q) i = ((dscore (Q (i 0)) (A (i 0)) K V (i 1) : ℝ) : EReal) := by
  have hp := bProb_real Q K
  unfold bProb at hp
  pointwise [bDscore, k0_pay24, k0_pay18]
  simp only [hp, lift2_apply, scale_bits, ← EReal.coe_mul, coe_sum, ← EReal.coe_sub]
  rfl
theorem bDq_real (i : S256x128.Idx) : bDq (F := Ideal) (lift2 A) (lift2 K) (lift2 V) (lift2 Q) i
    = ((∑ k, dscore (Q (i 0)) (A (i 0)) K V k * K k (i 1) : ℝ) : EReal) := by
  have hp := bDscore_real Q A K V
  unfold bDscore at hp
  pointwise [bDq, k0_pay25, k0_pay17]
  simp only [hp, lift2_apply, ← EReal.coe_mul, coe_sum]
  rfl
theorem bDkAcc_real (o : FVec Ideal S1x256x128 .f32) (i : S1x256x128.Idx) :
    bDkAcc (F := Ideal) (lift2 A) (lift2 K) (lift2 V) (lift2 Q) o i
      = o i + ((∑ r, dscore (Q r) (A r) K V (i 1) * Q r (i 2) : ℝ) : EReal) := by
  have hp := bDscore_real Q A K V
  unfold bDscore at hp
  pointwise [bDkAcc, k0_pay28, k0_pay26, k0_pay19]
  simp only [hp, lift2_apply, ← EReal.coe_mul, coe_sum]
  rfl
theorem bDvAcc_real (o : FVec Ideal S1x256x128 .f32) (i : S1x256x128.Idx) :
    bDvAcc (F := Ideal) (lift2 A) (lift2 K) (lift2 Q) o i
      = o i + ((∑ r, prob (Q r) K (i 1) * A r (i 2) : ℝ) : EReal) := by
  have hp := bProb_real Q K
  unfold bProb at hp
  pointwise [bDvAcc, k0_pay31, k0_pay29]
  simp only [hp, lift2_apply, ← EReal.coe_mul, coe_sum]
  rfl
theorem bDk_real (i : S1x256x128.Idx) : bDk (F := Ideal) (lift2 A) (lift2 K) (lift2 V) (lift2 Q) i
      = ((∑ r, dscore (Q r) (A r) K V (i 1) * Q r (i 2) : ℝ) : EReal) := by
  have hp := bDscore_real Q A K V
  unfold bDscore at hp
  pointwise [bDk, k0_pay27, k0_pay26, k0_pay19]
  simp only [hp, lift2_apply, ← EReal.coe_mul, coe_sum]
  rfl
theorem bDv_real (i : S1x256x128.Idx) : bDv (F := Ideal) (lift2 A) (lift2 K) (lift2 Q) i
      = ((∑ r, prob (Q r) K (i 1) * A r (i 2) : ℝ) : EReal) := by
  have hp := bProb_real Q K
  unfold bProb at hp
  pointwise [bDv, k0_pay30, k0_pay29]
  simp only [hp, lift2_apply, ← EReal.coe_mul, coe_sum]
  rfl
end

/-! ## The block on real arrays -/

section
variable (D : Fin 256 → Fin 2048 → ℝ) (wo : Fin 512 → Fin 2048 → ℝ) (Q A : Fin 256 → Fin 512 → ℝ) (kv : Fin 256 → Fin 1024 → ℝ)

/-- The specification's gradient of the attention output, of each row of the block. -/
abbrev ctx (r : Fin 256) : Fin 512 → ℝ := dctx (D r) wo

theorem bCtx_real : bCtx (F := Ideal) (lift2 D) (lift2 fun j c => wo c j) = lift2 (ctx D wo) := by
  funext i
  pointwise [bCtx, k0_pay3]
  simp only [lift2_apply, ← EReal.coe_mul, coe_sum]
  rfl
theorem headCols_real (h : Fin 4) : headCols (F := Ideal) h (lift2 A) = lift2 fun r => head (A r) h := rfl
theorem keyCols_real (h : Fin 4) : keyCols (F := Ideal) h (lift2 kv) = lift2 (keys kv h) := rfl
theorem valCols_real (h : Fin 4) : valCols (F := Ideal) h (lift2 kv) = lift2 (vals kv h) := rfl

theorem bDquery_real : bDquery (F := Ideal) (lift2 D) (lift2 Q) (lift2 kv) (lift2 fun j c => wo c j)
    = lift2 fun r => dquery (Q r) (ctx D wo r) kv := by
  funext i
  unfold bDquery
  rw [bCtx_real, headCols_real, headCols_real, keyCols_real, valCols_real, bDq_real]
  have h : col (headOf (i 1)) ⟨(i 1).val % 128, Nat.mod_lt _ (by decide)⟩ = i 1 := Fin.ext (by
    simp only [headOf, col]; omega)
  refine congrArg _ (Finset.sum_congr rfl fun k _ => ?_)
  show _ * kv k (keyCol (col (headOf (i 1)) ⟨(i 1).val % 128, _⟩)) = _
  rw [h]
  rfl

section Rows
variable (W : Fin 2048 → Fin 512 → ℝ) (s : Fin 256 → ℝ) (X U : Fin 256 → Fin 2048 → ℝ) (g : Fin 2048 → ℝ)

theorem bDrow_real : bDrow (F := Ideal) (lift2 D) (lift2 D) (lift2 Q) (lift2 kv) (lift2 W) (lift2 fun j c => wo c j)
    = lift2 fun r => drow (Q r) (ctx D wo r) kv (D r) W := by
  funext i
  unfold bDrow
  rw [bDquery_real]
  pointwise [k0_pay59]
  simp only [lift2_apply, alpha_bits, ← EReal.coe_mul, coe_sum, ← EReal.coe_add]
  rfl

theorem norm_real (i : S256x2048.Idx) : k0_pay62 (F := Ideal) (lift2 U) (k0_pay60 (lift2 X)) (liftCol s) (liftRow g) i
    = ((normBack (s (i 0)) (X (i 0)) (fun j => U (i 0) j * g j) (i 1) : ℝ) : EReal) := by
  pointwise [k0_pay62, k0_pay61, k0_pay60]
  simp only [lift2_apply, liftCol_apply, liftRow_apply, width_bits, ← EReal.coe_mul, coe_sum, coe_div width_ne, ← EReal.coe_sub]
  rfl
theorem norm_cast_real (i : S256x2048.Idx) : k0_pay63 (F := Ideal) (lift2 U) (k0_pay60 (lift2 X)) (liftCol s) (liftRow g) i
    = ((normBack (s (i 0)) (X (i 0)) (fun j => U (i 0) j * g j) (i 1) : ℝ) : EReal) := norm_real s X U g i
theorem gain_real (o : FVec Ideal S1x2048 .f32) (i : S1x2048.Idx) : k0_pay66 (F := Ideal) (lift2 U) (k0_pay60 (lift2 X)) o i
    = o i + ((∑ r, X r (i 1) * U r (i 1) : ℝ) : EReal) := by
  pointwise [k0_pay66, k0_pay64, k0_pay60]
  simp only [lift2_apply, ← EReal.coe_mul, coe_sum, mul_comm]
  rfl
theorem gain_first_real (i : S1x2048.Idx) : k0_pay65 (F := Ideal) (lift2 U) (k0_pay60 (lift2 X)) i
    = ((∑ r, X r (i 1) * U r (i 1) : ℝ) : EReal) := by
  pointwise [k0_pay65, k0_pay64, k0_pay60]
  simp only [lift2_apply, ← EReal.coe_mul, coe_sum, mul_comm]
  rfl
theorem shift_real (o : FVec Ideal S1x2048 .f32) (i : S1x2048.Idx) : k0_pay2 (F := Ideal) (k0_pay67 (lift2 U)) o i
    = o i + ((∑ r, U r (i 1) : ℝ) : EReal) := by
  pointwise [k0_pay2, k0_pay67]
  simp only [lift2_apply, coe_sum]
  rfl
theorem shift_first_real (i : S1x2048.Idx) : k0_pay1 (F := Ideal) (k0_pay67 (lift2 U)) i
    = ((∑ r, U r (i 1) : ℝ) : EReal) := by
  pointwise [k0_pay1, k0_pay67]
  simp only [lift2_apply, coe_sum]
  rfl
end Rows

theorem bDkvAcc_real (o : FVec Ideal S8x256x128 .f32) (i : S8x256x128.Idx) :
    bDkvAcc (F := Ideal) (lift2 D) (lift2 Q) (lift2 kv) (lift2 fun j c => wo c j) o i
      = o i + ((∑ r, dkv (Q r) (ctx D wo r) kv (i 0) (i 1) (i 2) : ℝ) : EReal) := by
  have b0 : (i 0).val < 8 := (i 0).isLt
  have b2 : (i 2).val < 128 := (i 2).isLt
  have e : o (ix3 (i 0) (i 1) (i 2)) = o i := congrArg o (eq_ix3 i).symm
  unfold bDkvAcc
  rw [bCtx_real]
  simp only [headCols_real, keyCols_real, valCols_real]
  have hh : headOf (col ⟨(i 0).val % 4, Nat.mod_lt _ (by decide)⟩ (i 2)) = ⟨(i 0).val % 4, Nat.mod_lt _ (by decide)⟩ :=
    headOf_col _ _
  split
  case isTrue h =>
    rw [bDkAcc_real]
    refine congrArg₂ (· + ·) e (congrArg _ (Finset.sum_congr rfl fun r _ => ?_))
    rw [dkv_key _ _ _ (i 0) (i 1) (i 2) (col ⟨(i 0).val % 4, Nat.mod_lt _ (by decide)⟩ (i 2)) (by simp only [col]; omega), hh]
    rfl
  case isFalse h =>
    rw [bDvAcc_real]
    refine congrArg₂ (· + ·) e (congrArg _ (Finset.sum_congr rfl fun r _ => ?_))
    rw [dkv_val _ _ _ (i 0) (i 1) (i 2) (col ⟨(i 0).val % 4, Nat.mod_lt _ (by decide)⟩ (i 2)) (by simp only [col]; omega), hh]
    rfl
theorem bDkv_real (i : S8x256x128.Idx) :
    bDkv (F := Ideal) (lift2 D) (lift2 Q) (lift2 kv) (lift2 fun j c => wo c j) i
      = ((∑ r, dkv (Q r) (ctx D wo r) kv (i 0) (i 1) (i 2) : ℝ) : EReal) := by
  refine Eq.trans ?_ ((bDkvAcc_real D wo Q kv (fun _ => 0) i).trans (zero_add _))
  unfold bDkv bDkvAcc
  rw [bCtx_real]
  simp only [headCols_real, keyCols_real, valCols_real, bDk_real, bDv_real, bDkAcc_real, bDvAcc_real, zero_add]
end
end Cert.Proof.Ker

end
-- ==== Proof.Run.lean ====
module

public import proofs.«01_k».proof.Proof.Block
public import proofs.«01_k».proof.Proof.Gen.KernelIdeal.Value

/-! What a grid point's run leaves in each result's buffer is the block function of the arrays' blocks: every store's
    payload is one of the block functions, every load reads a block or the columns of one head, and the queries'
    gradient is read back out of the buffer into which the four heads were stored side by side. -/

@[expose] public section

set_option maxRecDepth 16384
noncomputable section

namespace Cert.Proof.Ker

open Idealize.ShloMosaic Idealize.ShloMosaic.TcCoe Idealize.SL.Sem Cert.KernelIdeal Cert.KernelIdeal.Gen

variable {F : FTy → Type} [FloatOps F]

/-! ## The loads -/

theorem hz2 : (![0, 0] : Fin 2 → Nat) = fun _ => 0 := funext fun a => by fin_cases a <;> rfl

theorem load_eq {s : Shape} {e : EltTy} (a : Memref sig .tc .vmem s e) (h : a.IsWhole) (x : Vec F s e) (r : Rect s) :
    View.readAt (Elt F) a.view r.toLoadRect (h.unread x) = View.ld x r := by rw [View.readAt_eq_ld, h.read_unread]

theorem wholeD {e : EltTy} (x : Vec F S256x2048 e) : View.ld x (Rect.unit ![0, 0] ![256, 2048] inb_S256x2048_S256x2048_0_0) = x :=
  View.ld_unit_zero hz2 _ x
theorem wholeW {e : EltTy} (x : Vec F S2048x512 e) : View.ld x (Rect.unit ![0, 0] ![2048, 512] inb_S2048x512_S2048x512_0_0) = x :=
  View.ld_unit_zero hz2 _ x
theorem wholeS {e : EltTy} (x : Vec F S256x1 e) : View.ld x (Rect.unit ![0, 0] ![256, 1] inb_S256x1_S256x1_0_0) = x :=
  View.ld_unit_zero hz2 _ x
theorem wholeR {e : EltTy} (x : Vec F S1x2048 e) : View.ld x (Rect.unit ![0, 0] ![1, 2048] inb_S1x2048_S1x2048_0_0) = x :=
  View.ld_unit_zero hz2 _ x

section
variable (x2 : Vec F S256x512 .bf16) (x3 : Vec F S256x1024 .bf16)
theorem ldQ0 : View.ld x2 (Rect.unit ![0, 0] ![256, 128] inb_S256x512_S256x128_0_0) = headCols 0 x2 := by
  funext i
  refine congrArg x2 (funext fun a => Fin.ext ?_)
  fin_cases a <;> simp [Rect.unit, col]
theorem ldQ1 : View.ld x2 (Rect.unit ![0, 128] ![256, 128] inb_S256x512_S256x128_0_128) = headCols 1 x2 := by
  funext i
  refine congrArg x2 (funext fun a => Fin.ext ?_)
  fin_cases a <;> simp [Rect.unit, col]
theorem ldQ2 : View.ld x2 (Rect.unit ![0, 256] ![256, 128] inb_S256x512_S256x128_0_256) = headCols 2 x2 := by
  funext i
  refine congrArg x2 (funext fun a => Fin.ext ?_)
  fin_cases a <;> simp [Rect.unit, col]
theorem ldQ3 : View.ld x2 (Rect.unit ![0, 384] ![256, 128] inb_S256x512_S256x128_0_384) = headCols 3 x2 := by
  funext i
  refine congrArg x2 (funext fun a => Fin.ext ?_)
  fin_cases a <;> simp [Rect.unit, col]
theorem ldK0 : View.ld x3 (Rect.unit ![0, 0] ![256, 128] inb_S256x1024_S256x128_0_0) = keyCols 0 x3 := by
  funext i
  refine congrArg x3 (funext fun a => Fin.ext ?_)
  fin_cases a <;> simp [Rect.unit, col, keyCol]
theorem ldK1 : View.ld x3 (Rect.unit ![0, 128] ![256, 128] inb_S256x1024_S256x128_0_128) = keyCols 1 x3 := by
  funext i
  refine congrArg x3 (funext fun a => Fin.ext ?_)
  fin_cases a <;> simp [Rect.unit, col, keyCol]
theorem ldK2 : View.ld x3 (Rect.unit ![0, 256] ![256, 128] inb_S256x1024_S256x128_0_256) = keyCols 2 x3 := by
  funext i
  refine congrArg x3 (funext fun a => Fin.ext ?_)
  fin_cases a <;> simp [Rect.unit, col, keyCol]
theorem ldK3 : View.ld x3 (Rect.unit ![0, 384] ![256, 128] inb_S256x1024_S256x128_0_384) = keyCols 3 x3 := by
  funext i
  refine congrArg x3 (funext fun a => Fin.ext ?_)
  fin_cases a <;> simp [Rect.unit, col, keyCol]
theorem ldV0 : View.ld x3 (Rect.unit ![0, 512] ![256, 128] inb_S256x1024_S256x128_0_512) = valCols 0 x3 := by
  funext i
  refine congrArg x3 (funext fun a => Fin.ext ?_)
  fin_cases a <;> simp [Rect.unit, col, valCol]
theorem ldV1 : View.ld x3 (Rect.unit ![0, 640] ![256, 128] inb_S256x1024_S256x128_0_640) = valCols 1 x3 := by
  funext i
  refine congrArg x3 (funext fun a => Fin.ext ?_)
  fin_cases a <;> simp [Rect.unit, col, valCol] <;> omega
theorem ldV2 : View.ld x3 (Rect.unit ![0, 768] ![256, 128] inb_S256x1024_S256x128_0_768) = valCols 2 x3 := by
  funext i
  refine congrArg x3 (funext fun a => Fin.ext ?_)
  fin_cases a <;> simp [Rect.unit, col, valCol] <;> omega
theorem ldV3 : View.ld x3 (Rect.unit ![0, 896] ![256, 128] inb_S256x1024_S256x128_0_896) = valCols 3 x3 := by
  funext i
  refine congrArg x3 (funext fun a => Fin.ext ?_)
  fin_cases a <;> simp [Rect.unit, col, valCol] <;> omega
end

/-! ## The queries' gradient, stored head by head -/

section
variable (x1 : Vec F S256x2048 .bf16) (x2 : Vec F S256x512 .bf16) (x3 : Vec F S256x1024 .bf16) (x5 : Vec F S2048x512 .bf16)

/-- The store of one head's columns holds those columns of the whole. -/
theorem bDquery_cols (h : Fin 4) (o : ℕ) (ho : o = 128 * h.val) (inb : ∀ a, (![0, o] : Fin 2 → ℕ) a + S256x128.size a ≤ S256x512.size a)
    (x : (Rect.unit (s := S256x512) ![0, o] S256x128.size inb).shape.Idx) :
    bDq (headCols h (bCtx x1 x5)) (keyCols h x3) (valCols h x3) (headCols h x2) x
      = bDquery x1 x2 x3 x5 ((Rect.unit (s := S256x512) ![0, o] S256x128.size inb).emb x) := by
  have b1 : (x 1).val < 128 := (x 1).isLt
  have e1 : ((Rect.unit (s := S256x512) ![0, o] S256x128.size inb).emb x 1).val = o + (x 1).val := by
    rw [Rect.emb_apply]; show o + 1 * (x 1).val = _; omega
  have e0 : ((Rect.unit (s := S256x512) ![0, o] S256x128.size inb).emb x 0).val = 0 + (x 0).val := by
    rw [Rect.emb_apply]; show 0 + 1 * (x 0).val = _; omega
  have hh : headOf ((Rect.unit (s := S256x512) ![0, o] S256x128.size inb).emb x 1) = h :=
    Fin.ext (by
      show ((Rect.unit (s := S256x512) ![0, o] S256x128.size inb).emb x 1).val / 128 = h.val; omega)
  have hx : (ix2 ((Rect.unit (s := S256x512) ![0, o] S256x128.size inb).emb x 0)
      ⟨((Rect.unit (s := S256x512) ![0, o] S256x128.size inb).emb x 1).val % 128, Nat.mod_lt _ (by decide)⟩ : S256x128.Idx) = x := by
    funext a
    apply Fin.ext
    match a with
    | ⟨0, _⟩ => show ((Rect.unit (s := S256x512) ![0, o] S256x128.size inb).emb x 0).val = (x 0).val; omega
    | ⟨1, _⟩ => show ((Rect.unit (s := S256x512) ![0, o] S256x128.size inb).emb x 1).val % 128 = (x 1).val; omega
  show _ = bDq (headCols (headOf _) (bCtx x1 x5)) (keyCols (headOf _) x3) (valCols (headOf _) x3) (headCols (headOf _) x2) (ix2 _ ⟨_, _⟩)
  rw [hh, hx]

theorem scratch_eq (c : Dev nD) (arg2 : Memref sig .tc .vmem S256x2048 .bf16) (harg2 : arg2.IsWhole)
    (arg3 : Memref sig .tc .vmem S256x512 .bf16) (harg3 : arg3.IsWhole) (arg4 : Memref sig .tc .vmem S256x1024 .bf16) (harg4 : arg4.IsWhole)
    (arg6 : Memref sig .tc .vmem S2048x512 .bf16) (harg6 : arg6.IsWhole) (arg16 : Memref sig .tc .vmem S256x512 .bf16) :
    kernelRun0_A.sl.v195 c arg2 harg2 arg3 harg3 arg4 harg4 arg6 harg6 arg16 x1 x2 x3 x5 = bDquery x1 x2 x3 x5 := by
  unfold kernelRun0_A.sl.v195
  have hcov := View.cover_of_tiled (kernelRun0_A.sl.HS0_4 c arg2 harg2 arg3 harg3 arg4 harg4 arg6 harg6 x1 x2 x3 x5) S256x128.size (by rfl)
  rw [View.readCov_eq_canon_ld _ _ _ hcov]
  refine (View.ld_unit_zero hz2 _ _).trans ?_
  funext y
  refine View.canon_apply_of_pieces _ _ ?_ y (hcov y)
  unfold kernelRun0_A.sl.HS0_4
  simp only [List.forall_mem_cons, kernelRun0_A.sl.r_19, kernelRun0_A.sl.r_12, kernelRun0_A.sl.r_6, kernelRun0_A.sl.r_7, kernelRun0_A.sl.r_9,
    kernelRun0_A.sl.r_10, kernelRun0_A.sl.r_11, kernelRun0_A.sl.r_5, kernelRun0_A.sl.r, load_eq, dq0, dq2, dq3, slice0, slice1, slice2,
    slice3, ldQ0, ldQ1, ldQ2, ldQ3, ldK0, ldK1, ldK2, ldK3, ldV0, ldV1, ldV2, ldV3, wholeD, wholeW]
  exact ⟨bDquery_cols x1 x2 x3 x5 3 384 rfl _, bDquery_cols x1 x2 x3 x5 2 256 rfl _, bDquery_cols x1 x2 x3 x5 1 128 rfl _,
    bDquery_cols x1 x2 x3 x5 0 0 rfl _, fun _ h => absurd h (List.not_mem_nil)⟩

/-- The planes of one head in the two gradients of the keys and values. -/
theorem plane_emb (p : ℕ) (inb : ∀ a, (![p, 0, 0] : Fin 3 → ℕ) a + (![1, 256, 128] : Fin 3 → ℕ) a ≤ S8x256x128.size a)
    (x : (Rect.unit (s := S8x256x128) ![p, 0, 0] ![1, 256, 128] inb).shape.Idx) :
    ((Rect.unit (s := S8x256x128) ![p, 0, 0] ![1, 256, 128] inb).emb x 0).val = p
      ∧ (Rect.unit (s := S8x256x128) ![p, 0, 0] ![1, 256, 128] inb).emb x 1 = x 1
      ∧ (Rect.unit (s := S8x256x128) ![p, 0, 0] ![1, 256, 128] inb).emb x 2 = x 2 := by
  have b0 : (x 0).val < 1 := (x 0).isLt
  refine ⟨?_, Fin.ext ?_, Fin.ext ?_⟩
  · rw [Rect.emb_apply]; show p + 1 * (x 0).val = _; omega
  · rw [Rect.emb_apply]; show 0 + 1 * (x 1).val = _; omega
  · rw [Rect.emb_apply]; show 0 + 1 * (x 2).val = _; omega
theorem plane_ix (x : S1x256x128.Idx) : (ix3 0 (x 1) (x 2) : S1x256x128.Idx) = x := by
  funext a
  match a with
  | ⟨0, _⟩ => exact Subsingleton.elim (α := Fin 1) _ _
  | ⟨1, _⟩ => rfl
  | ⟨2, _⟩ => rfl
theorem plane_ld (p : ℕ) (inb : ∀ a, (![p, 0, 0] : Fin 3 → ℕ) a + (![1, 256, 128] : Fin 3 → ℕ) a ≤ S8x256x128.size a)
    (o : Vec F S8x256x128 .f32) (x : (Rect.unit (s := S8x256x128) ![p, 0, 0] ![1, 256, 128] inb).shape.Idx) :
    View.ld o (Rect.unit (s := S8x256x128) ![p, 0, 0] ![1, 256, 128] inb)
      = fun j : S1x256x128.Idx => o (ix3 ((Rect.unit (s := S8x256x128) ![p, 0, 0] ![1, 256, 128] inb).emb x 0) (j 1) (j 2)) := by
  funext j
  obtain ⟨e0, -, -⟩ := plane_emb p inb x
  obtain ⟨f0, f1, f2⟩ := plane_emb p inb j
  show o ((Rect.unit (s := S8x256x128) ![p, 0, 0] ![1, 256, 128] inb).emb j) = _
  refine congrArg o (funext fun a => ?_)
  match a with
  | ⟨0, _⟩ => exact Fin.ext (f0.trans e0.symm)
  | ⟨1, _⟩ => exact f1
  | ⟨2, _⟩ => exact f2

section
variable (h : Fin 4) (p : ℕ) (inb : ∀ a, (![p, 0, 0] : Fin 3 → ℕ) a + (![1, 256, 128] : Fin 3 → ℕ) a ≤ S8x256x128.size a)
  (o : Vec F S8x256x128 .f32) (x : (Rect.unit (s := S8x256x128) ![p, 0, 0] ![1, 256, 128] inb).shape.Idx)

theorem plane_head (e : ℕ) (he : e = p) (hp : p % 4 = h.val) (w : e % 4 < 4) : (⟨e % 4, w⟩ : Fin 4) = h := Fin.ext (by subst he; exact hp)

theorem keyPlane (hp : p = h.val) : bDk (headCols h (bCtx x1 x5)) (keyCols h x3) (valCols h x3) (headCols h x2) x
    = bDkv x1 x2 x3 x5 ((Rect.unit (s := S8x256x128) ![p, 0, 0] ![1, 256, 128] inb).emb x) := by
  obtain ⟨e0, e1, e2⟩ := plane_emb p inb x
  unfold bDkv
  dsimp only
  rw [if_pos (by omega), plane_head h p _ e0 (by omega) _, e1, e2, plane_ix x]
theorem valPlane (hp : p = h.val + 4) : bDv (headCols h (bCtx x1 x5)) (keyCols h x3) (headCols h x2) x
    = bDkv x1 x2 x3 x5 ((Rect.unit (s := S8x256x128) ![p, 0, 0] ![1, 256, 128] inb).emb x) := by
  obtain ⟨e0, e1, e2⟩ := plane_emb p inb x
  unfold bDkv
  dsimp only
  rw [if_neg (by omega), plane_head h p _ e0 (by omega) _, e1, e2, plane_ix x]
theorem keyPlaneAcc (hp : p = h.val) : bDkAcc (headCols h (bCtx x1 x5)) (keyCols h x3) (valCols h x3) (headCols h x2)
      (View.ld o (Rect.unit (s := S8x256x128) ![p, 0, 0] ![1, 256, 128] inb)) x
    = bDkvAcc x1 x2 x3 x5 o ((Rect.unit (s := S8x256x128) ![p, 0, 0] ![1, 256, 128] inb).emb x) := by
  obtain ⟨e0, e1, e2⟩ := plane_emb p inb x
  rw [plane_ld p inb o x]
  unfold bDkvAcc
  dsimp only
  rw [if_pos (by omega), plane_head h p _ e0 (by omega) _, e1, e2, plane_ix x]
theorem valPlaneAcc (hp : p = h.val + 4) : bDvAcc (headCols h (bCtx x1 x5)) (keyCols h x3) (headCols h x2)
      (View.ld o (Rect.unit (s := S8x256x128) ![p, 0, 0] ![1, 256, 128] inb)) x
    = bDkvAcc x1 x2 x3 x5 o ((Rect.unit (s := S8x256x128) ![p, 0, 0] ![1, 256, 128] inb).emb x) := by
  obtain ⟨e0, e1, e2⟩ := plane_emb p inb x
  rw [plane_ld p inb o x]
  unfold bDkvAcc
  dsimp only
  rw [if_neg (by omega), plane_head h p _ e0 (by omega) _, e1, e2, plane_ix x]
end
end

/-! ## What a point leaves -/

section
variable (c : Dev nD) (i : grid0.Coords)
  (arg1 : Memref sig .tc .vmem S256x2048 .f32) (harg1 : arg1.IsWhole) (arg2 : Memref sig .tc .vmem S256x2048 .bf16) (harg2 : arg2.IsWhole) (arg3 : Memref sig .tc .vmem S256x512 .bf16) (harg3 : arg3.IsWhole)
  (arg4 : Memref sig .tc .vmem S256x1024 .bf16) (harg4 : arg4.IsWhole) (arg5 : Memref sig .tc .vmem S2048x512 .bf16) (harg5 : arg5.IsWhole) (arg6 : Memref sig .tc .vmem S2048x512 .bf16) (harg6 : arg6.IsWhole)
  (arg7 : Memref sig .tc .vmem S256x2048 .f32) (harg7 : arg7.IsWhole) (arg8 : Memref sig .tc .vmem S256x1 .f32) (harg8 : arg8.IsWhole) (arg9 : Memref sig .tc .vmem S1x2048 .f32) (harg9 : arg9.IsWhole)
  (arg10 : Memref sig .tc .vmem S256x2048 .f32) (harg10 : arg10.IsWhole) (arg11 : Memref sig .tc .vmem S256x2048 .bf16) (harg11 : arg11.IsWhole) (arg12 : Memref sig .tc .vmem S1x2048 .f32) (harg12 : arg12.IsWhole)
  (arg13 : Memref sig .tc .vmem S1x2048 .f32) (harg13 : arg13.IsWhole) (arg14 : Memref sig .tc .vmem S256x512 .bf16) (harg14 : arg14.IsWhole) (arg15 : Memref sig .tc .vmem S8x256x128 .f32) (harg15 : arg15.IsWhole)
  (arg16 : Memref sig .tc .vmem S256x512 .bf16) (harg16 : arg16.IsWhole)
  (x0 : Vec F S256x2048 .f32) (x1 : Vec F S256x2048 .bf16) (x2 : Vec F S256x512 .bf16) (x3 : Vec F S256x1024 .bf16) (x4 : Vec F S2048x512 .bf16)
  (x5 : Vec F S2048x512 .bf16) (x6 : Vec F S256x2048 .f32) (x7 : Vec F S256x1 .f32) (x8 : Vec F S1x2048 .f32)
  (xo11 xo12 : Vec F S1x2048 .f32) (xo14 : Vec F S8x256x128 .f32)

theorem drow_eq : kernelRun0_A.sl.r_20 c arg1 harg1 arg2 harg2 arg3 harg3 arg4 harg4 arg5 harg5 arg6 harg6 arg16 x0 x1 x2 x3 x4 x5
    = bDrow x0 x1 x2 x3 x4 x5 := by
  unfold kernelRun0_A.sl.r_20
  simp only [load_eq, wholeD, wholeW, scratch_eq]
  rfl
theorem xhat_eq : kernelRun0_A.sl.r_21 c arg7 harg7 x6 = k0_pay60 x6 := by
  unfold kernelRun0_A.sl.r_21
  simp only [load_eq, wholeD]
theorem shift_eq : kernelRun0_A.sl.r_22 c arg1 harg1 arg2 harg2 arg3 harg3 arg4 harg4 arg5 harg5 arg6 harg6 arg16 x0 x1 x2 x3 x4 x5
    = k0_pay67 (bDrow x0 x1 x2 x3 x4 x5) := by
  unfold kernelRun0_A.sl.r_22
  rw [drow_eq]
section
variable (hc0 : cond0_0 i) (hc1 : ¬cond0_1 i) (hc2 : cond0_2 i) (hc3 : ¬cond0_3 i) (hc4 : cond0_4 i) (hc5 : ¬cond0_5 i) (hc6 : cond0_6 i)
  (hc7 : ¬cond0_7 i) (hc8 : cond0_8 i) (hc9 : ¬cond0_9 i) (hc10 : cond0_10 i) (hc11 : ¬cond0_11 i) (hc12 : cond0_12 i) (hc13 : ¬cond0_13 i)
  (hc14 : cond0_14 i) (hc15 : ¬cond0_15 i) (hc16 : cond0_16 i) (hc17 : ¬cond0_17 i) (hc18 : cond0_18 i) (hc19 : ¬cond0_19 i)
theorem out9_A : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8
    = k0_pay62 (bDrow x0 x1 x2 x3 x4 x5) (k0_pay60 x6) x7 x8 := by
  unfold out0_A_9
  rw [View.read_writes_junk_eq_canon]
  unfold kernelRun0_A
  dsimp only
  refine (View.canon_unit_zero hz2 _ _).trans ?_
  rw [drow_eq, xhat_eq]
  simp only [load_eq, wholeD, wholeW, wholeS, wholeR]
theorem out10_A : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8
    = k0_pay63 (bDrow x0 x1 x2 x3 x4 x5) (k0_pay60 x6) x7 x8 := by
  unfold out0_A_10
  rw [View.read_writes_junk_eq_canon]
  unfold kernelRun0_A
  dsimp only
  refine (View.canon_unit_zero hz2 _ _).trans ?_
  rw [drow_eq, xhat_eq]
  simp only [load_eq, wholeD, wholeW, wholeS, wholeR]
theorem out11_A : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8
    = k0_pay65 (bDrow x0 x1 x2 x3 x4 x5) (k0_pay60 x6) := by
  unfold out0_A_11
  rw [View.read_writes_junk_eq_canon]
  unfold kernelRun0_A
  dsimp only
  refine (View.canon_unit_zero hz2 _ _).trans ?_
  rw [drow_eq, xhat_eq]
theorem out12_A : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8
    = k0_pay1 (k0_pay67 (bDrow x0 x1 x2 x3 x4 x5)) := by
  unfold out0_A_12
  rw [View.read_writes_junk_eq_canon]
  unfold kernelRun0_A
  dsimp only
  refine (View.canon_unit_zero hz2 _ _).trans ?_
  rw [shift_eq]
theorem out13_A : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8
    = bDquery x1 x2 x3 x5 := by
  unfold out0_A_13
  rw [View.read_writes_junk_eq_canon]
  unfold kernelRun0_A
  dsimp only
  refine (View.canon_unit_zero hz2 _ _).trans ?_
  rw [scratch_eq]
  exact shapeCast_self _ _
theorem out14_A : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8
    = bDkv x1 x2 x3 x5 := by
  unfold out0_A_14
  rw [View.read_writes_junk_eq_canon]
  unfold kernelRun0_A
  dsimp only
  funext y
  refine View.canon_apply_of_pieces _ _ ?_ y (View.cover_of_tiled _ (![1, 256, 128] : Fin 3 → ℕ) (by rfl) y)
  simp only [List.forall_mem_cons, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19,
    load_eq, dk0, dk2, dk3, dv0, dv2, dv3, slice0, slice1, slice2, slice3, ldQ0, ldQ1, ldQ2, ldQ3, ldK0, ldK1,
    ldK2, ldK3, ldV0, ldV1, ldV2, ldV3, wholeD, wholeW]
  exact ⟨fun x => valPlane x1 x2 x3 x5 3 7 _ x rfl, fun x => keyPlane x1 x2 x3 x5 3 3 _ x rfl, fun x => valPlane x1 x2 x3 x5 2 6 _ x rfl, fun x => keyPlane x1 x2 x3 x5 2 2 _ x rfl, fun x => valPlane x1 x2 x3 x5 1 5 _ x rfl, fun x => keyPlane x1 x2 x3 x5 1 1 _ x rfl, fun x => valPlane x1 x2 x3 x5 0 4 _ x rfl, fun x => keyPlane x1 x2 x3 x5 0 0 _ x rfl, fun _ h => absurd h (List.not_mem_nil)⟩
end
section
variable (hc0 : ¬cond0_0 i) (hc1 : cond0_1 i) (hc2 : ¬cond0_2 i) (hc3 : cond0_3 i) (hc4 : ¬cond0_4 i) (hc5 : cond0_5 i) (hc6 : ¬cond0_6 i)
  (hc7 : cond0_7 i) (hc8 : ¬cond0_8 i) (hc9 : cond0_9 i) (hc10 : ¬cond0_10 i) (hc11 : cond0_11 i) (hc12 : ¬cond0_12 i) (hc13 : cond0_13 i)
  (hc14 : ¬cond0_14 i) (hc15 : cond0_15 i) (hc16 : ¬cond0_16 i) (hc17 : cond0_17 i) (hc18 : ¬cond0_18 i) (hc19 : cond0_19 i)
theorem out9_B : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8 xo11 xo12 xo14
    = k0_pay62 (bDrow x0 x1 x2 x3 x4 x5) (k0_pay60 x6) x7 x8 := by
  unfold out0_B_9
  rw [View.read_writes_junk_eq_canon]
  unfold kernelRun0_B
  dsimp only
  refine (View.canon_unit_zero hz2 _ _).trans ?_
  rw [show kernelRun0_B.sl.r_20 c arg1 harg1 arg2 harg2 arg3 harg3 arg4 harg4 arg5 harg5 arg6 harg6 arg16 x0 x1 x2 x3 x4 x5
      = bDrow x0 x1 x2 x3 x4 x5 from drow_eq c arg1 harg1 arg2 harg2 arg3 harg3 arg4 harg4 arg5 harg5 arg6 harg6 arg16 x0 x1 x2 x3 x4 x5, show kernelRun0_B.sl.r_21 c arg7 harg7 x6 = k0_pay60 x6 from xhat_eq c arg7 harg7 x6]
  simp only [load_eq, wholeD, wholeW, wholeS, wholeR]
theorem out10_B : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8 xo11 xo12 xo14
    = k0_pay63 (bDrow x0 x1 x2 x3 x4 x5) (k0_pay60 x6) x7 x8 := by
  unfold out0_B_10
  rw [View.read_writes_junk_eq_canon]
  unfold kernelRun0_B
  dsimp only
  refine (View.canon_unit_zero hz2 _ _).trans ?_
  rw [show kernelRun0_B.sl.r_20 c arg1 harg1 arg2 harg2 arg3 harg3 arg4 harg4 arg5 harg5 arg6 harg6 arg16 x0 x1 x2 x3 x4 x5
      = bDrow x0 x1 x2 x3 x4 x5 from drow_eq c arg1 harg1 arg2 harg2 arg3 harg3 arg4 harg4 arg5 harg5 arg6 harg6 arg16 x0 x1 x2 x3 x4 x5, show kernelRun0_B.sl.r_21 c arg7 harg7 x6 = k0_pay60 x6 from xhat_eq c arg7 harg7 x6]
  simp only [load_eq, wholeD, wholeW, wholeS, wholeR]
theorem out11_B : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8 xo11 xo12 xo14
    = k0_pay66 (bDrow x0 x1 x2 x3 x4 x5) (k0_pay60 x6) xo11 := by
  unfold out0_B_11
  rw [View.read_writes_junk_eq_canon]
  unfold kernelRun0_B
  dsimp only
  refine (View.canon_unit_zero hz2 _ _).trans ?_
  rw [show kernelRun0_B.sl.r_20 c arg1 harg1 arg2 harg2 arg3 harg3 arg4 harg4 arg5 harg5 arg6 harg6 arg16 x0 x1 x2 x3 x4 x5
      = bDrow x0 x1 x2 x3 x4 x5 from drow_eq c arg1 harg1 arg2 harg2 arg3 harg3 arg4 harg4 arg5 harg5 arg6 harg6 arg16 x0 x1 x2 x3 x4 x5, show kernelRun0_B.sl.r_21 c arg7 harg7 x6 = k0_pay60 x6 from xhat_eq c arg7 harg7 x6]
  simp only [load_eq, wholeD, wholeW, wholeS, wholeR]
theorem out12_B : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8 xo11 xo12 xo14
    = k0_pay2 (k0_pay67 (bDrow x0 x1 x2 x3 x4 x5)) xo12 := by
  unfold out0_B_12
  rw [View.read_writes_junk_eq_canon]
  unfold kernelRun0_B
  dsimp only
  refine (View.canon_unit_zero hz2 _ _).trans ?_
  rw [show kernelRun0_B.sl.r_22 c arg1 harg1 arg2 harg2 arg3 harg3 arg4 harg4 arg5 harg5 arg6 harg6 arg16 x0 x1 x2 x3 x4 x5
      = k0_pay67 (bDrow x0 x1 x2 x3 x4 x5) from shift_eq c arg1 harg1 arg2 harg2 arg3 harg3 arg4 harg4 arg5 harg5 arg6 harg6 arg16 x0 x1 x2 x3 x4 x5]
  simp only [load_eq, wholeD, wholeW, wholeS, wholeR]
theorem out13_B : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8 xo11 xo12 xo14
    = bDquery x1 x2 x3 x5 := by
  unfold out0_B_13
  rw [View.read_writes_junk_eq_canon]
  unfold kernelRun0_B
  dsimp only
  refine (View.canon_unit_zero hz2 _ _).trans ?_
  rw [show kernelRun0_B.sl.v195 c arg2 harg2 arg3 harg3 arg4 harg4 arg6 harg6 arg16 x1 x2 x3 x5 = bDquery x1 x2 x3 x5
      from scratch_eq x1 x2 x3 x5 c arg2 harg2 arg3 harg3 arg4 harg4 arg6 harg6 arg16]
  exact shapeCast_self _ _
theorem out14_B : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 hc8 hc9 hc10 hc11 hc12 hc13 hc14 hc15 hc16 hc17 hc18 hc19 x0 x1 x2 x3 x4 x5 x6 x7 x8 xo11 xo12 xo14
    = bDkvAcc x1 x2 x3 x5 xo14 := by
  unfold out0_B_14
  rw [View.read_writes_junk_eq_canon]
  unfold kernelRun0_B
  dsimp only
  funext y
  refine View.canon_apply_of_pieces _ _ ?_ y (View.cover_of_tiled _ (![1, 256, 128] : Fin 3 → ℕ) (by rfl) y)
  simp only [List.forall_mem_cons, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.v252, kernelRun0_B.sl.v252_1, kernelRun0_B.sl.v252_2, kernelRun0_B.sl.v252_3, kernelRun0_B.sl.v252_4, kernelRun0_B.sl.v252_5, kernelRun0_B.sl.v252_6,
    load_eq, dkAcc0, dkAcc2, dkAcc3, dvAcc0, dvAcc2, dvAcc3, slice0, slice1, slice2, slice3, ldQ0, ldQ1, ldQ2, ldQ3, ldK0, ldK1,
    ldK2, ldK3, ldV0, ldV1, ldV2, ldV3, wholeD, wholeW]
  exact ⟨fun x => valPlaneAcc x1 x2 x3 x5 3 7 _ xo14 x rfl, fun x => keyPlaneAcc x1 x2 x3 x5 3 3 _ xo14 x rfl, fun x => valPlaneAcc x1 x2 x3 x5 2 6 _ xo14 x rfl, fun x => keyPlaneAcc x1 x2 x3 x5 2 2 _ xo14 x rfl, fun x => valPlaneAcc x1 x2 x3 x5 1 5 _ xo14 x rfl, fun x => keyPlaneAcc x1 x2 x3 x5 1 1 _ xo14 x rfl, fun x => valPlaneAcc x1 x2 x3 x5 0 4 _ xo14 x rfl, fun x => keyPlaneAcc x1 x2 x3 x5 0 0 _ xo14 x rfl, fun _ h => absurd h (List.not_mem_nil)⟩
end
end
end Cert.Proof.Ker

end
-- ==== Proof.Prefix.lean ====
module

public import proofs.«01_k».proof.Proof.Spec
public import proofs.«01_k».proof.Proof.Gen.KernelIdeal.Frame
public import Idealize.ShloMosaic.Lib.Pointwise

/-! What the host operations before the call leave in the arrays the call reads: the row statistics of the layer
    normalisation, the normalised rows, the query, and the operands cast or transposed. -/

@[expose] public section

set_option maxRecDepth 16384
noncomputable section

namespace Cert.Proof.Ker

open Idealize.ShloMosaic Idealize.ShloMosaic.TcCoe Idealize.SL.Sem Cert.KernelIdeal Cert.KernelIdeal.Gen

variable {F : FTy → Type} [FloatOps F]

/-! ## The operations, as functions of the arguments -/

def hMean (x : FVec F S4096x2048 .f32) : FVec F S4096x1 .f32 :=
  Host.divf (broadcastInDim S4096x1 ![0] bcast_S4096_S4096x1_0
      (Host.reduceAdd x (constant S_ .f32 0x00000000#32) reducesTo_S4096x2048_S4096_d1 h_S_))
    (broadcastInDim S4096x1 ![] bcast_S_S4096x1 (constant S_ .f32 0x45000000#32))
def hCentred (x : FVec F S4096x2048 .f32) : FVec F S4096x2048 .f32 :=
  subf x (broadcastInDim S4096x2048 ![0, 1] bcast_S4096x1_S4096x2048_0_1 (hMean x))
def hRstd (x : FVec F S4096x2048 .f32) : FVec F S4096x1 .f32 :=
  Host.rsqrt (addf (Host.divf (broadcastInDim S4096x1 ![0] bcast_S4096_S4096x1_0
      (Host.reduceAdd (mulf (hCentred x) (hCentred x)) (constant S_ .f32 0x00000000#32) reducesTo_S4096x2048_S4096_d1 h_S_))
    (broadcastInDim S4096x1 ![] bcast_S_S4096x1 (constant S_ .f32 0x45000000#32)))
    (broadcastInDim S4096x1 ![] bcast_S_S4096x1 (constant S_ .f32 0x3727C5AC#32)))
def hXhat (x : FVec F S4096x2048 .f32) : FVec F S4096x2048 .f32 :=
  mulf (hCentred x) (broadcastInDim S4096x2048 ![0, 1] bcast_S4096x1_S4096x2048_0_1 (hRstd x))
def hQuery (x : FVec F S4096x2048 .f32) (g b : FVec F S1x2048 .f32) (wq : FVec F S2048x512 .f32) : FVec F S4096x512 .bf16 :=
  truncf .bf16 (Host.dotGeneral dot_S4096x2048_S2048x512_S4096x512_1_0_0_1_n_n none
    (addf (mulf (hXhat x) (broadcastInDim S4096x2048 ![0, 1] bcast_S1x2048_S4096x2048_0_1 g))
      (broadcastInDim S4096x2048 ![0, 1] bcast_S1x2048_S4096x2048_0_1 b)) wq) bitsLt_bf16_f32

/-! ## The arrays as the call finds them -/

variable (m : (ℓ : Loc nD τ sig) → Buf (Elt F) ℓ) (c : Dev nD)

theorem V_v13 : V m c main_v13 = hRstd (m ((c : Thread nD τ).loc main_arg0)) := by
  show StableHlo.after hostOps0 _ (Proc.devRef .tc main_v13) = _
  after_results
  rfl
theorem V_v17 : V m c main_v17 = hXhat (m ((c : Thread nD τ).loc main_arg0)) := by
  show StableHlo.after hostOps0 _ (Proc.devRef .tc main_v17) = _
  after_results
  rfl
theorem V_v18 : V m c main_v18 = truncf .bf16 (m ((c : Thread nD τ).loc main_arg4)) bitsLt_bf16_f32 := by
  show StableHlo.after hostOps0 _ (Proc.devRef .tc main_v18) = _
  after_results
theorem V_v20 : V m c main_v20
    = truncf .bf16 (transpose S2048x512 [1, 0] (m ((c : Thread nD τ).loc main_arg5)) transposes_S512x2048_S2048x512_1_0) bitsLt_bf16_f32 := by
  show StableHlo.after hostOps0 _ (Proc.devRef .tc main_v20) = _
  after_results
theorem V_v26 : V m c main_v26 = truncf .bf16 (m ((c : Thread nD τ).loc main_arg6)) bitsLt_bf16_f32 := by
  show StableHlo.after hostOps0 _ (Proc.devRef .tc main_v26) = _
  after_results
theorem V_v27 : V m c main_v27 = hQuery (m ((c : Thread nD τ).loc main_arg0)) (m ((c : Thread nD τ).loc main_arg1))
    (m ((c : Thread nD τ).loc main_arg2)) (m ((c : Thread nD τ).loc main_arg4)) := by
  show StableHlo.after hostOps0 _ (Proc.devRef .tc main_v27) = _
  after_results
  rfl
theorem V_v28 : V m c main_v28 = truncf .bf16 (m ((c : Thread nD τ).loc main_arg3)) bitsLt_bf16_f32 := by
  show StableHlo.after hostOps0 _ (Proc.devRef .tc main_v28) = _
  after_results

/-! ## Their values on real arguments -/

section
variable (z : Fin 4096 → Fin 2048 → ℝ) (g b : Fin 2048 → ℝ) (wq : Fin 2048 → Fin 512 → ℝ) (wo : Fin 512 → Fin 2048 → ℝ)

theorem hMean_real (i : S4096x1.Idx) : hMean (F := Ideal) (lift2 z) i = ((mean (z (i 0)) : ℝ) : EReal) := by
  pointwise [hMean]
  simp only [lift2_apply, coe_sum, width_bits, coe_div width_ne]
  rfl
theorem hCentred_real (i : S4096x2048.Idx) :
    hCentred (F := Ideal) (lift2 z) i = ((z (i 0) (i 1) - mean (z (i 0)) : ℝ) : EReal) := by
  pointwise [hCentred]
  rw [hMean_real, lift2_apply, ← EReal.coe_sub]
  rfl
theorem hRstd_real (i : S4096x1.Idx) : hRstd (F := Ideal) (lift2 z) i = ((rstd (z (i 0)) : ℝ) : EReal) := by
  pointwise [hRstd]
  simp only [hCentred_real, ← EReal.coe_mul, coe_sum, width_bits, coe_div width_ne, eps_bits, ← EReal.coe_add]
  exact coe_rsqrt (var_eps_pos (z (i 0)))
theorem hXhat_real (i : S4096x2048.Idx) : hXhat (F := Ideal) (lift2 z) i = ((xhat (z (i 0)) (i 1) : ℝ) : EReal) := by
  pointwise [hXhat]
  rw [hCentred_real, hRstd_real, ← EReal.coe_mul]
  rfl
theorem hQuery_real (i : S4096x512.Idx) :
    hQuery (F := Ideal) (lift2 z) (liftRow g) (liftRow b) (lift2 wq) i = ((query (z (i 0)) g b wq (i 1) : ℝ) : EReal) := by
  pointwise [hQuery]
  simp only [hXhat_real, lift2_apply, liftRow_apply, ← EReal.coe_mul, ← EReal.coe_add, coe_sum]
  rfl
end

end Cert.Proof.Ker

end
-- ==== Proof.RefValue.lean ====
module

public import proofs.«01_k».proof.Proof.Gen.ReferenceIdeal.Read
public import proofs.«01_k».proof.Proof.Spec

/-! The reference's results on finite arrays: each stage at an index is a real number, the specification's. -/

@[expose] public section

set_option maxRecDepth 16384
noncomputable section

namespace Cert.Proof.Ref

open Cert.ReferenceIdeal Cert.ReferenceIdeal.Gen Cert.ReferenceIdeal.Read Idealize.ShloMosaic

variable (z : Fin 4096 → Fin 2048 → ℝ) (g b : Fin 2048 → ℝ) (kv : Fin 256 → Fin 1024 → ℝ) (wq : Fin 2048 → Fin 512 → ℝ)
  (wo : Fin 512 → Fin 2048 → ℝ) (dz : Fin 4096 → Fin 2048 → ℝ)

/-! ## The layer normalisation -/

theorem v6 (i : S4096x1.Idx) : val_main_v6 (F := Ideal) (lift2 z) i = ((mean (z (i 0)) : ℝ) : EReal) := by
  rw [val_main_v6_apply, val_main_v4_apply, val_main_v3_apply, val_main_v5_apply, val_main_cst_1_apply, val_main_cst_0_apply]
  simp only [lift2_apply, Ideal.hostDivf_def, Ideal.ofBits_def, width_bits, Ideal.ofBits_zero_f32, coe_sum, zero_add,
    coe_div width_ne]
  rfl

theorem v8 (i : S4096x2048.Idx) : val_main_v8 (F := Ideal) (lift2 z) i = ((z (i 0) (i 1) - mean (z (i 0)) : ℝ) : EReal) := by
  rw [val_main_v8_apply, val_main_v7_apply, v6, lift2_apply, Ideal.subf_def, ← EReal.coe_sub]; rfl

theorem v17 (i : S4096x2048.Idx) : val_main_v17 (F := Ideal) (lift2 z) i = ((z (i 0) (i 1) - mean (z (i 0)) : ℝ) : EReal) := by
  rw [val_main_v17_apply, val_main_v16_apply, v6, lift2_apply, Ideal.subf_def, ← EReal.coe_sub]; rfl

theorem v11 (i : S4096x2048.Idx) :
    val_main_v11 (F := Ideal) (lift2 z) i = ((2 * (z (i 0) (i 1) - mean (z (i 0))) : ℝ) : EReal) := by
  rw [val_main_v11_apply, val_main_v10_apply, v8, val_main_cst_2_apply, Ideal.mulf_def, Ideal.ofBits_def, two_bits, ← EReal.coe_mul]

theorem v19 (i : S4096x1.Idx) : val_main_v19 (F := Ideal) (lift2 z) i = ((var (z (i 0)) + eps : ℝ) : EReal) := by
  rw [val_main_v19_apply, val_main_v15_apply, val_main_v13_apply, val_main_v12_apply, val_main_v14_apply, val_main_v18_apply,
    val_main_cst_3_apply, val_main_cst_4_apply, val_main_cst_5_apply]
  simp only [val_main_v9_apply, v8, Ideal.hostDivf_def, Ideal.ofBits_def, Ideal.mulf_def, Ideal.addf_def, width_bits, eps_bits,
    Ideal.ofBits_zero_f32, ← EReal.coe_mul, coe_sum, zero_add, coe_div width_ne, ← EReal.coe_add]
  rfl

theorem v20 (i : S4096x1.Idx) : val_main_v20 (F := Ideal) (lift2 z) i = ((rstd (z (i 0)) : ℝ) : EReal) := by
  rw [val_main_v20_apply, v19, Ideal.hostUnary_rsqrt_def, coe_rsqrt (var_eps_pos _), rstd]

theorem v23 (i : S4096x1.Idx) :
    val_main_v23 (F := Ideal) (lift2 z) i = ((-(1 / 2) * (rstd (z (i 0)) / (var (z (i 0)) + eps)) : ℝ) : EReal) := by
  rw [val_main_v23_apply, val_main_v22_apply, val_main_v21_apply, v20, v19, val_main_cst_6_apply, Ideal.mulf_def, Ideal.ofBits_def,
    Ideal.hostDivf_def, neg_half_bits, coe_div (var_eps_pos _).ne', ← EReal.coe_mul]

theorem v25 (i : S4096x2048.Idx) : val_main_v25 (F := Ideal) (lift2 z) i = ((xhat (z (i 0)) (i 1) : ℝ) : EReal) := by
  rw [val_main_v25_apply, val_main_v24_apply, v20, v17, Ideal.mulf_def, ← EReal.coe_mul]; rfl

theorem v31 (i : S4096x2048.Idx) : val_main_v31 (F := Ideal) (lift2 z) (liftRow g) (liftRow b) i
    = ((xhat (z (i 0)) (i 1) * g (i 1) + b (i 1) : ℝ) : EReal) := by
  rw [val_main_v31_apply, val_main_v28_apply, v25, val_main_v27_apply, val_main_v26_apply, val_main_v1_apply, val_main_v30_apply,
    val_main_v29_apply, val_main_v2_apply, liftRow_apply, liftRow_apply, Ideal.addf_def, Ideal.mulf_def, ← EReal.coe_mul,
    ← EReal.coe_add]
  have h : ∀ j : Fin 2048, (⟨j.val % 2048, Nat.mod_lt _ (by norm_num)⟩ : Fin 2048) = j := fun j => Fin.ext (Nat.mod_eq_of_lt j.isLt)
  exact congrArg (fun j => ((xhat (z (i 0)) (i 1) * g j + b j : ℝ) : EReal)) (h (i 1))

/-! ## The attention -/

/-- The query, the gradient of the attention output and the gradient of the normalised row, of row `r`. -/
abbrev Q (r : Fin 4096) : Fin 512 → ℝ := query (z r) g b wq
abbrev A (r : Fin 4096) : Fin 512 → ℝ := dctx (dz r) wo
abbrev Dr (r : Fin 4096) : Fin 2048 → ℝ := drow (Q z g b wq r) (A wo dz r) kv (dz r) wq

theorem v34 (i : S4096x4x128.Idx) : val_main_v34 (F := Ideal) (lift2 z) (liftRow g) (liftRow b) (lift2 wq) i
    = ((Q z g b wq (i 0) (col (i 1) (i 2)) : ℝ) : EReal) := by
  have b0 : (i 0).val < 4096 := (i 0).isLt
  have b1 : (i 1).val < 4 := (i 1).isLt
  have b2 : (i 2).val < 128 := (i 2).isLt
  have h0 : idx_main_v34 i 0 = i 0 := Fin.ext (by simp only [idx_main_v34]; omega)
  have h1 : idx_main_v34 i 1 = col (i 1) (i 2) := Fin.ext (by simp only [idx_main_v34, col]; omega)
  rw [val_main_v34_apply, val_main_v33_apply, val_main_v32_apply, val_main_v0_apply, val_main_cst_apply]
  simp only [v31, lift2_apply, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  rw [← h0, ← h1]; rfl

theorem v37 (i : S256x4x128.Idx) : val_main_v37 (F := Ideal) (lift2 kv) i
    = ((kv (i 0) (keyCol (col (i 1) (i 2))) : ℝ) : EReal) := by
  have b0 : (i 0).val < 256 := (i 0).isLt
  have b1 : (i 1).val < 4 := (i 1).isLt
  have b2 : (i 2).val < 128 := (i 2).isLt
  have h0 : idx_main_v37 i 0 = i 0 := Fin.ext (by simp only [idx_main_v37]; omega)
  have h1 : idx_main_v37 i 1 = col (i 1) (i 2) := Fin.ext (by simp only [idx_main_v37, col]; omega)
  rw [val_main_v37_apply, val_main_v35_apply, lift2_apply, ← h0, ← h1]; rfl

theorem v38 (i : S256x4x128.Idx) : val_main_v38 (F := Ideal) (lift2 kv) i
    = ((kv (i 0) (valCol (col (i 1) (i 2))) : ℝ) : EReal) := by
  have b0 : (i 0).val < 256 := (i 0).isLt
  have b1 : (i 1).val < 4 := (i 1).isLt
  have b2 : (i 2).val < 128 := (i 2).isLt
  have h0 : idx_main_v38 i 0 = i 0 := Fin.ext (by simp only [idx_main_v38]; omega)
  have h1 : idx_main_v38 i 1 = col (i 1) (i 2) := Fin.ext (by simp only [idx_main_v38, col]; omega)
  rw [val_main_v38_apply, val_main_v36_apply, lift2_apply, ← h0, ← h1]; rfl

theorem v41 (i : S4x4096x256.Idx) : val_main_v41 (F := Ideal) (lift2 z) (liftRow g) (liftRow b) (lift2 kv) (lift2 wq) i
    = ((score (head (Q z g b wq (i 1)) (i 0)) (keys kv (i 0)) (i 2) : ℝ) : EReal) := by
  rw [val_main_v41_apply, val_main_v39_apply, val_main_v40_apply, val_main_cst_7_apply]
  simp only [v34, v37, scale_bits, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  rfl

theorem v42 (i : S4x4096.Idx) : val_main_v42 (F := Ideal) (lift2 z) (liftRow g) (liftRow b) (lift2 kv) (lift2 wq) i
    = ((top (score (head (Q z g b wq (i 1)) (i 0)) (keys kv (i 0))) : ℝ) : EReal) := by
  pointwise [val_main_v42]
  rw [val_main_cst_8_apply, Ideal.ofBits_def, bot_bits, ← coe_top]
  exact congrArg (Finset.fold max ⊥ · Finset.univ) (funext fun k => v41 z g b kv wq _)

theorem v62 (i : S4x4096x256.Idx) : val_main_v62 (F := Ideal) (lift2 z) (liftRow g) (liftRow b) (lift2 kv) (lift2 wq) i
    = ((weight (head (Q z g b wq (i 1)) (i 0)) (keys kv (i 0)) (i 2) : ℝ) : EReal) := by
  rw [val_main_v62_apply, val_main_v61_apply, val_main_v60_apply, val_main_v59_apply, val_main_v49_apply, val_main_v48_apply,
    val_main_cst_10_apply, v41, v42, Ideal.maximumf_def, Ideal.ofBits_def, bot_bits, max_eq_right bot_le, Ideal.subf_def,
    ← EReal.coe_sub, Ideal.hostUnary_exp_def, Ideal.exp_coe]
  rfl

theorem v64 (i : S4x4096x1.Idx) : val_main_v64 (F := Ideal) (lift2 z) (liftRow g) (liftRow b) (lift2 kv) (lift2 wq) i
    = ((total (head (Q z g b wq (i 1)) (i 0)) (keys kv (i 0)) : ℝ) : EReal) := by
  rw [val_main_v64_apply, val_main_v63_apply, val_main_cst_16_apply]
  simp only [v62, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  rfl

theorem v66 (i : S4x4096x256.Idx) : val_main_v66 (F := Ideal) (lift2 z) (liftRow g) (liftRow b) (lift2 kv) (lift2 wq) i
    = ((prb (Q z g b wq (i 1)) kv (i 0) (i 2) : ℝ) : EReal) := by
  rw [val_main_v66_apply, val_main_v65_apply, v64, v62, Ideal.hostDivf_def, coe_div (total_pos _ _).ne']
  rfl

theorem v69 (i : S4x4096x1.Idx) : val_main_v69 (F := Ideal) (lift2 z) (liftRow g) (liftRow b) (lift2 kv) (lift2 wq) i
    = ((1 / (total (head (Q z g b wq (i 1)) (i 0)) (keys kv (i 0)) * total (head (Q z g b wq (i 1)) (i 0)) (keys kv (i 0))) : ℝ) : EReal) := by
  rw [val_main_v69_apply, val_main_v68_apply, val_main_v67_apply, val_main_cst_17_apply, v64, Ideal.ofBits_def, one_bits,
    Ideal.mulf_def, ← EReal.coe_mul, Ideal.hostDivf_def, coe_div (mul_pos (total_pos _ _) (total_pos _ _)).ne']

theorem v79 (i : S4096x512.Idx) : val_main_v79 (F := Ideal) (lift2 wo) (lift2 dz) i
    = ((A wo dz (i 0) (i 1) : ℝ) : EReal) := by
  have b0 : (i 0).val < 4096 := (i 0).isLt
  have b1 : (i 1).val < 512 := (i 1).isLt
  rw [val_main_v79_apply]
  simp only [val_main_v78_apply, lift2_apply, ← EReal.coe_mul, coe_sum]
  refine congrArg _ (Finset.sum_congr rfl fun k _ => ?_)
  have hk : k.val < 2048 := k.isLt
  have h0 : idx_main_v78 (lidx_main_v79 i k) 0 = i 0 := Fin.ext (by simp only [idx_main_v78, lidx_main_v79]; omega)
  have h1 : idx_main_v78 (lidx_main_v79 i k) 1 = k := Fin.ext (by simp only [idx_main_v78, lidx_main_v79]; omega)
  rw [h0, h1]; rfl

theorem v83 (i : S4x128x4096.Idx) : val_main_v83 (F := Ideal) (lift2 wo) (lift2 dz) i
    = ((A wo dz (i 2) (col (i 0) (i 1)) : ℝ) : EReal) := by
  have b0 : (i 0).val < 4 := (i 0).isLt
  have b1 : (i 1).val < 128 := (i 1).isLt
  have b2 : (i 2).val < 4096 := (i 2).isLt
  have h0 : idx_main_v82 (idx_main_v83 i) 0 = i 2 := Fin.ext (by simp only [idx_main_v82, idx_main_v83]; omega)
  have h1 : idx_main_v82 (idx_main_v83 i) 1 = col (i 0) (i 1) := Fin.ext (by simp only [idx_main_v82, idx_main_v83, col]; omega)
  rw [val_main_v83_apply, val_main_v82_apply, v79, h0, h1]

theorem v84 (i : S4x4096x256.Idx) : val_main_v84 (F := Ideal) (lift2 kv) (lift2 wo) (lift2 dz) i
    = ((dprob (head (A wo dz (i 1)) (i 0)) (vals kv (i 0)) (i 2) : ℝ) : EReal) := by
  rw [val_main_v84_apply]
  simp only [v83, v38, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  rfl

theorem v89 (i : S4x4096x256.Idx) : val_main_v89 (F := Ideal) (lift2 z) (liftRow g) (liftRow b) (lift2 kv) (lift2 wq) (lift2 wo) (lift2 dz) i
    = ((dprob (head (A wo dz (i 1)) (i 0)) (vals kv (i 0)) (i 2)
      * (1 / (total (head (Q z g b wq (i 1)) (i 0)) (keys kv (i 0)) * total (head (Q z g b wq (i 1)) (i 0)) (keys kv (i 0))))
      * weight (head (Q z g b wq (i 1)) (i 0)) (keys kv (i 0)) (i 2) : ℝ) : EReal) := by
  rw [val_main_v89_apply, val_main_v88_apply, val_main_v87_apply, v84, v69, v62, Ideal.mulf_def, Ideal.mulf_def,
    ← EReal.coe_mul, ← EReal.coe_mul]
  rfl

theorem v95 (i : S4x4096.Idx) : val_main_v95 (F := Ideal) (lift2 z) (liftRow g) (liftRow b) (lift2 kv) (lift2 wq) (lift2 wo) (lift2 dz) i
    = ((-(∑ k, dprob (head (A wo dz (i 1)) (i 0)) (vals kv (i 0)) k
      * (1 / (total (head (Q z g b wq (i 1)) (i 0)) (keys kv (i 0)) * total (head (Q z g b wq (i 1)) (i 0)) (keys kv (i 0))))
      * weight (head (Q z g b wq (i 1)) (i 0)) (keys kv (i 0)) k) : ℝ) : EReal) := by
  have b0 : (i 0).val < 4 := (i 0).isLt
  have b1 : (i 1).val < 4096 := (i 1).isLt
  rw [val_main_v95_apply, val_main_cst_21_apply, Fin.sum_univ_one, val_main_v92_apply, val_main_v91_apply, val_main_v90_apply,
    val_main_cst_20_apply]
  simp only [v89, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v91 (idx_main_v95 i 0) 0 = i 0 := Fin.ext (by simp only [idx_main_v91, idx_main_v95]; omega)
  have h1 : idx_main_v91 (idx_main_v95 i 0) 1 = i 1 := Fin.ext (by simp only [idx_main_v91, idx_main_v95]; omega)
  rw [← h0, ← h1]; rfl

theorem v100 (i : S4x4096x256.Idx) : val_main_v100 (F := Ideal) (lift2 z) (liftRow g) (liftRow b) (lift2 kv) (lift2 wq) (lift2 wo) (lift2 dz) i
    = ((dsc (Q z g b wq (i 1)) (A wo dz (i 1)) kv (i 0) (i 2) : ℝ) : EReal) := by
  rw [val_main_v100_apply, val_main_v99_apply, val_main_cst_22_apply, val_main_v98_apply, val_main_v97_apply, val_main_v96_apply,
    val_main_v94_apply, val_main_v93_apply, v84, v64, v62, v95, Ideal.hostDivf_def, coe_div (total_pos _ _).ne', Ideal.ofBits_def,
    scale_bits]
  simp only [Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  exact congrArg _ (dscore_chain (head (Q z g b wq (i 1)) (i 0)) (head (A wo dz (i 1)) (i 0)) (keys kv (i 0)) (vals kv (i 0)) (i 2))

theorem v106 (i : S256x512.Idx) : val_main_v106 (F := Ideal) (lift2 z) (liftRow g) (liftRow b) (lift2 kv) (lift2 wq) (lift2 wo) (lift2 dz) i
    = ((∑ r, dsc (Q z g b wq r) (A wo dz r) kv (headOf (i 1)) (i 0) * Q z g b wq r (i 1) : ℝ) : EReal) := by
  have b0 : (i 0).val < 256 := (i 0).isLt
  have b1 : (i 1).val < 512 := (i 1).isLt
  rw [val_main_v106_apply, val_main_v102_apply, val_main_v101_apply]
  simp only [v100, v34, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v106 i 0 = i 0 := Fin.ext (by simp only [idx_main_v106]; omega)
  have h1 : idx_main_v106 i 1 = headOf (i 1) := Fin.ext (by simp only [idx_main_v106, headOf]; omega)
  have h2 : col (idx_main_v106 i 1) (idx_main_v106 i 2) = i 1 := Fin.ext (by simp only [idx_main_v106, col]; omega)
  refine congrArg _ (Finset.sum_congr rfl fun r _ => ?_)
  change dsc (Q z g b wq r) (A wo dz r) kv (idx_main_v106 i 1) (idx_main_v106 i 0)
    * Q z g b wq r (col (idx_main_v106 i 1) (idx_main_v106 i 2)) = _
  rw [h2, h1, h0]

theorem v105 (i : S256x512.Idx) : val_main_v105 (F := Ideal) (lift2 z) (liftRow g) (liftRow b) (lift2 kv) (lift2 wq) (lift2 wo) (lift2 dz) i
    = ((∑ r, prb (Q z g b wq r) kv (headOf (i 1)) (i 0) * A wo dz r (i 1) : ℝ) : EReal) := by
  have b0 : (i 0).val < 256 := (i 0).isLt
  have b1 : (i 1).val < 512 := (i 1).isLt
  rw [val_main_v105_apply, val_main_v86_apply, val_main_v85_apply]
  simp only [v83, v66, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v105 i 0 = i 0 := Fin.ext (by simp only [idx_main_v105]; omega)
  have h1 : idx_main_v105 i 1 = headOf (i 1) := Fin.ext (by simp only [idx_main_v105, headOf]; omega)
  have h2 : col (idx_main_v105 i 1) (idx_main_v105 i 2) = i 1 := Fin.ext (by simp only [idx_main_v105, col]; omega)
  refine congrArg _ (Finset.sum_congr rfl fun r _ => ?_)
  change A wo dz r (col (idx_main_v105 i 1) (idx_main_v105 i 2)) * prb (Q z g b wq r) kv (idx_main_v105 i 1) (idx_main_v105 i 0) = _
  rw [h2, h1, h0, mul_comm]

theorem v108 (i : S4096x512.Idx) : val_main_v108 (F := Ideal) (lift2 z) (liftRow g) (liftRow b) (lift2 kv) (lift2 wq) (lift2 wo) (lift2 dz) i
    = ((dquery (Q z g b wq (i 0)) (A wo dz (i 0)) kv (i 1) : ℝ) : EReal) := by
  have b0 : (i 0).val < 4096 := (i 0).isLt
  have b1 : (i 1).val < 512 := (i 1).isLt
  rw [val_main_v108_apply, val_main_v104_apply, val_main_v103_apply]
  simp only [v100, v37, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v108 i 0 = i 0 := Fin.ext (by simp only [idx_main_v108]; omega)
  have h1 : idx_main_v108 i 1 = headOf (i 1) := Fin.ext (by simp only [idx_main_v108, headOf]; omega)
  have h2 : col (idx_main_v108 i 1) (idx_main_v108 i 2) = i 1 := Fin.ext (by simp only [idx_main_v108, col]; omega)
  change ((∑ k, dsc (Q z g b wq (idx_main_v108 i 0)) (A wo dz (idx_main_v108 i 0)) kv (idx_main_v108 i 1) k
    * kv k (keyCol (col (idx_main_v108 i 1) (idx_main_v108 i 2))) : ℝ) : EReal) = _
  rw [h2, h1, h0]; rfl

theorem v110 (i : S4096x2048.Idx) : val_main_v110 (F := Ideal) (lift2 z) (liftRow g) (liftRow b) (lift2 kv) (lift2 wq) (lift2 wo) (lift2 dz) i
    = ((Dr z g b kv wq wo dz (i 0) (i 1) : ℝ) : EReal) := by
  have b0 : (i 0).val < 4096 := (i 0).isLt
  have b1 : (i 1).val < 2048 := (i 1).isLt
  rw [val_main_v110_apply, val_main_v81_apply, val_main_v80_apply, val_main_cst_19_apply, val_main_v77_apply, val_main_v109_apply]
  simp only [v108, lift2_apply, alpha_bits, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v77 i 0 = i 0 := Fin.ext (by simp only [idx_main_v77]; omega)
  have h1 : idx_main_v77 i 1 = i 1 := Fin.ext (by simp only [idx_main_v77]; omega)
  rw [h0, h1]; rfl

/-! ## The results -/

theorem v144 (i : S1x2048.Idx) : val_main_v144 (F := Ideal) (lift2 z) (liftRow g) (liftRow b) (lift2 kv) (lift2 wq) (lift2 wo) (lift2 dz) i
    = ((∑ r, Dr z g b kv wq wo dz r (i 1) : ℝ) : EReal) := by
  have b0 : (i 0).val < 1 := (i 0).isLt
  have b1 : (i 1).val < 2048 := (i 1).isLt
  rw [val_main_v144_apply, val_main_v113_apply, val_main_cst_24_apply, Fin.sum_univ_one, val_main_v112_apply,
    val_main_v111_apply, val_main_cst_23_apply]
  simp only [v110, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v112 (idx_main_v113 (idx_main_v144 i) 0) 0 = i 1 :=
    Fin.ext (by simp only [idx_main_v112, idx_main_v113, idx_main_v144, Fin.val_zero]; omega)
  rw [← h0]; rfl

theorem v145 (i : S1x2048.Idx) : val_main_v145 (F := Ideal) (lift2 z) (liftRow g) (liftRow b) (lift2 kv) (lift2 wq) (lift2 wo) (lift2 dz) i
    = ((∑ r, xhat (z r) (i 1) * Dr z g b kv wq wo dz r (i 1) : ℝ) : EReal) := by
  have b0 : (i 0).val < 1 := (i 0).isLt
  have b1 : (i 1).val < 2048 := (i 1).isLt
  rw [val_main_v145_apply, val_main_v119_apply, val_main_cst_26_apply, Fin.sum_univ_one, val_main_v116_apply,
    val_main_v115_apply, val_main_cst_25_apply]
  simp only [val_main_v114_apply, v25, v110, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v116 (idx_main_v119 (idx_main_v145 i) 0) 0 = i 1 :=
    Fin.ext (by simp only [idx_main_v116, idx_main_v119, idx_main_v145, Fin.val_zero]; omega)
  rw [← h0]; rfl

theorem v147 (i : S8x256x128.Idx) : val_main_v147 (F := Ideal) (lift2 z) (liftRow g) (liftRow b) (lift2 kv) (lift2 wq) (lift2 wo) (lift2 dz) i
    = ((∑ r, dkv (Q z g b wq r) (A wo dz r) kv (i 0) (i 1) (i 2) : ℝ) : EReal) := by
  have b0 : (i 0).val < 8 := (i 0).isLt
  have b1 : (i 1).val < 256 := (i 1).isLt
  have b2 : (i 2).val < 128 := (i 2).isLt
  have h0 : idx_main_v146 (idx_main_v147 i) 0 = i 1 := Fin.ext (by simp only [idx_main_v146, idx_main_v147]; omega)
  have h1 : (idx_main_v146 (idx_main_v147 i) 1).val = 128 * (i 0).val + (i 2).val := by
    simp only [idx_main_v146, idx_main_v147]; omega
  rw [val_main_v147_apply, val_main_v146_apply]
  pointwise [val_main_v107]
  split
  case isTrue h =>
    refine (v106 z g b kv wq wo dz _).trans (congrArg _ (Finset.sum_congr rfl fun r _ => ?_))
    refine Eq.trans ?_ (dkv_key _ _ _ (i 0) (i 1) (i 2) ⟨_, h⟩ (by show _ % _ = _; omega)).symm
    exact congrArg₂ (· * ·) (congrArg₂ _ rfl (Fin.ext (by show _ / _ = _; omega))) rfl
  case isFalse h =>
    refine (v105 z g b kv wq wo dz _).trans (congrArg _ (Finset.sum_congr rfl fun r _ => ?_))
    refine Eq.trans ?_ (dkv_val _ _ _ (i 0) (i 1) (i 2) ⟨(((i 1).val * 8 + (i 0).val) * 128 + (i 2).val) % 1024 - 512, by omega⟩ (by show _ % _ - _ + _ = _; omega)).symm
    exact congrArg₂ (· * ·) (congrArg₂ _ rfl (Fin.ext (by show _ / _ = _; omega))) rfl

theorem v118 (i : S4096x2048.Idx) : val_main_v118 (F := Ideal) (lift2 z) (liftRow g) (liftRow b) (lift2 kv) (lift2 wq) (lift2 wo) (lift2 dz) i
    = ((Dr z g b kv wq wo dz (i 0) (i 1) * g (i 1) : ℝ) : EReal) := by
  have b0 : (i 0).val < 4096 := (i 0).isLt
  have b1 : (i 1).val < 2048 := (i 1).isLt
  rw [val_main_v118_apply, val_main_v117_apply, val_main_v26_apply, val_main_v1_apply, v110, liftRow_apply, Ideal.mulf_def,
    ← EReal.coe_mul]
  have h : idx_main_v1 (idx_main_v26 (idx_main_v117 i)) 1 = i 1 := Fin.ext (Nat.mod_eq_of_lt b1)
  rw [h]

theorem v124 (i : S4096x2048.Idx) : val_main_v124 (F := Ideal) (lift2 z) (liftRow g) (liftRow b) (lift2 kv) (lift2 wq) (lift2 wo) (lift2 dz) i
    = ((Dr z g b kv wq wo dz (i 0) (i 1) * g (i 1) * rstd (z (i 0)) : ℝ) : EReal) := by
  rw [val_main_v124_apply, val_main_v123_apply, v118, v20, Ideal.mulf_def, ← EReal.coe_mul]; rfl

theorem v133 (i : S4096x2048.Idx) : val_main_v133 (F := Ideal) (lift2 z) (liftRow g) (liftRow b) (lift2 kv) (lift2 wq) (lift2 wo) (lift2 dz) i
    = (((∑ k, (z (i 0) k - mean (z (i 0))) * (Dr z g b kv wq wo dz (i 0) k * g k)) * (-(1 / 2) * (rstd (z (i 0)) / (var (z (i 0)) + eps))) / 2048
      * (2 * (z (i 0) (i 1) - mean (z (i 0)))) : ℝ) : EReal) := by
  have b0 : (i 0).val < 4096 := (i 0).isLt
  have b1 : (i 1).val < 2048 := (i 1).isLt
  have h0 : idx_main_v122 (idx_main_v131 (idx_main_v132 i) 0) 0 = i 0 :=
    Fin.ext (by simp only [idx_main_v122, idx_main_v131, idx_main_v132, Fin.val_zero]; omega)
  rw [val_main_v133_apply, v11, val_main_v132_apply, val_main_v131_apply, val_main_cst_30_apply, Fin.sum_univ_one,
    val_main_v130_apply, val_main_v129_apply, val_main_cst_29_apply, val_main_v125_apply, v23, val_main_v122_apply,
    val_main_v121_apply, val_main_cst_27_apply]
  simp only [val_main_v120_apply, v17, v118, width_bits, coe_div width_ne, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h2 : idx_main_v131 (idx_main_v132 i) 0 0 = i 0 :=
    Fin.ext (by simp only [idx_main_v131, idx_main_v132, Fin.val_zero])
  have e0 : ∀ j k, idx_main_v121 j k 0 = j 0 := fun _ _ => rfl
  have e1 : ∀ j k, idx_main_v121 j k 1 = k := fun _ _ => rfl
  simp only [e0, e1, h0, h2]

theorem v143 (i : S4096x2048.Idx) : val_main_v143 (F := Ideal) (lift2 z) (liftRow g) (liftRow b) (lift2 kv) (lift2 wq) (lift2 wo) (lift2 dz) i
    = ((normBack (rstd (z (i 0))) (xhat (z (i 0))) (fun k => Dr z g b kv wq wo dz (i 0) k * g k) (i 1) : ℝ) : EReal) := by
  have b0 : (i 0).val < 4096 := (i 0).isLt
  have b1 : (i 1).val < 2048 := (i 1).isLt
  have h0 : idx_main_v128 (idx_main_v141 (idx_main_v142 i) 0) 0 = i 0 :=
    Fin.ext (by simp only [idx_main_v128, idx_main_v141, idx_main_v142, Fin.val_zero]; omega)
  have h1 : idx_main_v136 (idx_main_v141 (idx_main_v142 i) 0) 0 = i 0 := h0
  rw [val_main_v143_apply, val_main_v137_apply, v124, v133, val_main_v142_apply, val_main_v141_apply, val_main_cst_33_apply,
    Fin.sum_univ_one, val_main_v140_apply, val_main_v139_apply, val_main_cst_32_apply, val_main_v138_apply, val_main_v128_apply,
    val_main_v127_apply, val_main_v136_apply, val_main_v135_apply, val_main_cst_28_apply, val_main_cst_31_apply]
  simp only [val_main_v126_apply, val_main_v134_apply, v124, v133, width_bits, coe_div width_ne, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have e0 : ∀ j k, idx_main_v127 j k 0 = j 0 := fun _ _ => rfl
  have e1 : ∀ j k, idx_main_v127 j k 1 = k := fun _ _ => rfl
  have f0 : ∀ j k, idx_main_v135 j k 0 = j 0 := fun _ _ => rfl
  have f1 : ∀ j k, idx_main_v135 j k 1 = k := fun _ _ => rfl
  simp only [e0, e1, f0, f1, h0, h1]
  have h := normBack_chain (n := 2048) (by norm_num) (z (i 0)) (fun k => Dr z g b kv wq wo dz (i 0) k * g k) (i 1)
  rw [Nat.cast_ofNat] at h
  exact congrArg _ h

theorem v148 (i : S4096x2048.Idx) : val_main_v148 (F := Ideal) (lift2 z) (liftRow g) (liftRow b) (lift2 kv) (lift2 wq) (lift2 wo) (lift2 dz) i
    = ((normBack (rstd (z (i 0))) (xhat (z (i 0))) (fun k => Dr z g b kv wq wo dz (i 0) k * g k) (i 1) : ℝ) : EReal) := by
  rw [val_main_v148_apply, Ideal.truncf_def, v143]

theorem v149 (i : S4096x512.Idx) : val_main_v149 (F := Ideal) (lift2 z) (liftRow g) (liftRow b) (lift2 kv) (lift2 wq) (lift2 wo) (lift2 dz) i
    = ((dquery (Q z g b wq (i 0)) (A wo dz (i 0)) kv (i 1) : ℝ) : EReal) := by
  rw [val_main_v149_apply, Ideal.truncf_def, v108]

end Cert.Proof.Ref

end
-- ==== Proof.KerValue.lean ====
module

public import proofs.«01_k».proof.Proof.Run
public import proofs.«01_k».proof.Proof.Prefix
public import proofs.«01_k».proof.Proof.RefValue

/-! The arrays that the call leaves, on real arguments. At grid point `t` the windows hold rows `256 t` to `256 t + 255`;
    the row results are written block by block, and the three sums are built up point by point: after point `t` each holds
    the sum over the first `256 (t + 1)` rows. -/

@[expose] public section

set_option maxRecDepth 16384
noncomputable section

namespace Cert.Proof.Ker

open Idealize.ShloMosaic Idealize.ShloMosaic.TcCoe Idealize.SL.Sem Cert.KernelIdeal Cert.KernelIdeal.Gen Cert.KernelIdeal.Value
open Cert.Proof.Ref (Q A Dr)

/-! ## Rows of a block, sums over the first blocks -/

theorem lt16 (t : Fin cfg0.N) : t.val < 16 := lt_of_lt_of_eq t.isLt N_0

/-- Row `r` of block `t`. -/
def row (t : Fin cfg0.N) (r : Fin 256) : Fin 4096 := ⟨256 * t.val + r.val, by have := lt16 t; omega⟩

/-- The sum over the rows of the blocks up to block `n`. -/
def upto (f : Fin 4096 → ℝ) (n : ℕ) : ℝ := ∑ q ∈ Finset.range (256 * (n + 1)), if h : q < 4096 then f ⟨q, h⟩ else 0

theorem upto_zero (f : Fin 4096 → ℝ) (t : Fin cfg0.N) (h : t.val = 0) : ∑ r, f (row t r) = upto f 0 := by
  unfold upto
  rw [Finset.sum_range]
  refine Finset.sum_congr rfl fun r _ => ?_
  have b : r.val < 256 := r.isLt
  rw [dif_pos (by omega)]
  exact congrArg f (Fin.ext (by show 256 * t.val + r.val = r.val; omega))
theorem upto_succ (f : Fin 4096 → ℝ) (t : Fin cfg0.N) (n : ℕ) (h : t.val = n + 1) : upto f n + ∑ r, f (row t r) = upto f (n + 1) := by
  have ht := lt16 t
  unfold upto
  rw [show 256 * (n + 1 + 1) = 256 * (n + 1) + 256 from by omega, Finset.sum_range_add, Finset.sum_range (n := 256)]
  refine congrArg _ (Finset.sum_congr rfl fun r _ => ?_)
  have b : r.val < 256 := r.isLt
  rw [dif_pos (by omega)]
  exact congrArg f (Fin.ext (by show 256 * t.val + r.val = 256 * (n + 1) + r.val; omega))
theorem upto_last (f : Fin 4096 → ℝ) : upto f 15 = ∑ r, f r := by
  unfold upto
  rw [Finset.sum_range]
  refine Finset.sum_congr rfl fun r _ => ?_
  have b : r.val < 4096 := r.isLt
  rw [dif_pos (by omega)]

/-! ## What a point leaves, from what the windows hold -/

section
variable {F : FTy → Type} [FloatOps F]
variable (m : (ℓ : Loc nD τ sig) → Buf (Elt F) ℓ) (c : Dev nD) (t : Fin cfg0.N)

/-- The gradient of the normalised rows of block `t`. -/
abbrev rowsAt : FVec F S256x2048 .f32 :=
  bDrow (iblk m c 0 t) (iblk m c 1 t) (iblk m c 2 t) (iblk m c 3 t) (iblk m c 4 t) (iblk m c 5 t)

theorem at_first (h : t.val = 0) : outsAt0 m c t.val t.isLt =
    (k0_pay62 (rowsAt m c t) (k0_pay60 (iblk m c 6 t)) (iblk m c 7 t) (iblk m c 8 t),
      k0_pay63 (rowsAt m c t) (k0_pay60 (iblk m c 6 t)) (iblk m c 7 t) (iblk m c 8 t),
      k0_pay65 (rowsAt m c t) (k0_pay60 (iblk m c 6 t)), k0_pay1 (k0_pay67 (rowsAt m c t)),
      bDquery (iblk m c 1 t) (iblk m c 2 t) (iblk m c 3 t) (iblk m c 5 t),
      bDkv (iblk m c 1 t) (iblk m c 2 t) (iblk m c 3 t) (iblk m c 5 t)) := by
  rw [outsAt0_A m c t (by omega) (by omega) (by omega) (by omega) (by omega) (by omega) (by omega) (by omega) (by omega) (by omega) (by omega) (by omega) (by omega) (by omega) (by omega) (by omega) (by omega) (by omega) (by omega) (by omega), out9_A, out10_A, out11_A, out12_A, out13_A, out14_A]
theorem at_next (h : 1 ≤ t.val) (w : t.val - 1 < cfg0.N) : outsAt0 m c t.val t.isLt =
    (k0_pay62 (rowsAt m c t) (k0_pay60 (iblk m c 6 t)) (iblk m c 7 t) (iblk m c 8 t),
      k0_pay63 (rowsAt m c t) (k0_pay60 (iblk m c 6 t)) (iblk m c 7 t) (iblk m c 8 t),
      k0_pay66 (rowsAt m c t) (k0_pay60 (iblk m c 6 t)) (outsAt0 m c (t.val - 1) w).2.2.1,
      k0_pay2 (k0_pay67 (rowsAt m c t)) (outsAt0 m c (t.val - 1) w).2.2.2.1,
      bDquery (iblk m c 1 t) (iblk m c 2 t) (iblk m c 3 t) (iblk m c 5 t),
      bDkvAcc (iblk m c 1 t) (iblk m c 2 t) (iblk m c 3 t) (iblk m c 5 t) (outsAt0 m c (t.val - 1) w).2.2.2.2.2) := by
  have ht := lt16 t
  rw [outsAt0_B m c t (by omega) (by omega) (by omega) (by omega) (by omega) (by omega) (by omega) (by omega) (by omega) (by omega) (by omega) (by omega) (by omega) (by omega) (by omega) (by omega) (by omega) (by omega) (by omega) (by omega), out9_B, out10_B, out11_B, out12_B, out13_B, out14_B]

theorem left9 : (outsAt0 m c t.val t.isLt).1 = k0_pay62 (rowsAt m c t) (k0_pay60 (iblk m c 6 t)) (iblk m c 7 t) (iblk m c 8 t) := by
  rcases Nat.eq_zero_or_pos t.val with h | h
  · rw [at_first m c t h]
  · rw [at_next m c t h (by have := t.isLt; omega)]
theorem left10 : (outsAt0 m c t.val t.isLt).2.1 = k0_pay63 (rowsAt m c t) (k0_pay60 (iblk m c 6 t)) (iblk m c 7 t) (iblk m c 8 t) := by
  rcases Nat.eq_zero_or_pos t.val with h | h
  · rw [at_first m c t h]
  · rw [at_next m c t h (by have := t.isLt; omega)]
theorem left13 : (outsAt0 m c t.val t.isLt).2.2.2.2.1 = bDquery (iblk m c 1 t) (iblk m c 2 t) (iblk m c 3 t) (iblk m c 5 t) := by
  rcases Nat.eq_zero_or_pos t.val with h | h
  · rw [at_first m c t h]
  · rw [at_next m c t h (by have := t.isLt; omega)]
end

/-! ## The windows' places -/

theorem idx0 : ∀ t : Fin cfg0.N, win0_0.index t (0 : Fin 2) = t.val ∧ win0_0.index t (1 : Fin 2) = 0 :=
  (by decide +kernel : ∀ t : Fin grid0.N, _)
theorem emb0 (t : Fin cfg0.N) (j : S256x2048.Idx) : ((cfg0.win 0).blk t).view.emb j = ix2 (row t (j 0)) (j 1) := by
  obtain ⟨e0, e1⟩ := idx0 t
  funext a; apply Fin.ext
  match a with
  | ⟨0, _⟩ => show win0_0.index t (0 : Fin 2) * 256 + 1 * (j 0).val = 256 * t.val + (j 0).val; omega
  | ⟨1, _⟩ => show win0_0.index t (1 : Fin 2) * 2048 + 1 * (j 1).val = (j 1).val; omega
theorem idx1 : ∀ t : Fin cfg0.N, win0_1.index t (0 : Fin 2) = t.val ∧ win0_1.index t (1 : Fin 2) = 0 :=
  (by decide +kernel : ∀ t : Fin grid0.N, _)
theorem emb1 (t : Fin cfg0.N) (j : S256x2048.Idx) : ((cfg0.win 1).blk t).view.emb j = ix2 (row t (j 0)) (j 1) := by
  obtain ⟨e0, e1⟩ := idx1 t
  funext a; apply Fin.ext
  match a with
  | ⟨0, _⟩ => show win0_1.index t (0 : Fin 2) * 256 + 1 * (j 0).val = 256 * t.val + (j 0).val; omega
  | ⟨1, _⟩ => show win0_1.index t (1 : Fin 2) * 2048 + 1 * (j 1).val = (j 1).val; omega
theorem idx2 : ∀ t : Fin cfg0.N, win0_2.index t (0 : Fin 2) = t.val ∧ win0_2.index t (1 : Fin 2) = 0 :=
  (by decide +kernel : ∀ t : Fin grid0.N, _)
theorem emb2 (t : Fin cfg0.N) (j : S256x512.Idx) : ((cfg0.win 2).blk t).view.emb j = ix2 (row t (j 0)) (j 1) := by
  obtain ⟨e0, e1⟩ := idx2 t
  funext a; apply Fin.ext
  match a with
  | ⟨0, _⟩ => show win0_2.index t (0 : Fin 2) * 256 + 1 * (j 0).val = 256 * t.val + (j 0).val; omega
  | ⟨1, _⟩ => show win0_2.index t (1 : Fin 2) * 512 + 1 * (j 1).val = (j 1).val; omega
theorem idx3 : ∀ t : Fin cfg0.N, win0_3.index t (0 : Fin 2) = 0 ∧ win0_3.index t (1 : Fin 2) = 0 :=
  (by decide +kernel : ∀ t : Fin grid0.N, _)
theorem emb3 (t : Fin cfg0.N) (j : S256x1024.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 1024 + 1 * (j 1).val = (j 1).val; omega
theorem idx4 : ∀ t : Fin cfg0.N, win0_4.index t (0 : Fin 2) = 0 ∧ win0_4.index t (1 : Fin 2) = 0 :=
  (by decide +kernel : ∀ t : Fin grid0.N, _)
theorem emb4 (t : Fin cfg0.N) (j : S2048x512.Idx) : ((cfg0.win 4).blk t).view.emb j = j := by
  obtain ⟨e0, e1⟩ := idx4 t
  funext a; apply Fin.ext
  match a with
  | ⟨0, _⟩ => show win0_4.index t (0 : Fin 2) * 2048 + 1 * (j 0).val = (j 0).val; omega
  | ⟨1, _⟩ => show win0_4.index t (1 : Fin 2) * 512 + 1 * (j 1).val = (j 1).val; omega
theorem idx5 : ∀ t : Fin cfg0.N, win0_5.index t (0 : Fin 2) = 0 ∧ win0_5.index t (1 : Fin 2) = 0 :=
  (by decide +kernel : ∀ t : Fin grid0.N, _)
theorem emb5 (t : Fin cfg0.N) (j : S2048x512.Idx) : ((cfg0.win 5).blk t).view.emb j = j := by
  obtain ⟨e0, e1⟩ := idx5 t
  funext a; apply Fin.ext
  match a with
  | ⟨0, _⟩ => show win0_5.index t (0 : Fin 2) * 2048 + 1 * (j 0).val = (j 0).val; omega
  | ⟨1, _⟩ => show win0_5.index t (1 : Fin 2) * 512 + 1 * (j 1).val = (j 1).val; omega
theorem idx6 : ∀ t : Fin cfg0.N, win0_6.index t (0 : Fin 2) = t.val ∧ win0_6.index t (1 : Fin 2) = 0 :=
  (by decide +kernel : ∀ t : Fin grid0.N, _)
theorem emb6 (t : Fin cfg0.N) (j : S256x2048.Idx) : ((cfg0.win 6).blk t).view.emb j = ix2 (row t (j 0)) (j 1) := by
  obtain ⟨e0, e1⟩ := idx6 t
  funext a; apply Fin.ext
  match a with
  | ⟨0, _⟩ => show win0_6.index t (0 : Fin 2) * 256 + 1 * (j 0).val = 256 * t.val + (j 0).val; omega
  | ⟨1, _⟩ => show win0_6.index t (1 : Fin 2) * 2048 + 1 * (j 1).val = (j 1).val; omega
theorem idx7 : ∀ t : Fin cfg0.N, win0_7.index t (0 : Fin 2) = t.val ∧ win0_7.index t (1 : Fin 2) = 0 :=
  (by decide +kernel : ∀ t : Fin grid0.N, _)
theorem emb7 (t : Fin cfg0.N) (j : S256x1.Idx) : ((cfg0.win 7).blk t).view.emb j = ix2 (row t (j 0)) (j 1) := by
  obtain ⟨e0, e1⟩ := idx7 t
  funext a; apply Fin.ext
  match a with
  | ⟨0, _⟩ => show win0_7.index t (0 : Fin 2) * 256 + 1 * (j 0).val = 256 * t.val + (j 0).val; omega
  | ⟨1, _⟩ => show win0_7.index t (1 : Fin 2) * 1 + 1 * (j 1).val = (j 1).val; omega
theorem idx8 : ∀ t : Fin cfg0.N, win0_8.index t (0 : Fin 2) = 0 ∧ win0_8.index t (1 : Fin 2) = 0 :=
  (by decide +kernel : ∀ t : Fin grid0.N, _)
theorem emb8 (t : Fin cfg0.N) (j : S1x2048.Idx) : ((cfg0.win 8).blk t).view.emb j = j := by
  obtain ⟨e0, e1⟩ := idx8 t
  funext a; apply Fin.ext
  match a with
  | ⟨0, _⟩ => show win0_8.index t (0 : Fin 2) * 1 + 1 * (j 0).val = (j 0).val; omega
  | ⟨1, _⟩ => show win0_8.index t (1 : Fin 2) * 2048 + 1 * (j 1).val = (j 1).val; omega
theorem idx9 : ∀ t : Fin cfg0.N, win0_9.index t (0 : Fin 2) = t.val ∧ win0_9.index t (1 : Fin 2) = 0 :=
  (by decide +kernel : ∀ t : Fin grid0.N, _)
theorem emb9 (t : Fin cfg0.N) (j : S256x2048.Idx) : ((cfg0.win 9).blk t).view.emb j = ix2 (row t (j 0)) (j 1) := by
  obtain ⟨e0, e1⟩ := idx9 t
  funext a; apply Fin.ext
  match a with
  | ⟨0, _⟩ => show win0_9.index t (0 : Fin 2) * 256 + 1 * (j 0).val = 256 * t.val + (j 0).val; omega
  | ⟨1, _⟩ => show win0_9.index t (1 : Fin 2) * 2048 + 1 * (j 1).val = (j 1).val; omega
theorem idx10 : ∀ t : Fin cfg0.N, win0_10.index t (0 : Fin 2) = t.val ∧ win0_10.index t (1 : Fin 2) = 0 :=
  (by decide +kernel : ∀ t : Fin grid0.N, _)
theorem emb10 (t : Fin cfg0.N) (j : S256x2048.Idx) : ((cfg0.win 10).blk t).view.emb j = ix2 (row t (j 0)) (j 1) := by
  obtain ⟨e0, e1⟩ := idx10 t
  funext a; apply Fin.ext
  match a with
  | ⟨0, _⟩ => show win0_10.index t (0 : Fin 2) * 256 + 1 * (j 0).val = 256 * t.val + (j 0).val; omega
  | ⟨1, _⟩ => show win0_10.index t (1 : Fin 2) * 2048 + 1 * (j 1).val = (j 1).val; omega
theorem idx11 : ∀ t : Fin cfg0.N, win0_11.index t (0 : Fin 2) = 0 ∧ win0_11.index t (1 : Fin 2) = 0 :=
  (by decide +kernel : ∀ t : Fin grid0.N, _)
theorem emb11 (t : Fin cfg0.N) (j : S1x2048.Idx) : ((cfg0.win 11).blk t).view.emb j = j := by
  obtain ⟨e0, e1⟩ := idx11 t
  funext a; apply Fin.ext
  match a with
  | ⟨0, _⟩ => show win0_11.index t (0 : Fin 2) * 1 + 1 * (j 0).val = (j 0).val; omega
  | ⟨1, _⟩ => show win0_11.index t (1 : Fin 2) * 2048 + 1 * (j 1).val = (j 1).val; omega
theorem idx12 : ∀ t : Fin cfg0.N, win0_12.index t (0 : Fin 2) = 0 ∧ win0_12.index t (1 : Fin 2) = 0 :=
  (by decide +kernel : ∀ t : Fin grid0.N, _)
theorem emb12 (t : Fin cfg0.N) (j : S1x2048.Idx) : ((cfg0.win 12).blk t).view.emb j = j := by
  obtain ⟨e0, e1⟩ := idx12 t
  funext a; apply Fin.ext
  match a with
  | ⟨0, _⟩ => show win0_12.index t (0 : Fin 2) * 1 + 1 * (j 0).val = (j 0).val; omega
  | ⟨1, _⟩ => show win0_12.index t (1 : Fin 2) * 2048 + 1 * (j 1).val = (j 1).val; omega
theorem idx13 : ∀ t : Fin cfg0.N, win0_13.index t (0 : Fin 2) = t.val ∧ win0_13.index t (1 : Fin 2) = 0 :=
  (by decide +kernel : ∀ t : Fin grid0.N, _)
theorem emb13 (t : Fin cfg0.N) (j : S256x512.Idx) : ((cfg0.win 13).blk t).view.emb j = ix2 (row t (j 0)) (j 1) := by
  obtain ⟨e0, e1⟩ := idx13 t
  funext a; apply Fin.ext
  match a with
  | ⟨0, _⟩ => show win0_13.index t (0 : Fin 2) * 256 + 1 * (j 0).val = 256 * t.val + (j 0).val; omega
  | ⟨1, _⟩ => show win0_13.index t (1 : Fin 2) * 512 + 1 * (j 1).val = (j 1).val; omega
theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)
theorem emb14 (t : Fin cfg0.N) (j : S8x256x128.Idx) : ((cfg0.win 14).blk t).view.emb j = j := by
  obtain ⟨e0, e1, e2⟩ := idx14 t
  funext a; apply Fin.ext
  match a with
  | ⟨0, _⟩ => show win0_14.index t (0 : Fin 3) * 8 + 1 * (j 0).val = (j 0).val; omega
  | ⟨1, _⟩ => show win0_14.index t (1 : Fin 3) * 256 + 1 * (j 1).val = (j 1).val; omega
  | ⟨2, _⟩ => show win0_14.index t (2 : Fin 3) * 128 + 1 * (j 2).val = (j 2).val; omega

/-- The point of a row, and the row's place in the point's block. -/
def pointOf (q : Fin 4096) : Fin cfg0.N := ⟨q.val / 256, lt_of_lt_of_eq (by omega : q.val / 256 < 16) N_0.symm⟩
theorem row_pointOf (q : Fin 4096) (w : q.val % 256 < 256) : row (pointOf q) ⟨q.val % 256, w⟩ = q :=
  Fin.ext (by show 256 * (q.val / 256) + q.val % 256 = q.val; omega)
/-- An index of an array of 4096 rows, placed in its row's block. -/
def place {n : ℕ} (i : (⟨2, ![4096, n]⟩ : Shape).Idx) : (⟨2, ![256, n]⟩ : Shape).Idx :=
  ix2 ⟨(i 0).val % 256, Nat.mod_lt _ (by decide)⟩ (i 1)
theorem row_place {n : ℕ} (i : (⟨2, ![4096, n]⟩ : Shape).Idx) :
    (ix2 (row (pointOf (i 0)) (place i 0)) (place i 1) : (⟨2, ![4096, n]⟩ : Shape).Idx) = i := by
  funext a
  match a with
  | ⟨0, _⟩ => exact row_pointOf (i 0) _
  | ⟨1, _⟩ => rfl
def lastPoint : Fin cfg0.N := ⟨15, lt_of_lt_of_eq (by omega : 15 < 16) N_0.symm⟩

theorem covered9 (i : S4096x2048.Idx) : ∃ t : Fin cfg0.N, (cfg0.win 9).flush t = true ∧ i ∈ ((cfg0.win 9).blk t).view.set :=
  ⟨pointOf (i 0), flush0_9 _, by
    have h := ((cfg0.win 9).blk (pointOf (i 0))).view.emb_mem_set (place i)
    rwa [(emb9 (pointOf (i 0)) (place i)).trans (row_place i)] at h⟩
theorem covered10 (i : S4096x2048.Idx) : ∃ t : Fin cfg0.N, (cfg0.win 10).flush t = true ∧ i ∈ ((cfg0.win 10).blk t).view.set :=
  ⟨pointOf (i 0), flush0_10 _, by
    have h := ((cfg0.win 10).blk (pointOf (i 0))).view.emb_mem_set (place i)
    rwa [(emb10 (pointOf (i 0)) (place i)).trans (row_place i)] at h⟩
theorem covered13 (i : S4096x512.Idx) : ∃ t : Fin cfg0.N, (cfg0.win 13).flush t = true ∧ i ∈ ((cfg0.win 13).blk t).view.set :=
  ⟨pointOf (i 0), flush0_13 _, by
    have h := ((cfg0.win 13).blk (pointOf (i 0))).view.emb_mem_set (place i)
    rwa [(emb13 (pointOf (i 0)) (place i)).trans (row_place i)] at h⟩
theorem covered11 (i : S1x2048.Idx) : ∃ t : Fin cfg0.N, (cfg0.win 11).flush t = true ∧ i ∈ ((cfg0.win 11).blk t).view.set :=
  ⟨lastPoint, (flush0_11 _).mpr rfl, by have h := ((cfg0.win 11).blk lastPoint).view.emb_mem_set i; rwa [emb11] at h⟩
theorem covered12 (i : S1x2048.Idx) : ∃ t : Fin cfg0.N, (cfg0.win 12).flush t = true ∧ i ∈ ((cfg0.win 12).blk t).view.set :=
  ⟨lastPoint, (flush0_12 _).mpr rfl, by have h := ((cfg0.win 12).blk lastPoint).view.emb_mem_set i; rwa [emb12] at h⟩
theorem covered14 (i : S8x256x128.Idx) : ∃ t : Fin cfg0.N, (cfg0.win 14).flush t = true ∧ i ∈ ((cfg0.win 14).blk t).view.set :=
  ⟨lastPoint, (flush0_14 _).mpr rfl, by have h := ((cfg0.win 14).blk lastPoint).view.emb_mem_set i; rwa [emb14] at h⟩

/-! ## Real arguments -/

section
variable (m : (ℓ : Loc nD τ sig) → Buf (Elt Ideal) ℓ) (c : Dev nD)
variable (z : Fin 4096 → Fin 2048 → ℝ) (g b : Fin 2048 → ℝ) (kv : Fin 256 → Fin 1024 → ℝ) (wq : Fin 2048 → Fin 512 → ℝ)
  (wo : Fin 512 → Fin 2048 → ℝ) (dz : Fin 4096 → Fin 2048 → ℝ)

/-- The arguments are these real arrays. -/
structure Args : Prop where
  a0 : m ((c : Thread nD τ).loc main_arg0) = lift2 z
  a1 : m ((c : Thread nD τ).loc main_arg1) = liftRow g
  a2 : m ((c : Thread nD τ).loc main_arg2) = liftRow b
  a3 : m ((c : Thread nD τ).loc main_arg3) = lift2 kv
  a4 : m ((c : Thread nD τ).loc main_arg4) = lift2 wq
  a5 : m ((c : Thread nD τ).loc main_arg5) = lift2 wo
  a6 : m ((c : Thread nD τ).loc main_arg6) = lift2 dz

variable {m c z g b kv wq wo dz} (H : Args m c z g b kv wq wo dz) (t : Fin cfg0.N)
include H

theorem blk0 : iblk m c 0 t = lift2 fun r => dz (row t r) := by
  funext j; show V m c main_arg6 (((cfg0.win 0).blk t).view.emb j) = _; rw [emb0, V_main_arg6, H.a6]; rfl
theorem blk1 : iblk m c 1 t = lift2 fun r => dz (row t r) := by
  funext j; show V m c main_v26 (((cfg0.win 1).blk t).view.emb j) = _; rw [emb1, V_v26, H.a6]; rfl
theorem blk2 : iblk m c 2 t = lift2 fun r => Q z g b wq (row t r) := by
  funext j; show V m c main_v27 (((cfg0.win 2).blk t).view.emb j) = _
  rw [emb2, V_v27, H.a0, H.a1, H.a2, H.a4]; exact hQuery_real z g b wq (ix2 (row t (j 0)) (j 1))
theorem blk3 : iblk m c 3 t = lift2 kv := by
  funext j; show V m c main_v28 (((cfg0.win 3).blk t).view.emb j) = _; rw [emb3, V_v28, H.a3]; rfl
theorem blk4 : iblk m c 4 t = lift2 wq := by
  funext j; show V m c main_v18 (((cfg0.win 4).blk t).view.emb j) = _; rw [emb4, V_v18, H.a4]; rfl
theorem blk5 : iblk m c 5 t = lift2 fun j a => wo a j := by
  funext j; show V m c main_v20 (((cfg0.win 5).blk t).view.emb j) = _
  rw [emb5, V_v20, H.a5]; pointwise []; rfl
theorem blk6 : iblk m c 6 t = lift2 fun r => xhat (z (row t r)) := by
  funext j; show V m c main_v17 (((cfg0.win 6).blk t).view.emb j) = _; rw [emb6, V_v17, H.a0]; exact hXhat_real z (ix2 (row t (j 0)) (j 1))
theorem blk7 : iblk m c 7 t = liftCol fun r => rstd (z (row t r)) := by
  funext j; show V m c main_v13 (((cfg0.win 7).blk t).view.emb j) = _; rw [emb7, V_v13, H.a0]; exact hRstd_real z (ix2 (row t (j 0)) (j 1))
theorem blk8 : iblk m c 8 t = liftRow g := by
  funext j; show V m c main_arg1 (((cfg0.win 8).blk t).view.emb j) = _; rw [emb8, V_main_arg1, H.a1]

theorem rows_real : rowsAt m c t = lift2 fun r => Dr z g b kv wq wo dz (row t r) := by
  unfold rowsAt
  rw [blk0 H, blk1 H, blk2 H, blk3 H, blk4 H, blk5 H]
  exact bDrow_real (fun r => dz (row t r)) wo (fun r => Q z g b wq (row t r)) kv wq

/-! ## The three sums -/

theorem gain_after : ∀ (n : ℕ) (hn : n < cfg0.N) (i : S1x2048.Idx), (outsAt0 m c n hn).2.2.1 i
    = ((upto (fun r => xhat (z r) (i 1) * Dr z g b kv wq wo dz r (i 1)) n : ℝ) : EReal)
  | 0, hn, i => by
    rw [at_first m c ⟨0, hn⟩ rfl, rows_real H, blk6 H]
    refine (gain_first_real _ _ i).trans (congrArg _ ?_)
    exact upto_zero (fun r => xhat (z r) (i 1) * Dr z g b kv wq wo dz r (i 1)) ⟨0, hn⟩ rfl
  | n + 1, hn, i => by
    have ih := gain_after n (by omega) i
    rw [at_next m c ⟨n + 1, hn⟩ (Nat.succ_pos n) (Nat.lt_of_succ_lt hn), rows_real H, blk6 H]
    refine (gain_real _ _ _ i).trans ?_
    show (outsAt0 m c n _).2.2.1 i + _ = _
    rw [ih, ← EReal.coe_add]
    exact congrArg _ (upto_succ (fun r => xhat (z r) (i 1) * Dr z g b kv wq wo dz r (i 1)) ⟨n + 1, hn⟩ n rfl)
theorem shift_after : ∀ (n : ℕ) (hn : n < cfg0.N) (i : S1x2048.Idx), (outsAt0 m c n hn).2.2.2.1 i
    = ((upto (fun r => Dr z g b kv wq wo dz r (i 1)) n : ℝ) : EReal)
  | 0, hn, i => by
    rw [at_first m c ⟨0, hn⟩ rfl, rows_real H]
    refine (shift_first_real _ i).trans (congrArg _ ?_)
    exact upto_zero (fun r => Dr z g b kv wq wo dz r (i 1)) ⟨0, hn⟩ rfl
  | n + 1, hn, i => by
    have ih := shift_after n (by omega) i
    rw [at_next m c ⟨n + 1, hn⟩ (Nat.succ_pos n) (Nat.lt_of_succ_lt hn), rows_real H]
    refine (shift_real _ _ i).trans ?_
    show (outsAt0 m c n _).2.2.2.1 i + _ = _
    rw [ih, ← EReal.coe_add]
    exact congrArg _ (upto_succ (fun r => Dr z g b kv wq wo dz r (i 1)) ⟨n + 1, hn⟩ n rfl)
theorem kv_after : ∀ (n : ℕ) (hn : n < cfg0.N) (i : S8x256x128.Idx), (outsAt0 m c n hn).2.2.2.2.2 i
    = ((upto (fun r => dkv (Q z g b wq r) (A wo dz r) kv (i 0) (i 1) (i 2)) n : ℝ) : EReal)
  | 0, hn, i => by
    rw [at_first m c ⟨0, hn⟩ rfl, blk1 H, blk2 H, blk3 H, blk5 H]
    refine (bDkv_real _ wo _ kv i).trans (congrArg _ ?_)
    exact upto_zero (fun r => dkv (Q z g b wq r) (A wo dz r) kv (i 0) (i 1) (i 2)) ⟨0, hn⟩ rfl
  | n + 1, hn, i => by
    have ih := kv_after n (by omega) i
    rw [at_next m c ⟨n + 1, hn⟩ (Nat.succ_pos n) (Nat.lt_of_succ_lt hn), blk1 H, blk2 H, blk3 H, blk5 H]
    refine (bDkvAcc_real _ wo _ kv _ i).trans ?_
    show (outsAt0 m c n _).2.2.2.2.2 i + _ = _
    rw [ih, ← EReal.coe_add]
    exact congrArg _ (upto_succ (fun r => dkv (Q z g b wq r) (A wo dz r) kv (i 0) (i 1) (i 2)) ⟨n + 1, hn⟩ n rfl)

/-! ## The arrays after the run -/

theorem final9 : (dats m 0 c).arrAt 9 cfg0.N
    = fun i => ((normBack (rstd (z (i 0))) (xhat (z (i 0))) (fun k => Dr z g b kv wq wo dz (i 0) k * g k) (i 1) : ℝ) : EReal) :=
  (dats m 0 c).arrAt_eq_of_cover 9 _ (fun t _ => by
    rw [flushed9, left9, rows_real H, blk6 H, blk7 H, blk8 H]
    funext j
    refine (norm_real _ _ _ _ j).trans ?_
    show _ = (fun i : S4096x2048.Idx => ((normBack (rstd (z (i 0))) (xhat (z (i 0))) (fun k => Dr z g b kv wq wo dz (i 0) k * g k) (i 1) : ℝ) : EReal))
      (((cfg0.win 9).blk t).view.emb j)
    rw [emb9]
    rfl) covered9
theorem final10 : (dats m 0 c).arrAt 10 cfg0.N
    = fun i => ((normBack (rstd (z (i 0))) (xhat (z (i 0))) (fun k => Dr z g b kv wq wo dz (i 0) k * g k) (i 1) : ℝ) : EReal) :=
  (dats m 0 c).arrAt_eq_of_cover 10 _ (fun t _ => by
    rw [flushed10, left10, rows_real H, blk6 H, blk7 H, blk8 H]
    funext j
    refine (norm_cast_real _ _ _ _ j).trans ?_
    show _ = (fun i : S4096x2048.Idx => ((normBack (rstd (z (i 0))) (xhat (z (i 0))) (fun k => Dr z g b kv wq wo dz (i 0) k * g k) (i 1) : ℝ) : EReal))
      (((cfg0.win 10).blk t).view.emb j)
    rw [emb10]
    rfl) covered10
theorem final13 : (dats m 0 c).arrAt 13 cfg0.N = fun i => ((dquery (Q z g b wq (i 0)) (A wo dz (i 0)) kv (i 1) : ℝ) : EReal) :=
  (dats m 0 c).arrAt_eq_of_cover 13 _ (fun t _ => by
    rw [flushed13, left13, blk1 H, blk2 H, blk3 H, blk5 H, bDquery_real]
    funext j
    show _ = (fun i : S4096x512.Idx => ((dquery (Q z g b wq (i 0)) (A wo dz (i 0)) kv (i 1) : ℝ) : EReal))
      (((cfg0.win 13).blk t).view.emb j)
    rw [emb13]
    rfl) covered13
theorem final11 : (dats m 0 c).arrAt 11 cfg0.N = fun i => ((∑ r, xhat (z r) (i 1) * Dr z g b kv wq wo dz r (i 1) : ℝ) : EReal) :=
  (dats m 0 c).arrAt_eq_of_cover 11 _ (fun t hf => by
    have e : t.val = 15 := by have := lt16 t; have := (flush0_11 t).mp hf; omega
    rw [flushed11]
    funext j
    show (outsAt0 m c t.val t.isLt).2.2.1 j = (fun i : S1x2048.Idx => ((∑ r, xhat (z r) (i 1) * Dr z g b kv wq wo dz r (i 1) : ℝ) : EReal)) (((cfg0.win 11).blk t).view.emb j)
    rw [emb11, gain_after H, e, upto_last]) covered11
theorem final12 : (dats m 0 c).arrAt 12 cfg0.N = fun i => ((∑ r, Dr z g b kv wq wo dz r (i 1) : ℝ) : EReal) :=
  (dats m 0 c).arrAt_eq_of_cover 12 _ (fun t hf => by
    have e : t.val = 15 := by have := lt16 t; have := (flush0_12 t).mp hf; omega
    rw [flushed12]
    funext j
    show (outsAt0 m c t.val t.isLt).2.2.2.1 j = (fun i : S1x2048.Idx => ((∑ r, Dr z g b kv wq wo dz r (i 1) : ℝ) : EReal)) (((cfg0.win 12).blk t).view.emb j)
    rw [emb12, shift_after H, e, upto_last]) covered12
theorem final14 : (dats m 0 c).arrAt 14 cfg0.N = fun i => ((∑ r, dkv (Q z g b wq r) (A wo dz r) kv (i 0) (i 1) (i 2) : ℝ) : EReal) :=
  (dats m 0 c).arrAt_eq_of_cover 14 _ (fun t hf => by
    have e : t.val = 15 := by have := lt16 t; have := (flush0_14 t).mp hf; omega
    rw [flushed14]
    funext j
    show (outsAt0 m c t.val t.isLt).2.2.2.2.2 j = (fun i : S8x256x128.Idx => ((∑ r, dkv (Q z g b wq r) (A wo dz r) kv (i 0) (i 1) (i 2) : ℝ) : EReal)) (((cfg0.win 14).blk t).view.emb j)
    rw [emb14, kv_after H, e, upto_last]) covered14
end
end Cert.Proof.Ker

end
-- ==== Proof.Algebraic.lean ====
module

public import proofs.«01_k».proof.Proof.KerValue
public import proofs.«01_k».proof.Proof.Gen.ReferenceIdeal.Run
public import proofs.«01_k».proof.Proof.Gen.Pre_finite
public import proofs.«01_k».proof.Defs
public import Idealize.ShloMosaic.Lib.ReduceAll

/-! The call and the reference leave the same six arrays, from finite arguments: an array whose absolute values are all
    below infinity is an array of reals, and on real arrays both sides are the functions of `Spec`. -/

@[expose] public section

set_option maxRecDepth 16384
noncomputable section

namespace Cert.Proof

open Idealize.ShloMosaic Idealize.ShloMosaic.TcCoe Idealize.SL.Sem

/-! ## Finite arrays -/

theorem real_of_abs_lt {x : EReal} (h : max x (-x) < ⊤) : ∃ r : ℝ, x = (r : EReal) := by
  induction x with
  | bot => simp at h
  | top => simp at h
  | coe r => exact ⟨r, rfl⟩

/-- An element whose comparison with infinity is one is a real. -/
theorem real_at {s : Shape} (x : FVec Ideal s .f32) (hb : Cert.Pre_finite.S_.BroadcastsInDim s (![] : Fin 0 → Fin s.rank)) (i : s.Idx)
    (h : cmpf .olt (Host.absf x) (broadcastInDim s ![] hb (constant Cert.Pre_finite.S_ .f32 0x7F800000#32)) i = 1#1) :
    ∃ r : ℝ, x i = (r : EReal) := by
  have h' : BitVec.ofBool (decide (max (x i) (-(x i)) < Ideal.ofBits .f32 0x7F800000#32)) = 1#1 := h
  rw [top_bits] at h'
  by_cases hlt : max (x i) (-(x i)) < ⊤
  · exact real_of_abs_lt hlt
  · rw [decide_eq_false hlt] at h'; exact absurd h' (by decide)

section
variable (x0 : FVec Ideal Cert.Pre_finite.S4096x2048 .f32) (x1 x2 : FVec Ideal Cert.Pre_finite.S1x2048 .f32)
  (x3 : FVec Ideal Cert.Pre_finite.S256x1024 .f32) (x4 : FVec Ideal Cert.Pre_finite.S2048x512 .f32)
  (x5 : FVec Ideal Cert.Pre_finite.S512x2048 .f32) (x6 : FVec Ideal Cert.Pre_finite.S4096x2048 .f32)

instance : Subsingleton Cert.Pre_finite.S_.Idx := ⟨fun _ _ => funext fun a => a.elim0⟩

theorem real_args (h : letI := Cert.Pre_finite.Gen.facts; Cert.Pre_finite.fn (F := Ideal) x0 x1 x2 x3 x4 x5 x6 = fun _ => 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) ∧ (∀ i, ∃ r : ℝ, x5 i = r) ∧ (∀ i, ∃ r : ℝ, x6 i = r) := by
  have e := congrFun h (fun a => a.elim0)
  dsimp only [Cert.Pre_finite.fn, Cert.Pre_finite.fn_part1, andi] at e
  simp only [IntOp.andi_eq_one] at e
  obtain ⟨⟨⟨⟨⟨⟨e0, e1⟩, e2⟩, e3⟩, e4⟩, e5⟩, e6⟩ := e
  exact ⟨fun i => real_at x0 _ i (Host.reduce_andi_all _ _ _ _ _ e0 i), fun i => real_at x1 _ i (Host.reduce_andi_all _ _ _ _ _ e1 i),
    fun i => real_at x2 _ i (Host.reduce_andi_all _ _ _ _ _ e2 i), fun i => real_at x3 _ i (Host.reduce_andi_all _ _ _ _ _ e3 i),
    fun i => real_at x4 _ i (Host.reduce_andi_all _ _ _ _ _ e4 i), fun i => real_at x5 _ i (Host.reduce_andi_all _ _ _ _ _ e5 i),
    fun i => real_at x6 _ i (Host.reduce_andi_all _ _ _ _ _ e6 i)⟩
end

theorem exists_liftRow {n : ℕ} (x : (⟨2, ![1, n]⟩ : Shape).Idx → EReal) (h : ∀ i, ∃ r : ℝ, x i = r) : ∃ f, x = liftRow f := by
  obtain ⟨f, hf⟩ := exists_lift2 x h
  refine ⟨f 0, hf.trans (funext fun i => ?_)⟩
  have e : i 0 = (0 : Fin 1) := Subsingleton.elim (α := Fin 1) _ _
  show ((f (i 0) (i 1) : ℝ) : EReal) = ((f 0 (i 1) : ℝ) : EReal)
  rw [e]

/-! ## Both runs -/

section
open Cert.ReferenceIdeal.Read

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem exists_args (c : Dev Cert.KernelIdeal.nD)
    (h : letI := Cert.Pre_finite.Gen.facts; Cert.Pre_KernelIdeal_finite m) :
    ∃ z g b kv wq wo dz, Ker.Args m c z g b kv wq wo dz := by
  obtain ⟨h0, h1, h2, h3, h4, h5, h6⟩ := real_args _ _ _ _ _ _ _ (h c)
  obtain ⟨z, hz⟩ := exists_lift2 _ h0
  obtain ⟨g, hg⟩ := exists_liftRow _ h1
  obtain ⟨b, hb⟩ := exists_liftRow _ h2
  obtain ⟨kv, hkv⟩ := exists_lift2 _ h3
  obtain ⟨wq, hwq⟩ := exists_lift2 _ h4
  obtain ⟨wo, hwo⟩ := exists_lift2 _ h5
  obtain ⟨dz, hdz⟩ := exists_lift2 _ h6
  exact ⟨z, g, b, kv, wq, wo, dz, hz, hg, hb, hkv, hwq, hwo, hdz⟩

section
variable {m} {c : Dev Cert.KernelIdeal.nD} {V0 : Valuation Cert.ReferenceIdeal.τ Cert.ReferenceIdeal.sig (Elt Ideal)}
  {z : Fin 4096 → Fin 2048 → ℝ} {g b : Fin 2048 → ℝ} {kv : Fin 256 → Fin 1024 → ℝ} {wq : Fin 2048 → Fin 512 → ℝ}
  {wo : Fin 512 → Fin 2048 → ℝ} {dz : Fin 4096 → Fin 2048 → ℝ}
  (H : Ker.Args m c z g b kv wq wo dz)
  (l0 : V0 (Proc.devRef .tc Cert.ReferenceIdeal.main_arg0) = lift2 z)
  (l1 : V0 (Proc.devRef .tc Cert.ReferenceIdeal.main_arg1) = liftRow g)
  (l2 : V0 (Proc.devRef .tc Cert.ReferenceIdeal.main_arg2) = liftRow b)
  (l3 : V0 (Proc.devRef .tc Cert.ReferenceIdeal.main_arg3) = lift2 kv)
  (l4 : V0 (Proc.devRef .tc Cert.ReferenceIdeal.main_arg4) = lift2 wq)
  (l5 : V0 (Proc.devRef .tc Cert.ReferenceIdeal.main_arg5) = lift2 wo)
  (l6 : V0 (Proc.devRef .tc Cert.ReferenceIdeal.main_arg6) = lift2 dz)
include H l0 l1 l2 l3 l4 l5 l6

theorem agree9 : val_main_v143 (F := Ideal) (V0 (Proc.devRef .tc Cert.ReferenceIdeal.main_arg0)) (V0 (Proc.devRef .tc Cert.ReferenceIdeal.main_arg1))
      (V0 (Proc.devRef .tc Cert.ReferenceIdeal.main_arg2)) (V0 (Proc.devRef .tc Cert.ReferenceIdeal.main_arg3))
      (V0 (Proc.devRef .tc Cert.ReferenceIdeal.main_arg4)) (V0 (Proc.devRef .tc Cert.ReferenceIdeal.main_arg5))
      (V0 (Proc.devRef .tc Cert.ReferenceIdeal.main_arg6))
    = (Cert.KernelIdeal.Gen.dats m 0 c).arrAt 9 Cert.KernelIdeal.cfg0.N := by
  rw [l0, l1, l2, l3, l4, l5, l6, Ker.final9 H]
  exact funext (Ref.v143 z g b kv wq wo dz)
theorem agree10 : val_main_v148 (F := Ideal) (V0 (Proc.devRef .tc Cert.ReferenceIdeal.main_arg0)) (V0 (Proc.devRef .tc Cert.ReferenceIdeal.main_arg1))
      (V0 (Proc.devRef .tc Cert.ReferenceIdeal.main_arg2)) (V0 (Proc.devRef .tc Cert.ReferenceIdeal.main_arg3))
      (V0 (Proc.devRef .tc Cert.ReferenceIdeal.main_arg4)) (V0 (Proc.devRef .tc Cert.ReferenceIdeal.main_arg5))
      (V0 (Proc.devRef .tc Cert.ReferenceIdeal.main_arg6))
    = (Cert.KernelIdeal.Gen.dats m 0 c).arrAt 10 Cert.KernelIdeal.cfg0.N := by
  rw [l0, l1, l2, l3, l4, l5, l6, Ker.final10 H]
  exact funext (Ref.v148 z g b kv wq wo dz)
theorem agree11 : val_main_v145 (F := Ideal) (V0 (Proc.devRef .tc Cert.ReferenceIdeal.main_arg0)) (V0 (Proc.devRef .tc Cert.ReferenceIdeal.main_arg1))
      (V0 (Proc.devRef .tc Cert.ReferenceIdeal.main_arg2)) (V0 (Proc.devRef .tc Cert.ReferenceIdeal.main_arg3))
      (V0 (Proc.devRef .tc Cert.ReferenceIdeal.main_arg4)) (V0 (Proc.devRef .tc Cert.ReferenceIdeal.main_arg5))
      (V0 (Proc.devRef .tc Cert.ReferenceIdeal.main_arg6))
    = (Cert.KernelIdeal.Gen.dats m 0 c).arrAt 11 Cert.KernelIdeal.cfg0.N := by
  rw [l0, l1, l2, l3, l4, l5, l6, Ker.final11 H]
  exact funext (Ref.v145 z g b kv wq wo dz)
theorem agree12 : val_main_v144 (F := Ideal) (V0 (Proc.devRef .tc Cert.ReferenceIdeal.main_arg0)) (V0 (Proc.devRef .tc Cert.ReferenceIdeal.main_arg1))
      (V0 (Proc.devRef .tc Cert.ReferenceIdeal.main_arg2)) (V0 (Proc.devRef .tc Cert.ReferenceIdeal.main_arg3))
      (V0 (Proc.devRef .tc Cert.ReferenceIdeal.main_arg4)) (V0 (Proc.devRef .tc Cert.ReferenceIdeal.main_arg5))
      (V0 (Proc.devRef .tc Cert.ReferenceIdeal.main_arg6))
    = (Cert.KernelIdeal.Gen.dats m 0 c).arrAt 12 Cert.KernelIdeal.cfg0.N := by
  rw [l0, l1, l2, l3, l4, l5, l6, Ker.final12 H]
  exact funext (Ref.v144 z g b kv wq wo dz)
theorem agree13 : val_main_v149 (F := Ideal) (V0 (Proc.devRef .tc Cert.ReferenceIdeal.main_arg0)) (V0 (Proc.devRef .tc Cert.ReferenceIdeal.main_arg1))
      (V0 (Proc.devRef .tc Cert.ReferenceIdeal.main_arg2)) (V0 (Proc.devRef .tc Cert.ReferenceIdeal.main_arg3))
      (V0 (Proc.devRef .tc Cert.ReferenceIdeal.main_arg4)) (V0 (Proc.devRef .tc Cert.ReferenceIdeal.main_arg5))
      (V0 (Proc.devRef .tc Cert.ReferenceIdeal.main_arg6))
    = (Cert.KernelIdeal.Gen.dats m 0 c).arrAt 13 Cert.KernelIdeal.cfg0.N := by
  rw [l0, l1, l2, l3, l4, l5, l6, Ker.final13 H]
  exact funext (Ref.v149 z g b kv wq wo dz)
theorem agree14 : val_main_v147 (F := Ideal) (V0 (Proc.devRef .tc Cert.ReferenceIdeal.main_arg0)) (V0 (Proc.devRef .tc Cert.ReferenceIdeal.main_arg1))
      (V0 (Proc.devRef .tc Cert.ReferenceIdeal.main_arg2)) (V0 (Proc.devRef .tc Cert.ReferenceIdeal.main_arg3))
      (V0 (Proc.devRef .tc Cert.ReferenceIdeal.main_arg4)) (V0 (Proc.devRef .tc Cert.ReferenceIdeal.main_arg5))
      (V0 (Proc.devRef .tc Cert.ReferenceIdeal.main_arg6))
    = (Cert.KernelIdeal.Gen.dats m 0 c).arrAt 14 Cert.KernelIdeal.cfg0.N := by
  rw [l0, l1, l2, l3, l4, l5, l6, Ker.final14 H]
  exact funext (Ref.v147 z g b kv wq wo dz)
end

theorem algebraic : letI := Cert.KernelIdeal.Gen.facts; letI := Cert.ReferenceIdeal.Gen.facts; letI := Cert.Pre_finite.Gen.facts
    Cert.algebraic_KernelIdeal_ReferenceIdeal_pre_finite := by
  intro m ρ m' ρ' hpre hargs
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    Cert.KernelIdeal.Value.run_blocks m ρ, ?_⟩
  refine (θ_run _ _ _).mono (fun r h c => ?_) (Cert.ReferenceIdeal.Value.run m' ρ')
  obtain ⟨e0, e1, e2, e3, e4, e5, e6⟩ := hargs c
  obtain ⟨z, g, b, kv, wq, wo, dz, H⟩ := exists_args m c hpre
  have l0 : StableHlo.launchContents m' c (Proc.devRef .tc Cert.ReferenceIdeal.main_arg0) = lift2 z := e0.trans H.a0
  have l1 : StableHlo.launchContents m' c (Proc.devRef .tc Cert.ReferenceIdeal.main_arg1) = liftRow g := e1.trans H.a1
  have l2 : StableHlo.launchContents m' c (Proc.devRef .tc Cert.ReferenceIdeal.main_arg2) = liftRow b := e2.trans H.a2
  have l3 : StableHlo.launchContents m' c (Proc.devRef .tc Cert.ReferenceIdeal.main_arg3) = lift2 kv := e3.trans H.a3
  have l4 : StableHlo.launchContents m' c (Proc.devRef .tc Cert.ReferenceIdeal.main_arg4) = lift2 wq := e4.trans H.a4
  have l5 : StableHlo.launchContents m' c (Proc.devRef .tc Cert.ReferenceIdeal.main_arg5) = lift2 wo := e5.trans H.a5
  have l6 : StableHlo.launchContents m' c (Proc.devRef .tc Cert.ReferenceIdeal.main_arg6) = lift2 dz := e6.trans H.a6
  clear hargs hpre e0 e1 e2 e3 e4 e5 e6
  obtain ⟨r0, r1, r2, r3, r4, r5, rest⟩ := h c
  exact ⟨r0.trans ((val_main_v143_eq _).trans (agree9 H l0 l1 l2 l3 l4 l5 l6)),
    r1.trans ((val_main_v148_eq _).trans (agree10 H l0 l1 l2 l3 l4 l5 l6)),
    r2.trans ((val_main_v145_eq _).trans (agree11 H l0 l1 l2 l3 l4 l5 l6)),
    r3.trans ((val_main_v144_eq _).trans (agree12 H l0 l1 l2 l3 l4 l5 l6)),
    r4.trans ((val_main_v149_eq _).trans (agree13 H l0 l1 l2 l3 l4 l5 l6)),
    r5.trans ((val_main_v147_eq _).trans (agree14 H l0 l1 l2 l3 l4 l5 l6)), rest⟩
end
end Cert.Proof

end
-- ==== Proof.Product.lean ====
module

public import proofs.«01_k».proof.Proof.Real
public import Idealize.ShloMosaic.Lib.Pointwise

/-! Sums cut into blocks of their terms, and the derivative of the squared ReLU, over the extended reals: what the products
    need that are built up block by block. -/

@[expose] public section

noncomputable section

namespace Cert.Proof

open Idealize.ShloMosaic

theorem zero_offsets : (![0, 0] : Fin 2 → Nat) = fun _ => 0 := funext fun a => by fin_cases a <;> rfl

/-! ## Loads of a whole buffer -/

theorem load_eq {sig : RefSig} {κ : Kind} {sp : Space} {s : Shape} {e : EltTy} {Val : EltTy → Type} (a : Memref sig κ sp s e) (h : a.IsWhole)
    (x : s.Idx → Val e) (r : Rect s) : View.readAt Val a.view r.toLoadRect (h.unread x) = View.ld x r := by
  rw [View.readAt_eq_ld, h.read_unread]
theorem ld_whole {d : Fin 2 → ℕ} {e : EltTy} {Val : EltTy → Type} (x : (⟨2, d⟩ : Shape).Idx → Val e)
    (inb : ∀ a, (![0, 0] : Fin 2 → ℕ) a + d a ≤ d a) : View.ld x (Rect.unit (s := ⟨2, d⟩) ![0, 0] d inb) = x :=
  View.ld_unit_zero zero_offsets _ x

/-! ## The first blocks of a sum -/

/-- The sum of the first `n` blocks of `b` terms. -/
def part {M : Type*} [AddCommMonoid M] {K : ℕ} (b : ℕ) (f : Fin K → M) (n : ℕ) : M :=
  ∑ q ∈ Finset.range (b * n), if h : q < K then f ⟨q, h⟩ else 0

section
variable {M : Type*} [AddCommMonoid M] {K : ℕ} (b : ℕ) (f : Fin K → M)

theorem part_zero : part b f 0 = 0 := by simp [part]
theorem part_succ (n : ℕ) (g : Fin b → Fin K) (hg : ∀ r, (g r).val = b * n + r.val) : part b f n + ∑ r, f (g r) = part b f (n + 1) := by
  unfold part
  rw [Nat.mul_succ, Finset.sum_range_add, Finset.sum_range (n := b)]
  refine congrArg _ (Finset.sum_congr rfl fun r _ => ?_)
  have e := hg r
  rw [dif_pos (e ▸ (g r).isLt)]
  exact congrArg f (Fin.ext e)
theorem part_one (g : Fin b → Fin K) (hg : ∀ r, (g r).val = r.val) : ∑ r, f (g r) = part b f 1 := by
  have h := part_succ b f 0 g (fun r => by rw [hg r]; omega)
  rwa [part_zero, zero_add] at h
theorem part_all (n : ℕ) (h : b * n = K) : part b f n = ∑ r, f r := by
  subst h
  unfold part
  rw [Finset.sum_range]
  exact Finset.sum_congr rfl fun r _ => dif_pos r.isLt
end

/-! ## The derivative of the squared ReLU -/

/-- Where `h ≤ 0` the factor `max h 0` is zero, so the product is what a selection would give. -/
theorem relu2_grad (p a h : EReal) :
    p * (a * max h 0) = Scalar.select (Ideal.cmp .ogt h 0) (p * (a * max h 0)) 0 := by
  by_cases hh : 0 < h
  · simp [Scalar.select, Ideal.cmp, hh]
  · simp [Scalar.select, Ideal.cmp, hh, max_eq_right (not_lt.mp hh)]
theorem relu2_grad_if (p a h : EReal) [Decidable (0 < h)] : p * (a * max h 0) = if 0 < h then p * (a * max h 0) else 0 := by
  by_cases hh : 0 < h
  · simp [hh]
  · simp [hh, max_eq_right (not_lt.mp hh)]

end Cert.Proof

end
-- ==== Proof.DownDx.lean ====
module

public import proofs.«01_k».proof.Proof.Product
public import proofs.«01_k».proof.Proof.Gen.Kernel2Ideal.Value
public import proofs.«01_k».proof.Proof.Gen.Reference2Ideal.Read
public import proofs.«01_k».proof.Proof.Gen.Reference2Ideal.Run
public import proofs.«01_k».proof.Defs

/-! The gradient of the squared ReLU's argument, `(dz @ w_downᵀ) * 2 relu h`: one product to a grid point, whose blocks of
    1024 rows and 1024 columns tile the result. It is the reference's array, on all arguments. -/

@[expose] public section

set_option maxRecDepth 16384
noncomputable section

namespace Cert.Proof.DownDx

open Idealize.ShloMosaic Idealize.ShloMosaic.TcCoe Idealize.SL.Sem Cert.Kernel2Ideal Cert.Kernel2Ideal.Gen Cert.Kernel2Ideal.Value
open Cert.Reference2Ideal.Read

variable (m : (ℓ : Loc nD τ sig) → Buf (Elt Ideal) ℓ) (c : Dev nD) (t : Fin cfg0.N)

abbrev x : FVec Ideal S4096x2048 .f32 := m ((c : Thread nD τ).loc main_arg0)
abbrev up : FVec Ideal S2048x8192 .f32 := m ((c : Thread nD τ).loc main_arg1)
abbrev down : FVec Ideal S8192x2048 .f32 := m ((c : Thread nD τ).loc main_arg2)
abbrev dz : FVec Ideal S4096x2048 .f32 := m ((c : Thread nD τ).loc main_arg3)

theorem V_v0 : V m c main_v0 = val_main_v0 (x m c) (up m c) := by
  show StableHlo.after hostOps0 _ (Proc.devRef .tc main_v0) = _
  after_results
  rfl
theorem V_v1 : V m c main_v1 = truncf .bf16 (dz m c) bitsLt_bf16_f32 := by
  show StableHlo.after hostOps0 _ (Proc.devRef .tc main_v1) = _
  after_results
theorem V_v2 : V m c main_v2 = truncf .bf16 (down m c) bitsLt_bf16_f32 := by
  show StableHlo.after hostOps0 _ (Proc.devRef .tc main_v2) = _
  after_results

/-! ## The blocks -/

theorem lt32 : t.val < 32 := lt_of_lt_of_eq t.isLt N_0
def row (r : Fin 1024) : Fin 4096 := ⟨1024 * (t.val % 4) + r.val, by omega⟩
def colm (s : Fin 1024) : Fin 8192 := ⟨1024 * (t.val / 4) + s.val, by have := lt32 t; omega⟩

theorem idx : ∀ t : Fin cfg0.N, (win0_0.index t (0 : Fin 2) = t.val % 4 ∧ win0_0.index t (1 : Fin 2) = 0)
    ∧ (win0_1.index t (0 : Fin 2) = t.val / 4 ∧ win0_1.index t (1 : Fin 2) = 0)
    ∧ (win0_2.index t (0 : Fin 2) = t.val % 4 ∧ win0_2.index t (1 : Fin 2) = t.val / 4)
    ∧ (win0_3.index t (0 : Fin 2) = t.val % 4 ∧ win0_3.index t (1 : Fin 2) = t.val / 4) :=
  (by decide +kernel : ∀ t : Fin grid0.N, _)
theorem emb0 (j : S1024x2048.Idx) : ((cfg0.win 0).blk t).view.emb j = ix2 (row t (j 0)) (j 1) := by
  obtain ⟨⟨e0, e1⟩, -⟩ := idx t
  funext a; apply Fin.ext
  match a with
  | ⟨0, _⟩ => show win0_0.index t (0 : Fin 2) * 1024 + 1 * (j 0).val = 1024 * (t.val % 4) + (j 0).val; omega
  | ⟨1, _⟩ => show win0_0.index t (1 : Fin 2) * 2048 + 1 * (j 1).val = (j 1).val; omega
theorem emb1 (j : S1024x2048.Idx) : ((cfg0.win 1).blk t).view.emb j = ix2 (colm t (j 0)) (j 1) := by
  obtain ⟨-, ⟨e0, e1⟩, -⟩ := idx t
  funext a; apply Fin.ext
  match a with
  | ⟨0, _⟩ => show win0_1.index t (0 : Fin 2) * 1024 + 1 * (j 0).val = 1024 * (t.val / 4) + (j 0).val; omega
  | ⟨1, _⟩ => show win0_1.index t (1 : Fin 2) * 2048 + 1 * (j 1).val = (j 1).val; omega
theorem emb2 (j : S1024x1024.Idx) : ((cfg0.win 2).blk t).view.emb j = ix2 (row t (j 0)) (colm t (j 1)) := by
  obtain ⟨-, -, ⟨e0, e1⟩, -⟩ := idx t
  funext a; apply Fin.ext
  match a with
  | ⟨0, _⟩ => show win0_2.index t (0 : Fin 2) * 1024 + 1 * (j 0).val = 1024 * (t.val % 4) + (j 0).val; omega
  | ⟨1, _⟩ => show win0_2.index t (1 : Fin 2) * 1024 + 1 * (j 1).val = 1024 * (t.val / 4) + (j 1).val; omega
theorem emb3 (j : S1024x1024.Idx) : ((cfg0.win 3).blk t).view.emb j = ix2 (row t (j 0)) (colm t (j 1)) := by
  obtain ⟨-, -, -, ⟨e0, e1⟩⟩ := idx t
  funext a; apply Fin.ext
  match a with
  | ⟨0, _⟩ => show win0_3.index t (0 : Fin 2) * 1024 + 1 * (j 0).val = 1024 * (t.val % 4) + (j 0).val; omega
  | ⟨1, _⟩ => show win0_3.index t (1 : Fin 2) * 1024 + 1 * (j 1).val = 1024 * (t.val / 4) + (j 1).val; omega

theorem blk0 (j : S1024x2048.Idx) : iblk m c 0 t j = dz m c (ix2 (row t (j 0)) (j 1)) := by
  show V m c main_v1 (((cfg0.win 0).blk t).view.emb j) = _; rw [emb0, V_v1]; rfl
theorem blk1 (j : S1024x2048.Idx) : iblk m c 1 t j = down m c (ix2 (colm t (j 0)) (j 1)) := by
  show V m c main_v2 (((cfg0.win 1).blk t).view.emb j) = _; rw [emb1, V_v2]; rfl
theorem blk2 (j : S1024x1024.Idx) : iblk m c 2 t j = val_main_v0 (x m c) (up m c) (ix2 (row t (j 0)) (colm t (j 1))) := by
  show V m c main_v0 (((cfg0.win 2).blk t).view.emb j) = _; rw [emb2, V_v0]

theorem covered (i : S4096x8192.Idx) : ∃ t : Fin cfg0.N, (cfg0.win 3).flush t = true ∧ i ∈ ((cfg0.win 3).blk t).view.set := by
  have b0 : (i 0).val < 4096 := (i 0).isLt
  have b1 : (i 1).val < 8192 := (i 1).isLt
  let t : Fin cfg0.N := ⟨4 * ((i 1).val / 1024) + (i 0).val / 1024, lt_of_lt_of_eq (by omega) N_0.symm⟩
  let j : S1024x1024.Idx := ix2 ⟨(i 0).val % 1024, Nat.mod_lt _ (by decide)⟩ ⟨(i 1).val % 1024, Nat.mod_lt _ (by decide)⟩
  have e : ((cfg0.win 3).blk t).view.emb j = i := by
    rw [emb3]
    funext a; apply Fin.ext
    match a with
    | ⟨0, _⟩ => show 1024 * ((4 * ((i 1).val / 1024) + (i 0).val / 1024) % 4) + (i 0).val % 1024 = (i 0).val; omega
    | ⟨1, _⟩ => show 1024 * ((4 * ((i 1).val / 1024) + (i 0).val / 1024) / 4) + (i 1).val % 1024 = (i 1).val; omega
  exact ⟨t, flush0_3 t, e ▸ ((cfg0.win 3).blk t).view.emb_mem_set j⟩

/-! ## The result -/

section
variable {F : FTy → Type} [FloatOps F]
theorem whole0 {e : EltTy} (b : Vec F S1024x2048 e) : View.ld b r0_0 = b := View.ld_unit_zero zero_offsets _ b
theorem whole1 {e : EltTy} (b : Vec F S1024x1024 e) : View.ld b r0_1 = b := View.ld_unit_zero zero_offsets _ b
theorem block_out (b0 b1 : Vec F S1024x2048 .bf16) (b2 : Vec F S1024x1024 .f32) : out0_3 b0 b1 b2 = k0_pay1 b0 b1 b2 := by
  unfold out0_3
  refine (View.canon_unit_zero zero_offsets _ _).trans ?_
  rw [whole0, whole0, whole1]
end

theorem final : (dats m 0 c).arrAt 3 cfg0.N = val_main_v13 (F := Ideal) (x m c) (up m c) (down m c) (dz m c) :=
  (dats m 0 c).arrAt_eq_of_cover 3 _ (fun t _ => by
    rw [flushed3, block_out]
    funext j
    show k0_pay1 (F := Ideal) (iblk m c 0 t) (iblk m c 1 t) (iblk m c 2 t) j = val_main_v13 (F := Ideal) (x m c) (up m c) (down m c) (dz m c) (((cfg0.win 3).blk t).view.emb j)
    rw [emb3]
    pointwise [k0_pay1]
    rw [val_main_v13_apply, val_main_v12_apply, val_main_v10_apply, val_main_v9_apply, val_main_v7_apply, val_main_v3_apply]
    simp only [blk0, blk1, blk2]
    rw [val_main_v2_apply, val_main_v6_apply, val_main_v11_apply, val_main_v1_apply, val_main_call0_v0_apply]
    have el : ∀ k, lidx_main_v9 (ix2 (row t (j 0)) (colm t (j 1))) k = ix2 (row t (j 0)) k := fun k => by funext a; fin_cases a <;> rfl
    have er : ∀ k, ridx_main_v9 (ix2 (row t (j 0)) (colm t (j 1))) k = ix2 (colm t (j 1)) k := fun k => by funext a; fin_cases a <;> rfl
    simp only [el, er, val_main_cst_apply, val_main_cst_1_apply, val_main_cst_2_apply, val_main_call0_cst_apply, Ideal.ofBits_def,
      Ideal.ofBits_zero_f32, Ideal.maximumf_def, Ideal.cmpf_def, Ideal.mulf_def]
    exact relu2_grad _ _ _) covered

theorem final_eq (a0 a1 a2 a3) (h0 : a0 = x m c) (h1 : a1 = up m c) (h2 : a2 = down m c) (h3 : a3 = dz m c) :
    val_main_v13 (F := Ideal) a0 a1 a2 a3 = (dats m 0 c).arrAt 3 cfg0.N := by
  rw [h0, h1, h2, h3, final]

theorem algebraic : letI := Cert.Kernel2Ideal.Gen.facts; letI := Cert.Reference2Ideal.Gen.facts;
    Cert.algebraic_Kernel2Ideal_Reference2Ideal := by
  intro m ρ m' ρ' hpre hargs
  refine ⟨fun c => (dats m 0 c).arrAt 3 cfg0.N, run_blocks m ρ, ?_⟩
  refine (θ_run _ _ _).mono (fun r h c => ?_) (Cert.Reference2Ideal.Value.run m' ρ')
  obtain ⟨e0, e1, e2, e3⟩ := hargs c
  obtain ⟨r0, rest⟩ := h c
  exact ⟨r0.trans ((val_main_v13_eq _ _ _ _).trans (final_eq m c _ _ _ _ e0 e1 e2 e3)), rest⟩

end Cert.Proof.DownDx

end
-- ==== Proof.UpDxRef.lean ====
module

public import proofs.«01_k».proof.Proof.Gen.Reference3Ideal.Read
public import proofs.«01_k».proof.Proof.Product

/-! The gradient of `sqrt 2 * x + relu(x @ w_up)² @ w_down` at the layer norm in front of it, `x = layer_norm(z, g, b)`: the
    mathematics row by row over the real numbers, and the reference's results on finite arrays. -/

@[expose] public section

set_option maxRecDepth 16384
noncomputable section

namespace Cert.Proof.UpDx

open Cert.Reference3Ideal Cert.Reference3Ideal.Gen Cert.Reference3Ideal.Read Idealize.ShloMosaic

theorem coe_max (x y : ℝ) : max (x : EReal) (y : EReal) = ((max x y : ℝ) : EReal) := (EReal.coe_strictMono.monotone.map_max).symm

variable (z : Fin 4096 → Fin 2048 → ℝ) (g b : Fin 2048 → ℝ) (up : Fin 2048 → Fin 8192 → ℝ) (down : Fin 8192 → Fin 2048 → ℝ)
  (dz : Fin 4096 → Fin 2048 → ℝ)

/-- The hidden layer of row `r`. -/
def Hid (r : Fin 4096) (q : Fin 8192) : ℝ := ∑ j, (xhat (z r) j * g j + b j) * up j q
/-- Its gradient. -/
def Dh (r : Fin 4096) (q : Fin 8192) : ℝ := (∑ j, dz r j * down q j) * (2 * max (Hid z g b up r q) 0)
/-- The gradient of the normalised row. -/
def Dr (r : Fin 4096) (j : Fin 2048) : ℝ := alpha * dz r j + ∑ q, Dh z g b up down dz r q * up j q

namespace Ref

/-! ## The layer normalisation -/

theorem v5 (i : S4096x1.Idx) : val_main_v5 (F := Ideal) (lift2 z) i = ((mean (z (i 0)) : ℝ) : EReal) := by
  rw [val_main_v5_apply, val_main_v3_apply, val_main_v2_apply, val_main_v4_apply, val_main_cst_0_apply, val_main_cst_apply]
  simp only [lift2_apply, Ideal.hostDivf_def, Ideal.ofBits_def, width_bits, Ideal.ofBits_zero_f32, coe_sum, zero_add,
    coe_div width_ne]
  rfl

theorem v7 (i : S4096x2048.Idx) : val_main_v7 (F := Ideal) (lift2 z) i = ((z (i 0) (i 1) - mean (z (i 0)) : ℝ) : EReal) := by
  rw [val_main_v7_apply, val_main_v6_apply, v5, lift2_apply, Ideal.subf_def, ← EReal.coe_sub]; rfl

theorem v16 (i : S4096x2048.Idx) : val_main_v16 (F := Ideal) (lift2 z) i = ((z (i 0) (i 1) - mean (z (i 0)) : ℝ) : EReal) := by
  rw [val_main_v16_apply, val_main_v15_apply, v5, lift2_apply, Ideal.subf_def, ← EReal.coe_sub]; rfl

theorem v10 (i : S4096x2048.Idx) :
    val_main_v10 (F := Ideal) (lift2 z) i = ((2 * (z (i 0) (i 1) - mean (z (i 0))) : ℝ) : EReal) := by
  rw [val_main_v10_apply, val_main_v9_apply, v7, val_main_cst_1_apply, Ideal.mulf_def, Ideal.ofBits_def, two_bits, ← EReal.coe_mul]

theorem v18 (i : S4096x1.Idx) : val_main_v18 (F := Ideal) (lift2 z) i = ((var (z (i 0)) + eps : ℝ) : EReal) := by
  rw [val_main_v18_apply, val_main_v14_apply, val_main_v12_apply, val_main_v11_apply, val_main_v13_apply, val_main_v17_apply,
    val_main_cst_2_apply, val_main_cst_3_apply, val_main_cst_4_apply]
  simp only [val_main_v8_apply, v7, Ideal.hostDivf_def, Ideal.ofBits_def, Ideal.mulf_def, Ideal.addf_def, width_bits, eps_bits,
    Ideal.ofBits_zero_f32, ← EReal.coe_mul, coe_sum, zero_add, coe_div width_ne, ← EReal.coe_add]
  rfl

theorem v19 (i : S4096x1.Idx) : val_main_v19 (F := Ideal) (lift2 z) i = ((rstd (z (i 0)) : ℝ) : EReal) := by
  rw [val_main_v19_apply, v18, Ideal.hostUnary_rsqrt_def, coe_rsqrt (var_eps_pos _), rstd]

theorem v22 (i : S4096x1.Idx) :
    val_main_v22 (F := Ideal) (lift2 z) i = ((-(1 / 2) * (rstd (z (i 0)) / (var (z (i 0)) + eps)) : ℝ) : EReal) := by
  rw [val_main_v22_apply, val_main_v21_apply, val_main_v20_apply, v19, v18, val_main_cst_5_apply, Ideal.mulf_def, Ideal.ofBits_def,
    Ideal.hostDivf_def, neg_half_bits, coe_div (var_eps_pos _).ne', ← EReal.coe_mul]

theorem v24 (i : S4096x2048.Idx) : val_main_v24 (F := Ideal) (lift2 z) i = ((xhat (z (i 0)) (i 1) : ℝ) : EReal) := by
  rw [val_main_v24_apply, val_main_v23_apply, v19, v16, Ideal.mulf_def, ← EReal.coe_mul]; rfl

theorem v30 (i : S4096x2048.Idx) : val_main_v30 (F := Ideal) (lift2 z) (liftRow g) (liftRow b) i
    = ((xhat (z (i 0)) (i 1) * g (i 1) + b (i 1) : ℝ) : EReal) := by
  rw [val_main_v30_apply, val_main_v27_apply, v24, val_main_v26_apply, val_main_v25_apply, val_main_v0_apply, val_main_v29_apply,
    val_main_v28_apply, val_main_v1_apply, liftRow_apply, liftRow_apply, Ideal.addf_def, Ideal.mulf_def, ← EReal.coe_mul,
    ← EReal.coe_add]
  have h : ∀ j : Fin 2048, (⟨j.val % 2048, Nat.mod_lt _ (by norm_num)⟩ : Fin 2048) = j := fun j => Fin.ext (Nat.mod_eq_of_lt j.isLt)
  exact congrArg (fun j => ((xhat (z (i 0)) (i 1) * g j + b j : ℝ) : EReal)) (h (i 1))

/-! ## The squared ReLU -/

theorem v33 (i : S4096x8192.Idx) : val_main_v33 (F := Ideal) (lift2 z) (liftRow g) (liftRow b) (lift2 up) i
    = ((Hid z g b up (i 0) (i 1) : ℝ) : EReal) := by
  rw [val_main_v33_apply]
  simp only [v30, lift2_apply, ← EReal.coe_mul, coe_sum]
  rfl

theorem v45 (i : S4096x8192.Idx) : val_main_v45 (F := Ideal) (lift2 down) (lift2 dz) i
    = ((∑ j, dz (i 0) j * down (i 1) j : ℝ) : EReal) := by
  have b0 : (i 0).val < 4096 := (i 0).isLt
  rw [val_main_v45_apply]
  simp only [val_main_v44_apply, lift2_apply, ← EReal.coe_mul, coe_sum]
  refine congrArg _ (Finset.sum_congr rfl fun k _ => ?_)
  have hk : k.val < 2048 := k.isLt
  have h0 : idx_main_v44 (lidx_main_v45 i k) 0 = i 0 := Fin.ext (by simp only [idx_main_v44, lidx_main_v45]; omega)
  have h1 : idx_main_v44 (lidx_main_v45 i k) 1 = k := Fin.ext (by simp only [idx_main_v44, lidx_main_v45]; omega)
  rw [h0, h1]; rfl

theorem v48 (i : S4096x8192.Idx) : val_main_v48 (F := Ideal) (lift2 z) (liftRow g) (liftRow b) (lift2 up) (lift2 down) (lift2 dz) i
    = ((Dh z g b up down dz (i 0) (i 1) : ℝ) : EReal) := by
  rw [val_main_v48_apply, val_main_v36_apply, val_main_v35_apply, val_main_cst_7_apply, val_main_v46_apply, val_main_v40_apply,
    val_main_v39_apply, val_main_cst_9_apply, val_main_v34_apply, val_main_call0_v0_apply, val_main_call0_cst_apply,
    val_main_v47_apply, val_main_cst_10_apply, Ideal.mulf_def, Ideal.mulf_def, Ideal.maximumf_def, Ideal.cmpf_def, Ideal.ofBits_def,
    Ideal.ofBits_def, Ideal.ofBits_zero_f32, ← relu2_grad, v33, v45, two_bits, ← EReal.coe_zero, coe_max, ← EReal.coe_mul, ← EReal.coe_mul]
  rfl

theorem v52 (i : S4096x2048.Idx) : val_main_v52 (F := Ideal) (lift2 z) (liftRow g) (liftRow b) (lift2 up) (lift2 down) (lift2 dz) i
    = ((Dr z g b up down dz (i 0) (i 1) : ℝ) : EReal) := by
  have b0 : (i 0).val < 4096 := (i 0).isLt
  have b1 : (i 1).val < 2048 := (i 1).isLt
  have h0 : idx_main_v43 i 0 = i 0 := Fin.ext (by simp only [idx_main_v43]; omega)
  have h1 : idx_main_v43 i 1 = i 1 := Fin.ext (by simp only [idx_main_v43]; omega)
  rw [val_main_v52_apply, val_main_v51_apply, val_main_v50_apply, val_main_cst_11_apply, val_main_v43_apply, val_main_v49_apply]
  simp only [v48, lift2_apply, Ideal.ofBits_def, alpha_bits, Ideal.addf_def, Ideal.mulf_def, ← EReal.coe_mul, coe_sum, ← EReal.coe_add, h0, h1]
  rw [add_comm]; rfl

/-! ## The results -/

theorem v86 (i : S1x2048.Idx) : val_main_v86 (F := Ideal) (lift2 z) (liftRow g) (liftRow b) (lift2 up) (lift2 down) (lift2 dz) i
    = ((∑ r, Dr z g b up down dz r (i 1) : ℝ) : EReal) := by
  have b0 : (i 0).val < 1 := (i 0).isLt
  have b1 : (i 1).val < 2048 := (i 1).isLt
  rw [val_main_v86_apply, val_main_v55_apply, val_main_cst_13_apply, Fin.sum_univ_one, val_main_v54_apply,
    val_main_v53_apply, val_main_cst_12_apply]
  simp only [v52, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v54 (idx_main_v55 (idx_main_v86 i) 0) 0 = i 1 :=
    Fin.ext (by simp only [idx_main_v54, idx_main_v55, idx_main_v86, Fin.val_zero]; omega)
  rw [← h0]; rfl

theorem v87 (i : S1x2048.Idx) : val_main_v87 (F := Ideal) (lift2 z) (liftRow g) (liftRow b) (lift2 up) (lift2 down) (lift2 dz) i
    = ((∑ r, xhat (z r) (i 1) * Dr z g b up down dz r (i 1) : ℝ) : EReal) := by
  have b0 : (i 0).val < 1 := (i 0).isLt
  have b1 : (i 1).val < 2048 := (i 1).isLt
  rw [val_main_v87_apply, val_main_v61_apply, val_main_cst_15_apply, Fin.sum_univ_one, val_main_v58_apply,
    val_main_v57_apply, val_main_cst_14_apply]
  simp only [val_main_v56_apply, v24, v52, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v58 (idx_main_v61 (idx_main_v87 i) 0) 0 = i 1 :=
    Fin.ext (by simp only [idx_main_v58, idx_main_v61, idx_main_v87, Fin.val_zero]; omega)
  rw [← h0]; rfl

theorem v60 (i : S4096x2048.Idx) : val_main_v60 (F := Ideal) (lift2 z) (liftRow g) (liftRow b) (lift2 up) (lift2 down) (lift2 dz) i
    = ((Dr z g b up down dz (i 0) (i 1) * g (i 1) : ℝ) : EReal) := by
  have b0 : (i 0).val < 4096 := (i 0).isLt
  have b1 : (i 1).val < 2048 := (i 1).isLt
  rw [val_main_v60_apply, val_main_v59_apply, val_main_v25_apply, val_main_v0_apply, v52, liftRow_apply, Ideal.mulf_def,
    ← EReal.coe_mul]
  have h : idx_main_v0 (idx_main_v25 (idx_main_v59 i)) 1 = i 1 := Fin.ext (Nat.mod_eq_of_lt b1)
  rw [h]

theorem v66 (i : S4096x2048.Idx) : val_main_v66 (F := Ideal) (lift2 z) (liftRow g) (liftRow b) (lift2 up) (lift2 down) (lift2 dz) i
    = ((Dr z g b up down dz (i 0) (i 1) * g (i 1) * rstd (z (i 0)) : ℝ) : EReal) := by
  rw [val_main_v66_apply, val_main_v65_apply, v60, v19, Ideal.mulf_def, ← EReal.coe_mul]; rfl

theorem v75 (i : S4096x2048.Idx) : val_main_v75 (F := Ideal) (lift2 z) (liftRow g) (liftRow b) (lift2 up) (lift2 down) (lift2 dz) i
    = (((∑ k, (z (i 0) k - mean (z (i 0))) * (Dr z g b up down dz (i 0) k * g k)) * (-(1 / 2) * (rstd (z (i 0)) / (var (z (i 0)) + eps))) / 2048
      * (2 * (z (i 0) (i 1) - mean (z (i 0)))) : ℝ) : EReal) := by
  have b0 : (i 0).val < 4096 := (i 0).isLt
  have b1 : (i 1).val < 2048 := (i 1).isLt
  have h0 : idx_main_v64 (idx_main_v73 (idx_main_v74 i) 0) 0 = i 0 :=
    Fin.ext (by simp only [idx_main_v64, idx_main_v73, idx_main_v74, Fin.val_zero]; omega)
  rw [val_main_v75_apply, v10, val_main_v74_apply, val_main_v73_apply, val_main_cst_19_apply, Fin.sum_univ_one,
    val_main_v72_apply, val_main_v71_apply, val_main_cst_18_apply, val_main_v67_apply, v22, val_main_v64_apply,
    val_main_v63_apply, val_main_cst_16_apply]
  simp only [val_main_v62_apply, v16, v60, width_bits, coe_div width_ne, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h2 : idx_main_v73 (idx_main_v74 i) 0 0 = i 0 :=
    Fin.ext (by simp only [idx_main_v73, idx_main_v74, Fin.val_zero])
  have e0 : ∀ j k, idx_main_v63 j k 0 = j 0 := fun _ _ => rfl
  have e1 : ∀ j k, idx_main_v63 j k 1 = k := fun _ _ => rfl
  simp only [e0, e1, h0, h2]

theorem v85 (i : S4096x2048.Idx) : val_main_v85 (F := Ideal) (lift2 z) (liftRow g) (liftRow b) (lift2 up) (lift2 down) (lift2 dz) i
    = ((normBack (rstd (z (i 0))) (xhat (z (i 0))) (fun k => Dr z g b up down dz (i 0) k * g k) (i 1) : ℝ) : EReal) := by
  have b0 : (i 0).val < 4096 := (i 0).isLt
  have b1 : (i 1).val < 2048 := (i 1).isLt
  have h0 : idx_main_v70 (idx_main_v83 (idx_main_v84 i) 0) 0 = i 0 :=
    Fin.ext (by simp only [idx_main_v70, idx_main_v83, idx_main_v84, Fin.val_zero]; omega)
  have h1 : idx_main_v78 (idx_main_v83 (idx_main_v84 i) 0) 0 = i 0 := h0
  rw [val_main_v85_apply, val_main_v79_apply, v66, v75, val_main_v84_apply, val_main_v83_apply, val_main_cst_22_apply,
    Fin.sum_univ_one, val_main_v82_apply, val_main_v81_apply, val_main_cst_21_apply, val_main_v80_apply, val_main_v70_apply,
    val_main_v69_apply, val_main_v78_apply, val_main_v77_apply, val_main_cst_17_apply, val_main_cst_20_apply]
  simp only [val_main_v68_apply, val_main_v76_apply, v66, v75, width_bits, coe_div width_ne, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have e0 : ∀ j k, idx_main_v69 j k 0 = j 0 := fun _ _ => rfl
  have e1 : ∀ j k, idx_main_v69 j k 1 = k := fun _ _ => rfl
  have f0 : ∀ j k, idx_main_v77 j k 0 = j 0 := fun _ _ => rfl
  have f1 : ∀ j k, idx_main_v77 j k 1 = k := fun _ _ => rfl
  simp only [e0, e1, f0, f1, h0, h1]
  have h := normBack_chain (n := 2048) (by norm_num) (z (i 0)) (fun k => Dr z g b up down dz (i 0) k * g k) (i 1)
  rw [Nat.cast_ofNat] at h
  exact congrArg _ h

theorem v88 (i : S4096x2048.Idx) : val_main_v88 (F := Ideal) (lift2 z) (liftRow g) (liftRow b) (lift2 up) (lift2 down) (lift2 dz) i
    = ((normBack (rstd (z (i 0))) (xhat (z (i 0))) (fun k => Dr z g b up down dz (i 0) k * g k) (i 1) : ℝ) : EReal) := by
  rw [val_main_v88_apply, Ideal.truncf_def, v85]

end Ref

end Cert.Proof.UpDx

end
-- ==== Proof.UpDx.lean ====
module

public import proofs.«01_k».proof.Proof.UpDxRef
public import proofs.«01_k».proof.Proof.Algebraic
public import proofs.«01_k».proof.Proof.Gen.Kernel3Ideal.Value
public import proofs.«01_k».proof.Proof.Gen.Reference3Ideal.Run
public import proofs.«01_k».proof.Proof.Gen.Pre_finite3
public import proofs.«01_k».proof.Defs

/-! The call that takes the gradient of the feed-forward layer back through the layer norm in front of it:
    `Dr = sqrt 2 * dz + dh @ w_upᵀ`, then the gradient of the layer norm at every row of `Dr`. The product is built up over four
    grid points in an accumulator; the last point of the four takes the rows through the layer norm, writes them out, and adds the
    block's share to the gradients of scale and shift. -/

@[expose] public section

set_option maxRecDepth 16384
noncomputable section

namespace Cert.Proof.UpDx

open Idealize.ShloMosaic Idealize.ShloMosaic.TcCoe Idealize.SL.Sem Cert.Kernel3Ideal Cert.Kernel3Ideal.Gen Cert.Kernel3Ideal.Value

variable (m : (ℓ : Loc nD τ sig) → Buf (Elt Ideal) ℓ) (c : Dev nD) (t : Fin cfg0.N)

/-! ## The arrays the call reads -/

/-- The gradient of the hidden layer, as the host operations before the call compute it. -/
def hHidden (x : FVec Ideal S4096x2048 .f32) (g b : FVec Ideal S1x2048 .f32) (up : FVec Ideal S2048x8192 .f32) (down : FVec Ideal S8192x2048 .f32)
    (dz : FVec Ideal S4096x2048 .f32) : FVec Ideal S4096x8192 .bf16 :=
  truncf .bf16 (mulf (Host.dotGeneral dot_S4096x2048_S2048x8192_S4096x8192_1_0_0_1_n_n none dz
      (transpose S2048x8192 [1, 0] down transposes_S8192x2048_S2048x8192_1_0))
    (mulf (broadcastInDim S4096x8192 ![] bcast_S_S4096x8192 (constant S_ .f32 0x40000000#32))
      (maximumf (Host.dotGeneral dot_S4096x2048_S2048x8192_S4096x8192_1_0_0_1_n_n none
          (addf (mulf (Ker.hXhat x) (broadcastInDim S4096x2048 ![0, 1] bcast_S1x2048_S4096x2048_0_1 g))
            (broadcastInDim S4096x2048 ![0, 1] bcast_S1x2048_S4096x2048_0_1 b)) up)
        (broadcastInDim S4096x8192 ![] bcast_S_S4096x8192 (constant S_ .f32 0x00000000#32))))) bitsLt_bf16_f32

/-- The weight, transposed. -/
def hUpT (w : FVec Ideal S2048x8192 .f32) : FVec Ideal S8192x2048 .bf16 :=
  truncf .bf16 (transpose S8192x2048 [1, 0] w transposes_S2048x8192_S8192x2048_1_0) bitsLt_bf16_f32

theorem V_v13 : V m c main_v13 = Ker.hRstd (F := Ideal) (m ((c : Thread nD τ).loc main_arg0)) := by
  show StableHlo.after hostOps0 _ (Proc.devRef .tc main_v13) = _
  after_results
  rfl
theorem V_v17 : V m c main_v17 = Ker.hXhat (F := Ideal) (m ((c : Thread nD τ).loc main_arg0)) := by
  show StableHlo.after hostOps0 _ (Proc.devRef .tc main_v17) = _
  after_results
  rfl
theorem V_v30 : V m c main_v30 = hHidden (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  show StableHlo.after hostOps0 _ (Proc.devRef .tc main_v30) = _
  after_results
  rfl
theorem V_v32 : V m c main_v32 = hUpT (m ((c : Thread nD τ).loc main_arg3)) := by
  show StableHlo.after hostOps0 _ (Proc.devRef .tc main_v32) = _
  after_results
  rfl

theorem hHidden_real (z : Fin 4096 → Fin 2048 → ℝ) (g b : Fin 2048 → ℝ) (up : Fin 2048 → Fin 8192 → ℝ) (down : Fin 8192 → Fin 2048 → ℝ)
    (dz : Fin 4096 → Fin 2048 → ℝ) (i : S4096x8192.Idx) :
    hHidden (lift2 z) (liftRow g) (liftRow b) (lift2 up) (lift2 down) (lift2 dz) i = ((Dh z g b up down dz (i 0) (i 1) : ℝ) : EReal) := by
  pointwise [hHidden]
  simp only [Ker.hXhat_real, lift2_apply, liftRow_apply, two_bits, ← EReal.coe_zero, ← EReal.coe_mul, ← EReal.coe_add, coe_sum, coe_max]
  rfl

/-! ## The blocks -/

theorem lt32 : t.val < 32 := lt_of_lt_of_eq t.isLt N_0
def inner (r : Fin 2048) : Fin 8192 := ⟨2048 * (t.val % 4) + r.val, by omega⟩
def row (r : Fin 512) : Fin 4096 := ⟨512 * (t.val / 4) + r.val, by have := lt32 t; omega⟩
/-- The point before. -/
def prev : Fin cfg0.N := ⟨t.val - 1, Nat.lt_of_le_of_lt (Nat.sub_le _ _) t.isLt⟩

theorem idx : ∀ t : Fin cfg0.N, (win0_0.index t (0 : Fin 2) = t.val / 4 ∧ win0_0.index t (1 : Fin 2) = t.val % 4)
    ∧ (win0_1.index t (0 : Fin 2) = t.val % 4 ∧ win0_1.index t (1 : Fin 2) = 0)
    ∧ (win0_2.index t (0 : Fin 2) = t.val / 4 ∧ win0_2.index t (1 : Fin 2) = 0)
    ∧ (win0_3.index t (0 : Fin 2) = t.val / 4 ∧ win0_3.index t (1 : Fin 2) = 0)
    ∧ (win0_4.index t (0 : Fin 2) = t.val / 4 ∧ win0_4.index t (1 : Fin 2) = 0)
    ∧ (win0_5.index t (0 : Fin 2) = 0 ∧ win0_5.index t (1 : Fin 2) = 0)
    ∧ (win0_6.index t (0 : Fin 2) = t.val / 4 ∧ win0_6.index t (1 : Fin 2) = 0)
    ∧ (win0_7.index t (0 : Fin 2) = t.val / 4 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)
theorem emb0 (j : S512x2048.Idx) : ((cfg0.win 0).blk t).view.emb j = ix2 (row t (j 0)) (inner t (j 1)) := by
  obtain ⟨⟨e0, e1⟩, -⟩ := idx t
  funext a; apply Fin.ext
  match a with
  | ⟨0, _⟩ => show win0_0.index t (0 : Fin 2) * 512 + 1 * (j 0).val = 512 * (t.val / 4) + (j 0).val; omega
  | ⟨1, _⟩ => show win0_0.index t (1 : Fin 2) * 2048 + 1 * (j 1).val = 2048 * (t.val % 4) + (j 1).val; omega
theorem emb1 (j : S2048x2048.Idx) : ((cfg0.win 1).blk t).view.emb j = ix2 (inner t (j 0)) (j 1) := by
  obtain ⟨-, ⟨e0, e1⟩, -⟩ := idx t
  funext a; apply Fin.ext
  match a with
  | ⟨0, _⟩ => show win0_1.index t (0 : Fin 2) * 2048 + 1 * (j 0).val = 2048 * (t.val % 4) + (j 0).val; omega
  | ⟨1, _⟩ => show win0_1.index t (1 : Fin 2) * 2048 + 1 * (j 1).val = (j 1).val; omega
theorem emb2 (j : S512x2048.Idx) : ((cfg0.win 2).blk t).view.emb j = ix2 (row t (j 0)) (j 1) := by
  obtain ⟨-, -, ⟨e0, e1⟩, -⟩ := idx t
  funext a; apply Fin.ext
  match a with
  | ⟨0, _⟩ => show win0_2.index t (0 : Fin 2) * 512 + 1 * (j 0).val = 512 * (t.val / 4) + (j 0).val; omega
  | ⟨1, _⟩ => show win0_2.index t (1 : Fin 2) * 2048 + 1 * (j 1).val = (j 1).val; omega
theorem emb3 (j : S512x2048.Idx) : ((cfg0.win 3).blk t).view.emb j = ix2 (row t (j 0)) (j 1) := by
  obtain ⟨-, -, -, ⟨e0, e1⟩, -⟩ := idx t
  funext a; apply Fin.ext
  match a with
  | ⟨0, _⟩ => show win0_3.index t (0 : Fin 2) * 512 + 1 * (j 0).val = 512 * (t.val / 4) + (j 0).val; omega
  | ⟨1, _⟩ => show win0_3.index t (1 : Fin 2) * 2048 + 1 * (j 1).val = (j 1).val; omega
theorem emb4 (j : S512x1.Idx) : ((cfg0.win 4).blk t).view.emb j = ix2 (row t (j 0)) (j 1) := by
  obtain ⟨-, -, -, -, ⟨e0, e1⟩, -⟩ := idx t
  funext a; apply Fin.ext
  match a with
  | ⟨0, _⟩ => show win0_4.index t (0 : Fin 2) * 512 + 1 * (j 0).val = 512 * (t.val / 4) + (j 0).val; omega
  | ⟨1, _⟩ => show win0_4.index t (1 : Fin 2) * 1 + 1 * (j 1).val = (j 1).val; omega
theorem emb5 (j : S1x2048.Idx) : ((cfg0.win 5).blk t).view.emb j = j := by
  obtain ⟨-, -, -, -, -, ⟨e0, e1⟩, -⟩ := idx t
  funext a; apply Fin.ext
  match a with
  | ⟨0, _⟩ => show win0_5.index t (0 : Fin 2) * 1 + 1 * (j 0).val = (j 0).val; omega
  | ⟨1, _⟩ => show win0_5.index t (1 : Fin 2) * 2048 + 1 * (j 1).val = (j 1).val; omega
theorem emb6 (j : S512x2048.Idx) : ((cfg0.win 6).blk t).view.emb j = ix2 (row t (j 0)) (j 1) := by
  obtain ⟨-, -, -, -, -, -, ⟨e0, e1⟩, -⟩ := idx t
  funext a; apply Fin.ext
  match a with
  | ⟨0, _⟩ => show win0_6.index t (0 : Fin 2) * 512 + 1 * (j 0).val = 512 * (t.val / 4) + (j 0).val; omega
  | ⟨1, _⟩ => show win0_6.index t (1 : Fin 2) * 2048 + 1 * (j 1).val = (j 1).val; omega
theorem emb7 (j : S512x2048.Idx) : ((cfg0.win 7).blk t).view.emb j = ix2 (row t (j 0)) (j 1) := by
  obtain ⟨-, -, -, -, -, -, -, ⟨e0, e1⟩, -⟩ := idx t
  funext a; apply Fin.ext
  match a with
  | ⟨0, _⟩ => show win0_7.index t (0 : Fin 2) * 512 + 1 * (j 0).val = 512 * (t.val / 4) + (j 0).val; omega
  | ⟨1, _⟩ => show win0_7.index t (1 : Fin 2) * 2048 + 1 * (j 1).val = (j 1).val; omega
theorem emb8 (j : S1x2048.Idx) : ((cfg0.win 8).blk t).view.emb j = j := by
  obtain ⟨-, -, -, -, -, -, -, -, ⟨e0, e1⟩, -⟩ := idx t
  funext a; apply Fin.ext
  match a with
  | ⟨0, _⟩ => show win0_8.index t (0 : Fin 2) * 1 + 1 * (j 0).val = (j 0).val; omega
  | ⟨1, _⟩ => show win0_8.index t (1 : Fin 2) * 2048 + 1 * (j 1).val = (j 1).val; omega
theorem emb9 (j : S1x2048.Idx) : ((cfg0.win 9).blk t).view.emb j = j := by
  obtain ⟨-, -, -, -, -, -, -, -, -, e0, e1⟩ := idx t
  funext a; apply Fin.ext
  match a with
  | ⟨0, _⟩ => show win0_9.index t (0 : Fin 2) * 1 + 1 * (j 0).val = (j 0).val; omega
  | ⟨1, _⟩ => show win0_9.index t (1 : Fin 2) * 2048 + 1 * (j 1).val = (j 1).val; omega

theorem point (i : S4096x2048.Idx) : ∃ (t : Fin cfg0.N) (j : S512x2048.Idx), t.val % 4 = 3 ∧ i = ix2 (row t (j 0)) (j 1) := by
  have b0 : (i 0).val < 4096 := (i 0).isLt
  refine ⟨⟨4 * ((i 0).val / 512) + 3, lt_of_lt_of_eq (by omega) N_0.symm⟩, ix2 ⟨(i 0).val % 512, Nat.mod_lt _ (by decide)⟩ (i 1),
    show (4 * ((i 0).val / 512) + 3) % 4 = 3 by omega, ?_⟩
  funext a; apply Fin.ext
  match a with
  | ⟨0, _⟩ => show (i 0).val = 512 * ((4 * ((i 0).val / 512) + 3) / 4) + (i 0).val % 512; omega
  | ⟨1, _⟩ => rfl
theorem covered6 (i : S4096x2048.Idx) : ∃ t : Fin cfg0.N, (cfg0.win 6).flush t = true ∧ i ∈ ((cfg0.win 6).blk t).view.set := by
  obtain ⟨t, j, h, e⟩ := point i
  exact ⟨t, (flush0_6 t).mpr h, by rw [e, ← emb6]; exact ((cfg0.win 6).blk t).view.emb_mem_set j⟩
theorem covered7 (i : S4096x2048.Idx) : ∃ t : Fin cfg0.N, (cfg0.win 7).flush t = true ∧ i ∈ ((cfg0.win 7).blk t).view.set := by
  obtain ⟨t, j, h, e⟩ := point i
  exact ⟨t, (flush0_7 t).mpr h, by rw [e, ← emb7]; exact ((cfg0.win 7).blk t).view.emb_mem_set j⟩
def lastPoint : Fin cfg0.N := ⟨31, lt_of_lt_of_eq (by omega : 31 < 32) N_0.symm⟩
theorem covered8 (i : S1x2048.Idx) : ∃ t : Fin cfg0.N, (cfg0.win 8).flush t = true ∧ i ∈ ((cfg0.win 8).blk t).view.set :=
  ⟨lastPoint, (flush0_8 _).mpr rfl, by have h := ((cfg0.win 8).blk lastPoint).view.emb_mem_set i; rwa [emb8] at h⟩
theorem covered9 (i : S1x2048.Idx) : ∃ t : Fin cfg0.N, (cfg0.win 9).flush t = true ∧ i ∈ ((cfg0.win 9).blk t).view.set :=
  ⟨lastPoint, (flush0_9 _).mpr rfl, by have h := ((cfg0.win 9).blk lastPoint).view.emb_mem_set i; rwa [emb9] at h⟩

/-! ## What a point leaves in the accumulator, and what the last point of a block writes -/

section
variable {F : FTy → Type} [FloatOps F] (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x1 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S512x2048 .f32) (harg13 : arg13.IsWhole)
  (x0 : Vec F S512x2048 .bf16) (x1 : Vec F S2048x2048 .bf16) (x2 x3 : Vec F S512x2048 .f32) (x4 : Vec F S512x1 .f32) (x5 xo8 xo9 : Vec F S1x2048 .f32)
  (xs : Vec F S512x2048 .f32)
theorem sout_A (h0 h1 h2) : sout0_A_0 c i arg3 harg3 arg4 harg4 arg5 harg5 arg6 harg6 arg7 harg7 arg8 harg8 arg9 harg9 arg10 harg10 arg11 harg11 arg12 harg12 arg13 harg13 h0 h1 h2 x0 x1 x2 x3 x4 x5 = k0_pay1 x0 x1 := by
  unfold sout0_A_0
  rw [View.read_writes_junk_eq_canon]
  unfold kernelRun0_A
  dsimp only
  refine (View.canon_unit_zero zero_offsets _ _).trans ?_
  simp only [load_eq, ld_whole]
theorem sout_B (h0 h1 h2) : sout0_B_0 c i arg3 harg3 arg4 harg4 arg5 harg5 arg6 harg6 arg7 harg7 arg8 harg8 arg9 harg9 arg10 harg10 arg11 harg11 arg12 harg12 arg13 harg13 h0 h1 h2 x0 x1 x2 x3 x4 x5 xs = k0_pay2 xs x0 x1 := by
  unfold sout0_B_0
  rw [View.read_writes_junk_eq_canon]
  unfold kernelRun0_B
  dsimp only
  refine (View.canon_unit_zero zero_offsets _ _).trans ?_
  simp only [load_eq, ld_whole]
theorem out_C6 (h0 h1 h2 h3 h4 h5 h6) : out0_C_6 c i arg3 harg3 arg4 harg4 arg5 harg5 arg6 harg6 arg7 harg7 arg8 harg8 arg9 harg9 arg10 harg10 arg11 harg11 arg12 harg12 arg13 harg13 h0 h1 h2 h3 h4 h5 h6 x0 x1 x2 x3 x4 x5 xs = k0_pay4 (k0_pay12 xs x0 x1 x2 x3 x4 x5) := by
  unfold out0_C_6
  rw [View.read_writes_junk_eq_canon]
  unfold kernelRun0_C
  dsimp only
  refine (View.canon_unit_zero zero_offsets _ _).trans ?_
  unfold kernelRun0_C.sl.r
  simp only [load_eq, ld_whole]
theorem out_C7 (h0 h1 h2 h3 h4 h5 h6) : out0_C_7 c i arg3 harg3 arg4 harg4 arg5 harg5 arg6 harg6 arg7 harg7 arg8 harg8 arg9 harg9 arg10 harg10 arg11 harg11 arg12 harg12 arg13 harg13 h0 h1 h2 h3 h4 h5 h6 x0 x1 x2 x3 x4 x5 xs = k0_pay5 (k0_pay12 xs x0 x1 x2 x3 x4 x5) := by
  unfold out0_C_7
  rw [View.read_writes_junk_eq_canon]
  unfold kernelRun0_C
  dsimp only
  refine (View.canon_unit_zero zero_offsets _ _).trans ?_
  unfold kernelRun0_C.sl.r
  simp only [load_eq, ld_whole]
theorem out_C8 (h0 h1 h2 h3 h4 h5 h6) : out0_C_8 c i arg3 harg3 arg4 harg4 arg5 harg5 arg6 harg6 arg7 harg7 arg8 harg8 arg9 harg9 arg10 harg10 arg11 harg11 arg12 harg12 arg13 harg13 h0 h1 h2 h3 h4 h5 h6 x0 x1 x2 x3 x4 x5 xs = k0_pay6 (k0_pay13 xs x0 x1 x2 x3) := by
  unfold out0_C_8
  rw [View.read_writes_junk_eq_canon]
  unfold kernelRun0_C
  dsimp only
  refine (View.canon_unit_zero zero_offsets _ _).trans ?_
  unfold kernelRun0_C.sl.r_1
  simp only [load_eq, ld_whole]
theorem out_C9 (h0 h1 h2 h3 h4 h5 h6) : out0_C_9 c i arg3 harg3 arg4 harg4 arg5 harg5 arg6 harg6 arg7 harg7 arg8 harg8 arg9 harg9 arg10 harg10 arg11 harg11 arg12 harg12 arg13 harg13 h0 h1 h2 h3 h4 h5 h6 x0 x1 x2 x3 x4 x5 xs = k0_pay8 (k0_pay14 xs x0 x1 x2) := by
  unfold out0_C_9
  rw [View.read_writes_junk_eq_canon]
  unfold kernelRun0_C
  dsimp only
  refine (View.canon_unit_zero zero_offsets _ _).trans ?_
  unfold kernelRun0_C.sl.r_2
  simp only [load_eq, ld_whole]
theorem out_D6 (h0 h1 h2 h3 h4 h5 h6) : out0_D_6 c i arg3 harg3 arg4 harg4 arg5 harg5 arg6 harg6 arg7 harg7 arg8 harg8 arg9 harg9 arg10 harg10 arg11 harg11 arg12 harg12 arg13 harg13 h0 h1 h2 h3 h4 h5 h6 x0 x1 x2 x3 x4 x5 xo8 xo9 xs = k0_pay4 (k0_pay12 xs x0 x1 x2 x3 x4 x5) := by
  unfold out0_D_6
  rw [View.read_writes_junk_eq_canon]
  unfold kernelRun0_D
  dsimp only
  refine (View.canon_unit_zero zero_offsets _ _).trans ?_
  unfold kernelRun0_D.sl.r
  simp only [load_eq, ld_whole]
theorem out_D7 (h0 h1 h2 h3 h4 h5 h6) : out0_D_7 c i arg3 harg3 arg4 harg4 arg5 harg5 arg6 harg6 arg7 harg7 arg8 harg8 arg9 harg9 arg10 harg10 arg11 harg11 arg12 harg12 arg13 harg13 h0 h1 h2 h3 h4 h5 h6 x0 x1 x2 x3 x4 x5 xo8 xo9 xs = k0_pay5 (k0_pay12 xs x0 x1 x2 x3 x4 x5) := by
  unfold out0_D_7
  rw [View.read_writes_junk_eq_canon]
  unfold kernelRun0_D
  dsimp only
  refine (View.canon_unit_zero zero_offsets _ _).trans ?_
  unfold kernelRun0_D.sl.r
  simp only [load_eq, ld_whole]
theorem out_D8 (h0 h1 h2 h3 h4 h5 h6) : out0_D_8 c i arg3 harg3 arg4 harg4 arg5 harg5 arg6 harg6 arg7 harg7 arg8 harg8 arg9 harg9 arg10 harg10 arg11 harg11 arg12 harg12 arg13 harg13 h0 h1 h2 h3 h4 h5 h6 x0 x1 x2 x3 x4 x5 xo8 xo9 xs = k0_pay7 (k0_pay13 xs x0 x1 x2 x3) xo8 := by
  unfold out0_D_8
  rw [View.read_writes_junk_eq_canon]
  unfold kernelRun0_D
  dsimp only
  refine (View.canon_unit_zero zero_offsets _ _).trans ?_
  unfold kernelRun0_D.sl.r_1
  simp only [load_eq, ld_whole]
theorem out_D9 (h0 h1 h2 h3 h4 h5 h6) : out0_D_9 c i arg3 harg3 arg4 harg4 arg5 harg5 arg6 harg6 arg7 harg7 arg8 harg8 arg9 harg9 arg10 harg10 arg11 harg11 arg12 harg12 arg13 harg13 h0 h1 h2 h3 h4 h5 h6 x0 x1 x2 x3 x4 x5 xo8 xo9 xs = k0_pay9 (k0_pay14 xs x0 x1 x2) xo9 := by
  unfold out0_D_9
  rw [View.read_writes_junk_eq_canon]
  unfold kernelRun0_D
  dsimp only
  refine (View.canon_unit_zero zero_offsets _ _).trans ?_
  unfold kernelRun0_D.sl.r_2
  simp only [load_eq, ld_whole]
end

/-- What the accumulator holds after a point. -/
def acc : Vec Ideal S512x2048 .f32 := (outsAt0 m c t.val t.isLt).2.2.2.2
theorem acc_A (h : t.val % 4 = 0) : acc m c t = k0_pay1 (iblk m c 0 t) (iblk m c 1 t) := by
  unfold acc; rw [outsAt0_A m c t h (by omega) (by omega)]; dsimp only; rw [sout_A]
theorem acc_B (h : 1 ≤ t.val % 4 ∧ t.val % 4 ≤ 2) : acc m c t = k0_pay2 (acc m c (prev t)) (iblk m c 0 t) (iblk m c 1 t) := by
  unfold acc; rw [outsAt0_B m c t (by omega) h (by omega)]; dsimp only; rw [sout_B]; rfl
theorem written6_C (h : t.val % 4 = 3) (h' : t.val < 4) : (outsAt0 m c t.val t.isLt).1 = k0_pay4 (k0_pay12 (acc m c (prev t)) (iblk m c 0 t) (iblk m c 1 t) (iblk m c 2 t) (iblk m c 3 t) (iblk m c 4 t) (iblk m c 5 t)) := by
  unfold acc; rw [outsAt0_C m c t (by omega) (by omega) (by omega) (by omega) (by omega) (by omega) (by omega)]; dsimp only; rw [out_C6]; rfl
theorem written6_D (h : t.val % 4 = 3) (h' : 4 ≤ t.val) : (outsAt0 m c t.val t.isLt).1 = k0_pay4 (k0_pay12 (acc m c (prev t)) (iblk m c 0 t) (iblk m c 1 t) (iblk m c 2 t) (iblk m c 3 t) (iblk m c 4 t) (iblk m c 5 t)) := by
  unfold acc; rw [outsAt0_D m c t (by omega) (by omega) (by omega) (by omega) (by omega) (by omega) (by omega)]; dsimp only; rw [out_D6]; rfl
theorem written6 (h : t.val % 4 = 3) : (outsAt0 m c t.val t.isLt).1 = k0_pay4 (k0_pay12 (acc m c (prev t)) (iblk m c 0 t) (iblk m c 1 t) (iblk m c 2 t) (iblk m c 3 t) (iblk m c 4 t) (iblk m c 5 t)) := by
  rcases Nat.lt_or_ge t.val 4 with h' | h'
  · exact written6_C m c t h h'
  · exact written6_D m c t h h'
theorem written7_C (h : t.val % 4 = 3) (h' : t.val < 4) : (outsAt0 m c t.val t.isLt).2.1 = k0_pay5 (k0_pay12 (acc m c (prev t)) (iblk m c 0 t) (iblk m c 1 t) (iblk m c 2 t) (iblk m c 3 t) (iblk m c 4 t) (iblk m c 5 t)) := by
  unfold acc; rw [outsAt0_C m c t (by omega) (by omega) (by omega) (by omega) (by omega) (by omega) (by omega)]; dsimp only; rw [out_C7]; rfl
theorem written7_D (h : t.val % 4 = 3) (h' : 4 ≤ t.val) : (outsAt0 m c t.val t.isLt).2.1 = k0_pay5 (k0_pay12 (acc m c (prev t)) (iblk m c 0 t) (iblk m c 1 t) (iblk m c 2 t) (iblk m c 3 t) (iblk m c 4 t) (iblk m c 5 t)) := by
  unfold acc; rw [outsAt0_D m c t (by omega) (by omega) (by omega) (by omega) (by omega) (by omega) (by omega)]; dsimp only; rw [out_D7]; rfl
theorem written7 (h : t.val % 4 = 3) : (outsAt0 m c t.val t.isLt).2.1 = k0_pay5 (k0_pay12 (acc m c (prev t)) (iblk m c 0 t) (iblk m c 1 t) (iblk m c 2 t) (iblk m c 3 t) (iblk m c 4 t) (iblk m c 5 t)) := by
  rcases Nat.lt_or_ge t.val 4 with h' | h'
  · exact written7_C m c t h h'
  · exact written7_D m c t h h'
/-- What output 8 holds after a point. -/
def gainAt : Vec Ideal S1x2048 .f32 := (outsAt0 m c t.val t.isLt).2.2.1
theorem gain_keep (h : t.val % 4 ≠ 3) (h0 : t.val ≠ 0) : gainAt m c t = gainAt m c (prev t) := by
  unfold gainAt
  rcases Nat.eq_zero_or_pos (t.val % 4) with h' | h'
  · rw [outsAt0_A m c t h' (by omega) (by omega)]; rfl
  · rw [outsAt0_B m c t (by omega) (by omega) (by omega)]; rfl
theorem gain_first (h : t.val % 4 = 3) (h' : t.val < 4) : gainAt m c t = k0_pay6 (k0_pay13 (acc m c (prev t)) (iblk m c 0 t) (iblk m c 1 t) (iblk m c 2 t) (iblk m c 3 t)) := by
  unfold gainAt acc; rw [outsAt0_C m c t (by omega) (by omega) (by omega) (by omega) (by omega) (by omega) (by omega)]; dsimp only; rw [out_C8]; rfl
theorem gain_next (h : t.val % 4 = 3) (h' : 4 ≤ t.val) : gainAt m c t = k0_pay7 (k0_pay13 (acc m c (prev t)) (iblk m c 0 t) (iblk m c 1 t) (iblk m c 2 t) (iblk m c 3 t)) (gainAt m c (prev t)) := by
  unfold gainAt acc; rw [outsAt0_D m c t (by omega) (by omega) (by omega) (by omega) (by omega) (by omega) (by omega)]; dsimp only; rw [out_D8]; rfl
/-- What output 9 holds after a point. -/
def shiftAt : Vec Ideal S1x2048 .f32 := (outsAt0 m c t.val t.isLt).2.2.2.1
theorem shift_keep (h : t.val % 4 ≠ 3) (h0 : t.val ≠ 0) : shiftAt m c t = shiftAt m c (prev t) := by
  unfold shiftAt
  rcases Nat.eq_zero_or_pos (t.val % 4) with h' | h'
  · rw [outsAt0_A m c t h' (by omega) (by omega)]; rfl
  · rw [outsAt0_B m c t (by omega) (by omega) (by omega)]; rfl
theorem shift_first (h : t.val % 4 = 3) (h' : t.val < 4) : shiftAt m c t = k0_pay8 (k0_pay14 (acc m c (prev t)) (iblk m c 0 t) (iblk m c 1 t) (iblk m c 2 t)) := by
  unfold shiftAt acc; rw [outsAt0_C m c t (by omega) (by omega) (by omega) (by omega) (by omega) (by omega) (by omega)]; dsimp only; rw [out_C9]; rfl
theorem shift_next (h : t.val % 4 = 3) (h' : 4 ≤ t.val) : shiftAt m c t = k0_pay9 (k0_pay14 (acc m c (prev t)) (iblk m c 0 t) (iblk m c 1 t) (iblk m c 2 t)) (shiftAt m c (prev t)) := by
  unfold shiftAt acc; rw [outsAt0_D m c t (by omega) (by omega) (by omega) (by omega) (by omega) (by omega) (by omega)]; dsimp only; rw [out_D9]; rfl

/-! ## The operations on real arrays -/

section
variable (S D X U : Fin 512 → Fin 2048 → ℝ) (A : Fin 512 → Fin 2048 → ℝ) (W : Fin 2048 → Fin 2048 → ℝ) (s : Fin 512 → ℝ) (g : Fin 2048 → ℝ)

theorem pay1_real : k0_pay1 (F := Ideal) (lift2 A) (lift2 W) = lift2 fun r l => ∑ k, A r k * W k l := by
  funext i
  pointwise [k0_pay1]
  simp only [lift2_apply, ← EReal.coe_mul, coe_sum]
  rfl
theorem pay2_real : k0_pay2 (F := Ideal) (lift2 S) (lift2 A) (lift2 W) = lift2 fun r l => S r l + ∑ k, A r k * W k l := by
  funext i
  pointwise [k0_pay2]
  simp only [lift2_apply, ← EReal.coe_mul, coe_sum, ← EReal.coe_add]
  rfl
theorem pay11_real : k0_pay11 (F := Ideal) (lift2 S) (lift2 A) (lift2 W) (lift2 D)
    = lift2 fun r l => alpha * D r l + (S r l + ∑ k, A r k * W k l) := by
  funext i
  pointwise [k0_pay11]
  simp only [lift2_apply, alpha_bits, ← EReal.coe_mul, coe_sum, ← EReal.coe_add]
  rfl
end

section
variable (o : FVec Ideal S512x2048 .f32) (x0 : FVec Ideal S512x2048 .bf16) (x1 : FVec Ideal S2048x2048 .bf16) (x2 : FVec Ideal S512x2048 .f32)
  {x3 : FVec Ideal S512x2048 .f32} {x4 : FVec Ideal S512x1 .f32} {x5 : FVec Ideal S1x2048 .f32}
  (X U : Fin 512 → Fin 2048 → ℝ) (s : Fin 512 → ℝ) (g : Fin 2048 → ℝ) (hu : k0_pay11 (F := Ideal) o x0 x1 x2 = lift2 U)
include hu
theorem norm_real (h3 : x3 = lift2 X) (h4 : x4 = liftCol s) (h5 : x5 = liftRow g) (i : S512x2048.Idx) :
    k0_pay4 (F := Ideal) (k0_pay12 o x0 x1 x2 x3 x4 x5) i = ((normBack (s (i 0)) (X (i 0)) (fun j => U (i 0) j * g j) (i 1) : ℝ) : EReal) := by
  unfold k0_pay12
  rw [hu, h3, h4, h5]
  pointwise [k0_pay4, k0_pay10]
  simp only [lift2_apply, liftCol_apply, liftRow_apply, width_bits, ← EReal.coe_mul, coe_sum, coe_div width_ne, ← EReal.coe_sub]
  rfl
theorem norm_cast_real (h3 : x3 = lift2 X) (h4 : x4 = liftCol s) (h5 : x5 = liftRow g) (i : S512x2048.Idx) :
    k0_pay5 (F := Ideal) (k0_pay12 o x0 x1 x2 x3 x4 x5) i = ((normBack (s (i 0)) (X (i 0)) (fun j => U (i 0) j * g j) (i 1) : ℝ) : EReal) := by
  unfold k0_pay12
  rw [hu, h3, h4, h5]
  pointwise [k0_pay5, k0_pay10]
  simp only [lift2_apply, liftCol_apply, liftRow_apply, width_bits, ← EReal.coe_mul, coe_sum, coe_div width_ne, ← EReal.coe_sub]
  rfl
theorem gain_first_real (h3 : x3 = lift2 X) (i : S1x2048.Idx) :
    k0_pay6 (F := Ideal) (k0_pay13 o x0 x1 x2 x3) i = ((∑ r, X r (i 1) * U r (i 1) : ℝ) : EReal) := by
  unfold k0_pay13
  rw [hu, h3]
  pointwise [k0_pay6, k0_pay10]
  simp only [lift2_apply, ← EReal.coe_mul, coe_sum, mul_comm]
  rfl
theorem gain_real (h3 : x3 = lift2 X) (w : FVec Ideal S1x2048 .f32) (i : S1x2048.Idx) :
    k0_pay7 (F := Ideal) (k0_pay13 o x0 x1 x2 x3) w i = w i + ((∑ r, X r (i 1) * U r (i 1) : ℝ) : EReal) := by
  unfold k0_pay13
  rw [hu, h3]
  pointwise [k0_pay7, k0_pay10]
  simp only [lift2_apply, ← EReal.coe_mul, coe_sum, mul_comm]
  rfl
theorem shift_first_real (i : S1x2048.Idx) : k0_pay8 (F := Ideal) (k0_pay14 o x0 x1 x2) i = ((∑ r, U r (i 1) : ℝ) : EReal) := by
  unfold k0_pay14
  rw [hu]
  pointwise [k0_pay8, k0_pay3]
  simp only [lift2_apply, coe_sum]
  rfl
theorem shift_real (w : FVec Ideal S1x2048 .f32) (i : S1x2048.Idx) :
    k0_pay9 (F := Ideal) (k0_pay14 o x0 x1 x2) w i = w i + ((∑ r, U r (i 1) : ℝ) : EReal) := by
  unfold k0_pay14
  rw [hu]
  pointwise [k0_pay9, k0_pay3]
  simp only [lift2_apply, coe_sum]
  rfl
end

/-! ## Real arguments -/

section
variable (z : Fin 4096 → Fin 2048 → ℝ) (g b : Fin 2048 → ℝ) (up : Fin 2048 → Fin 8192 → ℝ) (down : Fin 8192 → Fin 2048 → ℝ)
  (dz : Fin 4096 → Fin 2048 → ℝ)

/-- The arguments are these real arrays. -/
structure Args : Prop where
  a0 : m ((c : Thread nD τ).loc main_arg0) = lift2 z
  a1 : m ((c : Thread nD τ).loc main_arg1) = liftRow g
  a2 : m ((c : Thread nD τ).loc main_arg2) = liftRow b
  a3 : m ((c : Thread nD τ).loc main_arg3) = lift2 up
  a4 : m ((c : Thread nD τ).loc main_arg4) = lift2 down
  a5 : m ((c : Thread nD τ).loc main_arg5) = lift2 dz

/-- One term of an entry of the product. -/
def term (i : Fin 4096) (l : Fin 2048) (q : Fin 8192) : ℝ := Dh z g b up down dz i q * up l q

variable {m c z g b up down dz} (H : Args m c z g b up down dz) (t : Fin cfg0.N)
include H

theorem blk0 : iblk m c 0 t = lift2 fun r k => Dh z g b up down dz (row t r) (inner t k) := by
  funext j; show V m c main_v30 (((cfg0.win 0).blk t).view.emb j) = _
  rw [emb0, V_v30, H.a0, H.a1, H.a2, H.a3, H.a4, H.a5]; exact hHidden_real z g b up down dz (ix2 (row t (j 0)) (inner t (j 1)))
theorem blk1 : iblk m c 1 t = lift2 fun k l => up l (inner t k) := by
  funext j; show V m c main_v32 (((cfg0.win 1).blk t).view.emb j) = _
  rw [emb1, V_v32, H.a3]; pointwise [hUpT]; rfl
theorem blk2 : iblk m c 2 t = lift2 fun r => dz (row t r) := by
  funext j; show V m c main_arg5 (((cfg0.win 2).blk t).view.emb j) = _; rw [emb2, V_main_arg5, H.a5]; rfl
theorem blk3 : iblk m c 3 t = lift2 fun r => xhat (z (row t r)) := by
  funext j; show V m c main_v17 (((cfg0.win 3).blk t).view.emb j) = _; rw [emb3, V_v17, H.a0]; exact Ker.hXhat_real z (ix2 (row t (j 0)) (j 1))
theorem blk4 : iblk m c 4 t = liftCol fun r => rstd (z (row t r)) := by
  funext j; show V m c main_v13 (((cfg0.win 4).blk t).view.emb j) = _; rw [emb4, V_v13, H.a0]; exact Ker.hRstd_real z (ix2 (row t (j 0)) (j 1))
theorem blk5 : iblk m c 5 t = liftRow g := by
  funext j; show V m c main_arg1 (((cfg0.win 5).blk t).view.emb j) = _; rw [emb5, V_main_arg1, H.a1]

/-- After point `k` of a block the accumulator holds the first `2048 (k + 1)` terms of every sum. -/
theorem acc_real : ∀ (k : ℕ) (t : Fin cfg0.N) (_ : t.val % 4 = k) (_ : k < 3),
    acc m c t = lift2 fun r l => part 2048 (term z g b up down dz (row t r) l) (k + 1)
  | 0, t, h, _ => by
    rw [acc_A m c t h, blk0 H, blk1 H]
    refine (pay1_real _ _).trans (congrArg lift2 (funext fun r => funext fun l => ?_))
    exact part_one 2048 (term z g b up down dz (row t r) l) (inner t) fun r => by show 2048 * (t.val % 4) + r.val = r.val; omega
  | k + 1, t, h, hk => by
    have e : row (prev t) = row t := funext fun r => Fin.ext (show 512 * ((t.val - 1) / 4) + r.val = 512 * (t.val / 4) + r.val by omega)
    rw [acc_B m c t (by omega), acc_real k (prev t) (show (t.val - 1) % 4 = k by omega) (by omega), blk0 H, blk1 H, e]
    refine (pay2_real _ _ _).trans (congrArg lift2 (funext fun r => funext fun l => ?_))
    exact part_succ 2048 (term z g b up down dz (row t r) l) (k + 1) (inner t) fun r => by
      show 2048 * (t.val % 4) + r.val = 2048 * (k + 1) + r.val; omega
/-- At the last point of a block the call has the whole gradient of the normalised rows. -/
theorem rows_real (h : t.val % 4 = 3) : k0_pay11 (F := Ideal) (acc m c (prev t)) (iblk m c 0 t) (iblk m c 1 t) (iblk m c 2 t)
    = lift2 fun r => Dr z g b up down dz (row t r) := by
  have e : row (prev t) = row t := funext fun r => Fin.ext (show 512 * ((t.val - 1) / 4) + r.val = 512 * (t.val / 4) + r.val by omega)
  rw [acc_real H 2 (prev t) (show (t.val - 1) % 4 = 2 by omega) (by omega), blk0 H, blk1 H, blk2 H, e]
  refine (pay11_real _ _ _ _).trans (congrArg lift2 (funext fun r => funext fun l => congrArg (alpha * dz (row t r) l + ·) ?_))
  exact (part_succ 2048 (term z g b up down dz (row t r) l) 3 (inner t) fun r => by
    show 2048 * (t.val % 4) + r.val = 2048 * 3 + r.val; omega).trans (part_all 2048 _ 4 rfl)

/-! ## The arrays after the run -/

theorem final6 : (dats m 0 c).arrAt 6 cfg0.N = fun i => ((normBack (rstd (z (i 0))) (xhat (z (i 0))) (fun k => Dr z g b up down dz (i 0) k * g k) (i 1) : ℝ) : EReal) :=
  (dats m 0 c).arrAt_eq_of_cover 6 _ (fun t ht => by
    have h := (flush0_6 t).mp ht
    rw [flushed6, written6 m c t h]
    funext j
    refine (norm_real _ _ _ _ _ _ _ _ (rows_real H t h) (blk3 H t) (blk4 H t) (blk5 H t) j).trans ?_
    show _ = (fun i : S4096x2048.Idx => ((normBack (rstd (z (i 0))) (xhat (z (i 0))) (fun k => Dr z g b up down dz (i 0) k * g k) (i 1) : ℝ) : EReal)) (((cfg0.win 6).blk t).view.emb j)
    rw [emb6]
    rfl) covered6
theorem final7 : (dats m 0 c).arrAt 7 cfg0.N = fun i => ((normBack (rstd (z (i 0))) (xhat (z (i 0))) (fun k => Dr z g b up down dz (i 0) k * g k) (i 1) : ℝ) : EReal) :=
  (dats m 0 c).arrAt_eq_of_cover 7 _ (fun t ht => by
    have h := (flush0_7 t).mp ht
    rw [flushed7, written7 m c t h]
    funext j
    refine (norm_cast_real _ _ _ _ _ _ _ _ (rows_real H t h) (blk3 H t) (blk4 H t) (blk5 H t) j).trans ?_
    show _ = (fun i : S4096x2048.Idx => ((normBack (rstd (z (i 0))) (xhat (z (i 0))) (fun k => Dr z g b up down dz (i 0) k * g k) (i 1) : ℝ) : EReal)) (((cfg0.win 7).blk t).view.emb j)
    rw [emb7]
    rfl) covered7
theorem gain_after : ∀ (k : ℕ) (t : Fin cfg0.N) (ht : t.val = 4 * k + 3) (i : S1x2048.Idx),
    gainAt m c t i = ((part 512 (fun r => xhat (z r) (i 1) * Dr z g b up down dz r (i 1)) (k + 1) : ℝ) : EReal)
  | 0, t, ht, i => by
    rw [gain_first m c t (by omega) (by omega)]
    refine (gain_first_real _ _ _ _ _ _ (rows_real H t (by omega)) (blk3 H t) i).trans (congrArg _ ?_)
    exact part_one 512 (fun r => xhat (z r) (i 1) * Dr z g b up down dz r (i 1)) (row t) fun r => by show 512 * (t.val / 4) + r.val = r.val; omega
  | k + 1, t, ht, i => by
    have l := lt32 t
    have ih := gain_after k (prev (prev (prev (prev t)))) (show t.val - 1 - 1 - 1 - 1 = 4 * k + 3 by omega) i
    have e : gainAt m c (prev t) = gainAt m c (prev (prev (prev (prev t)))) :=
      ((gain_keep m c (prev t) (show (t.val - 1) % 4 ≠ 3 by omega) (show t.val - 1 ≠ 0 by omega)).trans
        (gain_keep m c (prev (prev t)) (show (t.val - 1 - 1) % 4 ≠ 3 by omega) (show t.val - 1 - 1 ≠ 0 by omega))).trans
        (gain_keep m c (prev (prev (prev t))) (show (t.val - 1 - 1 - 1) % 4 ≠ 3 by omega) (show t.val - 1 - 1 - 1 ≠ 0 by omega))
    rw [gain_next m c t (by omega) (by omega), e]
    refine (gain_real _ _ _ _ _ _ (rows_real H t (by omega)) (blk3 H t) _ i).trans ?_
    rw [ih, ← EReal.coe_add]
    exact congrArg _ (part_succ 512 (fun r => xhat (z r) (i 1) * Dr z g b up down dz r (i 1)) (k + 1) (row t) fun r => by
      show 512 * (t.val / 4) + r.val = 512 * (k + 1) + r.val; omega)
theorem final8 : (dats m 0 c).arrAt 8 cfg0.N = fun i => ((∑ r, xhat (z r) (i 1) * Dr z g b up down dz r (i 1) : ℝ) : EReal) :=
  (dats m 0 c).arrAt_eq_of_cover 8 _ (fun t ht => by
    have h := (flush0_8 t).mp ht
    have l := lt32 t
    rw [flushed8]
    funext j
    show gainAt m c t j = (fun i : S1x2048.Idx => ((∑ r, xhat (z r) (i 1) * Dr z g b up down dz r (i 1) : ℝ) : EReal)) (((cfg0.win 8).blk t).view.emb j)
    rw [emb8, gain_after H 7 t (by omega)]
    exact congrArg _ (part_all 512 _ 8 rfl)) covered8
theorem shift_after : ∀ (k : ℕ) (t : Fin cfg0.N) (ht : t.val = 4 * k + 3) (i : S1x2048.Idx),
    shiftAt m c t i = ((part 512 (fun r => Dr z g b up down dz r (i 1)) (k + 1) : ℝ) : EReal)
  | 0, t, ht, i => by
    rw [shift_first m c t (by omega) (by omega)]
    refine (shift_first_real _ _ _ _ _ (rows_real H t (by omega)) i).trans (congrArg _ ?_)
    exact part_one 512 (fun r => Dr z g b up down dz r (i 1)) (row t) fun r => by show 512 * (t.val / 4) + r.val = r.val; omega
  | k + 1, t, ht, i => by
    have l := lt32 t
    have ih := shift_after k (prev (prev (prev (prev t)))) (show t.val - 1 - 1 - 1 - 1 = 4 * k + 3 by omega) i
    have e : shiftAt m c (prev t) = shiftAt m c (prev (prev (prev (prev t)))) :=
      ((shift_keep m c (prev t) (show (t.val - 1) % 4 ≠ 3 by omega) (show t.val - 1 ≠ 0 by omega)).trans
        (shift_keep m c (prev (prev t)) (show (t.val - 1 - 1) % 4 ≠ 3 by omega) (show t.val - 1 - 1 ≠ 0 by omega))).trans
        (shift_keep m c (prev (prev (prev t))) (show (t.val - 1 - 1 - 1) % 4 ≠ 3 by omega) (show t.val - 1 - 1 - 1 ≠ 0 by omega))
    rw [shift_next m c t (by omega) (by omega), e]
    refine (shift_real _ _ _ _ _ (rows_real H t (by omega)) _ i).trans ?_
    rw [ih, ← EReal.coe_add]
    exact congrArg _ (part_succ 512 (fun r => Dr z g b up down dz r (i 1)) (k + 1) (row t) fun r => by
      show 512 * (t.val / 4) + r.val = 512 * (k + 1) + r.val; omega)
theorem final9 : (dats m 0 c).arrAt 9 cfg0.N = fun i => ((∑ r, Dr z g b up down dz r (i 1) : ℝ) : EReal) :=
  (dats m 0 c).arrAt_eq_of_cover 9 _ (fun t ht => by
    have h := (flush0_9 t).mp ht
    have l := lt32 t
    rw [flushed9]
    funext j
    show shiftAt m c t j = (fun i : S1x2048.Idx => ((∑ r, Dr z g b up down dz r (i 1) : ℝ) : EReal)) (((cfg0.win 9).blk t).view.emb j)
    rw [emb9, shift_after H 7 t (by omega)]
    exact congrArg _ (part_all 512 _ 8 rfl)) covered9
end

/-! ## Both runs -/

theorem real_args (x0 : FVec Ideal Cert.Pre_finite3.S4096x2048 .f32) (x1 x2 : FVec Ideal Cert.Pre_finite3.S1x2048 .f32)
    (x3 : FVec Ideal Cert.Pre_finite3.S2048x8192 .f32) (x4 : FVec Ideal Cert.Pre_finite3.S8192x2048 .f32)
    (x5 : FVec Ideal Cert.Pre_finite3.S4096x2048 .f32)
    (h : letI := Cert.Pre_finite3.Gen.facts; Cert.Pre_finite3.fn (F := Ideal) x0 x1 x2 x3 x4 x5 = fun _ => 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) ∧ (∀ i, ∃ r : ℝ, x5 i = r) := by
  have e := congrFun h (fun a => a.elim0)
  dsimp only [Cert.Pre_finite3.fn, Cert.Pre_finite3.fn_part1, andi] at e
  simp only [IntOp.andi_eq_one] at e
  obtain ⟨⟨⟨⟨⟨e0, e1⟩, e2⟩, e3⟩, e4⟩, e5⟩ := e
  exact ⟨fun i => real_at x0 _ i (Host.reduce_andi_all _ _ _ _ _ e0 i), fun i => real_at x1 _ i (Host.reduce_andi_all _ _ _ _ _ e1 i),
    fun i => real_at x2 _ i (Host.reduce_andi_all _ _ _ _ _ e2 i), fun i => real_at x3 _ i (Host.reduce_andi_all _ _ _ _ _ e3 i),
    fun i => real_at x4 _ i (Host.reduce_andi_all _ _ _ _ _ e4 i), fun i => real_at x5 _ i (Host.reduce_andi_all _ _ _ _ _ e5 i)⟩

theorem exists_args (h : letI := Cert.Pre_finite3.Gen.facts; Cert.Pre_Kernel3Ideal_finite3 m) :
    ∃ z g b up down dz, Args m c z g b up down dz := by
  obtain ⟨h0, h1, h2, h3, h4, h5⟩ := real_args _ _ _ _ _ _ (h c)
  obtain ⟨z, hz⟩ := exists_lift2 _ h0
  obtain ⟨g, hg⟩ := exists_liftRow _ h1
  obtain ⟨b, hb⟩ := exists_liftRow _ h2
  obtain ⟨up, hup⟩ := exists_lift2 _ h3
  obtain ⟨down, hdown⟩ := exists_lift2 _ h4
  obtain ⟨dz, hdz⟩ := exists_lift2 _ h5
  exact ⟨z, g, b, up, down, dz, hz, hg, hb, hup, hdown, hdz⟩

section
variable {m c} {x0 : FVec Ideal Cert.Reference3Ideal.S4096x2048 .f32} {x1 x2 : FVec Ideal Cert.Reference3Ideal.S1x2048 .f32} {x3 : FVec Ideal Cert.Reference3Ideal.S2048x8192 .f32}
  {x4 : FVec Ideal Cert.Reference3Ideal.S8192x2048 .f32} {x5 : FVec Ideal Cert.Reference3Ideal.S4096x2048 .f32}
  {z : Fin 4096 → Fin 2048 → ℝ} {g b : Fin 2048 → ℝ} {up : Fin 2048 → Fin 8192 → ℝ} {down : Fin 8192 → Fin 2048 → ℝ}
  {dz : Fin 4096 → Fin 2048 → ℝ} (H : Args m c z g b up down dz)
  (l0 : x0 = m ((c : Thread nD τ).loc main_arg0)) (l1 : x1 = m ((c : Thread nD τ).loc main_arg1))
  (l2 : x2 = m ((c : Thread nD τ).loc main_arg2)) (l3 : x3 = m ((c : Thread nD τ).loc main_arg3))
  (l4 : x4 = m ((c : Thread nD τ).loc main_arg4)) (l5 : x5 = m ((c : Thread nD τ).loc main_arg5))
include H l0 l1 l2 l3 l4 l5

theorem agree6 : Cert.Reference3Ideal.Read.val_main_v85 (F := Ideal) x0 x1 x2 x3 x4 x5
    = (dats m 0 c).arrAt 6 cfg0.N := by
  rw [l0, l1, l2, l3, l4, l5, H.a0, H.a1, H.a2, H.a3, H.a4, H.a5, final6 H]
  exact funext (Ref.v85 z g b up down dz)
theorem agree7 : Cert.Reference3Ideal.Read.val_main_v88 (F := Ideal) x0 x1 x2 x3 x4 x5
    = (dats m 0 c).arrAt 7 cfg0.N := by
  rw [l0, l1, l2, l3, l4, l5, H.a0, H.a1, H.a2, H.a3, H.a4, H.a5, final7 H]
  exact funext (Ref.v88 z g b up down dz)
theorem agree8 : Cert.Reference3Ideal.Read.val_main_v87 (F := Ideal) x0 x1 x2 x3 x4 x5
    = (dats m 0 c).arrAt 8 cfg0.N := by
  rw [l0, l1, l2, l3, l4, l5, H.a0, H.a1, H.a2, H.a3, H.a4, H.a5, final8 H]
  exact funext (Ref.v87 z g b up down dz)
theorem agree9 : Cert.Reference3Ideal.Read.val_main_v86 (F := Ideal) x0 x1 x2 x3 x4 x5
    = (dats m 0 c).arrAt 9 cfg0.N := by
  rw [l0, l1, l2, l3, l4, l5, H.a0, H.a1, H.a2, H.a3, H.a4, H.a5, final9 H]
  exact funext (Ref.v86 z g b up down dz)
end

theorem algebraic : letI := Cert.Kernel3Ideal.Gen.facts; letI := Cert.Reference3Ideal.Gen.facts; letI := Cert.Pre_finite3.Gen.facts
    Cert.algebraic_Kernel3Ideal_Reference3Ideal_pre_finite3 := by
  intro m ρ m' ρ' hpre hargs
  refine ⟨fun c => (dats m 0 c).arrAt 6 cfg0.N, fun c => (dats m 0 c).arrAt 7 cfg0.N, fun c => (dats m 0 c).arrAt 8 cfg0.N,
    fun c => (dats m 0 c).arrAt 9 cfg0.N, run_blocks m ρ, ?_⟩
  refine (θ_run _ _ _).mono (fun r h c => ?_) (Cert.Reference3Ideal.Value.run m' ρ')
  obtain ⟨e0, e1, e2, e3, e4, e5⟩ := hargs c
  obtain ⟨z, g, b, up, down, dz, H⟩ := exists_args m c hpre
  obtain ⟨r0, r1, r2, r3, rest⟩ := h c
  exact ⟨r0.trans ((Cert.Reference3Ideal.Read.val_main_v85_eq m' c).trans (agree6 H e0 e1 e2 e3 e4 e5)),
    r1.trans ((Cert.Reference3Ideal.Read.val_main_v88_eq m' c).trans (agree7 H e0 e1 e2 e3 e4 e5)),
    r2.trans ((Cert.Reference3Ideal.Read.val_main_v87_eq m' c).trans (agree8 H e0 e1 e2 e3 e4 e5)),
    r3.trans ((Cert.Reference3Ideal.Read.val_main_v86_eq m' c).trans (agree9 H e0 e1 e2 e3 e4 e5)), rest⟩

end Cert.Proof.UpDx

end
-- ==== Proof.DownDw.lean ====
module

public import proofs.«01_k».proof.Proof.Product
public import proofs.«01_k».proof.Proof.Gen.Kernel4Ideal.Value
public import proofs.«01_k».proof.Proof.Gen.Reference4Ideal.Read
public import proofs.«01_k».proof.Proof.Gen.Reference4Ideal.Run
public import proofs.«01_k».proof.Defs

/-! The gradient of the second matrix of the feed-forward layer, `relu(x @ w_up)²ᵀ @ dz`, built up over two grid points
    in place: the first writes the products of the first 2048 rows, the second adds those of the other 2048. -/

@[expose] public section

set_option maxRecDepth 16384
noncomputable section

namespace Cert.Proof.DownDw

open Idealize.ShloMosaic Idealize.ShloMosaic.TcCoe Idealize.SL.Sem Cert.Kernel4Ideal Cert.Kernel4Ideal.Gen Cert.Kernel4Ideal.Value
open Cert.Reference4Ideal.Read

variable (m : (ℓ : Loc nD τ sig) → Buf (Elt Ideal) ℓ) (c : Dev nD) (t : Fin cfg0.N)

abbrev x : FVec Ideal S4096x2048 .f32 := m ((c : Thread nD τ).loc main_arg0)
abbrev up : FVec Ideal S2048x8192 .f32 := m ((c : Thread nD τ).loc main_arg1)
abbrev dz : FVec Ideal S4096x2048 .f32 := m ((c : Thread nD τ).loc main_arg2)

theorem V_lhs (a : Fin 4096) (b : Fin 8192) : V m c main_v4 (ix2 a b) = val_main_v3 (F := Ideal) (x m c) (up m c) (ix2 a b) := by
  show StableHlo.after hostOps0 _ (Proc.devRef .tc main_v4) _ = _
  after_results
  rfl
theorem V_rhs (a : Fin 4096) (b : Fin 2048) : V m c main_v5 (ix2 a b) = dz m c (ix2 a b) := by
  show StableHlo.after hostOps0 _ (Proc.devRef .tc main_v5) _ = _
  after_results
  rfl

/-! ## The blocks -/

theorem lt32 : t.val < 32 := lt_of_lt_of_eq t.isLt N_0
def inner (r : Fin 2048) : Fin 4096 := ⟨2048 * (t.val % 2) + r.val, by omega⟩
def row (r : Fin 512) : Fin 8192 := ⟨512 * (t.val / 2) + r.val, by have := lt32 t; omega⟩

theorem idx : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ (win0_2.index t (0 : Fin 2) = t.val / 2 ∧ win0_2.index t (1 : Fin 2) = 0) :=
  (by decide +kernel : ∀ t : Fin grid0.N, _)
theorem emb0 (j : S2048x512.Idx) : ((cfg0.win 0).blk t).view.emb j = ix2 (inner t (j 0)) (row t (j 1)) := by
  obtain ⟨⟨e0, e1⟩, -⟩ := idx t
  funext a; apply Fin.ext
  match a with
  | ⟨0, _⟩ => show win0_0.index t (0 : Fin 2) * 2048 + 1 * (j 0).val = 2048 * (t.val % 2) + (j 0).val; omega
  | ⟨1, _⟩ => show win0_0.index t (1 : Fin 2) * 512 + 1 * (j 1).val = 512 * (t.val / 2) + (j 1).val; omega
theorem emb1 (j : S2048x2048.Idx) : ((cfg0.win 1).blk t).view.emb j = ix2 (inner t (j 0)) (j 1) := by
  obtain ⟨-, ⟨e0, e1⟩, -⟩ := idx t
  funext a; apply Fin.ext
  match a with
  | ⟨0, _⟩ => show win0_1.index t (0 : Fin 2) * 2048 + 1 * (j 0).val = 2048 * (t.val % 2) + (j 0).val; omega
  | ⟨1, _⟩ => show win0_1.index t (1 : Fin 2) * 2048 + 1 * (j 1).val = (j 1).val; omega
theorem emb2 (j : S512x2048.Idx) : ((cfg0.win 2).blk t).view.emb j = ix2 (row t (j 0)) (j 1) := by
  obtain ⟨-, -, e0, e1⟩ := idx t
  funext a; apply Fin.ext
  match a with
  | ⟨0, _⟩ => show win0_2.index t (0 : Fin 2) * 512 + 1 * (j 0).val = 512 * (t.val / 2) + (j 0).val; omega
  | ⟨1, _⟩ => show win0_2.index t (1 : Fin 2) * 2048 + 1 * (j 1).val = (j 1).val; omega

/-- One term of an entry of the result. -/
def term (i : Fin 8192) (l : Fin 2048) (q : Fin 4096) : EReal := val_main_v3 (F := Ideal) (x m c) (up m c) (ix2 q i) * dz m c (ix2 q l)

theorem blk0 (j : S2048x512.Idx) : iblk m c 0 t j = val_main_v3 (F := Ideal) (x m c) (up m c) (ix2 (inner t (j 0)) (row t (j 1))) := by
  show V m c main_v4 (((cfg0.win 0).blk t).view.emb j) = _; rw [emb0]; exact V_lhs m c _ _
theorem blk1 (j : S2048x2048.Idx) : iblk m c 1 t j = dz m c (ix2 (inner t (j 0)) (j 1)) := by
  show V m c main_v5 (((cfg0.win 1).blk t).view.emb j) = _; rw [emb1]; exact V_rhs m c _ _

theorem covered (i : S8192x2048.Idx) : ∃ t : Fin cfg0.N, (cfg0.win 2).flush t = true ∧ i ∈ ((cfg0.win 2).blk t).view.set := by
  have b0 : (i 0).val < 8192 := (i 0).isLt
  let t : Fin cfg0.N := ⟨2 * ((i 0).val / 512) + 1, lt_of_lt_of_eq (by omega) N_0.symm⟩
  let j : S512x2048.Idx := ix2 ⟨(i 0).val % 512, Nat.mod_lt _ (by decide)⟩ (i 1)
  have e : ((cfg0.win 2).blk t).view.emb j = i := by
    rw [emb2]
    funext a; apply Fin.ext
    match a with
    | ⟨0, _⟩ => show 512 * ((2 * ((i 0).val / 512) + 1) / 2) + (i 0).val % 512 = (i 0).val; omega
    | ⟨1, _⟩ => rfl
  exact ⟨t, (flush0_2 t).mpr (show (2 * ((i 0).val / 512) + 1) % 2 = 1 by omega), e ▸ ((cfg0.win 2).blk t).view.emb_mem_set j⟩

/-! ## What a point leaves: half of every sum, then the whole of it -/

section
variable {F : FTy → Type} [FloatOps F] (i : grid0.Coords) (arg3 : Memref sig .tc .vmem S2048x512 .bf16) (harg3 : arg3.IsWhole)
  (arg4 : Memref sig .tc .vmem S2048x2048 .bf16) (harg4 : arg4.IsWhole) (arg5 : Memref sig .tc .vmem S512x2048 .f32) (harg5 : arg5.IsWhole)
  (x0 : Vec F S2048x512 .bf16) (x1 : Vec F S2048x2048 .bf16) (xo : Vec F S512x2048 .f32)
theorem out_A (h0 h1) : out0_A_2 c i arg3 harg3 arg4 harg4 arg5 harg5 h0 h1 x0 x1 = k0_pay1 x0 x1 := by
  unfold out0_A_2
  rw [View.read_writes_junk_eq_canon]
  unfold kernelRun0_A
  dsimp only
  refine (View.canon_unit_zero zero_offsets _ _).trans ?_
  simp only [load_eq, ld_whole]
theorem out_B (h0 h1) : out0_B_2 c i arg3 harg3 arg4 harg4 arg5 harg5 h0 h1 x0 x1 xo = k0_pay2 xo x0 x1 := by
  unfold out0_B_2
  rw [View.read_writes_junk_eq_canon]
  unfold kernelRun0_B
  dsimp only
  refine (View.canon_unit_zero zero_offsets _ _).trans ?_
  simp only [load_eq, ld_whole]
end

theorem pay1_at (j : S512x2048.Idx) : k0_pay1 (F := Ideal) (iblk m c 0 t) (iblk m c 1 t) j = ∑ r : Fin 2048, term m c (row t (j 0)) (j 1) (inner t r) := by
  pointwise [k0_pay1]
  simp only [blk0, blk1]
  rfl
theorem pay2_at (o : Vec Ideal S512x2048 .f32) (j : S512x2048.Idx) :
    k0_pay2 (F := Ideal) o (iblk m c 0 t) (iblk m c 1 t) j = o j + ∑ r : Fin 2048, term m c (row t (j 0)) (j 1) (inner t r) := by
  pointwise [k0_pay2]
  simp only [blk0, blk1]
  rfl

theorem after_first (h : t.val % 2 = 0) (j : S512x2048.Idx) : outsAt0 m c t.val t.isLt j = part 2048 (term m c (row t (j 0)) (j 1)) 1 := by
  rw [outsAt0_A m c t h (by omega), out_A, pay1_at]
  exact part_one 2048 _ _ fun r => by show 2048 * (t.val % 2) + r.val = r.val; omega
theorem after_second (h : t.val % 2 = 1) (j : S512x2048.Idx) : outsAt0 m c t.val t.isLt j = ∑ q : Fin 4096, term m c (row t (j 0)) (j 1) q := by
  rw [outsAt0_B m c t (by omega) h, out_B, pay2_at]
  have e : (row ⟨t.val - 1, Nat.lt_of_le_of_lt (Nat.sub_le _ _) t.isLt⟩ (j 0)) = row t (j 0) :=
    Fin.ext (show 512 * ((t.val - 1) / 2) + (j 0).val = 512 * (t.val / 2) + (j 0).val by omega)
  rw [after_first m c ⟨t.val - 1, Nat.lt_of_le_of_lt (Nat.sub_le _ _) t.isLt⟩ (show (t.val - 1) % 2 = 0 by omega) j, e]
  exact (part_succ 2048 _ 1 _ fun r => by show 2048 * (t.val % 2) + r.val = 2048 * 1 + r.val; omega).trans (part_all 2048 _ 2 rfl)

/-! ## The result -/

theorem reference_at (a : Fin 8192) (b : Fin 2048) : val_main_v6 (F := Ideal) (x m c) (up m c) (dz m c) (ix2 a b) = ∑ q : Fin 4096, term m c a b q := by
  rw [val_main_v6_apply, val_main_v5_apply]
  exact Finset.sum_congr rfl fun k _ => (mul_comm _ _).trans (congrArg₂ (· * ·) (congrArg (val_main_v3 (F := Ideal) (x m c) (up m c)) (by funext a; fin_cases a <;> rfl)) (congrArg (dz m c) (by funext a; fin_cases a <;> rfl)))

theorem final : (dats m 0 c).arrAt 2 cfg0.N = val_main_v6 (F := Ideal) (x m c) (up m c) (dz m c) :=
  (dats m 0 c).arrAt_eq_of_cover 2 _ (fun t ht => by
    rw [flushed2]
    funext j
    show outsAt0 m c t.val t.isLt j = val_main_v6 (F := Ideal) (x m c) (up m c) (dz m c) (((cfg0.win 2).blk t).view.emb j)
    rw [emb2, after_second m c t ((flush0_2 t).mp ht)]
    exact (reference_at m c _ _).symm) covered

theorem final_eq (a0 a1 a2) (h0 : a0 = x m c) (h1 : a1 = up m c) (h2 : a2 = dz m c) : val_main_v6 (F := Ideal) a0 a1 a2 = (dats m 0 c).arrAt 2 cfg0.N := by
  rw [h0, h1, h2, final]

theorem algebraic : letI := Cert.Kernel4Ideal.Gen.facts; letI := Cert.Reference4Ideal.Gen.facts;
    Cert.algebraic_Kernel4Ideal_Reference4Ideal := by
  intro m ρ m' ρ' hpre hargs
  refine ⟨fun c => (dats m 0 c).arrAt 2 cfg0.N, run_blocks m ρ, ?_⟩
  refine (θ_run _ _ _).mono (fun r h c => ?_) (Cert.Reference4Ideal.Value.run m' ρ')
  obtain ⟨e0, e1, e2⟩ := hargs c
  obtain ⟨r0, rest⟩ := h c
  exact ⟨r0.trans ((val_main_v6_eq _ _ _).trans (final_eq m c _ _ _ e0 e1 e2)), rest⟩

end Cert.Proof.DownDw

end
-- ==== Proof.UpDw.lean ====
module

public import proofs.«01_k».proof.Proof.Product
public import proofs.«01_k».proof.Proof.Gen.Kernel5Ideal.Value
public import proofs.«01_k».proof.Proof.Gen.Reference5Ideal.Read
public import proofs.«01_k».proof.Proof.Gen.Reference5Ideal.Run
public import proofs.«01_k».proof.Defs

/-! The gradient of the first matrix of the feed-forward layer, transposed, `dhᵀ @ x` with `dh` the gradient of the squared
    ReLU's argument, built up over two grid points
    in place: the first writes the products of the first 2048 rows, the second adds those of the other 2048. -/

@[expose] public section

set_option maxRecDepth 16384
noncomputable section

namespace Cert.Proof.UpDw

open Idealize.ShloMosaic Idealize.ShloMosaic.TcCoe Idealize.SL.Sem Cert.Kernel5Ideal Cert.Kernel5Ideal.Gen Cert.Kernel5Ideal.Value
open Cert.Reference5Ideal.Read

variable (m : (ℓ : Loc nD τ sig) → Buf (Elt Ideal) ℓ) (c : Dev nD) (t : Fin cfg0.N)

abbrev x : FVec Ideal S4096x2048 .f32 := m ((c : Thread nD τ).loc main_arg0)
abbrev up : FVec Ideal S2048x8192 .f32 := m ((c : Thread nD τ).loc main_arg1)
abbrev down : FVec Ideal S8192x2048 .f32 := m ((c : Thread nD τ).loc main_arg2)
abbrev dz : FVec Ideal S4096x2048 .f32 := m ((c : Thread nD τ).loc main_arg3)

theorem V_lhs (a : Fin 4096) (b : Fin 8192) : V m c main_v8 (ix2 a b) = val_main_v12 (F := Ideal) (x m c) (up m c) (down m c) (dz m c) (ix2 a b) := by
  show StableHlo.after hostOps0 _ (Proc.devRef .tc main_v8) _ = _
  after_results
  show _ = val_main_v12 (F := Ideal) _ _ _ _ (ix2 a b)
  pointwise [val_main_v12, val_main_v10, val_main_v9, val_main_v7, val_main_v3, val_main_v2, val_main_v6, val_main_v11, val_main_v1,
    val_main_call0_v0, val_main_v0, val_main_cst, val_main_cst_1, val_main_cst_2, val_main_call0_cst]
  exact relu2_grad_if _ _ _
theorem V_rhs (a : Fin 4096) (b : Fin 2048) : V m c main_v9 (ix2 a b) = x m c (ix2 a b) := by
  show StableHlo.after hostOps0 _ (Proc.devRef .tc main_v9) _ = _
  after_results
  rfl

/-! ## The blocks -/

theorem lt32 : t.val < 32 := lt_of_lt_of_eq t.isLt N_0
def inner (r : Fin 2048) : Fin 4096 := ⟨2048 * (t.val % 2) + r.val, by omega⟩
def row (r : Fin 512) : Fin 8192 := ⟨512 * (t.val / 2) + r.val, by have := lt32 t; omega⟩

theorem idx : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ (win0_2.index t (0 : Fin 2) = t.val / 2 ∧ win0_2.index t (1 : Fin 2) = 0) :=
  (by decide +kernel : ∀ t : Fin grid0.N, _)
theorem emb0 (j : S2048x512.Idx) : ((cfg0.win 0).blk t).view.emb j = ix2 (inner t (j 0)) (row t (j 1)) := by
  obtain ⟨⟨e0, e1⟩, -⟩ := idx t
  funext a; apply Fin.ext
  match a with
  | ⟨0, _⟩ => show win0_0.index t (0 : Fin 2) * 2048 + 1 * (j 0).val = 2048 * (t.val % 2) + (j 0).val; omega
  | ⟨1, _⟩ => show win0_0.index t (1 : Fin 2) * 512 + 1 * (j 1).val = 512 * (t.val / 2) + (j 1).val; omega
theorem emb1 (j : S2048x2048.Idx) : ((cfg0.win 1).blk t).view.emb j = ix2 (inner t (j 0)) (j 1) := by
  obtain ⟨-, ⟨e0, e1⟩, -⟩ := idx t
  funext a; apply Fin.ext
  match a with
  | ⟨0, _⟩ => show win0_1.index t (0 : Fin 2) * 2048 + 1 * (j 0).val = 2048 * (t.val % 2) + (j 0).val; omega
  | ⟨1, _⟩ => show win0_1.index t (1 : Fin 2) * 2048 + 1 * (j 1).val = (j 1).val; omega
theorem emb2 (j : S512x2048.Idx) : ((cfg0.win 2).blk t).view.emb j = ix2 (row t (j 0)) (j 1) := by
  obtain ⟨-, -, e0, e1⟩ := idx t
  funext a; apply Fin.ext
  match a with
  | ⟨0, _⟩ => show win0_2.index t (0 : Fin 2) * 512 + 1 * (j 0).val = 512 * (t.val / 2) + (j 0).val; omega
  | ⟨1, _⟩ => show win0_2.index t (1 : Fin 2) * 2048 + 1 * (j 1).val = (j 1).val; omega

/-- One term of an entry of the result. -/
def term (i : Fin 8192) (l : Fin 2048) (q : Fin 4096) : EReal := val_main_v12 (F := Ideal) (x m c) (up m c) (down m c) (dz m c) (ix2 q i) * x m c (ix2 q l)

theorem blk0 (j : S2048x512.Idx) : iblk m c 0 t j = val_main_v12 (F := Ideal) (x m c) (up m c) (down m c) (dz m c) (ix2 (inner t (j 0)) (row t (j 1))) := by
  show V m c main_v8 (((cfg0.win 0).blk t).view.emb j) = _; rw [emb0]; exact V_lhs m c _ _
theorem blk1 (j : S2048x2048.Idx) : iblk m c 1 t j = x m c (ix2 (inner t (j 0)) (j 1)) := by
  show V m c main_v9 (((cfg0.win 1).blk t).view.emb j) = _; rw [emb1]; exact V_rhs m c _ _

theorem covered (i : S8192x2048.Idx) : ∃ t : Fin cfg0.N, (cfg0.win 2).flush t = true ∧ i ∈ ((cfg0.win 2).blk t).view.set := by
  have b0 : (i 0).val < 8192 := (i 0).isLt
  let t : Fin cfg0.N := ⟨2 * ((i 0).val / 512) + 1, lt_of_lt_of_eq (by omega) N_0.symm⟩
  let j : S512x2048.Idx := ix2 ⟨(i 0).val % 512, Nat.mod_lt _ (by decide)⟩ (i 1)
  have e : ((cfg0.win 2).blk t).view.emb j = i := by
    rw [emb2]
    funext a; apply Fin.ext
    match a with
    | ⟨0, _⟩ => show 512 * ((2 * ((i 0).val / 512) + 1) / 2) + (i 0).val % 512 = (i 0).val; omega
    | ⟨1, _⟩ => rfl
  exact ⟨t, (flush0_2 t).mpr (show (2 * ((i 0).val / 512) + 1) % 2 = 1 by omega), e ▸ ((cfg0.win 2).blk t).view.emb_mem_set j⟩

/-! ## What a point leaves: half of every sum, then the whole of it -/

section
variable {F : FTy → Type} [FloatOps F] (i : grid0.Coords) (arg3 : Memref sig .tc .vmem S2048x512 .bf16) (harg3 : arg3.IsWhole)
  (arg4 : Memref sig .tc .vmem S2048x2048 .bf16) (harg4 : arg4.IsWhole) (arg5 : Memref sig .tc .vmem S512x2048 .f32) (harg5 : arg5.IsWhole)
  (x0 : Vec F S2048x512 .bf16) (x1 : Vec F S2048x2048 .bf16) (xo : Vec F S512x2048 .f32)
theorem out_A (h0 h1) : out0_A_2 c i arg3 harg3 arg4 harg4 arg5 harg5 h0 h1 x0 x1 = k0_pay1 x0 x1 := by
  unfold out0_A_2
  rw [View.read_writes_junk_eq_canon]
  unfold kernelRun0_A
  dsimp only
  refine (View.canon_unit_zero zero_offsets _ _).trans ?_
  simp only [load_eq, ld_whole]
theorem out_B (h0 h1) : out0_B_2 c i arg3 harg3 arg4 harg4 arg5 harg5 h0 h1 x0 x1 xo = k0_pay2 xo x0 x1 := by
  unfold out0_B_2
  rw [View.read_writes_junk_eq_canon]
  unfold kernelRun0_B
  dsimp only
  refine (View.canon_unit_zero zero_offsets _ _).trans ?_
  simp only [load_eq, ld_whole]
end

theorem pay1_at (j : S512x2048.Idx) : k0_pay1 (F := Ideal) (iblk m c 0 t) (iblk m c 1 t) j = ∑ r : Fin 2048, term m c (row t (j 0)) (j 1) (inner t r) := by
  pointwise [k0_pay1]
  simp only [blk0, blk1]
  rfl
theorem pay2_at (o : Vec Ideal S512x2048 .f32) (j : S512x2048.Idx) :
    k0_pay2 (F := Ideal) o (iblk m c 0 t) (iblk m c 1 t) j = o j + ∑ r : Fin 2048, term m c (row t (j 0)) (j 1) (inner t r) := by
  pointwise [k0_pay2]
  simp only [blk0, blk1]
  rfl

theorem after_first (h : t.val % 2 = 0) (j : S512x2048.Idx) : outsAt0 m c t.val t.isLt j = part 2048 (term m c (row t (j 0)) (j 1)) 1 := by
  rw [outsAt0_A m c t h (by omega), out_A, pay1_at]
  exact part_one 2048 _ _ fun r => by show 2048 * (t.val % 2) + r.val = r.val; omega
theorem after_second (h : t.val % 2 = 1) (j : S512x2048.Idx) : outsAt0 m c t.val t.isLt j = ∑ q : Fin 4096, term m c (row t (j 0)) (j 1) q := by
  rw [outsAt0_B m c t (by omega) h, out_B, pay2_at]
  have e : (row ⟨t.val - 1, Nat.lt_of_le_of_lt (Nat.sub_le _ _) t.isLt⟩ (j 0)) = row t (j 0) :=
    Fin.ext (show 512 * ((t.val - 1) / 2) + (j 0).val = 512 * (t.val / 2) + (j 0).val by omega)
  rw [after_first m c ⟨t.val - 1, Nat.lt_of_le_of_lt (Nat.sub_le _ _) t.isLt⟩ (show (t.val - 1) % 2 = 0 by omega) j, e]
  exact (part_succ 2048 _ 1 _ fun r => by show 2048 * (t.val % 2) + r.val = 2048 * 1 + r.val; omega).trans (part_all 2048 _ 2 rfl)

/-! ## The result -/

theorem reference_at (a : Fin 8192) (b : Fin 2048) : val_main_v15 (F := Ideal) (x m c) (up m c) (down m c) (dz m c) (ix2 a b) = ∑ q : Fin 4096, term m c a b q := by
  rw [val_main_v15_apply, val_main_v14_apply, val_main_v13_apply]
  exact Finset.sum_congr rfl fun k _ => congrArg₂ (· * ·) (congrArg (val_main_v12 (F := Ideal) (x m c) (up m c) (down m c) (dz m c)) (by funext a; fin_cases a <;> rfl)) (congrArg (x m c) (by funext a; fin_cases a <;> rfl))

theorem final : (dats m 0 c).arrAt 2 cfg0.N = val_main_v15 (F := Ideal) (x m c) (up m c) (down m c) (dz m c) :=
  (dats m 0 c).arrAt_eq_of_cover 2 _ (fun t ht => by
    rw [flushed2]
    funext j
    show outsAt0 m c t.val t.isLt j = val_main_v15 (F := Ideal) (x m c) (up m c) (down m c) (dz m c) (((cfg0.win 2).blk t).view.emb j)
    rw [emb2, after_second m c t ((flush0_2 t).mp ht)]
    exact (reference_at m c _ _).symm) covered

theorem final_eq (a0 a1 a2 a3) (h0 : a0 = x m c) (h1 : a1 = up m c) (h2 : a2 = down m c) (h3 : a3 = dz m c) : val_main_v15 (F := Ideal) a0 a1 a2 a3 = (dats m 0 c).arrAt 2 cfg0.N := by
  rw [h0, h1, h2, h3, final]

theorem algebraic : letI := Cert.Kernel5Ideal.Gen.facts; letI := Cert.Reference5Ideal.Gen.facts;
    Cert.algebraic_Kernel5Ideal_Reference5Ideal := by
  intro m ρ m' ρ' hpre hargs
  refine ⟨fun c => (dats m 0 c).arrAt 2 cfg0.N, run_blocks m ρ, ?_⟩
  refine (θ_run _ _ _).mono (fun r h c => ?_) (Cert.Reference5Ideal.Value.run m' ρ')
  obtain ⟨e0, e1, e2, e3⟩ := hargs c
  obtain ⟨r0, rest⟩ := h c
  exact ⟨r0.trans ((val_main_v15_eq _ _ _ _).trans (final_eq m c _ _ _ _ e0 e1 e2 e3)), rest⟩

end Cert.Proof.UpDw

end
-- ==== Proof.Up.lean ====
module

public import proofs.«01_k».proof.Proof.Product
public import proofs.«01_k».proof.Proof.Gen.Kernel6Ideal.Value
public import proofs.«01_k».proof.Proof.Gen.Reference6Ideal.Read
public import proofs.«01_k».proof.Proof.Gen.Reference6Ideal.Run
public import proofs.«01_k».proof.Defs

/-! The projection into the hidden layer, `h = x @ w_up`, with the squared ReLU of it taken in the same pass: one product to a
    grid point, whose blocks of 1024 rows and 1024 columns tile both results. -/

@[expose] public section

set_option maxRecDepth 16384
noncomputable section

namespace Cert.Proof.Up

open Idealize.ShloMosaic Idealize.ShloMosaic.TcCoe Idealize.SL.Sem Cert.Kernel6Ideal Cert.Kernel6Ideal.Gen Cert.Kernel6Ideal.Value
open Cert.Reference6Ideal.Read

variable (m : (ℓ : Loc nD τ sig) → Buf (Elt Ideal) ℓ) (c : Dev nD) (t : Fin cfg0.N)

abbrev x : FVec Ideal S4096x2048 .f32 := m ((c : Thread nD τ).loc main_arg0)
abbrev up : FVec Ideal S2048x8192 .f32 := m ((c : Thread nD τ).loc main_arg1)

theorem V_v0 : V m c main_v0 = truncf .bf16 (x m c) bitsLt_bf16_f32 := by
  show StableHlo.after hostOps0 _ (Proc.devRef .tc main_v0) = _
  after_results
theorem V_v2 : V m c main_v2 = truncf .bf16 (transpose S8192x2048 [1, 0] (up m c) transposes_S2048x8192_S8192x2048_1_0) bitsLt_bf16_f32 := by
  show StableHlo.after hostOps0 _ (Proc.devRef .tc main_v2) = _
  after_results

/-! ## The blocks -/

theorem lt32 : t.val < 32 := lt_of_lt_of_eq t.isLt N_0
def row (r : Fin 1024) : Fin 4096 := ⟨1024 * (t.val % 4) + r.val, by omega⟩
def colm (s : Fin 1024) : Fin 8192 := ⟨1024 * (t.val / 4) + s.val, by have := lt32 t; omega⟩

theorem idx : ∀ t : Fin cfg0.N, (win0_0.index t (0 : Fin 2) = t.val % 4 ∧ win0_0.index t (1 : Fin 2) = 0)
    ∧ (win0_1.index t (0 : Fin 2) = t.val / 4 ∧ win0_1.index t (1 : Fin 2) = 0)
    ∧ (win0_2.index t (0 : Fin 2) = t.val % 4 ∧ win0_2.index t (1 : Fin 2) = t.val / 4)
    ∧ (win0_3.index t (0 : Fin 2) = t.val % 4 ∧ win0_3.index t (1 : Fin 2) = t.val / 4) :=
  (by decide +kernel : ∀ t : Fin grid0.N, _)
theorem emb0 (j : S1024x2048.Idx) : ((cfg0.win 0).blk t).view.emb j = ix2 (row t (j 0)) (j 1) := by
  obtain ⟨⟨e0, e1⟩, -⟩ := idx t
  funext a; apply Fin.ext
  match a with
  | ⟨0, _⟩ => show win0_0.index t (0 : Fin 2) * 1024 + 1 * (j 0).val = 1024 * (t.val % 4) + (j 0).val; omega
  | ⟨1, _⟩ => show win0_0.index t (1 : Fin 2) * 2048 + 1 * (j 1).val = (j 1).val; omega
theorem emb1 (j : S1024x2048.Idx) : ((cfg0.win 1).blk t).view.emb j = ix2 (colm t (j 0)) (j 1) := by
  obtain ⟨-, ⟨e0, e1⟩, -⟩ := idx t
  funext a; apply Fin.ext
  match a with
  | ⟨0, _⟩ => show win0_1.index t (0 : Fin 2) * 1024 + 1 * (j 0).val = 1024 * (t.val / 4) + (j 0).val; omega
  | ⟨1, _⟩ => show win0_1.index t (1 : Fin 2) * 2048 + 1 * (j 1).val = (j 1).val; omega
theorem emb2 (j : S1024x1024.Idx) : ((cfg0.win 2).blk t).view.emb j = ix2 (row t (j 0)) (colm t (j 1)) := by
  obtain ⟨-, -, ⟨e0, e1⟩, -⟩ := idx t
  funext a; apply Fin.ext
  match a with
  | ⟨0, _⟩ => show win0_2.index t (0 : Fin 2) * 1024 + 1 * (j 0).val = 1024 * (t.val % 4) + (j 0).val; omega
  | ⟨1, _⟩ => show win0_2.index t (1 : Fin 2) * 1024 + 1 * (j 1).val = 1024 * (t.val / 4) + (j 1).val; omega
theorem emb3 (j : S1024x1024.Idx) : ((cfg0.win 3).blk t).view.emb j = ix2 (row t (j 0)) (colm t (j 1)) := by
  obtain ⟨-, -, -, e0, e1⟩ := idx t
  funext a; apply Fin.ext
  match a with
  | ⟨0, _⟩ => show win0_3.index t (0 : Fin 2) * 1024 + 1 * (j 0).val = 1024 * (t.val % 4) + (j 0).val; omega
  | ⟨1, _⟩ => show win0_3.index t (1 : Fin 2) * 1024 + 1 * (j 1).val = 1024 * (t.val / 4) + (j 1).val; omega

theorem blk0 (j : S1024x2048.Idx) : iblk m c 0 t j = x m c (ix2 (row t (j 0)) (j 1)) := by
  show V m c main_v0 (((cfg0.win 0).blk t).view.emb j) = _; rw [emb0, V_v0]; rfl
theorem blk1 (j : S1024x2048.Idx) : iblk m c 1 t j = up m c (ix2 (j 1) (colm t (j 0))) := by
  show V m c main_v2 (((cfg0.win 1).blk t).view.emb j) = _
  rw [emb1, V_v2]
  exact transpose_apply [1, 0] (up m c) transposes_S2048x8192_S8192x2048_1_0 _ _ (fun b => by fin_cases b <;> rfl)

theorem point (i : S4096x8192.Idx) : ∃ (t : Fin cfg0.N) (j : S1024x1024.Idx), i = ix2 (row t (j 0)) (colm t (j 1)) := by
  have b0 : (i 0).val < 4096 := (i 0).isLt
  have b1 : (i 1).val < 8192 := (i 1).isLt
  refine ⟨⟨4 * ((i 1).val / 1024) + (i 0).val / 1024, lt_of_lt_of_eq (by omega) N_0.symm⟩,
    ix2 ⟨(i 0).val % 1024, Nat.mod_lt _ (by decide)⟩ ⟨(i 1).val % 1024, Nat.mod_lt _ (by decide)⟩, ?_⟩
  funext a; apply Fin.ext
  match a with
  | ⟨0, _⟩ => show (i 0).val = 1024 * ((4 * ((i 1).val / 1024) + (i 0).val / 1024) % 4) + (i 0).val % 1024; omega
  | ⟨1, _⟩ => show (i 1).val = 1024 * ((4 * ((i 1).val / 1024) + (i 0).val / 1024) / 4) + (i 1).val % 1024; omega
theorem covered2 (i : S4096x8192.Idx) : ∃ t : Fin cfg0.N, (cfg0.win 2).flush t = true ∧ i ∈ ((cfg0.win 2).blk t).view.set := by
  obtain ⟨t, j, e⟩ := point i
  exact ⟨t, flush0_2 t, by rw [e, ← emb2]; exact ((cfg0.win 2).blk t).view.emb_mem_set j⟩
theorem covered3 (i : S4096x8192.Idx) : ∃ t : Fin cfg0.N, (cfg0.win 3).flush t = true ∧ i ∈ ((cfg0.win 3).blk t).view.set := by
  obtain ⟨t, j, e⟩ := point i
  exact ⟨t, flush0_3 t, by rw [e, ← emb3]; exact ((cfg0.win 3).blk t).view.emb_mem_set j⟩

/-! ## The results -/

section
variable {F : FTy → Type} [FloatOps F]
theorem whole {e : EltTy} (b : Vec F S1024x2048 e) : View.ld b r0_0 = b := View.ld_unit_zero zero_offsets _ b
theorem block_out2 (b0 b1 : Vec F S1024x2048 .bf16) : out0_2 b0 b1 = k0_pay2 b0 b1 := by
  unfold out0_2
  refine (View.canon_unit_zero zero_offsets _ _).trans ?_
  rw [whole, whole]
theorem block_out3 (b0 b1 : Vec F S1024x2048 .bf16) : out0_3 b0 b1 = k0_pay3 b0 b1 := by
  unfold out0_3
  refine (View.canon_unit_zero zero_offsets _ _).trans ?_
  rw [whole, whole]
end

theorem final2 : (dats m 0 c).arrAt 2 cfg0.N = val_main_v0 (F := Ideal) (x m c) (up m c) :=
  (dats m 0 c).arrAt_eq_of_cover 2 _ (fun t _ => by
    rw [flushed2, block_out2]
    funext j
    show k0_pay2 (F := Ideal) (iblk m c 0 t) (iblk m c 1 t) j = val_main_v0 (F := Ideal) (x m c) (up m c) (((cfg0.win 2).blk t).view.emb j)
    rw [emb2, val_main_v0_apply]
    pointwise [k0_pay2, k0_pay1]
    simp only [blk0, blk1]
    exact Finset.sum_congr rfl fun k _ => congrArg₂ (· * ·) (congrArg (x m c) (by funext a; fin_cases a <;> rfl)) (congrArg (up m c) (by funext a; fin_cases a <;> rfl))) covered2
theorem final3 : (dats m 0 c).arrAt 3 cfg0.N = val_main_v3 (F := Ideal) (x m c) (up m c) :=
  (dats m 0 c).arrAt_eq_of_cover 3 _ (fun t _ => by
    rw [flushed3, block_out3]
    funext j
    show k0_pay3 (F := Ideal) (iblk m c 0 t) (iblk m c 1 t) j = val_main_v3 (F := Ideal) (x m c) (up m c) (((cfg0.win 3).blk t).view.emb j)
    rw [emb3, val_main_v3_apply, val_main_v2_apply, val_main_v1_apply, val_main_v0_apply, val_main_call0_v0_apply, val_main_call0_cst_apply]
    pointwise [k0_pay3, k0_pay1]
    simp only [blk0, blk1, Ideal.ofBits_def, Ideal.ofBits_zero_f32, Ideal.maximumf_def, Ideal.mulf_def]
    have el : ∀ k, lidx_main_v0 (ix2 (row t (j 0)) (colm t (j 1))) k = ix2 (row t (j 0)) k := fun k => by funext a; fin_cases a <;> rfl
    have er : ∀ k, ridx_main_v0 (ix2 (row t (j 0)) (colm t (j 1))) k = ix2 k (colm t (j 1)) := fun k => by funext a; fin_cases a <;> rfl
    simp only [el, er]
    rfl) covered3

theorem final_eq2 (a0 a1) (h0 : a0 = x m c) (h1 : a1 = up m c) : val_main_v0 (F := Ideal) a0 a1 = (dats m 0 c).arrAt 2 cfg0.N := by
  rw [h0, h1, final2]
theorem final_eq3 (a0 a1) (h0 : a0 = x m c) (h1 : a1 = up m c) : val_main_v3 (F := Ideal) a0 a1 = (dats m 0 c).arrAt 3 cfg0.N := by
  rw [h0, h1, final3]

theorem algebraic : letI := Cert.Kernel6Ideal.Gen.facts; letI := Cert.Reference6Ideal.Gen.facts;
    Cert.algebraic_Kernel6Ideal_Reference6Ideal := by
  intro m ρ m' ρ' hpre hargs
  refine ⟨fun c => (dats m 0 c).arrAt 2 cfg0.N, fun c => (dats m 0 c).arrAt 3 cfg0.N, run_blocks m ρ, ?_⟩
  refine (θ_run _ _ _).mono (fun r h c => ?_) (Cert.Reference6Ideal.Value.run m' ρ')
  obtain ⟨e0, e1⟩ := hargs c
  obtain ⟨r0, r1, rest⟩ := h c
  exact ⟨r0.trans ((val_main_v0_eq _ _).trans (final_eq2 m c _ _ e0 e1)), r1.trans ((val_main_v3_eq _ _).trans (final_eq3 m c _ _ e0 e1)), rest⟩

end Cert.Proof.Up

end
-- ==== Proof.DownLn.lean ====
module

public import proofs.«01_k».proof.Proof.Product
public import proofs.«01_k».proof.Proof.Gen.Kernel7Ideal.Value
public import proofs.«01_k».proof.Proof.Gen.Reference7Ideal.Read
public import proofs.«01_k».proof.Proof.Gen.Reference7Ideal.Run
public import proofs.«01_k».proof.Defs

/-! The second product of the feed-forward layer with the residual and the layer norm behind it:
    `u = sqrt 2 * x + relu(x @ w_up)² @ w_down`, and of every row of `u` the norm, the norm in bf16, the normed row before scale and
    shift, and the reciprocal deviation. The product is built up over four grid points in an accumulator, 2048 terms of every sum
    at a time; the last point of the four norms the rows and writes the blocks out. -/

@[expose] public section

set_option maxRecDepth 16384
noncomputable section

namespace Cert.Proof.DownLn

open Idealize.ShloMosaic Idealize.ShloMosaic.TcCoe Idealize.SL.Sem Cert.Kernel7Ideal Cert.Kernel7Ideal.Gen Cert.Kernel7Ideal.Value
open Cert.Reference7Ideal.Read

variable (m : (ℓ : Loc nD τ sig) → Buf (Elt Ideal) ℓ) (c : Dev nD) (t : Fin cfg0.N)

abbrev x : FVec Ideal S4096x2048 .f32 := m ((c : Thread nD τ).loc main_arg0)
abbrev up : FVec Ideal S2048x8192 .f32 := m ((c : Thread nD τ).loc main_arg1)
abbrev down : FVec Ideal S8192x2048 .f32 := m ((c : Thread nD τ).loc main_arg2)
abbrev g : FVec Ideal S1x2048 .f32 := m ((c : Thread nD τ).loc main_arg3)
abbrev b : FVec Ideal S1x2048 .f32 := m ((c : Thread nD τ).loc main_arg4)
/-- The squared ReLU of the hidden layer. -/
abbrev act : FVec Ideal S4096x8192 .f32 := val_main_v4 (F := Ideal) (x m c) (up m c)

theorem V_v4 (i : S4096x8192.Idx) : V m c main_v4 i = act m c i := by
  show StableHlo.after hostOps0 _ (Proc.devRef .tc main_v4) _ = _
  after_results
  rfl
theorem V_v5 : V m c main_v5 = truncf .bf16 (down m c) bitsLt_bf16_f32 := by
  show StableHlo.after hostOps0 _ (Proc.devRef .tc main_v5) = _
  after_results

/-! ## The blocks -/

theorem lt32 : t.val < 32 := lt_of_lt_of_eq t.isLt N_0
def inner (r : Fin 2048) : Fin 8192 := ⟨2048 * (t.val % 4) + r.val, by omega⟩
def row (r : Fin 512) : Fin 4096 := ⟨512 * (t.val / 4) + r.val, by have := lt32 t; omega⟩
/-- The point before. -/
def prev : Fin cfg0.N := ⟨t.val - 1, Nat.lt_of_le_of_lt (Nat.sub_le _ _) t.isLt⟩

theorem idx : ∀ t : Fin cfg0.N, (win0_0.index t (0 : Fin 2) = t.val / 4 ∧ win0_0.index t (1 : Fin 2) = t.val % 4)
    ∧ (win0_1.index t (0 : Fin 2) = t.val % 4 ∧ win0_1.index t (1 : Fin 2) = 0)
    ∧ (win0_2.index t (0 : Fin 2) = t.val / 4 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val / 4 ∧ win0_5.index t (1 : Fin 2) = 0)
    ∧ (win0_6.index t (0 : Fin 2) = t.val / 4 ∧ win0_6.index t (1 : Fin 2) = 0)
    ∧ (win0_7.index t (0 : Fin 2) = t.val / 4 ∧ win0_7.index t (1 : Fin 2) = 0)
    ∧ (win0_8.index t (0 : Fin 2) = t.val / 4 ∧ win0_8.index t (1 : Fin 2) = 0) :=
  (by decide +kernel : ∀ t : Fin grid0.N, _)
theorem emb0 (j : S512x2048.Idx) : ((cfg0.win 0).blk t).view.emb j = ix2 (row t (j 0)) (inner t (j 1)) := by
  obtain ⟨⟨e0, e1⟩, -⟩ := idx t
  funext a; apply Fin.ext
  match a with
  | ⟨0, _⟩ => show win0_0.index t (0 : Fin 2) * 512 + 1 * (j 0).val = 512 * (t.val / 4) + (j 0).val; omega
  | ⟨1, _⟩ => show win0_0.index t (1 : Fin 2) * 2048 + 1 * (j 1).val = 2048 * (t.val % 4) + (j 1).val; omega
theorem emb1 (j : S2048x2048.Idx) : ((cfg0.win 1).blk t).view.emb j = ix2 (inner t (j 0)) (j 1) := by
  obtain ⟨-, ⟨e0, e1⟩, -⟩ := idx t
  funext a; apply Fin.ext
  match a with
  | ⟨0, _⟩ => show win0_1.index t (0 : Fin 2) * 2048 + 1 * (j 0).val = 2048 * (t.val % 4) + (j 0).val; omega
  | ⟨1, _⟩ => show win0_1.index t (1 : Fin 2) * 2048 + 1 * (j 1).val = (j 1).val; omega
theorem emb2 (j : S512x2048.Idx) : ((cfg0.win 2).blk t).view.emb j = ix2 (row t (j 0)) (j 1) := by
  obtain ⟨-, -, ⟨e0, e1⟩, -⟩ := idx t
  funext a; apply Fin.ext
  match a with
  | ⟨0, _⟩ => show win0_2.index t (0 : Fin 2) * 512 + 1 * (j 0).val = 512 * (t.val / 4) + (j 0).val; omega
  | ⟨1, _⟩ => show win0_2.index t (1 : Fin 2) * 2048 + 1 * (j 1).val = (j 1).val; omega
theorem emb3 (j : S1x2048.Idx) : ((cfg0.win 3).blk t).view.emb j = j := by
  obtain ⟨-, -, -, ⟨e0, e1⟩, -⟩ := idx t
  funext a; apply Fin.ext
  match a with
  | ⟨0, _⟩ => show win0_3.index t (0 : Fin 2) * 1 + 1 * (j 0).val = (j 0).val; omega
  | ⟨1, _⟩ => show win0_3.index t (1 : Fin 2) * 2048 + 1 * (j 1).val = (j 1).val; omega
theorem emb4 (j : S1x2048.Idx) : ((cfg0.win 4).blk t).view.emb j = j := by
  obtain ⟨-, -, -, -, ⟨e0, e1⟩, -⟩ := idx t
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega
theorem emb5 (j : S512x2048.Idx) : ((cfg0.win 5).blk t).view.emb j = ix2 (row t (j 0)) (j 1) := by
  obtain ⟨-, -, -, -, -, ⟨e0, e1⟩, -⟩ := idx t
  funext a; apply Fin.ext
  match a with
  | ⟨0, _⟩ => show win0_5.index t (0 : Fin 2) * 512 + 1 * (j 0).val = 512 * (t.val / 4) + (j 0).val; omega
  | ⟨1, _⟩ => show win0_5.index t (1 : Fin 2) * 2048 + 1 * (j 1).val = (j 1).val; omega
theorem emb6 (j : S512x2048.Idx) : ((cfg0.win 6).blk t).view.emb j = ix2 (row t (j 0)) (j 1) := by
  obtain ⟨-, -, -, -, -, -, ⟨e0, e1⟩, -⟩ := idx t
  funext a; apply Fin.ext
  match a with
  | ⟨0, _⟩ => show win0_6.index t (0 : Fin 2) * 512 + 1 * (j 0).val = 512 * (t.val / 4) + (j 0).val; omega
  | ⟨1, _⟩ => show win0_6.index t (1 : Fin 2) * 2048 + 1 * (j 1).val = (j 1).val; omega
theorem emb7 (j : S512x2048.Idx) : ((cfg0.win 7).blk t).view.emb j = ix2 (row t (j 0)) (j 1) := by
  obtain ⟨-, -, -, -, -, -, -, ⟨e0, e1⟩, -⟩ := idx t
  funext a; apply Fin.ext
  match a with
  | ⟨0, _⟩ => show win0_7.index t (0 : Fin 2) * 512 + 1 * (j 0).val = 512 * (t.val / 4) + (j 0).val; omega
  | ⟨1, _⟩ => show win0_7.index t (1 : Fin 2) * 2048 + 1 * (j 1).val = (j 1).val; omega
theorem emb8 (j : S512x1.Idx) : ((cfg0.win 8).blk t).view.emb j = ix2 (row t (j 0)) (j 1) := by
  obtain ⟨-, -, -, -, -, -, -, -, e0, e1⟩ := idx t
  funext a; apply Fin.ext
  match a with
  | ⟨0, _⟩ => show win0_8.index t (0 : Fin 2) * 512 + 1 * (j 0).val = 512 * (t.val / 4) + (j 0).val; omega
  | ⟨1, _⟩ => show win0_8.index t (1 : Fin 2) * 1 + 1 * (j 1).val = (j 1).val; omega

/-- One term of an entry of the product. -/
def term (i : Fin 4096) (l : Fin 2048) (q : Fin 8192) : EReal := act m c (ix2 i q) * down m c (ix2 q l)

theorem blk0 (j : S512x2048.Idx) : iblk m c 0 t j = act m c (ix2 (row t (j 0)) (inner t (j 1))) := by
  show V m c main_v4 (((cfg0.win 0).blk t).view.emb j) = _; rw [emb0]; exact V_v4 m c _
theorem blk1 (j : S2048x2048.Idx) : iblk m c 1 t j = down m c (ix2 (inner t (j 0)) (j 1)) := by
  show V m c main_v5 (((cfg0.win 1).blk t).view.emb j) = _; rw [emb1, V_v5]; rfl
theorem blk2 (j : S512x2048.Idx) : iblk m c 2 t j = x m c (ix2 (row t (j 0)) (j 1)) := by
  show V m c main_arg0 (((cfg0.win 2).blk t).view.emb j) = _; rw [emb2, V_main_arg0]; rfl
theorem blk3 (j : S1x2048.Idx) : iblk m c 3 t j = g m c j := by
  show V m c main_arg3 (((cfg0.win 3).blk t).view.emb j) = _; rw [emb3, V_main_arg3]
theorem blk4 (j : S1x2048.Idx) : iblk m c 4 t j = b m c j := by
  show V m c main_arg4 (((cfg0.win 4).blk t).view.emb j) = _; rw [emb4, V_main_arg4]

theorem point (i : S4096x2048.Idx) : ∃ (t : Fin cfg0.N) (j : S512x2048.Idx), t.val % 4 = 3 ∧ i = ix2 (row t (j 0)) (j 1) := by
  have b0 : (i 0).val < 4096 := (i 0).isLt
  refine ⟨⟨4 * ((i 0).val / 512) + 3, lt_of_lt_of_eq (by omega) N_0.symm⟩, ix2 ⟨(i 0).val % 512, Nat.mod_lt _ (by decide)⟩ (i 1),
    show (4 * ((i 0).val / 512) + 3) % 4 = 3 by omega, ?_⟩
  funext a; apply Fin.ext
  match a with
  | ⟨0, _⟩ => show (i 0).val = 512 * ((4 * ((i 0).val / 512) + 3) / 4) + (i 0).val % 512; omega
  | ⟨1, _⟩ => rfl
theorem covered5 (i : S4096x2048.Idx) : ∃ t : Fin cfg0.N, (cfg0.win 5).flush t = true ∧ i ∈ ((cfg0.win 5).blk t).view.set := by
  obtain ⟨t, j, h, e⟩ := point i
  exact ⟨t, (flush0_5 t).mpr h, by rw [e, ← emb5]; exact ((cfg0.win 5).blk t).view.emb_mem_set j⟩
theorem covered6 (i : S4096x2048.Idx) : ∃ t : Fin cfg0.N, (cfg0.win 6).flush t = true ∧ i ∈ ((cfg0.win 6).blk t).view.set := by
  obtain ⟨t, j, h, e⟩ := point i
  exact ⟨t, (flush0_6 t).mpr h, by rw [e, ← emb6]; exact ((cfg0.win 6).blk t).view.emb_mem_set j⟩
theorem covered7 (i : S4096x2048.Idx) : ∃ t : Fin cfg0.N, (cfg0.win 7).flush t = true ∧ i ∈ ((cfg0.win 7).blk t).view.set := by
  obtain ⟨t, j, h, e⟩ := point i
  exact ⟨t, (flush0_7 t).mpr h, by rw [e, ← emb7]; exact ((cfg0.win 7).blk t).view.emb_mem_set j⟩
theorem covered8 (i : S4096x1.Idx) : ∃ t : Fin cfg0.N, (cfg0.win 8).flush t = true ∧ i ∈ ((cfg0.win 8).blk t).view.set := by
  have b0 : (i 0).val < 4096 := (i 0).isLt
  let t : Fin cfg0.N := ⟨4 * ((i 0).val / 512) + 3, lt_of_lt_of_eq (by omega) N_0.symm⟩
  let j : S512x1.Idx := ix2 ⟨(i 0).val % 512, Nat.mod_lt _ (by decide)⟩ (i 1)
  have e : ((cfg0.win 8).blk t).view.emb j = i := by
    rw [emb8]
    funext a; apply Fin.ext
    match a with
    | ⟨0, _⟩ => show 512 * ((4 * ((i 0).val / 512) + 3) / 4) + (i 0).val % 512 = (i 0).val; omega
    | ⟨1, _⟩ => rfl
  exact ⟨t, (flush0_8 t).mpr (show (4 * ((i 0).val / 512) + 3) % 4 = 3 by omega), e ▸ ((cfg0.win 8).blk t).view.emb_mem_set j⟩

/-! ## What a point leaves in the accumulator, and what the last point of a block writes -/

section
variable {F : FTy → Type} [FloatOps F] (i : grid0.Coords) (arg3 : Memref sig .tc .vmem S512x2048 .bf16) (harg3 : arg3.IsWhole)
  (arg4 : Memref sig .tc .vmem S2048x2048 .bf16) (harg4 : arg4.IsWhole) (arg5 : Memref sig .tc .vmem S512x2048 .f32) (harg5 : arg5.IsWhole)
  (arg6 : Memref sig .tc .vmem S1x2048 .f32) (harg6 : arg6.IsWhole) (arg7 : Memref sig .tc .vmem S1x2048 .f32) (harg7 : arg7.IsWhole)
  (arg8 : Memref sig .tc .vmem S512x2048 .f32) (harg8 : arg8.IsWhole) (arg9 : Memref sig .tc .vmem S512x2048 .bf16) (harg9 : arg9.IsWhole)
  (arg10 : Memref sig .tc .vmem S512x2048 .f32) (harg10 : arg10.IsWhole) (arg11 : Memref sig .tc .vmem S512x1 .f32) (harg11 : arg11.IsWhole)
  (arg12 : Memref sig .tc .vmem S512x2048 .f32) (harg12 : arg12.IsWhole)
  (x0 : Vec F S512x2048 .bf16) (x1 : Vec F S2048x2048 .bf16) (x2 : Vec F S512x2048 .f32) (x3 x4 : Vec F S1x2048 .f32) (xs : Vec F S512x2048 .f32)
theorem sout_A (h0 h1 h2) : sout0_A_0 c i arg3 harg3 arg4 harg4 arg5 harg5 arg6 harg6 arg7 harg7 arg8 harg8 arg9 harg9 arg10 harg10 arg11 harg11 arg12 harg12 h0 h1 h2 x0 x1 x2 x3 x4 = k0_pay1 x0 x1 := by
  unfold sout0_A_0
  rw [View.read_writes_junk_eq_canon]
  unfold kernelRun0_A
  dsimp only
  refine (View.canon_unit_zero zero_offsets _ _).trans ?_
  simp only [load_eq, ld_whole]
theorem sout_B (h0 h1 h2) : sout0_B_0 c i arg3 harg3 arg4 harg4 arg5 harg5 arg6 harg6 arg7 harg7 arg8 harg8 arg9 harg9 arg10 harg10 arg11 harg11 arg12 harg12 h0 h1 h2 x0 x1 x2 x3 x4 xs = k0_pay2 xs x0 x1 := by
  unfold sout0_B_0
  rw [View.read_writes_junk_eq_canon]
  unfold kernelRun0_B
  dsimp only
  refine (View.canon_unit_zero zero_offsets _ _).trans ?_
  simp only [load_eq, ld_whole]
theorem out_C5 (h0 h1 h2) : out0_C_5 c i arg3 harg3 arg4 harg4 arg5 harg5 arg6 harg6 arg7 harg7 arg8 harg8 arg9 harg9 arg10 harg10 arg11 harg11 arg12 harg12 h0 h1 h2 x0 x1 x2 x3 x4 xs = k0_pay10 xs x0 x1 x2 x3 x4 := by
  unfold out0_C_5
  rw [View.read_writes_junk_eq_canon]
  unfold kernelRun0_C
  dsimp only
  refine (View.canon_unit_zero zero_offsets _ _).trans ?_
  simp only [load_eq, ld_whole]
theorem out_C6 (h0 h1 h2) : out0_C_6 c i arg3 harg3 arg4 harg4 arg5 harg5 arg6 harg6 arg7 harg7 arg8 harg8 arg9 harg9 arg10 harg10 arg11 harg11 arg12 harg12 h0 h1 h2 x0 x1 x2 x3 x4 xs = k0_pay3 (k0_pay11 xs x0 x1 x2 x3 x4) := by
  unfold out0_C_6
  rw [View.read_writes_junk_eq_canon]
  unfold kernelRun0_C
  dsimp only
  refine (View.canon_unit_zero zero_offsets _ _).trans ?_
  unfold kernelRun0_C.sl.r_2
  simp only [load_eq, ld_whole]
theorem out_C7 (h0 h1 h2) : out0_C_7 c i arg3 harg3 arg4 harg4 arg5 harg5 arg6 harg6 arg7 harg7 arg8 harg8 arg9 harg9 arg10 harg10 arg11 harg11 arg12 harg12 h0 h1 h2 x0 x1 x2 x3 x4 xs = k0_pay4 (k0_pay8 xs x0 x1 x2) := by
  unfold out0_C_7
  rw [View.read_writes_junk_eq_canon]
  unfold kernelRun0_C
  dsimp only
  refine (View.canon_unit_zero zero_offsets _ _).trans ?_
  unfold kernelRun0_C.sl.r_1
  simp only [load_eq, ld_whole]
theorem out_C8 (h0 h1 h2) : out0_C_8 c i arg3 harg3 arg4 harg4 arg5 harg5 arg6 harg6 arg7 harg7 arg8 harg8 arg9 harg9 arg10 harg10 arg11 harg11 arg12 harg12 h0 h1 h2 x0 x1 x2 x3 x4 xs = k0_pay5 (k0_pay7 xs x0 x1 x2) := by
  unfold out0_C_8
  rw [View.read_writes_junk_eq_canon]
  unfold kernelRun0_C
  dsimp only
  refine (View.canon_unit_zero zero_offsets _ _).trans ?_
  unfold kernelRun0_C.sl.r
  simp only [load_eq, ld_whole]
end

/-- What the accumulator holds after a point. -/
def acc : Vec Ideal S512x2048 .f32 := (outsAt0 m c t.val t.isLt).2.2.2.2
theorem acc_A (h : t.val % 4 = 0) : acc m c t = k0_pay1 (iblk m c 0 t) (iblk m c 1 t) := by
  unfold acc; rw [outsAt0_A m c t h (by omega) (by omega)]; dsimp only; rw [sout_A]
theorem acc_B (h : 1 ≤ t.val % 4 ∧ t.val % 4 ≤ 2) : acc m c t = k0_pay2 (acc m c (prev t)) (iblk m c 0 t) (iblk m c 1 t) := by
  unfold acc; rw [outsAt0_B m c t (by omega) h (by omega)]; dsimp only; rw [sout_B]; rfl
theorem written5 (h : t.val % 4 = 3) : (outsAt0 m c t.val t.isLt).1 = k0_pay10 (acc m c (prev t)) (iblk m c 0 t) (iblk m c 1 t) (iblk m c 2 t) (iblk m c 3 t) (iblk m c 4 t) := by
  unfold acc; rw [outsAt0_C m c t (by omega) (by omega) h]; dsimp only; rw [out_C5]; rfl
theorem written6 (h : t.val % 4 = 3) : (outsAt0 m c t.val t.isLt).2.1 = k0_pay3 (k0_pay11 (acc m c (prev t)) (iblk m c 0 t) (iblk m c 1 t) (iblk m c 2 t) (iblk m c 3 t) (iblk m c 4 t)) := by
  unfold acc; rw [outsAt0_C m c t (by omega) (by omega) h]; dsimp only; rw [out_C6]; rfl
theorem written7 (h : t.val % 4 = 3) : (outsAt0 m c t.val t.isLt).2.2.1 = k0_pay4 (k0_pay8 (acc m c (prev t)) (iblk m c 0 t) (iblk m c 1 t) (iblk m c 2 t)) := by
  unfold acc; rw [outsAt0_C m c t (by omega) (by omega) h]; dsimp only; rw [out_C7]; rfl
theorem written8 (h : t.val % 4 = 3) : (outsAt0 m c t.val t.isLt).2.2.2.1 = k0_pay5 (k0_pay7 (acc m c (prev t)) (iblk m c 0 t) (iblk m c 1 t) (iblk m c 2 t)) := by
  unfold acc; rw [outsAt0_C m c t (by omega) (by omega) h]; dsimp only; rw [out_C8]; rfl

theorem pay1_at (j : S512x2048.Idx) : k0_pay1 (F := Ideal) (iblk m c 0 t) (iblk m c 1 t) j = ∑ r : Fin 2048, term m c (row t (j 0)) (j 1) (inner t r) := by
  pointwise [k0_pay1]
  simp only [blk0, blk1]
  rfl
theorem pay2_at (o : Vec Ideal S512x2048 .f32) (j : S512x2048.Idx) :
    k0_pay2 (F := Ideal) o (iblk m c 0 t) (iblk m c 1 t) j = o j + ∑ r : Fin 2048, term m c (row t (j 0)) (j 1) (inner t r) := by
  pointwise [k0_pay2]
  simp only [blk0, blk1]
  rfl

theorem row_prev (h : t.val % 4 ≠ 0) (j : S512x2048.Idx) : row (prev t) (j 0) = row t (j 0) :=
  Fin.ext (show 512 * ((t.val - 1) / 4) + (j 0).val = 512 * (t.val / 4) + (j 0).val by omega)
theorem after_first (h : t.val % 4 = 0) (j : S512x2048.Idx) : acc m c t j = part 2048 (term m c (row t (j 0)) (j 1)) 1 := by
  rw [acc_A m c t h, pay1_at]
  exact part_one 2048 _ _ fun r => by show 2048 * (t.val % 4) + r.val = r.val; omega
theorem after_second (h : t.val % 4 = 1) (j : S512x2048.Idx) : acc m c t j = part 2048 (term m c (row t (j 0)) (j 1)) 2 := by
  rw [acc_B m c t (by omega), pay2_at, after_first m c (prev t) (show (t.val - 1) % 4 = 0 by omega) j, row_prev t (by omega) j]
  exact part_succ 2048 _ 1 _ fun r => by show 2048 * (t.val % 4) + r.val = 2048 * 1 + r.val; omega
theorem after_third (h : t.val % 4 = 2) (j : S512x2048.Idx) : acc m c t j = part 2048 (term m c (row t (j 0)) (j 1)) 3 := by
  rw [acc_B m c t (by omega), pay2_at, after_second m c (prev t) (show (t.val - 1) % 4 = 1 by omega) j, row_prev t (by omega) j]
  exact part_succ 2048 _ 2 _ fun r => by show 2048 * (t.val % 4) + r.val = 2048 * 2 + r.val; omega
theorem product_at (a : Fin 4096) (l : Fin 2048) : val_main_v5 (F := Ideal) (x m c) (up m c) (down m c) (ix2 a l) = ∑ q : Fin 8192, term m c a l q := by
  pointwise [val_main_v5]
  rfl
/-- The two blocks a point multiplies. -/
abbrev lhs : FVec Ideal S512x2048 .bf16 := iblk m c 0 t
abbrev rhs : FVec Ideal S2048x2048 .bf16 := iblk m c 1 t
abbrev res : FVec Ideal S512x2048 .f32 := iblk m c 2 t
/-- At the last point of a block the accumulator and the point's own product make the whole product. -/
theorem whole_product (h : t.val % 4 = 3) (r : Fin 512) (l : Fin 2048) :
    acc m c (prev t) (ix2 r l) + ∑ k : Fin 2048, lhs m c t (ix2 r k) * rhs m c t (ix2 k l)
      = val_main_v5 (F := Ideal) (x m c) (up m c) (down m c) (ix2 (row t r) l) := by
  rw [product_at, after_third m c (prev t) (show (t.val - 1) % 4 = 2 by omega) (ix2 r l), row_prev t (by omega) (ix2 r l)]
  simp only [lhs, rhs, blk0, blk1]
  exact (part_succ 2048 (term m c (row t r) l) 3 (inner t) fun r => by show 2048 * (t.val % 4) + r.val = 2048 * 3 + r.val; omega).trans (part_all 2048 _ 4 rfl)

/-! ## The results -/

section
variable (o : FVec Ideal S512x2048 .f32) (x0 : FVec Ideal S512x2048 .bf16) (x1 : FVec Ideal S2048x2048 .bf16) (x2 : FVec Ideal S512x2048 .f32)
  (x3 x4 : FVec Ideal S1x2048 .f32) (i : Fin 4096) (r : Fin 512)
  (hu : ∀ l : Fin 2048, o (ix2 r l) + ∑ k : Fin 2048, x0 (ix2 r k) * x1 (ix2 k l) = val_main_v5 (F := Ideal) (x m c) (up m c) (down m c) (ix2 i l))
  (h2 : ∀ l : Fin 2048, x2 (ix2 r l) = x m c (ix2 i l))
include hu h2
theorem block5 (l : Fin 2048) : (k0_pay10 o x0 x1 x2 (g m c) (b m c) : FVec Ideal _ _) (ix2 r l) = val_main_v46 (F := Ideal) (x m c) (up m c) (down m c) (g m c) (b m c) (ix2 i l) := by
  pointwise [k0_pay6, k0_pay7, k0_pay8, k0_pay9, k0_pay10, val_main_cst, val_main_v0, val_main_v1, val_main_v6, val_main_cst_0, val_main_v7, val_main_v8, val_main_cst_1, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_cst_5, val_main_v23, val_main_v24, val_main_cst_6, val_main_v25, val_main_v26, val_main_v27, val_main_v28, val_main_v29, val_main_cst_7, val_main_v30, val_main_v31, val_main_cst_8, val_main_v32, val_main_v33, val_main_v34, val_main_v35, val_main_cst_9, val_main_v36, val_main_v37, val_main_v38, val_main_v39, val_main_v40, val_main_v41, val_main_v42, val_main_v43, val_main_v44, val_main_v45, val_main_v46, val_main_v47, val_main_v48, val_main_v49, val_main_v50, val_main_v51]
  simp only [hu, h2]
theorem block6 (l : Fin 2048) : (k0_pay3 (k0_pay11 o x0 x1 x2 (g m c) (b m c)) : FVec Ideal _ _) (ix2 r l) = val_main_v47 (F := Ideal) (x m c) (up m c) (down m c) (g m c) (b m c) (ix2 i l) := by
  pointwise [k0_pay3, k0_pay6, k0_pay7, k0_pay8, k0_pay9, k0_pay11, val_main_cst, val_main_v0, val_main_v1, val_main_v6, val_main_cst_0, val_main_v7, val_main_v8, val_main_cst_1, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_cst_5, val_main_v23, val_main_v24, val_main_cst_6, val_main_v25, val_main_v26, val_main_v27, val_main_v28, val_main_v29, val_main_cst_7, val_main_v30, val_main_v31, val_main_cst_8, val_main_v32, val_main_v33, val_main_v34, val_main_v35, val_main_cst_9, val_main_v36, val_main_v37, val_main_v38, val_main_v39, val_main_v40, val_main_v41, val_main_v42, val_main_v43, val_main_v44, val_main_v45, val_main_v46, val_main_v47, val_main_v48, val_main_v49, val_main_v50, val_main_v51]
  simp only [hu, h2]
theorem block7 (l : Fin 2048) : (k0_pay4 (k0_pay8 o x0 x1 x2) : FVec Ideal _ _) (ix2 r l) = val_main_v51 (F := Ideal) (x m c) (up m c) (down m c) (ix2 i l) := by
  pointwise [k0_pay4, k0_pay6, k0_pay7, k0_pay8, val_main_cst, val_main_v0, val_main_v1, val_main_v6, val_main_cst_0, val_main_v7, val_main_v8, val_main_cst_1, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_cst_5, val_main_v23, val_main_v24, val_main_cst_6, val_main_v25, val_main_v26, val_main_v27, val_main_v28, val_main_v29, val_main_cst_7, val_main_v30, val_main_v31, val_main_cst_8, val_main_v32, val_main_v33, val_main_v34, val_main_v35, val_main_cst_9, val_main_v36, val_main_v37, val_main_v38, val_main_v39, val_main_v40, val_main_v41, val_main_v42, val_main_v43, val_main_v44, val_main_v45, val_main_v46, val_main_v47, val_main_v48, val_main_v49, val_main_v50, val_main_v51]
  simp only [hu, h2]
theorem block8 (l : Fin 1) : (k0_pay5 (k0_pay7 o x0 x1 x2) : FVec Ideal _ _) (ix2 r l) = val_main_v20 (F := Ideal) (x m c) (up m c) (down m c) (ix2 i l) := by
  pointwise [k0_pay5, k0_pay6, k0_pay7, val_main_cst, val_main_v0, val_main_v1, val_main_v6, val_main_cst_0, val_main_v7, val_main_v8, val_main_cst_1, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_cst_5, val_main_v23, val_main_v24, val_main_cst_6, val_main_v25, val_main_v26, val_main_v27, val_main_v28, val_main_v29, val_main_cst_7, val_main_v30, val_main_v31, val_main_cst_8, val_main_v32, val_main_v33, val_main_v34, val_main_v35, val_main_cst_9, val_main_v36, val_main_v37, val_main_v38, val_main_v39, val_main_v40, val_main_v41, val_main_v42, val_main_v43, val_main_v44, val_main_v45, val_main_v46, val_main_v47, val_main_v48, val_main_v49, val_main_v50, val_main_v51]
  simp only [hu, h2]
end

theorem blk3_eq : iblk m c 3 t = g m c := funext (blk3 m c t)
theorem blk4_eq : iblk m c 4 t = b m c := funext (blk4 m c t)

theorem final5 : (dats m 0 c).arrAt 5 cfg0.N = val_main_v46 (F := Ideal) (x m c) (up m c) (down m c) (g m c) (b m c) :=
  (dats m 0 c).arrAt_eq_of_cover 5 _ (fun t ht => by
    have h := (flush0_5 t).mp ht
    rw [flushed5, written5 m c t h, blk3_eq, blk4_eq]
    funext j
    show (k0_pay10 (acc m c (prev t)) (iblk m c 0 t) (iblk m c 1 t) (iblk m c 2 t) (g m c) (b m c) : FVec Ideal _ _) j = val_main_v46 (F := Ideal) (x m c) (up m c) (down m c) (g m c) (b m c) (((cfg0.win 5).blk t).view.emb j)
    rw [emb5]
    obtain ⟨r, l, rfl⟩ : ∃ (r : Fin 512) (l : Fin 2048), j = (ix2 r l : S512x2048.Idx) := ⟨j 0, j 1, by funext a; fin_cases a <;> rfl⟩
    exact block5 m c (acc m c (prev t)) (lhs m c t) (rhs m c t) (res m c t) (row t r) r (whole_product m c t h r) (fun l => blk2 m c t (ix2 r l)) l) covered5
theorem final6 : (dats m 0 c).arrAt 6 cfg0.N = val_main_v47 (F := Ideal) (x m c) (up m c) (down m c) (g m c) (b m c) :=
  (dats m 0 c).arrAt_eq_of_cover 6 _ (fun t ht => by
    have h := (flush0_6 t).mp ht
    rw [flushed6, written6 m c t h, blk3_eq, blk4_eq]
    funext j
    show (k0_pay3 (k0_pay11 (acc m c (prev t)) (iblk m c 0 t) (iblk m c 1 t) (iblk m c 2 t) (g m c) (b m c)) : FVec Ideal _ _) j = val_main_v47 (F := Ideal) (x m c) (up m c) (down m c) (g m c) (b m c) (((cfg0.win 6).blk t).view.emb j)
    rw [emb6]
    obtain ⟨r, l, rfl⟩ : ∃ (r : Fin 512) (l : Fin 2048), j = (ix2 r l : S512x2048.Idx) := ⟨j 0, j 1, by funext a; fin_cases a <;> rfl⟩
    exact block6 m c (acc m c (prev t)) (lhs m c t) (rhs m c t) (res m c t) (row t r) r (whole_product m c t h r) (fun l => blk2 m c t (ix2 r l)) l) covered6
theorem final7 : (dats m 0 c).arrAt 7 cfg0.N = val_main_v51 (F := Ideal) (x m c) (up m c) (down m c) :=
  (dats m 0 c).arrAt_eq_of_cover 7 _ (fun t ht => by
    have h := (flush0_7 t).mp ht
    rw [flushed7, written7 m c t h]
    funext j
    show (k0_pay4 (k0_pay8 (acc m c (prev t)) (iblk m c 0 t) (iblk m c 1 t) (iblk m c 2 t)) : FVec Ideal _ _) j = val_main_v51 (F := Ideal) (x m c) (up m c) (down m c) (((cfg0.win 7).blk t).view.emb j)
    rw [emb7]
    obtain ⟨r, l, rfl⟩ : ∃ (r : Fin 512) (l : Fin 2048), j = (ix2 r l : S512x2048.Idx) := ⟨j 0, j 1, by funext a; fin_cases a <;> rfl⟩
    exact block7 m c (acc m c (prev t)) (lhs m c t) (rhs m c t) (res m c t) (row t r) r (whole_product m c t h r) (fun l => blk2 m c t (ix2 r l)) l) covered7
theorem final8 : (dats m 0 c).arrAt 8 cfg0.N = val_main_v20 (F := Ideal) (x m c) (up m c) (down m c) :=
  (dats m 0 c).arrAt_eq_of_cover 8 _ (fun t ht => by
    have h := (flush0_8 t).mp ht
    rw [flushed8, written8 m c t h]
    funext j
    show (k0_pay5 (k0_pay7 (acc m c (prev t)) (iblk m c 0 t) (iblk m c 1 t) (iblk m c 2 t)) : FVec Ideal _ _) j = val_main_v20 (F := Ideal) (x m c) (up m c) (down m c) (((cfg0.win 8).blk t).view.emb j)
    rw [emb8]
    obtain ⟨r, l, rfl⟩ : ∃ (r : Fin 512) (l : Fin 1), j = (ix2 r l : S512x1.Idx) := ⟨j 0, j 1, by funext a; fin_cases a <;> rfl⟩
    exact block8 m c (acc m c (prev t)) (lhs m c t) (rhs m c t) (res m c t) (row t r) r (whole_product m c t h r) (fun l => blk2 m c t (ix2 r l)) l) covered8
theorem final_eq5 (a0 a1 a2 a3 a4) (h0 : a0 = x m c) (h1 : a1 = up m c) (h2 : a2 = down m c) (h3 : a3 = g m c) (h4 : a4 = b m c) : val_main_v46 (F := Ideal) a0 a1 a2 a3 a4 = (dats m 0 c).arrAt 5 cfg0.N := by
  rw [h0, h1, h2, h3, h4, final5]
theorem final_eq6 (a0 a1 a2 a3 a4) (h0 : a0 = x m c) (h1 : a1 = up m c) (h2 : a2 = down m c) (h3 : a3 = g m c) (h4 : a4 = b m c) : val_main_v47 (F := Ideal) a0 a1 a2 a3 a4 = (dats m 0 c).arrAt 6 cfg0.N := by
  rw [h0, h1, h2, h3, h4, final6]
theorem final_eq7 (a0 a1 a2) (h0 : a0 = x m c) (h1 : a1 = up m c) (h2 : a2 = down m c) : val_main_v51 (F := Ideal) a0 a1 a2 = (dats m 0 c).arrAt 7 cfg0.N := by
  rw [h0, h1, h2, final7]
theorem final_eq8 (a0 a1 a2) (h0 : a0 = x m c) (h1 : a1 = up m c) (h2 : a2 = down m c) : val_main_v20 (F := Ideal) a0 a1 a2 = (dats m 0 c).arrAt 8 cfg0.N := by
  rw [h0, h1, h2, final8]

theorem algebraic : letI := Cert.Kernel7Ideal.Gen.facts; letI := Cert.Reference7Ideal.Gen.facts;
    Cert.algebraic_Kernel7Ideal_Reference7Ideal := by
  intro m ρ m' ρ' hpre hargs
  refine ⟨fun c => (dats m 0 c).arrAt 5 cfg0.N, fun c => (dats m 0 c).arrAt 6 cfg0.N, fun c => (dats m 0 c).arrAt 7 cfg0.N,
    fun c => (dats m 0 c).arrAt 8 cfg0.N, run_blocks m ρ, ?_⟩
  refine (θ_run _ _ _).mono (fun r h c => ?_) (Cert.Reference7Ideal.Value.run m' ρ')
  obtain ⟨e0, e1, e2, e3, e4⟩ := hargs c
  obtain ⟨r0, r1, r2, r3, rest⟩ := h c
  exact ⟨r0.trans ((val_main_v46_eq m' c).trans (final_eq5 m c _ _ _ _ _ e0 e1 e2 e3 e4)),
    r1.trans ((val_main_v47_eq m' c).trans (final_eq6 m c _ _ _ _ _ e0 e1 e2 e3 e4)),
    r2.trans ((val_main_v51_eq m' c).trans (final_eq7 m c _ _ _ e0 e1 e2)),
    r3.trans ((val_main_v20_eq _ _ _ ).trans (final_eq8 m c _ _ _ e0 e1 e2)), rest⟩

end Cert.Proof.DownLn

end
-- ==== Proof.Proj.lean ====
module

public import proofs.«01_k».proof.Proof.Product
public import proofs.«01_k».proof.Proof.Gen.Kernel8Ideal.Value
public import proofs.«01_k».proof.Proof.Gen.Reference8Ideal.Read
public import proofs.«01_k».proof.Proof.Gen.Reference8Ideal.Run
public import proofs.«01_k».proof.Defs

/-! The mixer's combined input projection, `x @ w_in`: one product to a grid point, whose blocks of 1024 rows and 1280 columns
    tile the result. -/

@[expose] public section

set_option maxRecDepth 16384
noncomputable section

namespace Cert.Proof.Proj

open Idealize.ShloMosaic Idealize.ShloMosaic.TcCoe Idealize.SL.Sem Cert.Kernel8Ideal Cert.Kernel8Ideal.Gen Cert.Kernel8Ideal.Value
open Cert.Reference8Ideal.Read

variable (m : (ℓ : Loc nD τ sig) → Buf (Elt Ideal) ℓ) (c : Dev nD) (t : Fin cfg0.N)

abbrev x : FVec Ideal S4096x2048 .f32 := m ((c : Thread nD τ).loc main_arg0)
abbrev win : FVec Ideal S2048x7680 .f32 := m ((c : Thread nD τ).loc main_arg1)

theorem V_v0 : V m c main_v0 = truncf .bf16 (x m c) bitsLt_bf16_f32 := by
  show StableHlo.after hostOps0 _ (Proc.devRef .tc main_v0) = _
  after_results
theorem V_v2 : V m c main_v2 = truncf .bf16 (transpose S7680x2048 [1, 0] (win m c) transposes_S2048x7680_S7680x2048_1_0) bitsLt_bf16_f32 := by
  show StableHlo.after hostOps0 _ (Proc.devRef .tc main_v2) = _
  after_results

/-! ## The blocks -/

theorem lt24 : t.val < 24 := lt_of_lt_of_eq t.isLt N_0
def row (r : Fin 1024) : Fin 4096 := ⟨1024 * (t.val % 4) + r.val, by omega⟩
def colm (s : Fin 1280) : Fin 7680 := ⟨1280 * (t.val / 4) + s.val, by have := lt24 t; omega⟩

theorem idx : ∀ t : Fin cfg0.N, (win0_0.index t (0 : Fin 2) = t.val % 4 ∧ win0_0.index t (1 : Fin 2) = 0)
    ∧ (win0_1.index t (0 : Fin 2) = t.val / 4 ∧ win0_1.index t (1 : Fin 2) = 0)
    ∧ (win0_2.index t (0 : Fin 2) = t.val % 4 ∧ win0_2.index t (1 : Fin 2) = t.val / 4) :=
  (by decide +kernel : ∀ t : Fin grid0.N, _)
theorem emb0 (j : S1024x2048.Idx) : ((cfg0.win 0).blk t).view.emb j = ix2 (row t (j 0)) (j 1) := by
  obtain ⟨⟨e0, e1⟩, -⟩ := idx t
  funext a; apply Fin.ext
  match a with
  | ⟨0, _⟩ => show win0_0.index t (0 : Fin 2) * 1024 + 1 * (j 0).val = 1024 * (t.val % 4) + (j 0).val; omega
  | ⟨1, _⟩ => show win0_0.index t (1 : Fin 2) * 2048 + 1 * (j 1).val = (j 1).val; omega
theorem emb1 (j : S1280x2048.Idx) : ((cfg0.win 1).blk t).view.emb j = ix2 (colm t (j 0)) (j 1) := by
  obtain ⟨-, ⟨e0, e1⟩, -⟩ := idx t
  funext a; apply Fin.ext
  match a with
  | ⟨0, _⟩ => show win0_1.index t (0 : Fin 2) * 1280 + 1 * (j 0).val = 1280 * (t.val / 4) + (j 0).val; omega
  | ⟨1, _⟩ => show win0_1.index t (1 : Fin 2) * 2048 + 1 * (j 1).val = (j 1).val; omega
theorem emb2 (j : S1024x1280.Idx) : ((cfg0.win 2).blk t).view.emb j = ix2 (row t (j 0)) (colm t (j 1)) := by
  obtain ⟨-, -, e0, e1⟩ := idx t
  funext a; apply Fin.ext
  match a with
  | ⟨0, _⟩ => show win0_2.index t (0 : Fin 2) * 1024 + 1 * (j 0).val = 1024 * (t.val % 4) + (j 0).val; omega
  | ⟨1, _⟩ => show win0_2.index t (1 : Fin 2) * 1280 + 1 * (j 1).val = 1280 * (t.val / 4) + (j 1).val; omega

theorem blk0 (j : S1024x2048.Idx) : iblk m c 0 t j = x m c (ix2 (row t (j 0)) (j 1)) := by
  show V m c main_v0 (((cfg0.win 0).blk t).view.emb j) = _; rw [emb0, V_v0]; rfl
theorem blk1 (j : S1280x2048.Idx) : iblk m c 1 t j = win m c (ix2 (j 1) (colm t (j 0))) := by
  show V m c main_v2 (((cfg0.win 1).blk t).view.emb j) = _
  rw [emb1, V_v2]
  exact transpose_apply [1, 0] (win m c) transposes_S2048x7680_S7680x2048_1_0 _ _ (fun b => by fin_cases b <;> rfl)

theorem point (i : S4096x7680.Idx) : ∃ (t : Fin cfg0.N) (j : S1024x1280.Idx), i = ix2 (row t (j 0)) (colm t (j 1)) := by
  have b0 : (i 0).val < 4096 := (i 0).isLt
  have b1 : (i 1).val < 7680 := (i 1).isLt
  refine ⟨⟨4 * ((i 1).val / 1280) + (i 0).val / 1024, lt_of_lt_of_eq (by omega) N_0.symm⟩,
    ix2 ⟨(i 0).val % 1024, Nat.mod_lt _ (by decide)⟩ ⟨(i 1).val % 1280, Nat.mod_lt _ (by decide)⟩, ?_⟩
  funext a; apply Fin.ext
  match a with
  | ⟨0, _⟩ => show (i 0).val = 1024 * ((4 * ((i 1).val / 1280) + (i 0).val / 1024) % 4) + (i 0).val % 1024; omega
  | ⟨1, _⟩ => show (i 1).val = 1280 * ((4 * ((i 1).val / 1280) + (i 0).val / 1024) / 4) + (i 1).val % 1280; omega
theorem covered2 (i : S4096x7680.Idx) : ∃ t : Fin cfg0.N, (cfg0.win 2).flush t = true ∧ i ∈ ((cfg0.win 2).blk t).view.set := by
  obtain ⟨t, j, e⟩ := point i
  exact ⟨t, flush0_2 t, by rw [e, ← emb2]; exact ((cfg0.win 2).blk t).view.emb_mem_set j⟩

/-! ## The result -/

section
variable {F : FTy → Type} [FloatOps F]
theorem whole0 {e : EltTy} (b : Vec F S1024x2048 e) : View.ld b r0_0 = b := View.ld_unit_zero zero_offsets _ b
theorem whole1 {e : EltTy} (b : Vec F S1280x2048 e) : View.ld b r0_1 = b := View.ld_unit_zero zero_offsets _ b
theorem block_out2 (b0 : Vec F S1024x2048 .bf16) (b1 : Vec F S1280x2048 .bf16) : out0_2 b0 b1 = k0_pay1 b0 b1 := by
  unfold out0_2
  refine (View.canon_unit_zero zero_offsets _ _).trans ?_
  rw [whole0, whole1]
end

theorem final2 : (dats m 0 c).arrAt 2 cfg0.N = val_main_v0 (F := Ideal) (x m c) (win m c) :=
  (dats m 0 c).arrAt_eq_of_cover 2 _ (fun t _ => by
    rw [flushed2, block_out2]
    funext j
    show k0_pay1 (F := Ideal) (iblk m c 0 t) (iblk m c 1 t) j = val_main_v0 (F := Ideal) (x m c) (win m c) (((cfg0.win 2).blk t).view.emb j)
    rw [emb2, val_main_v0_apply]
    pointwise [k0_pay1]
    simp only [blk0, blk1]
    exact Finset.sum_congr rfl fun k _ => congrArg₂ (· * ·) (congrArg (x m c) (by funext a; fin_cases a <;> rfl)) (congrArg (win m c) (by funext a; fin_cases a <;> rfl))) covered2

theorem final_eq2 (a0 a1) (h0 : a0 = x m c) (h1 : a1 = win m c) : val_main_v0 (F := Ideal) a0 a1 = (dats m 0 c).arrAt 2 cfg0.N := by
  rw [h0, h1, final2]

theorem algebraic : letI := Cert.Kernel8Ideal.Gen.facts; letI := Cert.Reference8Ideal.Gen.facts;
    Cert.algebraic_Kernel8Ideal_Reference8Ideal := by
  intro m ρ m' ρ' hpre hargs
  refine ⟨fun c => (dats m 0 c).arrAt 2 cfg0.N, run_blocks m ρ, ?_⟩
  refine (θ_run _ _ _).mono (fun r h c => ?_) (Cert.Reference8Ideal.Value.run m' ρ')
  obtain ⟨e0, e1⟩ := hargs c
  obtain ⟨r0, rest⟩ := h c
  exact ⟨r0.trans ((val_main_v0_eq _ _).trans (final_eq2 m c _ _ e0 e1)), rest⟩

end Cert.Proof.Proj

end
-- ==== Proof.ProjDx.lean ====
module

public import proofs.«01_k».proof.Proof.Product
public import proofs.«01_k».proof.Proof.Gen.Kernel9Ideal.Value
public import proofs.«01_k».proof.Proof.Gen.Reference9Ideal.Read
public import proofs.«01_k».proof.Proof.Gen.Reference9Ideal.Run
public import proofs.«01_k».proof.Defs

/-! The gradient of the mixer's input, `dp @ w_inᵀ + sqrt 2 * dz` with the residual added at the end: the product is built up over
    three grid points in an accumulator, 2560 terms of every sum at a time, and the last point writes the block out. -/

@[expose] public section

set_option maxRecDepth 16384
noncomputable section

namespace Cert.Proof.ProjDx

open Idealize.ShloMosaic Idealize.ShloMosaic.TcCoe Idealize.SL.Sem Cert.Kernel9Ideal Cert.Kernel9Ideal.Gen Cert.Kernel9Ideal.Value
open Cert.Reference9Ideal.Read

variable (m : (ℓ : Loc nD τ sig) → Buf (Elt Ideal) ℓ) (c : Dev nD) (t : Fin cfg0.N)

abbrev dp : FVec Ideal S4096x7680 .f32 := m ((c : Thread nD τ).loc main_arg0)
abbrev win : FVec Ideal S2048x7680 .f32 := m ((c : Thread nD τ).loc main_arg1)
abbrev dz : FVec Ideal S4096x2048 .f32 := m ((c : Thread nD τ).loc main_arg2)

theorem V_v0 : V m c main_v0 = truncf .bf16 (dp m c) bitsLt_bf16_f32 := by
  show StableHlo.after hostOps0 _ (Proc.devRef .tc main_v0) = _
  after_results
theorem V_v2 : V m c main_v2 = truncf .bf16 (transpose S7680x2048 [1, 0] (win m c) transposes_S2048x7680_S7680x2048_1_0) bitsLt_bf16_f32 := by
  show StableHlo.after hostOps0 _ (Proc.devRef .tc main_v2) = _
  after_results

/-! ## The blocks -/

theorem lt24 : t.val < 24 := lt_of_lt_of_eq t.isLt N_0
def inner (r : Fin 2560) : Fin 7680 := ⟨2560 * (t.val % 3) + r.val, by omega⟩
def row (r : Fin 512) : Fin 4096 := ⟨512 * (t.val / 3) + r.val, by have := lt24 t; omega⟩
/-- The point before. -/
def prev : Fin cfg0.N := ⟨t.val - 1, Nat.lt_of_le_of_lt (Nat.sub_le _ _) t.isLt⟩

theorem idx : ∀ t : Fin cfg0.N, (win0_0.index t (0 : Fin 2) = t.val / 3 ∧ win0_0.index t (1 : Fin 2) = t.val % 3)
    ∧ (win0_1.index t (0 : Fin 2) = t.val % 3 ∧ win0_1.index t (1 : Fin 2) = 0)
    ∧ (win0_2.index t (0 : Fin 2) = t.val / 3 ∧ win0_2.index t (1 : Fin 2) = 0)
    ∧ (win0_3.index t (0 : Fin 2) = t.val / 3 ∧ win0_3.index t (1 : Fin 2) = 0) :=
  (by decide +kernel : ∀ t : Fin grid0.N, _)
theorem emb0 (j : S512x2560.Idx) : ((cfg0.win 0).blk t).view.emb j = ix2 (row t (j 0)) (inner t (j 1)) := by
  obtain ⟨⟨e0, e1⟩, -⟩ := idx t
  funext a; apply Fin.ext
  match a with
  | ⟨0, _⟩ => show win0_0.index t (0 : Fin 2) * 512 + 1 * (j 0).val = 512 * (t.val / 3) + (j 0).val; omega
  | ⟨1, _⟩ => show win0_0.index t (1 : Fin 2) * 2560 + 1 * (j 1).val = 2560 * (t.val % 3) + (j 1).val; omega
theorem emb1 (j : S2560x2048.Idx) : ((cfg0.win 1).blk t).view.emb j = ix2 (inner t (j 0)) (j 1) := by
  obtain ⟨-, ⟨e0, e1⟩, -⟩ := idx t
  funext a; apply Fin.ext
  match a with
  | ⟨0, _⟩ => show win0_1.index t (0 : Fin 2) * 2560 + 1 * (j 0).val = 2560 * (t.val % 3) + (j 0).val; omega
  | ⟨1, _⟩ => show win0_1.index t (1 : Fin 2) * 2048 + 1 * (j 1).val = (j 1).val; omega
theorem emb2 (j : S512x2048.Idx) : ((cfg0.win 2).blk t).view.emb j = ix2 (row t (j 0)) (j 1) := by
  obtain ⟨-, -, ⟨e0, e1⟩, -⟩ := idx t
  funext a; apply Fin.ext
  match a with
  | ⟨0, _⟩ => show win0_2.index t (0 : Fin 2) * 512 + 1 * (j 0).val = 512 * (t.val / 3) + (j 0).val; omega
  | ⟨1, _⟩ => show win0_2.index t (1 : Fin 2) * 2048 + 1 * (j 1).val = (j 1).val; omega
theorem emb3 (j : S512x2048.Idx) : ((cfg0.win 3).blk t).view.emb j = ix2 (row t (j 0)) (j 1) := by
  obtain ⟨-, -, -, e0, e1⟩ := idx t
  funext a; apply Fin.ext
  match a with
  | ⟨0, _⟩ => show win0_3.index t (0 : Fin 2) * 512 + 1 * (j 0).val = 512 * (t.val / 3) + (j 0).val; omega
  | ⟨1, _⟩ => show win0_3.index t (1 : Fin 2) * 2048 + 1 * (j 1).val = (j 1).val; omega

/-- One term of an entry of the product. -/
def term (i : Fin 4096) (l : Fin 2048) (q : Fin 7680) : EReal := dp m c (ix2 i q) * win m c (ix2 l q)

theorem blk0 (j : S512x2560.Idx) : iblk m c 0 t j = dp m c (ix2 (row t (j 0)) (inner t (j 1))) := by
  show V m c main_v0 (((cfg0.win 0).blk t).view.emb j) = _; rw [emb0, V_v0]; rfl
theorem blk1 (j : S2560x2048.Idx) : iblk m c 1 t j = win m c (ix2 (j 1) (inner t (j 0))) := by
  show V m c main_v2 (((cfg0.win 1).blk t).view.emb j) = _
  rw [emb1, V_v2]
  exact transpose_apply [1, 0] (win m c) transposes_S2048x7680_S7680x2048_1_0 _ _ (fun b => by fin_cases b <;> rfl)
theorem blk2 (j : S512x2048.Idx) : iblk m c 2 t j = dz m c (ix2 (row t (j 0)) (j 1)) := by
  show V m c main_arg2 (((cfg0.win 2).blk t).view.emb j) = _; rw [emb2, V_main_arg2]; rfl

theorem covered (i : S4096x2048.Idx) : ∃ t : Fin cfg0.N, (cfg0.win 3).flush t = true ∧ i ∈ ((cfg0.win 3).blk t).view.set := by
  have b0 : (i 0).val < 4096 := (i 0).isLt
  let t : Fin cfg0.N := ⟨3 * ((i 0).val / 512) + 2, lt_of_lt_of_eq (by omega) N_0.symm⟩
  let j : S512x2048.Idx := ix2 ⟨(i 0).val % 512, Nat.mod_lt _ (by decide)⟩ (i 1)
  have e : ((cfg0.win 3).blk t).view.emb j = i := by
    rw [emb3]
    funext a; apply Fin.ext
    match a with
    | ⟨0, _⟩ => show 512 * ((3 * ((i 0).val / 512) + 2) / 3) + (i 0).val % 512 = (i 0).val; omega
    | ⟨1, _⟩ => rfl
  exact ⟨t, (flush0_3 t).mpr (show (3 * ((i 0).val / 512) + 2) % 3 = 2 by omega), e ▸ ((cfg0.win 3).blk t).view.emb_mem_set j⟩

/-! ## What a point leaves in the accumulator, and what the last point of a block writes -/

section
variable {F : FTy → Type} [FloatOps F] (i : grid0.Coords) (arg3 : Memref sig .tc .vmem S512x2560 .bf16) (harg3 : arg3.IsWhole)
  (arg4 : Memref sig .tc .vmem S2560x2048 .bf16) (harg4 : arg4.IsWhole) (arg5 : Memref sig .tc .vmem S512x2048 .f32) (harg5 : arg5.IsWhole)
  (arg6 : Memref sig .tc .vmem S512x2048 .f32) (harg6 : arg6.IsWhole) (arg7 : Memref sig .tc .vmem S512x2048 .f32) (harg7 : arg7.IsWhole)
  (x0 : Vec F S512x2560 .bf16) (x1 : Vec F S2560x2048 .bf16) (x2 xs : Vec F S512x2048 .f32)
theorem sout_A (h0 h1 h2) : sout0_A_0 c i arg3 harg3 arg4 harg4 arg5 harg5 arg6 harg6 arg7 harg7 h0 h1 h2 x0 x1 x2 = k0_pay1 x0 x1 := by
  unfold sout0_A_0
  rw [View.read_writes_junk_eq_canon]
  unfold kernelRun0_A
  dsimp only
  refine (View.canon_unit_zero zero_offsets _ _).trans ?_
  simp only [load_eq, ld_whole]
theorem sout_B (h0 h1 h2) : sout0_B_0 c i arg3 harg3 arg4 harg4 arg5 harg5 arg6 harg6 arg7 harg7 h0 h1 h2 x0 x1 x2 xs = k0_pay2 xs x0 x1 := by
  unfold sout0_B_0
  rw [View.read_writes_junk_eq_canon]
  unfold kernelRun0_B
  dsimp only
  refine (View.canon_unit_zero zero_offsets _ _).trans ?_
  simp only [load_eq, ld_whole]
theorem out_C (h0 h1 h2) : out0_C_3 c i arg3 harg3 arg4 harg4 arg5 harg5 arg6 harg6 arg7 harg7 h0 h1 h2 x0 x1 x2 xs = k0_pay3 xs x0 x1 x2 := by
  unfold out0_C_3
  rw [View.read_writes_junk_eq_canon]
  unfold kernelRun0_C
  dsimp only
  refine (View.canon_unit_zero zero_offsets _ _).trans ?_
  simp only [load_eq, ld_whole]
end

/-- What the accumulator holds after a point. -/
def acc : Vec Ideal S512x2048 .f32 := (outsAt0 m c t.val t.isLt).2
theorem acc_A (h : t.val % 3 = 0) : acc m c t = k0_pay1 (iblk m c 0 t) (iblk m c 1 t) := by
  unfold acc; rw [outsAt0_A m c t h (by omega) (by omega)]; dsimp only; rw [sout_A]
theorem acc_B (h : t.val % 3 = 1) : acc m c t = k0_pay2 (acc m c (prev t)) (iblk m c 0 t) (iblk m c 1 t) := by
  unfold acc; rw [outsAt0_B m c t (by omega) h (by omega)]; dsimp only; rw [sout_B]; rfl
theorem written (h : t.val % 3 = 2) : (outsAt0 m c t.val t.isLt).1 = k0_pay3 (acc m c (prev t)) (iblk m c 0 t) (iblk m c 1 t) (iblk m c 2 t) := by
  unfold acc; rw [outsAt0_C m c t (by omega) (by omega) h]; dsimp only; rw [out_C]; rfl

theorem pay1_at (j : S512x2048.Idx) : k0_pay1 (F := Ideal) (iblk m c 0 t) (iblk m c 1 t) j = ∑ r : Fin 2560, term m c (row t (j 0)) (j 1) (inner t r) := by
  pointwise [k0_pay1]
  simp only [blk0, blk1]
  rfl
theorem pay2_at (o : Vec Ideal S512x2048 .f32) (j : S512x2048.Idx) :
    k0_pay2 (F := Ideal) o (iblk m c 0 t) (iblk m c 1 t) j = o j + ∑ r : Fin 2560, term m c (row t (j 0)) (j 1) (inner t r) := by
  pointwise [k0_pay2]
  simp only [blk0, blk1]
  rfl
theorem pay3_at (o : Vec Ideal S512x2048 .f32) (j : S512x2048.Idx) : k0_pay3 (F := Ideal) o (iblk m c 0 t) (iblk m c 1 t) (iblk m c 2 t) j
    = Ideal.ofBits .f32 0x3FB504F3#32 * dz m c (ix2 (row t (j 0)) (j 1)) + (o j + ∑ r : Fin 2560, term m c (row t (j 0)) (j 1) (inner t r)) := by
  pointwise [k0_pay3]
  simp only [blk0, blk1, blk2]
  rfl

theorem row_prev (h : t.val % 3 ≠ 0) (j : S512x2048.Idx) : row (prev t) (j 0) = row t (j 0) :=
  Fin.ext (show 512 * ((t.val - 1) / 3) + (j 0).val = 512 * (t.val / 3) + (j 0).val by omega)
theorem after_first (h : t.val % 3 = 0) (j : S512x2048.Idx) : acc m c t j = part 2560 (term m c (row t (j 0)) (j 1)) 1 := by
  rw [acc_A m c t h, pay1_at]
  exact part_one 2560 _ _ fun r => by show 2560 * (t.val % 3) + r.val = r.val; omega
theorem after_second (h : t.val % 3 = 1) (j : S512x2048.Idx) : acc m c t j = part 2560 (term m c (row t (j 0)) (j 1)) 2 := by
  rw [acc_B m c t h, pay2_at, after_first m c (prev t) (show (t.val - 1) % 3 = 0 by omega) j, row_prev t (by omega) j]
  exact part_succ 2560 _ 1 _ fun r => by show 2560 * (t.val % 3) + r.val = 2560 * 1 + r.val; omega
theorem after_third (h : t.val % 3 = 2) (j : S512x2048.Idx) : (outsAt0 m c t.val t.isLt).1 j
    = Ideal.ofBits .f32 0x3FB504F3#32 * dz m c (ix2 (row t (j 0)) (j 1)) + ∑ q : Fin 7680, term m c (row t (j 0)) (j 1) q := by
  rw [written m c t h, pay3_at, after_second m c (prev t) (show (t.val - 1) % 3 = 1 by omega) j, row_prev t (by omega) j]
  exact congrArg _ ((part_succ 2560 _ 2 _ fun r => by show 2560 * (t.val % 3) + r.val = 2560 * 2 + r.val; omega).trans (part_all 2560 _ 3 rfl))

/-! ## The result -/

theorem reference_at (a : Fin 4096) (l : Fin 2048) : val_main_v7 (F := Ideal) (dp m c) (win m c) (dz m c) (ix2 a l)
    = Ideal.ofBits .f32 0x3FB504F3#32 * dz m c (ix2 a l) + ∑ q : Fin 7680, term m c a l q := by
  pointwise [val_main_v7, val_main_v5, val_main_v4, val_main_cst_1, val_main_v6]
  rfl

theorem final : (dats m 0 c).arrAt 3 cfg0.N = val_main_v7 (F := Ideal) (dp m c) (win m c) (dz m c) :=
  (dats m 0 c).arrAt_eq_of_cover 3 _ (fun t ht => by
    rw [flushed3]
    funext j
    show (outsAt0 m c t.val t.isLt).1 j = val_main_v7 (F := Ideal) (dp m c) (win m c) (dz m c) (((cfg0.win 3).blk t).view.emb j)
    rw [emb3, after_third m c t ((flush0_3 t).mp ht)]
    exact (reference_at m c _ _).symm) covered

theorem final_eq (a0 a1 a2) (h0 : a0 = dp m c) (h1 : a1 = win m c) (h2 : a2 = dz m c) :
    val_main_v7 (F := Ideal) a0 a1 a2 = (dats m 0 c).arrAt 3 cfg0.N := by
  rw [h0, h1, h2, final]

theorem algebraic : letI := Cert.Kernel9Ideal.Gen.facts; letI := Cert.Reference9Ideal.Gen.facts;
    Cert.algebraic_Kernel9Ideal_Reference9Ideal := by
  intro m ρ m' ρ' hpre hargs
  refine ⟨fun c => (dats m 0 c).arrAt 3 cfg0.N, run_blocks m ρ, ?_⟩
  refine (θ_run _ _ _).mono (fun r h c => ?_) (Cert.Reference9Ideal.Value.run m' ρ')
  obtain ⟨e0, e1, e2⟩ := hargs c
  obtain ⟨r0, rest⟩ := h c
  exact ⟨r0.trans ((val_main_v7_eq _ _ _).trans (final_eq m c _ _ _ e0 e1 e2)), rest⟩

end Cert.Proof.ProjDx

end
-- ==== Proof.ProjDw.lean ====
module

public import proofs.«01_k».proof.Proof.Product
public import proofs.«01_k».proof.Proof.Gen.Kernel10Ideal.Value
public import proofs.«01_k».proof.Proof.Gen.Reference10Ideal.Read
public import proofs.«01_k».proof.Proof.Gen.Reference10Ideal.Run
public import proofs.«01_k».proof.Defs

/-! The gradient of the mixer's combined input matrix, transposed, `dpᵀ @ x`, built up over two grid points
    in place: the first writes the products of the first 2048 rows, the second adds those of the other 2048. -/

@[expose] public section

set_option maxRecDepth 16384
noncomputable section

namespace Cert.Proof.ProjDw

open Idealize.ShloMosaic Idealize.ShloMosaic.TcCoe Idealize.SL.Sem Cert.Kernel10Ideal Cert.Kernel10Ideal.Gen Cert.Kernel10Ideal.Value
open Cert.Reference10Ideal.Read

variable (m : (ℓ : Loc nD τ sig) → Buf (Elt Ideal) ℓ) (c : Dev nD) (t : Fin cfg0.N)

abbrev x : FVec Ideal S4096x2048 .f32 := m ((c : Thread nD τ).loc main_arg0)
abbrev dp : FVec Ideal S4096x7680 .f32 := m ((c : Thread nD τ).loc main_arg1)

theorem V_lhs (a : Fin 4096) (b : Fin 7680) : V m c main_v0 (ix2 a b) = dp m c (ix2 a b) := by
  show StableHlo.after hostOps0 _ (Proc.devRef .tc main_v0) _ = _
  after_results
  rfl
theorem V_rhs (a : Fin 4096) (b : Fin 2048) : V m c main_v1 (ix2 a b) = x m c (ix2 a b) := by
  show StableHlo.after hostOps0 _ (Proc.devRef .tc main_v1) _ = _
  after_results
  rfl

/-! ## The blocks -/

theorem lt30 : t.val < 30 := lt_of_lt_of_eq t.isLt N_0
def inner (r : Fin 2048) : Fin 4096 := ⟨2048 * (t.val % 2) + r.val, by omega⟩
def row (r : Fin 512) : Fin 7680 := ⟨512 * (t.val / 2) + r.val, by have := lt30 t; omega⟩

theorem idx : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ (win0_2.index t (0 : Fin 2) = t.val / 2 ∧ win0_2.index t (1 : Fin 2) = 0) :=
  (by decide +kernel : ∀ t : Fin grid0.N, _)
theorem emb0 (j : S2048x512.Idx) : ((cfg0.win 0).blk t).view.emb j = ix2 (inner t (j 0)) (row t (j 1)) := by
  obtain ⟨⟨e0, e1⟩, -⟩ := idx t
  funext a; apply Fin.ext
  match a with
  | ⟨0, _⟩ => show win0_0.index t (0 : Fin 2) * 2048 + 1 * (j 0).val = 2048 * (t.val % 2) + (j 0).val; omega
  | ⟨1, _⟩ => show win0_0.index t (1 : Fin 2) * 512 + 1 * (j 1).val = 512 * (t.val / 2) + (j 1).val; omega
theorem emb1 (j : S2048x2048.Idx) : ((cfg0.win 1).blk t).view.emb j = ix2 (inner t (j 0)) (j 1) := by
  obtain ⟨-, ⟨e0, e1⟩, -⟩ := idx t
  funext a; apply Fin.ext
  match a with
  | ⟨0, _⟩ => show win0_1.index t (0 : Fin 2) * 2048 + 1 * (j 0).val = 2048 * (t.val % 2) + (j 0).val; omega
  | ⟨1, _⟩ => show win0_1.index t (1 : Fin 2) * 2048 + 1 * (j 1).val = (j 1).val; omega
theorem emb2 (j : S512x2048.Idx) : ((cfg0.win 2).blk t).view.emb j = ix2 (row t (j 0)) (j 1) := by
  obtain ⟨-, -, e0, e1⟩ := idx t
  funext a; apply Fin.ext
  match a with
  | ⟨0, _⟩ => show win0_2.index t (0 : Fin 2) * 512 + 1 * (j 0).val = 512 * (t.val / 2) + (j 0).val; omega
  | ⟨1, _⟩ => show win0_2.index t (1 : Fin 2) * 2048 + 1 * (j 1).val = (j 1).val; omega

/-- One term of an entry of the result. -/
def term (i : Fin 7680) (l : Fin 2048) (q : Fin 4096) : EReal := dp m c (ix2 q i) * x m c (ix2 q l)

theorem blk0 (j : S2048x512.Idx) : iblk m c 0 t j = dp m c (ix2 (inner t (j 0)) (row t (j 1))) := by
  show V m c main_v0 (((cfg0.win 0).blk t).view.emb j) = _; rw [emb0]; exact V_lhs m c _ _
theorem blk1 (j : S2048x2048.Idx) : iblk m c 1 t j = x m c (ix2 (inner t (j 0)) (j 1)) := by
  show V m c main_v1 (((cfg0.win 1).blk t).view.emb j) = _; rw [emb1]; exact V_rhs m c _ _

theorem covered (i : S7680x2048.Idx) : ∃ t : Fin cfg0.N, (cfg0.win 2).flush t = true ∧ i ∈ ((cfg0.win 2).blk t).view.set := by
  have b0 : (i 0).val < 7680 := (i 0).isLt
  let t : Fin cfg0.N := ⟨2 * ((i 0).val / 512) + 1, lt_of_lt_of_eq (by omega) N_0.symm⟩
  let j : S512x2048.Idx := ix2 ⟨(i 0).val % 512, Nat.mod_lt _ (by decide)⟩ (i 1)
  have e : ((cfg0.win 2).blk t).view.emb j = i := by
    rw [emb2]
    funext a; apply Fin.ext
    match a with
    | ⟨0, _⟩ => show 512 * ((2 * ((i 0).val / 512) + 1) / 2) + (i 0).val % 512 = (i 0).val; omega
    | ⟨1, _⟩ => rfl
  exact ⟨t, (flush0_2 t).mpr (show (2 * ((i 0).val / 512) + 1) % 2 = 1 by omega), e ▸ ((cfg0.win 2).blk t).view.emb_mem_set j⟩

/-! ## What a point leaves: half of every sum, then the whole of it -/

section
variable {F : FTy → Type} [FloatOps F] (i : grid0.Coords) (arg3 : Memref sig .tc .vmem S2048x512 .bf16) (harg3 : arg3.IsWhole)
  (arg4 : Memref sig .tc .vmem S2048x2048 .bf16) (harg4 : arg4.IsWhole) (arg5 : Memref sig .tc .vmem S512x2048 .f32) (harg5 : arg5.IsWhole)
  (x0 : Vec F S2048x512 .bf16) (x1 : Vec F S2048x2048 .bf16) (xo : Vec F S512x2048 .f32)
theorem out_A (h0 h1) : out0_A_2 c i arg3 harg3 arg4 harg4 arg5 harg5 h0 h1 x0 x1 = k0_pay1 x0 x1 := by
  unfold out0_A_2
  rw [View.read_writes_junk_eq_canon]
  unfold kernelRun0_A
  dsimp only
  refine (View.canon_unit_zero zero_offsets _ _).trans ?_
  simp only [load_eq, ld_whole]
theorem out_B (h0 h1) : out0_B_2 c i arg3 harg3 arg4 harg4 arg5 harg5 h0 h1 x0 x1 xo = k0_pay2 xo x0 x1 := by
  unfold out0_B_2
  rw [View.read_writes_junk_eq_canon]
  unfold kernelRun0_B
  dsimp only
  refine (View.canon_unit_zero zero_offsets _ _).trans ?_
  simp only [load_eq, ld_whole]
end

theorem pay1_at (j : S512x2048.Idx) : k0_pay1 (F := Ideal) (iblk m c 0 t) (iblk m c 1 t) j = ∑ r : Fin 2048, term m c (row t (j 0)) (j 1) (inner t r) := by
  pointwise [k0_pay1]
  simp only [blk0, blk1]
  rfl
theorem pay2_at (o : Vec Ideal S512x2048 .f32) (j : S512x2048.Idx) :
    k0_pay2 (F := Ideal) o (iblk m c 0 t) (iblk m c 1 t) j = o j + ∑ r : Fin 2048, term m c (row t (j 0)) (j 1) (inner t r) := by
  pointwise [k0_pay2]
  simp only [blk0, blk1]
  rfl

theorem after_first (h : t.val % 2 = 0) (j : S512x2048.Idx) : outsAt0 m c t.val t.isLt j = part 2048 (term m c (row t (j 0)) (j 1)) 1 := by
  rw [outsAt0_A m c t h (by omega), out_A, pay1_at]
  exact part_one 2048 _ _ fun r => by show 2048 * (t.val % 2) + r.val = r.val; omega
theorem after_second (h : t.val % 2 = 1) (j : S512x2048.Idx) : outsAt0 m c t.val t.isLt j = ∑ q : Fin 4096, term m c (row t (j 0)) (j 1) q := by
  rw [outsAt0_B m c t (by omega) h, out_B, pay2_at]
  have e : (row ⟨t.val - 1, Nat.lt_of_le_of_lt (Nat.sub_le _ _) t.isLt⟩ (j 0)) = row t (j 0) :=
    Fin.ext (show 512 * ((t.val - 1) / 2) + (j 0).val = 512 * (t.val / 2) + (j 0).val by omega)
  rw [after_first m c ⟨t.val - 1, Nat.lt_of_le_of_lt (Nat.sub_le _ _) t.isLt⟩ (show (t.val - 1) % 2 = 0 by omega) j, e]
  exact (part_succ 2048 _ 1 _ fun r => by show 2048 * (t.val % 2) + r.val = 2048 * 1 + r.val; omega).trans (part_all 2048 _ 2 rfl)

/-! ## The result -/

theorem reference_at (a : Fin 7680) (b : Fin 2048) : val_main_v4 (F := Ideal) (x m c) (dp m c) (ix2 a b) = ∑ q : Fin 4096, term m c a b q := by
  rw [val_main_v4_apply, val_main_v3_apply, val_main_v2_apply]
  exact Finset.sum_congr rfl fun k _ => congrArg₂ (· * ·) (congrArg (dp m c) (by funext a; fin_cases a <;> rfl)) (congrArg (x m c) (by funext a; fin_cases a <;> rfl))

theorem final : (dats m 0 c).arrAt 2 cfg0.N = val_main_v4 (F := Ideal) (x m c) (dp m c) :=
  (dats m 0 c).arrAt_eq_of_cover 2 _ (fun t ht => by
    rw [flushed2]
    funext j
    show outsAt0 m c t.val t.isLt j = val_main_v4 (F := Ideal) (x m c) (dp m c) (((cfg0.win 2).blk t).view.emb j)
    rw [emb2, after_second m c t ((flush0_2 t).mp ht)]
    exact (reference_at m c _ _).symm) covered

theorem final_eq (a0 a1) (h0 : a0 = x m c) (h1 : a1 = dp m c) : val_main_v4 (F := Ideal) a0 a1 = (dats m 0 c).arrAt 2 cfg0.N := by
  rw [h0, h1, final]

theorem algebraic : letI := Cert.Kernel10Ideal.Gen.facts; letI := Cert.Reference10Ideal.Gen.facts;
    Cert.algebraic_Kernel10Ideal_Reference10Ideal := by
  intro m ρ m' ρ' hpre hargs
  refine ⟨fun c => (dats m 0 c).arrAt 2 cfg0.N, run_blocks m ρ, ?_⟩
  refine (θ_run _ _ _).mono (fun r h c => ?_) (Cert.Reference10Ideal.Value.run m' ρ')
  obtain ⟨e0, e1⟩ := hargs c
  obtain ⟨r0, rest⟩ := h c
  exact ⟨r0.trans ((val_main_v4_eq _ _).trans (final_eq m c _ _ e0 e1)), rest⟩

end Cert.Proof.ProjDw

end
-- ==== Proof.OprojLn.lean ====
module

public import proofs.«01_k».proof.Proof.Product
public import proofs.«01_k».proof.Proof.Gen.Kernel11Ideal.Value
public import proofs.«01_k».proof.Proof.Gen.Reference11Ideal.Read
public import proofs.«01_k».proof.Proof.Gen.Reference11Ideal.Run
public import proofs.«01_k».proof.Defs

/-! The mixer's output projection with the residual and the layer norm behind it: `u = sqrt 2 * x + merged @ w_o`, and of
    every row of `u` the norm, the norm in bf16, the normed row before scale and shift, and the reciprocal deviation. -/

@[expose] public section

set_option maxRecDepth 16384
noncomputable section

namespace Cert.Proof.OprojLn

open Idealize.ShloMosaic Idealize.ShloMosaic.TcCoe Idealize.SL.Sem Cert.Kernel11Ideal Cert.Kernel11Ideal.Gen Cert.Kernel11Ideal.Value
open Cert.Reference11Ideal.Read

variable (m : (ℓ : Loc nD τ sig) → Buf (Elt Ideal) ℓ) (c : Dev nD) (t : Fin cfg0.N)

abbrev merged : FVec Ideal S4096x2048 .f32 := m ((c : Thread nD τ).loc main_arg0)
abbrev wo : FVec Ideal S2048x2048 .f32 := m ((c : Thread nD τ).loc main_arg1)
abbrev x : FVec Ideal S4096x2048 .f32 := m ((c : Thread nD τ).loc main_arg2)
abbrev g : FVec Ideal S1x2048 .f32 := m ((c : Thread nD τ).loc main_arg3)
abbrev b : FVec Ideal S1x2048 .f32 := m ((c : Thread nD τ).loc main_arg4)

theorem V_v0 : V m c main_v0 = truncf .bf16 (merged m c) bitsLt_bf16_f32 := by
  show StableHlo.after hostOps0 _ (Proc.devRef .tc main_v0) = _
  after_results
theorem V_v1 : V m c main_v1 = truncf .bf16 (wo m c) bitsLt_bf16_f32 := by
  show StableHlo.after hostOps0 _ (Proc.devRef .tc main_v1) = _
  after_results

/-! ## The blocks -/

theorem lt8 : t.val < 8 := lt_of_lt_of_eq t.isLt N_0
def row (r : Fin 512) : Fin 4096 := ⟨512 * t.val + r.val, by have := lt8 t; omega⟩

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)
theorem emb0 (j : S512x2048.Idx) : ((cfg0.win 0).blk t).view.emb j = ix2 (row t (j 0)) (j 1) := by
  obtain ⟨⟨e0, e1⟩, -⟩ := idx t
  funext a; apply Fin.ext
  match a with
  | ⟨0, _⟩ => show win0_0.index t (0 : Fin 2) * 512 + 1 * (j 0).val = 512 * t.val + (j 0).val; omega
  | ⟨1, _⟩ => show win0_0.index t (1 : Fin 2) * 2048 + 1 * (j 1).val = (j 1).val; omega
theorem emb1 (j : S2048x2048.Idx) : ((cfg0.win 1).blk t).view.emb j = j := by
  obtain ⟨-, ⟨e0, e1⟩, -⟩ := idx t
  funext a; apply Fin.ext
  match a with
  | ⟨0, _⟩ => show win0_1.index t (0 : Fin 2) * 2048 + 1 * (j 0).val = (j 0).val; omega
  | ⟨1, _⟩ => show win0_1.index t (1 : Fin 2) * 2048 + 1 * (j 1).val = (j 1).val; omega
theorem emb2 (j : S512x2048.Idx) : ((cfg0.win 2).blk t).view.emb j = ix2 (row t (j 0)) (j 1) := by
  obtain ⟨-, -, ⟨e0, e1⟩, -⟩ := idx t
  funext a; apply Fin.ext
  match a with
  | ⟨0, _⟩ => show win0_2.index t (0 : Fin 2) * 512 + 1 * (j 0).val = 512 * t.val + (j 0).val; omega
  | ⟨1, _⟩ => show win0_2.index t (1 : Fin 2) * 2048 + 1 * (j 1).val = (j 1).val; omega
theorem emb3 (j : S1x2048.Idx) : ((cfg0.win 3).blk t).view.emb j = j := by
  obtain ⟨-, -, -, ⟨e0, e1⟩, -⟩ := idx t
  funext a; apply Fin.ext
  match a with
  | ⟨0, _⟩ => show win0_3.index t (0 : Fin 2) * 1 + 1 * (j 0).val = (j 0).val; omega
  | ⟨1, _⟩ => show win0_3.index t (1 : Fin 2) * 2048 + 1 * (j 1).val = (j 1).val; omega
theorem emb4 (j : S1x2048.Idx) : ((cfg0.win 4).blk t).view.emb j = j := by
  obtain ⟨-, -, -, -, ⟨e0, e1⟩, -⟩ := idx t
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega
theorem emb5 (j : S512x2048.Idx) : ((cfg0.win 5).blk t).view.emb j = ix2 (row t (j 0)) (j 1) := by
  obtain ⟨-, -, -, -, -, ⟨e0, e1⟩, -⟩ := idx t
  funext a; apply Fin.ext
  match a with
  | ⟨0, _⟩ => show win0_5.index t (0 : Fin 2) * 512 + 1 * (j 0).val = 512 * t.val + (j 0).val; omega
  | ⟨1, _⟩ => show win0_5.index t (1 : Fin 2) * 2048 + 1 * (j 1).val = (j 1).val; omega
theorem emb6 (j : S512x2048.Idx) : ((cfg0.win 6).blk t).view.emb j = ix2 (row t (j 0)) (j 1) := by
  obtain ⟨-, -, -, -, -, -, ⟨e0, e1⟩, -⟩ := idx t
  funext a; apply Fin.ext
  match a with
  | ⟨0, _⟩ => show win0_6.index t (0 : Fin 2) * 512 + 1 * (j 0).val = 512 * t.val + (j 0).val; omega
  | ⟨1, _⟩ => show win0_6.index t (1 : Fin 2) * 2048 + 1 * (j 1).val = (j 1).val; omega
theorem emb7 (j : S512x2048.Idx) : ((cfg0.win 7).blk t).view.emb j = ix2 (row t (j 0)) (j 1) := by
  obtain ⟨-, -, -, -, -, -, -, ⟨e0, e1⟩, -⟩ := idx t
  funext a; apply Fin.ext
  match a with
  | ⟨0, _⟩ => show win0_7.index t (0 : Fin 2) * 512 + 1 * (j 0).val = 512 * t.val + (j 0).val; omega
  | ⟨1, _⟩ => show win0_7.index t (1 : Fin 2) * 2048 + 1 * (j 1).val = (j 1).val; omega
theorem emb8 (j : S512x1.Idx) : ((cfg0.win 8).blk t).view.emb j = ix2 (row t (j 0)) (j 1) := by
  obtain ⟨-, -, -, -, -, -, -, -, e0, e1⟩ := idx t
  funext a; apply Fin.ext
  match a with
  | ⟨0, _⟩ => show win0_8.index t (0 : Fin 2) * 512 + 1 * (j 0).val = 512 * t.val + (j 0).val; omega
  | ⟨1, _⟩ => show win0_8.index t (1 : Fin 2) * 1 + 1 * (j 1).val = (j 1).val; omega

theorem blk0 (j : S512x2048.Idx) : iblk m c 0 t j = merged m c (ix2 (row t (j 0)) (j 1)) := by
  show V m c main_v0 (((cfg0.win 0).blk t).view.emb j) = _; rw [emb0, V_v0]; rfl
theorem blk1 (j : S2048x2048.Idx) : iblk m c 1 t j = wo m c j := by
  show V m c main_v1 (((cfg0.win 1).blk t).view.emb j) = _; rw [emb1, V_v1]; rfl
theorem blk2 (j : S512x2048.Idx) : iblk m c 2 t j = x m c (ix2 (row t (j 0)) (j 1)) := by
  show V m c main_arg2 (((cfg0.win 2).blk t).view.emb j) = _; rw [emb2, V_main_arg2]; rfl
theorem blk3 (j : S1x2048.Idx) : iblk m c 3 t j = g m c j := by
  show V m c main_arg3 (((cfg0.win 3).blk t).view.emb j) = _; rw [emb3, V_main_arg3]
theorem blk4 (j : S1x2048.Idx) : iblk m c 4 t j = b m c j := by
  show V m c main_arg4 (((cfg0.win 4).blk t).view.emb j) = _; rw [emb4, V_main_arg4]

theorem point (i : S4096x2048.Idx) : ∃ (t : Fin cfg0.N) (j : S512x2048.Idx), i = ix2 (row t (j 0)) (j 1) := by
  have b0 : (i 0).val < 4096 := (i 0).isLt
  refine ⟨⟨(i 0).val / 512, lt_of_lt_of_eq (by omega) N_0.symm⟩, ix2 ⟨(i 0).val % 512, Nat.mod_lt _ (by decide)⟩ (i 1), ?_⟩
  funext a; apply Fin.ext
  match a with
  | ⟨0, _⟩ => show (i 0).val = 512 * ((i 0).val / 512) + (i 0).val % 512; omega
  | ⟨1, _⟩ => rfl
theorem covered5 (i : S4096x2048.Idx) : ∃ t : Fin cfg0.N, (cfg0.win 5).flush t = true ∧ i ∈ ((cfg0.win 5).blk t).view.set := by
  obtain ⟨t, j, e⟩ := point i
  exact ⟨t, flush0_5 t, by rw [e, ← emb5]; exact ((cfg0.win 5).blk t).view.emb_mem_set j⟩
theorem covered6 (i : S4096x2048.Idx) : ∃ t : Fin cfg0.N, (cfg0.win 6).flush t = true ∧ i ∈ ((cfg0.win 6).blk t).view.set := by
  obtain ⟨t, j, e⟩ := point i
  exact ⟨t, flush0_6 t, by rw [e, ← emb6]; exact ((cfg0.win 6).blk t).view.emb_mem_set j⟩
theorem covered7 (i : S4096x2048.Idx) : ∃ t : Fin cfg0.N, (cfg0.win 7).flush t = true ∧ i ∈ ((cfg0.win 7).blk t).view.set := by
  obtain ⟨t, j, e⟩ := point i
  exact ⟨t, flush0_7 t, by rw [e, ← emb7]; exact ((cfg0.win 7).blk t).view.emb_mem_set j⟩
theorem covered8 (i : S4096x1.Idx) : ∃ t : Fin cfg0.N, (cfg0.win 8).flush t = true ∧ i ∈ ((cfg0.win 8).blk t).view.set := by
  have b0 : (i 0).val < 4096 := (i 0).isLt
  let t : Fin cfg0.N := ⟨(i 0).val / 512, lt_of_lt_of_eq (by omega) N_0.symm⟩
  let j : S512x1.Idx := ix2 ⟨(i 0).val % 512, Nat.mod_lt _ (by decide)⟩ (i 1)
  have e : ((cfg0.win 8).blk t).view.emb j = i := by
    rw [emb8]
    funext a; apply Fin.ext
    match a with
    | ⟨0, _⟩ => show 512 * ((i 0).val / 512) + (i 0).val % 512 = (i 0).val; omega
    | ⟨1, _⟩ => rfl
  exact ⟨t, flush0_8 t, e ▸ ((cfg0.win 8).blk t).view.emb_mem_set j⟩

/-! ## The results -/

section
variable {F : FTy → Type} [FloatOps F] (x0 : Vec F S512x2048 .bf16) (x1 : Vec F S2048x2048 .bf16) (x2 : Vec F S512x2048 .f32)
  (x3 x4 : Vec F S1x2048 .f32)
theorem block_out5 : out0_5 x0 x1 x2 x3 x4 = k0_pay8 x0 x1 x2 x3 x4 := by
  unfold out0_5
  refine (View.canon_unit_zero zero_offsets _ _).trans ?_
  simp only [ld_whole]
theorem block_out6 : out0_6 x0 x1 x2 x3 x4 = k0_pay1 (k0_pay9 x0 x1 x2 x3 x4) := by
  unfold out0_6
  refine (View.canon_unit_zero zero_offsets _ _).trans ?_
  simp only [ld_whole]
theorem block_out7 : out0_7 x0 x1 x2 x3 x4 = k0_pay2 (k0_pay6 x0 x1 x2) := by
  unfold out0_7
  refine (View.canon_unit_zero zero_offsets _ _).trans ?_
  simp only [ld_whole]
theorem block_out8 : out0_8 x0 x1 x2 x3 x4 = k0_pay3 (k0_pay5 x0 x1 x2) := by
  unfold out0_8
  refine (View.canon_unit_zero zero_offsets _ _).trans ?_
  simp only [ld_whole]
end

theorem final5 : (dats m 0 c).arrAt 5 cfg0.N = val_main_v43 (F := Ideal) (merged m c) (wo m c) (x m c) (g m c) (b m c) :=
  (dats m 0 c).arrAt_eq_of_cover 5 _ (fun t _ => by
    rw [flushed5, block_out5]
    funext j
    show (k0_pay8 (iblk m c 0 t) (iblk m c 1 t) (iblk m c 2 t) (iblk m c 3 t) (iblk m c 4 t) : FVec Ideal _ _) j = val_main_v43 (F := Ideal) (merged m c) (wo m c) (x m c) (g m c) (b m c) (((cfg0.win 5).blk t).view.emb j)
    rw [emb5]
    pointwise [k0_pay1, k0_pay2, k0_pay3, k0_pay4, k0_pay5, k0_pay6, k0_pay7, k0_pay8, k0_pay9, val_main_cst, val_main_v0, val_main_v1, val_main_v2, val_main_v3, val_main_cst_0, val_main_v4, val_main_v5, val_main_cst_1, val_main_v6, val_main_v7, val_main_v8, val_main_v9, val_main_v10, val_main_cst_2, val_main_v11, val_main_v12, val_main_cst_3, val_main_v13, val_main_v14, val_main_cst_4, val_main_v15, val_main_v16, val_main_v17, val_main_v18, val_main_v19, val_main_cst_5, val_main_v20, val_main_v21, val_main_cst_6, val_main_v22, val_main_v23, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46, val_main_v47, val_main_v48]
    simp only [blk0, blk1, blk2, blk3, blk4]
    rfl) covered5
theorem final6 : (dats m 0 c).arrAt 6 cfg0.N = val_main_v44 (F := Ideal) (merged m c) (wo m c) (x m c) (g m c) (b m c) :=
  (dats m 0 c).arrAt_eq_of_cover 6 _ (fun t _ => by
    rw [flushed6, block_out6]
    funext j
    show (k0_pay1 (k0_pay9 (iblk m c 0 t) (iblk m c 1 t) (iblk m c 2 t) (iblk m c 3 t) (iblk m c 4 t)) : FVec Ideal _ _) j = val_main_v44 (F := Ideal) (merged m c) (wo m c) (x m c) (g m c) (b m c) (((cfg0.win 6).blk t).view.emb j)
    rw [emb6]
    pointwise [k0_pay1, k0_pay2, k0_pay3, k0_pay4, k0_pay5, k0_pay6, k0_pay7, k0_pay8, k0_pay9, val_main_cst, val_main_v0, val_main_v1, val_main_v2, val_main_v3, val_main_cst_0, val_main_v4, val_main_v5, val_main_cst_1, val_main_v6, val_main_v7, val_main_v8, val_main_v9, val_main_v10, val_main_cst_2, val_main_v11, val_main_v12, val_main_cst_3, val_main_v13, val_main_v14, val_main_cst_4, val_main_v15, val_main_v16, val_main_v17, val_main_v18, val_main_v19, val_main_cst_5, val_main_v20, val_main_v21, val_main_cst_6, val_main_v22, val_main_v23, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46, val_main_v47, val_main_v48]
    simp only [blk0, blk1, blk2, blk3, blk4]
    rfl) covered6
theorem final7 : (dats m 0 c).arrAt 7 cfg0.N = val_main_v48 (F := Ideal) (merged m c) (wo m c) (x m c) :=
  (dats m 0 c).arrAt_eq_of_cover 7 _ (fun t _ => by
    rw [flushed7, block_out7]
    funext j
    show (k0_pay2 (k0_pay6 (iblk m c 0 t) (iblk m c 1 t) (iblk m c 2 t)) : FVec Ideal _ _) j = val_main_v48 (F := Ideal) (merged m c) (wo m c) (x m c) (((cfg0.win 7).blk t).view.emb j)
    rw [emb7]
    pointwise [k0_pay1, k0_pay2, k0_pay3, k0_pay4, k0_pay5, k0_pay6, k0_pay7, k0_pay8, k0_pay9, val_main_cst, val_main_v0, val_main_v1, val_main_v2, val_main_v3, val_main_cst_0, val_main_v4, val_main_v5, val_main_cst_1, val_main_v6, val_main_v7, val_main_v8, val_main_v9, val_main_v10, val_main_cst_2, val_main_v11, val_main_v12, val_main_cst_3, val_main_v13, val_main_v14, val_main_cst_4, val_main_v15, val_main_v16, val_main_v17, val_main_v18, val_main_v19, val_main_cst_5, val_main_v20, val_main_v21, val_main_cst_6, val_main_v22, val_main_v23, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46, val_main_v47, val_main_v48]
    simp only [blk0, blk1, blk2, blk3, blk4]
    rfl) covered7
theorem final8 : (dats m 0 c).arrAt 8 cfg0.N = val_main_v17 (F := Ideal) (merged m c) (wo m c) (x m c) :=
  (dats m 0 c).arrAt_eq_of_cover 8 _ (fun t _ => by
    rw [flushed8, block_out8]
    funext j
    show (k0_pay3 (k0_pay5 (iblk m c 0 t) (iblk m c 1 t) (iblk m c 2 t)) : FVec Ideal _ _) j = val_main_v17 (F := Ideal) (merged m c) (wo m c) (x m c) (((cfg0.win 8).blk t).view.emb j)
    rw [emb8]
    pointwise [k0_pay1, k0_pay2, k0_pay3, k0_pay4, k0_pay5, k0_pay6, k0_pay7, k0_pay8, k0_pay9, val_main_cst, val_main_v0, val_main_v1, val_main_v2, val_main_v3, val_main_cst_0, val_main_v4, val_main_v5, val_main_cst_1, val_main_v6, val_main_v7, val_main_v8, val_main_v9, val_main_v10, val_main_cst_2, val_main_v11, val_main_v12, val_main_cst_3, val_main_v13, val_main_v14, val_main_cst_4, val_main_v15, val_main_v16, val_main_v17, val_main_v18, val_main_v19, val_main_cst_5, val_main_v20, val_main_v21, val_main_cst_6, val_main_v22, val_main_v23, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46, val_main_v47, val_main_v48]
    simp only [blk0, blk1, blk2, blk3, blk4]
    rfl) covered8
theorem final_eq5 (a0 a1 a2 a3 a4) (h0 : a0 = merged m c) (h1 : a1 = wo m c) (h2 : a2 = x m c) (h3 : a3 = g m c) (h4 : a4 = b m c) : val_main_v43 (F := Ideal) a0 a1 a2 a3 a4 = (dats m 0 c).arrAt 5 cfg0.N := by
  rw [h0, h1, h2, h3, h4, final5]
theorem final_eq6 (a0 a1 a2 a3 a4) (h0 : a0 = merged m c) (h1 : a1 = wo m c) (h2 : a2 = x m c) (h3 : a3 = g m c) (h4 : a4 = b m c) : val_main_v44 (F := Ideal) a0 a1 a2 a3 a4 = (dats m 0 c).arrAt 6 cfg0.N := by
  rw [h0, h1, h2, h3, h4, final6]
theorem final_eq7 (a0 a1 a2) (h0 : a0 = merged m c) (h1 : a1 = wo m c) (h2 : a2 = x m c) : val_main_v48 (F := Ideal) a0 a1 a2 = (dats m 0 c).arrAt 7 cfg0.N := by
  rw [h0, h1, h2, final7]
theorem final_eq8 (a0 a1 a2) (h0 : a0 = merged m c) (h1 : a1 = wo m c) (h2 : a2 = x m c) : val_main_v17 (F := Ideal) a0 a1 a2 = (dats m 0 c).arrAt 8 cfg0.N := by
  rw [h0, h1, h2, final8]

theorem algebraic : letI := Cert.Kernel11Ideal.Gen.facts; letI := Cert.Reference11Ideal.Gen.facts;
    Cert.algebraic_Kernel11Ideal_Reference11Ideal := by
  intro m ρ m' ρ' hpre hargs
  refine ⟨fun c => (dats m 0 c).arrAt 5 cfg0.N, fun c => (dats m 0 c).arrAt 6 cfg0.N, fun c => (dats m 0 c).arrAt 7 cfg0.N,
    fun c => (dats m 0 c).arrAt 8 cfg0.N, run_blocks m ρ, ?_⟩
  refine (θ_run _ _ _).mono (fun r h c => ?_) (Cert.Reference11Ideal.Value.run m' ρ')
  obtain ⟨e0, e1, e2, e3, e4⟩ := hargs c
  obtain ⟨r0, r1, r2, r3, rest⟩ := h c
  exact ⟨r0.trans ((val_main_v43_eq _ _ _ _ _ ).trans (final_eq5 m c _ _ _ _ _ e0 e1 e2 e3 e4)),
    r1.trans ((val_main_v44_eq _ _ _ _ _ ).trans (final_eq6 m c _ _ _ _ _ e0 e1 e2 e3 e4)),
    r2.trans ((val_main_v48_eq _ _ _ ).trans (final_eq7 m c _ _ _ e0 e1 e2)),
    r3.trans ((val_main_v17_eq _ _ _ ).trans (final_eq8 m c _ _ _ e0 e1 e2)), rest⟩

end Cert.Proof.OprojLn

end
-- ==== Proof.OprojDw.lean ====
module

public import proofs.«01_k».proof.Proof.Product
public import proofs.«01_k».proof.Proof.Gen.Kernel12Ideal.Value
public import proofs.«01_k».proof.Proof.Gen.Reference12Ideal.Read
public import proofs.«01_k».proof.Proof.Gen.Reference12Ideal.Run
public import proofs.«01_k».proof.Defs

/-! The gradient of the mixer's output matrix, `mergedᵀ @ dz`, built up over two grid points
    in place: the first writes the products of the first 2048 rows, the second adds those of the other 2048. -/

@[expose] public section

set_option maxRecDepth 16384
noncomputable section

namespace Cert.Proof.OprojDw

open Idealize.ShloMosaic Idealize.ShloMosaic.TcCoe Idealize.SL.Sem Cert.Kernel12Ideal Cert.Kernel12Ideal.Gen Cert.Kernel12Ideal.Value
open Cert.Reference12Ideal.Read

variable (m : (ℓ : Loc nD τ sig) → Buf (Elt Ideal) ℓ) (c : Dev nD) (t : Fin cfg0.N)

abbrev merged : FVec Ideal S4096x2048 .f32 := m ((c : Thread nD τ).loc main_arg0)
abbrev dz : FVec Ideal S4096x2048 .f32 := m ((c : Thread nD τ).loc main_arg1)

theorem V_lhs (a : Fin 4096) (b : Fin 2048) : V m c main_v0 (ix2 a b) = merged m c (ix2 a b) := by
  show StableHlo.after hostOps0 _ (Proc.devRef .tc main_v0) _ = _
  after_results
  rfl
theorem V_rhs (a : Fin 4096) (b : Fin 2048) : V m c main_v1 (ix2 a b) = dz m c (ix2 a b) := by
  show StableHlo.after hostOps0 _ (Proc.devRef .tc main_v1) _ = _
  after_results
  rfl

/-! ## The blocks -/

theorem lt8 : t.val < 8 := lt_of_lt_of_eq t.isLt N_0
def inner (r : Fin 2048) : Fin 4096 := ⟨2048 * (t.val % 2) + r.val, by omega⟩
def row (r : Fin 512) : Fin 2048 := ⟨512 * (t.val / 2) + r.val, by have := lt8 t; omega⟩

theorem idx : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ (win0_2.index t (0 : Fin 2) = t.val / 2 ∧ win0_2.index t (1 : Fin 2) = 0) :=
  (by decide +kernel : ∀ t : Fin grid0.N, _)
theorem emb0 (j : S2048x512.Idx) : ((cfg0.win 0).blk t).view.emb j = ix2 (inner t (j 0)) (row t (j 1)) := by
  obtain ⟨⟨e0, e1⟩, -⟩ := idx t
  funext a; apply Fin.ext
  match a with
  | ⟨0, _⟩ => show win0_0.index t (0 : Fin 2) * 2048 + 1 * (j 0).val = 2048 * (t.val % 2) + (j 0).val; omega
  | ⟨1, _⟩ => show win0_0.index t (1 : Fin 2) * 512 + 1 * (j 1).val = 512 * (t.val / 2) + (j 1).val; omega
theorem emb1 (j : S2048x2048.Idx) : ((cfg0.win 1).blk t).view.emb j = ix2 (inner t (j 0)) (j 1) := by
  obtain ⟨-, ⟨e0, e1⟩, -⟩ := idx t
  funext a; apply Fin.ext
  match a with
  | ⟨0, _⟩ => show win0_1.index t (0 : Fin 2) * 2048 + 1 * (j 0).val = 2048 * (t.val % 2) + (j 0).val; omega
  | ⟨1, _⟩ => show win0_1.index t (1 : Fin 2) * 2048 + 1 * (j 1).val = (j 1).val; omega
theorem emb2 (j : S512x2048.Idx) : ((cfg0.win 2).blk t).view.emb j = ix2 (row t (j 0)) (j 1) := by
  obtain ⟨-, -, e0, e1⟩ := idx t
  funext a; apply Fin.ext
  match a with
  | ⟨0, _⟩ => show win0_2.index t (0 : Fin 2) * 512 + 1 * (j 0).val = 512 * (t.val / 2) + (j 0).val; omega
  | ⟨1, _⟩ => show win0_2.index t (1 : Fin 2) * 2048 + 1 * (j 1).val = (j 1).val; omega

/-- One term of an entry of the result. -/
def term (i : Fin 2048) (l : Fin 2048) (q : Fin 4096) : EReal := merged m c (ix2 q i) * dz m c (ix2 q l)

theorem blk0 (j : S2048x512.Idx) : iblk m c 0 t j = merged m c (ix2 (inner t (j 0)) (row t (j 1))) := by
  show V m c main_v0 (((cfg0.win 0).blk t).view.emb j) = _; rw [emb0]; exact V_lhs m c _ _
theorem blk1 (j : S2048x2048.Idx) : iblk m c 1 t j = dz m c (ix2 (inner t (j 0)) (j 1)) := by
  show V m c main_v1 (((cfg0.win 1).blk t).view.emb j) = _; rw [emb1]; exact V_rhs m c _ _

theorem covered (i : S2048x2048.Idx) : ∃ t : Fin cfg0.N, (cfg0.win 2).flush t = true ∧ i ∈ ((cfg0.win 2).blk t).view.set := by
  have b0 : (i 0).val < 2048 := (i 0).isLt
  let t : Fin cfg0.N := ⟨2 * ((i 0).val / 512) + 1, lt_of_lt_of_eq (by omega) N_0.symm⟩
  let j : S512x2048.Idx := ix2 ⟨(i 0).val % 512, Nat.mod_lt _ (by decide)⟩ (i 1)
  have e : ((cfg0.win 2).blk t).view.emb j = i := by
    rw [emb2]
    funext a; apply Fin.ext
    match a with
    | ⟨0, _⟩ => show 512 * ((2 * ((i 0).val / 512) + 1) / 2) + (i 0).val % 512 = (i 0).val; omega
    | ⟨1, _⟩ => rfl
  exact ⟨t, (flush0_2 t).mpr (show (2 * ((i 0).val / 512) + 1) % 2 = 1 by omega), e ▸ ((cfg0.win 2).blk t).view.emb_mem_set j⟩

/-! ## What a point leaves: half of every sum, then the whole of it -/

section
variable {F : FTy → Type} [FloatOps F] (i : grid0.Coords) (arg3 : Memref sig .tc .vmem S2048x512 .bf16) (harg3 : arg3.IsWhole)
  (arg4 : Memref sig .tc .vmem S2048x2048 .bf16) (harg4 : arg4.IsWhole) (arg5 : Memref sig .tc .vmem S512x2048 .f32) (harg5 : arg5.IsWhole)
  (x0 : Vec F S2048x512 .bf16) (x1 : Vec F S2048x2048 .bf16) (xo : Vec F S512x2048 .f32)
theorem out_A (h0 h1) : out0_A_2 c i arg3 harg3 arg4 harg4 arg5 harg5 h0 h1 x0 x1 = k0_pay1 x0 x1 := by
  unfold out0_A_2
  rw [View.read_writes_junk_eq_canon]
  unfold kernelRun0_A
  dsimp only
  refine (View.canon_unit_zero zero_offsets _ _).trans ?_
  simp only [load_eq, ld_whole]
theorem out_B (h0 h1) : out0_B_2 c i arg3 harg3 arg4 harg4 arg5 harg5 h0 h1 x0 x1 xo = k0_pay2 xo x0 x1 := by
  unfold out0_B_2
  rw [View.read_writes_junk_eq_canon]
  unfold kernelRun0_B
  dsimp only
  refine (View.canon_unit_zero zero_offsets _ _).trans ?_
  simp only [load_eq, ld_whole]
end

theorem pay1_at (j : S512x2048.Idx) : k0_pay1 (F := Ideal) (iblk m c 0 t) (iblk m c 1 t) j = ∑ r : Fin 2048, term m c (row t (j 0)) (j 1) (inner t r) := by
  pointwise [k0_pay1]
  simp only [blk0, blk1]
  rfl
theorem pay2_at (o : Vec Ideal S512x2048 .f32) (j : S512x2048.Idx) :
    k0_pay2 (F := Ideal) o (iblk m c 0 t) (iblk m c 1 t) j = o j + ∑ r : Fin 2048, term m c (row t (j 0)) (j 1) (inner t r) := by
  pointwise [k0_pay2]
  simp only [blk0, blk1]
  rfl

theorem after_first (h : t.val % 2 = 0) (j : S512x2048.Idx) : outsAt0 m c t.val t.isLt j = part 2048 (term m c (row t (j 0)) (j 1)) 1 := by
  rw [outsAt0_A m c t h (by omega), out_A, pay1_at]
  exact part_one 2048 _ _ fun r => by show 2048 * (t.val % 2) + r.val = r.val; omega
theorem after_second (h : t.val % 2 = 1) (j : S512x2048.Idx) : outsAt0 m c t.val t.isLt j = ∑ q : Fin 4096, term m c (row t (j 0)) (j 1) q := by
  rw [outsAt0_B m c t (by omega) h, out_B, pay2_at]
  have e : (row ⟨t.val - 1, Nat.lt_of_le_of_lt (Nat.sub_le _ _) t.isLt⟩ (j 0)) = row t (j 0) :=
    Fin.ext (show 512 * ((t.val - 1) / 2) + (j 0).val = 512 * (t.val / 2) + (j 0).val by omega)
  rw [after_first m c ⟨t.val - 1, Nat.lt_of_le_of_lt (Nat.sub_le _ _) t.isLt⟩ (show (t.val - 1) % 2 = 0 by omega) j, e]
  exact (part_succ 2048 _ 1 _ fun r => by show 2048 * (t.val % 2) + r.val = 2048 * 1 + r.val; omega).trans (part_all 2048 _ 2 rfl)

/-! ## The result -/

theorem reference_at (a : Fin 2048) (b : Fin 2048) : val_main_v3 (F := Ideal) (merged m c) (dz m c) (ix2 a b) = ∑ q : Fin 4096, term m c a b q := by
  rw [val_main_v3_apply, val_main_v2_apply]
  exact Finset.sum_congr rfl fun k _ => (mul_comm _ _).trans (congrArg₂ (· * ·) (congrArg (merged m c) (by funext a; fin_cases a <;> rfl)) (congrArg (dz m c) (by funext a; fin_cases a <;> rfl)))

theorem final : (dats m 0 c).arrAt 2 cfg0.N = val_main_v3 (F := Ideal) (merged m c) (dz m c) :=
  (dats m 0 c).arrAt_eq_of_cover 2 _ (fun t ht => by
    rw [flushed2]
    funext j
    show outsAt0 m c t.val t.isLt j = val_main_v3 (F := Ideal) (merged m c) (dz m c) (((cfg0.win 2).blk t).view.emb j)
    rw [emb2, after_second m c t ((flush0_2 t).mp ht)]
    exact (reference_at m c _ _).symm) covered

theorem final_eq (a0 a1) (h0 : a0 = merged m c) (h1 : a1 = dz m c) : val_main_v3 (F := Ideal) a0 a1 = (dats m 0 c).arrAt 2 cfg0.N := by
  rw [h0, h1, final]

theorem algebraic : letI := Cert.Kernel12Ideal.Gen.facts; letI := Cert.Reference12Ideal.Gen.facts;
    Cert.algebraic_Kernel12Ideal_Reference12Ideal := by
  intro m ρ m' ρ' hpre hargs
  refine ⟨fun c => (dats m 0 c).arrAt 2 cfg0.N, run_blocks m ρ, ?_⟩
  refine (θ_run _ _ _).mono (fun r h c => ?_) (Cert.Reference12Ideal.Value.run m' ρ')
  obtain ⟨e0, e1⟩ := hargs c
  obtain ⟨r0, rest⟩ := h c
  exact ⟨r0.trans ((val_main_v3_eq _ _).trans (final_eq m c _ _ e0 e1)), rest⟩

end Cert.Proof.OprojDw

end
-- ==== Proof.BranchDw.lean ====
module

public import proofs.«01_k».proof.Proof.Product
public import proofs.«01_k».proof.Proof.Gen.Kernel13Ideal.Value
public import proofs.«01_k».proof.Proof.Gen.Reference13Ideal.Read
public import proofs.«01_k».proof.Proof.Gen.Reference13Ideal.Run
public import proofs.«01_k».proof.Defs

/-! The gradient of a branch's output matrix, transposed, `dyᵀ @ br`, built up over two grid points
    in place: the first writes the products of the first 2048 rows, the second adds those of the other 2048. -/

@[expose] public section

set_option maxRecDepth 16384
noncomputable section

namespace Cert.Proof.BranchDw

open Idealize.ShloMosaic Idealize.ShloMosaic.TcCoe Idealize.SL.Sem Cert.Kernel13Ideal Cert.Kernel13Ideal.Gen Cert.Kernel13Ideal.Value
open Cert.Reference13Ideal.Read

variable (m : (ℓ : Loc nD τ sig) → Buf (Elt Ideal) ℓ) (c : Dev nD) (t : Fin cfg0.N)

abbrev br : FVec Ideal S4096x1024 .f32 := m ((c : Thread nD τ).loc main_arg0)
abbrev dy : FVec Ideal S4096x2048 .f32 := m ((c : Thread nD τ).loc main_arg1)

theorem V_lhs (a : Fin 4096) (b : Fin 2048) : V m c main_v0 (ix2 a b) = dy m c (ix2 a b) := by
  show StableHlo.after hostOps0 _ (Proc.devRef .tc main_v0) _ = _
  after_results
  rfl
theorem V_rhs (a : Fin 4096) (b : Fin 1024) : V m c main_v1 (ix2 a b) = br m c (ix2 a b) := by
  show StableHlo.after hostOps0 _ (Proc.devRef .tc main_v1) _ = _
  after_results
  rfl

/-! ## The blocks -/

theorem lt8 : t.val < 8 := lt_of_lt_of_eq t.isLt N_0
def inner (r : Fin 2048) : Fin 4096 := ⟨2048 * (t.val % 2) + r.val, by omega⟩
def row (r : Fin 512) : Fin 2048 := ⟨512 * (t.val / 2) + r.val, by have := lt8 t; omega⟩

theorem idx : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ (win0_2.index t (0 : Fin 2) = t.val / 2 ∧ win0_2.index t (1 : Fin 2) = 0) :=
  (by decide +kernel : ∀ t : Fin grid0.N, _)
theorem emb0 (j : S2048x512.Idx) : ((cfg0.win 0).blk t).view.emb j = ix2 (inner t (j 0)) (row t (j 1)) := by
  obtain ⟨⟨e0, e1⟩, -⟩ := idx t
  funext a; apply Fin.ext
  match a with
  | ⟨0, _⟩ => show win0_0.index t (0 : Fin 2) * 2048 + 1 * (j 0).val = 2048 * (t.val % 2) + (j 0).val; omega
  | ⟨1, _⟩ => show win0_0.index t (1 : Fin 2) * 512 + 1 * (j 1).val = 512 * (t.val / 2) + (j 1).val; omega
theorem emb1 (j : S2048x1024.Idx) : ((cfg0.win 1).blk t).view.emb j = ix2 (inner t (j 0)) (j 1) := by
  obtain ⟨-, ⟨e0, e1⟩, -⟩ := idx t
  funext a; apply Fin.ext
  match a with
  | ⟨0, _⟩ => show win0_1.index t (0 : Fin 2) * 2048 + 1 * (j 0).val = 2048 * (t.val % 2) + (j 0).val; omega
  | ⟨1, _⟩ => show win0_1.index t (1 : Fin 2) * 1024 + 1 * (j 1).val = (j 1).val; omega
theorem emb2 (j : S512x1024.Idx) : ((cfg0.win 2).blk t).view.emb j = ix2 (row t (j 0)) (j 1) := by
  obtain ⟨-, -, e0, e1⟩ := idx t
  funext a; apply Fin.ext
  match a with
  | ⟨0, _⟩ => show win0_2.index t (0 : Fin 2) * 512 + 1 * (j 0).val = 512 * (t.val / 2) + (j 0).val; omega
  | ⟨1, _⟩ => show win0_2.index t (1 : Fin 2) * 1024 + 1 * (j 1).val = (j 1).val; omega

/-- One term of an entry of the result. -/
def term (i : Fin 2048) (l : Fin 1024) (q : Fin 4096) : EReal := dy m c (ix2 q i) * br m c (ix2 q l)

theorem blk0 (j : S2048x512.Idx) : iblk m c 0 t j = dy m c (ix2 (inner t (j 0)) (row t (j 1))) := by
  show V m c main_v0 (((cfg0.win 0).blk t).view.emb j) = _; rw [emb0]; exact V_lhs m c _ _
theorem blk1 (j : S2048x1024.Idx) : iblk m c 1 t j = br m c (ix2 (inner t (j 0)) (j 1)) := by
  show V m c main_v1 (((cfg0.win 1).blk t).view.emb j) = _; rw [emb1]; exact V_rhs m c _ _

theorem covered (i : S2048x1024.Idx) : ∃ t : Fin cfg0.N, (cfg0.win 2).flush t = true ∧ i ∈ ((cfg0.win 2).blk t).view.set := by
  have b0 : (i 0).val < 2048 := (i 0).isLt
  let t : Fin cfg0.N := ⟨2 * ((i 0).val / 512) + 1, lt_of_lt_of_eq (by omega) N_0.symm⟩
  let j : S512x1024.Idx := ix2 ⟨(i 0).val % 512, Nat.mod_lt _ (by decide)⟩ (i 1)
  have e : ((cfg0.win 2).blk t).view.emb j = i := by
    rw [emb2]
    funext a; apply Fin.ext
    match a with
    | ⟨0, _⟩ => show 512 * ((2 * ((i 0).val / 512) + 1) / 2) + (i 0).val % 512 = (i 0).val; omega
    | ⟨1, _⟩ => rfl
  exact ⟨t, (flush0_2 t).mpr (show (2 * ((i 0).val / 512) + 1) % 2 = 1 by omega), e ▸ ((cfg0.win 2).blk t).view.emb_mem_set j⟩

/-! ## What a point leaves: half of every sum, then the whole of it -/

section
variable {F : FTy → Type} [FloatOps F] (i : grid0.Coords) (arg3 : Memref sig .tc .vmem S2048x512 .bf16) (harg3 : arg3.IsWhole)
  (arg4 : Memref sig .tc .vmem S2048x1024 .bf16) (harg4 : arg4.IsWhole) (arg5 : Memref sig .tc .vmem S512x1024 .f32) (harg5 : arg5.IsWhole)
  (x0 : Vec F S2048x512 .bf16) (x1 : Vec F S2048x1024 .bf16) (xo : Vec F S512x1024 .f32)
theorem out_A (h0 h1) : out0_A_2 c i arg3 harg3 arg4 harg4 arg5 harg5 h0 h1 x0 x1 = k0_pay1 x0 x1 := by
  unfold out0_A_2
  rw [View.read_writes_junk_eq_canon]
  unfold kernelRun0_A
  dsimp only
  refine (View.canon_unit_zero zero_offsets _ _).trans ?_
  simp only [load_eq, ld_whole]
theorem out_B (h0 h1) : out0_B_2 c i arg3 harg3 arg4 harg4 arg5 harg5 h0 h1 x0 x1 xo = k0_pay2 xo x0 x1 := by
  unfold out0_B_2
  rw [View.read_writes_junk_eq_canon]
  unfold kernelRun0_B
  dsimp only
  refine (View.canon_unit_zero zero_offsets _ _).trans ?_
  simp only [load_eq, ld_whole]
end

theorem pay1_at (j : S512x1024.Idx) : k0_pay1 (F := Ideal) (iblk m c 0 t) (iblk m c 1 t) j = ∑ r : Fin 2048, term m c (row t (j 0)) (j 1) (inner t r) := by
  pointwise [k0_pay1]
  simp only [blk0, blk1]
  rfl
theorem pay2_at (o : Vec Ideal S512x1024 .f32) (j : S512x1024.Idx) :
    k0_pay2 (F := Ideal) o (iblk m c 0 t) (iblk m c 1 t) j = o j + ∑ r : Fin 2048, term m c (row t (j 0)) (j 1) (inner t r) := by
  pointwise [k0_pay2]
  simp only [blk0, blk1]
  rfl

theorem after_first (h : t.val % 2 = 0) (j : S512x1024.Idx) : outsAt0 m c t.val t.isLt j = part 2048 (term m c (row t (j 0)) (j 1)) 1 := by
  rw [outsAt0_A m c t h (by omega), out_A, pay1_at]
  exact part_one 2048 _ _ fun r => by show 2048 * (t.val % 2) + r.val = r.val; omega
theorem after_second (h : t.val % 2 = 1) (j : S512x1024.Idx) : outsAt0 m c t.val t.isLt j = ∑ q : Fin 4096, term m c (row t (j 0)) (j 1) q := by
  rw [outsAt0_B m c t (by omega) h, out_B, pay2_at]
  have e : (row ⟨t.val - 1, Nat.lt_of_le_of_lt (Nat.sub_le _ _) t.isLt⟩ (j 0)) = row t (j 0) :=
    Fin.ext (show 512 * ((t.val - 1) / 2) + (j 0).val = 512 * (t.val / 2) + (j 0).val by omega)
  rw [after_first m c ⟨t.val - 1, Nat.lt_of_le_of_lt (Nat.sub_le _ _) t.isLt⟩ (show (t.val - 1) % 2 = 0 by omega) j, e]
  exact (part_succ 2048 _ 1 _ fun r => by show 2048 * (t.val % 2) + r.val = 2048 * 1 + r.val; omega).trans (part_all 2048 _ 2 rfl)

/-! ## The result -/

theorem reference_at (a : Fin 2048) (b : Fin 1024) : val_main_v4 (F := Ideal) (br m c) (dy m c) (ix2 a b) = ∑ q : Fin 4096, term m c a b q := by
  rw [val_main_v4_apply, val_main_v3_apply, val_main_v2_apply]
  exact Finset.sum_congr rfl fun k _ => congrArg₂ (· * ·) (congrArg (dy m c) (by funext a; fin_cases a <;> rfl)) (congrArg (br m c) (by funext a; fin_cases a <;> rfl))

theorem final : (dats m 0 c).arrAt 2 cfg0.N = val_main_v4 (F := Ideal) (br m c) (dy m c) :=
  (dats m 0 c).arrAt_eq_of_cover 2 _ (fun t ht => by
    rw [flushed2]
    funext j
    show outsAt0 m c t.val t.isLt j = val_main_v4 (F := Ideal) (br m c) (dy m c) (((cfg0.win 2).blk t).view.emb j)
    rw [emb2, after_second m c t ((flush0_2 t).mp ht)]
    exact (reference_at m c _ _).symm) covered

theorem final_eq (a0 a1) (h0 : a0 = br m c) (h1 : a1 = dy m c) : val_main_v4 (F := Ideal) a0 a1 = (dats m 0 c).arrAt 2 cfg0.N := by
  rw [h0, h1, final]

theorem algebraic : letI := Cert.Kernel13Ideal.Gen.facts; letI := Cert.Reference13Ideal.Gen.facts;
    Cert.algebraic_Kernel13Ideal_Reference13Ideal := by
  intro m ρ m' ρ' hpre hargs
  refine ⟨fun c => (dats m 0 c).arrAt 2 cfg0.N, run_blocks m ρ, ?_⟩
  refine (θ_run _ _ _).mono (fun r h c => ?_) (Cert.Reference13Ideal.Value.run m' ρ')
  obtain ⟨e0, e1⟩ := hargs c
  obtain ⟨r0, rest⟩ := h c
  exact ⟨r0.trans ((val_main_v4_eq _ _).trans (final_eq m c _ _ e0 e1)), rest⟩

end Cert.Proof.BranchDw

end
-- ==== Proof.XqDw.lean ====
module

public import proofs.«01_k».proof.Proof.Product
public import proofs.«01_k».proof.Proof.Gen.Kernel14Ideal.Value
public import proofs.«01_k».proof.Proof.Gen.Reference14Ideal.Read
public import proofs.«01_k».proof.Proof.Gen.Reference14Ideal.Run
public import proofs.«01_k».proof.Defs

/-! The gradient of the cross-attention's query matrix, `xᵀ @ dq`, built up over two grid points
    in place: the first writes the products of the first 2048 rows, the second adds those of the other 2048. -/

@[expose] public section

set_option maxRecDepth 16384
noncomputable section

namespace Cert.Proof.XqDw

open Idealize.ShloMosaic Idealize.ShloMosaic.TcCoe Idealize.SL.Sem Cert.Kernel14Ideal Cert.Kernel14Ideal.Gen Cert.Kernel14Ideal.Value
open Cert.Reference14Ideal.Read

variable (m : (ℓ : Loc nD τ sig) → Buf (Elt Ideal) ℓ) (c : Dev nD) (t : Fin cfg0.N)

abbrev x : FVec Ideal S4096x2048 .f32 := m ((c : Thread nD τ).loc main_arg0)
abbrev dq : FVec Ideal S4096x512 .f32 := m ((c : Thread nD τ).loc main_arg1)

theorem V_lhs (a : Fin 4096) (b : Fin 2048) : V m c main_v0 (ix2 a b) = x m c (ix2 a b) := by
  show StableHlo.after hostOps0 _ (Proc.devRef .tc main_v0) _ = _
  after_results
  rfl
theorem V_rhs (a : Fin 4096) (b : Fin 512) : V m c main_v1 (ix2 a b) = dq m c (ix2 a b) := by
  show StableHlo.after hostOps0 _ (Proc.devRef .tc main_v1) _ = _
  after_results
  rfl

/-! ## The blocks -/

theorem lt8 : t.val < 8 := lt_of_lt_of_eq t.isLt N_0
def inner (r : Fin 2048) : Fin 4096 := ⟨2048 * (t.val % 2) + r.val, by omega⟩
def row (r : Fin 512) : Fin 2048 := ⟨512 * (t.val / 2) + r.val, by have := lt8 t; omega⟩

theorem idx : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ (win0_2.index t (0 : Fin 2) = t.val / 2 ∧ win0_2.index t (1 : Fin 2) = 0) :=
  (by decide +kernel : ∀ t : Fin grid0.N, _)
theorem emb0 (j : S2048x512.Idx) : ((cfg0.win 0).blk t).view.emb j = ix2 (inner t (j 0)) (row t (j 1)) := by
  obtain ⟨⟨e0, e1⟩, -⟩ := idx t
  funext a; apply Fin.ext
  match a with
  | ⟨0, _⟩ => show win0_0.index t (0 : Fin 2) * 2048 + 1 * (j 0).val = 2048 * (t.val % 2) + (j 0).val; omega
  | ⟨1, _⟩ => show win0_0.index t (1 : Fin 2) * 512 + 1 * (j 1).val = 512 * (t.val / 2) + (j 1).val; omega
theorem emb1 (j : S2048x512.Idx) : ((cfg0.win 1).blk t).view.emb j = ix2 (inner t (j 0)) (j 1) := by
  obtain ⟨-, ⟨e0, e1⟩, -⟩ := idx t
  funext a; apply Fin.ext
  match a with
  | ⟨0, _⟩ => show win0_1.index t (0 : Fin 2) * 2048 + 1 * (j 0).val = 2048 * (t.val % 2) + (j 0).val; omega
  | ⟨1, _⟩ => show win0_1.index t (1 : Fin 2) * 512 + 1 * (j 1).val = (j 1).val; omega
theorem emb2 (j : S512x512.Idx) : ((cfg0.win 2).blk t).view.emb j = ix2 (row t (j 0)) (j 1) := by
  obtain ⟨-, -, e0, e1⟩ := idx t
  funext a; apply Fin.ext
  match a with
  | ⟨0, _⟩ => show win0_2.index t (0 : Fin 2) * 512 + 1 * (j 0).val = 512 * (t.val / 2) + (j 0).val; omega
  | ⟨1, _⟩ => show win0_2.index t (1 : Fin 2) * 512 + 1 * (j 1).val = (j 1).val; omega

/-- One term of an entry of the result. -/
def term (i : Fin 2048) (l : Fin 512) (q : Fin 4096) : EReal := x m c (ix2 q i) * dq m c (ix2 q l)

theorem blk0 (j : S2048x512.Idx) : iblk m c 0 t j = x m c (ix2 (inner t (j 0)) (row t (j 1))) := by
  show V m c main_v0 (((cfg0.win 0).blk t).view.emb j) = _; rw [emb0]; exact V_lhs m c _ _
theorem blk1 (j : S2048x512.Idx) : iblk m c 1 t j = dq m c (ix2 (inner t (j 0)) (j 1)) := by
  show V m c main_v1 (((cfg0.win 1).blk t).view.emb j) = _; rw [emb1]; exact V_rhs m c _ _

theorem covered (i : S2048x512.Idx) : ∃ t : Fin cfg0.N, (cfg0.win 2).flush t = true ∧ i ∈ ((cfg0.win 2).blk t).view.set := by
  have b0 : (i 0).val < 2048 := (i 0).isLt
  let t : Fin cfg0.N := ⟨2 * ((i 0).val / 512) + 1, lt_of_lt_of_eq (by omega) N_0.symm⟩
  let j : S512x512.Idx := ix2 ⟨(i 0).val % 512, Nat.mod_lt _ (by decide)⟩ (i 1)
  have e : ((cfg0.win 2).blk t).view.emb j = i := by
    rw [emb2]
    funext a; apply Fin.ext
    match a with
    | ⟨0, _⟩ => show 512 * ((2 * ((i 0).val / 512) + 1) / 2) + (i 0).val % 512 = (i 0).val; omega
    | ⟨1, _⟩ => rfl
  exact ⟨t, (flush0_2 t).mpr (show (2 * ((i 0).val / 512) + 1) % 2 = 1 by omega), e ▸ ((cfg0.win 2).blk t).view.emb_mem_set j⟩

/-! ## What a point leaves: half of every sum, then the whole of it -/

section
variable {F : FTy → Type} [FloatOps F] (i : grid0.Coords) (arg3 : Memref sig .tc .vmem S2048x512 .bf16) (harg3 : arg3.IsWhole)
  (arg4 : Memref sig .tc .vmem S2048x512 .bf16) (harg4 : arg4.IsWhole) (arg5 : Memref sig .tc .vmem S512x512 .f32) (harg5 : arg5.IsWhole)
  (x0 : Vec F S2048x512 .bf16) (x1 : Vec F S2048x512 .bf16) (xo : Vec F S512x512 .f32)
theorem out_A (h0 h1) : out0_A_2 c i arg3 harg3 arg4 harg4 arg5 harg5 h0 h1 x0 x1 = k0_pay1 x0 x1 := by
  unfold out0_A_2
  rw [View.read_writes_junk_eq_canon]
  unfold kernelRun0_A
  dsimp only
  refine (View.canon_unit_zero zero_offsets _ _).trans ?_
  simp only [load_eq, ld_whole]
theorem out_B (h0 h1) : out0_B_2 c i arg3 harg3 arg4 harg4 arg5 harg5 h0 h1 x0 x1 xo = k0_pay2 xo x0 x1 := by
  unfold out0_B_2
  rw [View.read_writes_junk_eq_canon]
  unfold kernelRun0_B
  dsimp only
  refine (View.canon_unit_zero zero_offsets _ _).trans ?_
  simp only [load_eq, ld_whole]
end

theorem pay1_at (j : S512x512.Idx) : k0_pay1 (F := Ideal) (iblk m c 0 t) (iblk m c 1 t) j = ∑ r : Fin 2048, term m c (row t (j 0)) (j 1) (inner t r) := by
  pointwise [k0_pay1]
  simp only [blk0, blk1]
  rfl
theorem pay2_at (o : Vec Ideal S512x512 .f32) (j : S512x512.Idx) :
    k0_pay2 (F := Ideal) o (iblk m c 0 t) (iblk m c 1 t) j = o j + ∑ r : Fin 2048, term m c (row t (j 0)) (j 1) (inner t r) := by
  pointwise [k0_pay2]
  simp only [blk0, blk1]
  rfl

theorem after_first (h : t.val % 2 = 0) (j : S512x512.Idx) : outsAt0 m c t.val t.isLt j = part 2048 (term m c (row t (j 0)) (j 1)) 1 := by
  rw [outsAt0_A m c t h (by omega), out_A, pay1_at]
  exact part_one 2048 _ _ fun r => by show 2048 * (t.val % 2) + r.val = r.val; omega
theorem after_second (h : t.val % 2 = 1) (j : S512x512.Idx) : outsAt0 m c t.val t.isLt j = ∑ q : Fin 4096, term m c (row t (j 0)) (j 1) q := by
  rw [outsAt0_B m c t (by omega) h, out_B, pay2_at]
  have e : (row ⟨t.val - 1, Nat.lt_of_le_of_lt (Nat.sub_le _ _) t.isLt⟩ (j 0)) = row t (j 0) :=
    Fin.ext (show 512 * ((t.val - 1) / 2) + (j 0).val = 512 * (t.val / 2) + (j 0).val by omega)
  rw [after_first m c ⟨t.val - 1, Nat.lt_of_le_of_lt (Nat.sub_le _ _) t.isLt⟩ (show (t.val - 1) % 2 = 0 by omega) j, e]
  exact (part_succ 2048 _ 1 _ fun r => by show 2048 * (t.val % 2) + r.val = 2048 * 1 + r.val; omega).trans (part_all 2048 _ 2 rfl)

/-! ## The result -/

theorem reference_at (a : Fin 2048) (b : Fin 512) : val_main_v3 (F := Ideal) (x m c) (dq m c) (ix2 a b) = ∑ q : Fin 4096, term m c a b q := by
  rw [val_main_v3_apply, val_main_v2_apply]
  exact Finset.sum_congr rfl fun k _ => (mul_comm _ _).trans (congrArg₂ (· * ·) (congrArg (x m c) (by funext a; fin_cases a <;> rfl)) (congrArg (dq m c) (by funext a; fin_cases a <;> rfl)))

theorem final : (dats m 0 c).arrAt 2 cfg0.N = val_main_v3 (F := Ideal) (x m c) (dq m c) :=
  (dats m 0 c).arrAt_eq_of_cover 2 _ (fun t ht => by
    rw [flushed2]
    funext j
    show outsAt0 m c t.val t.isLt j = val_main_v3 (F := Ideal) (x m c) (dq m c) (((cfg0.win 2).blk t).view.emb j)
    rw [emb2, after_second m c t ((flush0_2 t).mp ht)]
    exact (reference_at m c _ _).symm) covered

theorem final_eq (a0 a1) (h0 : a0 = x m c) (h1 : a1 = dq m c) : val_main_v3 (F := Ideal) a0 a1 = (dats m 0 c).arrAt 2 cfg0.N := by
  rw [h0, h1, final]

theorem algebraic : letI := Cert.Kernel14Ideal.Gen.facts; letI := Cert.Reference14Ideal.Gen.facts;
    Cert.algebraic_Kernel14Ideal_Reference14Ideal := by
  intro m ρ m' ρ' hpre hargs
  refine ⟨fun c => (dats m 0 c).arrAt 2 cfg0.N, run_blocks m ρ, ?_⟩
  refine (θ_run _ _ _).mono (fun r h c => ?_) (Cert.Reference14Ideal.Value.run m' ρ')
  obtain ⟨e0, e1⟩ := hargs c
  obtain ⟨r0, rest⟩ := h c
  exact ⟨r0.trans ((val_main_v3_eq _ _).trans (final_eq m c _ _ e0 e1)), rest⟩

end Cert.Proof.XqDw

end
-- ==== Proof.XoDw.lean ====
module

public import proofs.«01_k».proof.Proof.Product
public import proofs.«01_k».proof.Proof.Gen.Kernel15Ideal.Value
public import proofs.«01_k».proof.Proof.Gen.Reference15Ideal.Read
public import proofs.«01_k».proof.Proof.Gen.Reference15Ideal.Run
public import proofs.«01_k».proof.Defs

/-! The gradient of the cross-attention's output matrix, transposed, `dzᵀ @ o`, built up over two grid points
    in place: the first writes the products of the first 2048 rows, the second adds those of the other 2048. -/

@[expose] public section

set_option maxRecDepth 16384
noncomputable section

namespace Cert.Proof.XoDw

open Idealize.ShloMosaic Idealize.ShloMosaic.TcCoe Idealize.SL.Sem Cert.Kernel15Ideal Cert.Kernel15Ideal.Gen Cert.Kernel15Ideal.Value
open Cert.Reference15Ideal.Read

variable (m : (ℓ : Loc nD τ sig) → Buf (Elt Ideal) ℓ) (c : Dev nD) (t : Fin cfg0.N)

abbrev o : FVec Ideal S4096x512 .f32 := m ((c : Thread nD τ).loc main_arg0)
abbrev dz : FVec Ideal S4096x2048 .f32 := m ((c : Thread nD τ).loc main_arg1)

theorem V_lhs (a : Fin 4096) (b : Fin 2048) : V m c main_v0 (ix2 a b) = dz m c (ix2 a b) := by
  show StableHlo.after hostOps0 _ (Proc.devRef .tc main_v0) _ = _
  after_results
  rfl
theorem V_rhs (a : Fin 4096) (b : Fin 512) : V m c main_v1 (ix2 a b) = o m c (ix2 a b) := by
  show StableHlo.after hostOps0 _ (Proc.devRef .tc main_v1) _ = _
  after_results
  rfl

/-! ## The blocks -/

theorem lt8 : t.val < 8 := lt_of_lt_of_eq t.isLt N_0
def inner (r : Fin 2048) : Fin 4096 := ⟨2048 * (t.val % 2) + r.val, by omega⟩
def row (r : Fin 512) : Fin 2048 := ⟨512 * (t.val / 2) + r.val, by have := lt8 t; omega⟩

theorem idx : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ (win0_2.index t (0 : Fin 2) = t.val / 2 ∧ win0_2.index t (1 : Fin 2) = 0) :=
  (by decide +kernel : ∀ t : Fin grid0.N, _)
theorem emb0 (j : S2048x512.Idx) : ((cfg0.win 0).blk t).view.emb j = ix2 (inner t (j 0)) (row t (j 1)) := by
  obtain ⟨⟨e0, e1⟩, -⟩ := idx t
  funext a; apply Fin.ext
  match a with
  | ⟨0, _⟩ => show win0_0.index t (0 : Fin 2) * 2048 + 1 * (j 0).val = 2048 * (t.val % 2) + (j 0).val; omega
  | ⟨1, _⟩ => show win0_0.index t (1 : Fin 2) * 512 + 1 * (j 1).val = 512 * (t.val / 2) + (j 1).val; omega
theorem emb1 (j : S2048x512.Idx) : ((cfg0.win 1).blk t).view.emb j = ix2 (inner t (j 0)) (j 1) := by
  obtain ⟨-, ⟨e0, e1⟩, -⟩ := idx t
  funext a; apply Fin.ext
  match a with
  | ⟨0, _⟩ => show win0_1.index t (0 : Fin 2) * 2048 + 1 * (j 0).val = 2048 * (t.val % 2) + (j 0).val; omega
  | ⟨1, _⟩ => show win0_1.index t (1 : Fin 2) * 512 + 1 * (j 1).val = (j 1).val; omega
theorem emb2 (j : S512x512.Idx) : ((cfg0.win 2).blk t).view.emb j = ix2 (row t (j 0)) (j 1) := by
  obtain ⟨-, -, e0, e1⟩ := idx t
  funext a; apply Fin.ext
  match a with
  | ⟨0, _⟩ => show win0_2.index t (0 : Fin 2) * 512 + 1 * (j 0).val = 512 * (t.val / 2) + (j 0).val; omega
  | ⟨1, _⟩ => show win0_2.index t (1 : Fin 2) * 512 + 1 * (j 1).val = (j 1).val; omega

/-- One term of an entry of the result. -/
def term (i : Fin 2048) (l : Fin 512) (q : Fin 4096) : EReal := dz m c (ix2 q i) * o m c (ix2 q l)

theorem blk0 (j : S2048x512.Idx) : iblk m c 0 t j = dz m c (ix2 (inner t (j 0)) (row t (j 1))) := by
  show V m c main_v0 (((cfg0.win 0).blk t).view.emb j) = _; rw [emb0]; exact V_lhs m c _ _
theorem blk1 (j : S2048x512.Idx) : iblk m c 1 t j = o m c (ix2 (inner t (j 0)) (j 1)) := by
  show V m c main_v1 (((cfg0.win 1).blk t).view.emb j) = _; rw [emb1]; exact V_rhs m c _ _

theorem covered (i : S2048x512.Idx) : ∃ t : Fin cfg0.N, (cfg0.win 2).flush t = true ∧ i ∈ ((cfg0.win 2).blk t).view.set := by
  have b0 : (i 0).val < 2048 := (i 0).isLt
  let t : Fin cfg0.N := ⟨2 * ((i 0).val / 512) + 1, lt_of_lt_of_eq (by omega) N_0.symm⟩
  let j : S512x512.Idx := ix2 ⟨(i 0).val % 512, Nat.mod_lt _ (by decide)⟩ (i 1)
  have e : ((cfg0.win 2).blk t).view.emb j = i := by
    rw [emb2]
    funext a; apply Fin.ext
    match a with
    | ⟨0, _⟩ => show 512 * ((2 * ((i 0).val / 512) + 1) / 2) + (i 0).val % 512 = (i 0).val; omega
    | ⟨1, _⟩ => rfl
  exact ⟨t, (flush0_2 t).mpr (show (2 * ((i 0).val / 512) + 1) % 2 = 1 by omega), e ▸ ((cfg0.win 2).blk t).view.emb_mem_set j⟩

/-! ## What a point leaves: half of every sum, then the whole of it -/

section
variable {F : FTy → Type} [FloatOps F] (i : grid0.Coords) (arg3 : Memref sig .tc .vmem S2048x512 .bf16) (harg3 : arg3.IsWhole)
  (arg4 : Memref sig .tc .vmem S2048x512 .bf16) (harg4 : arg4.IsWhole) (arg5 : Memref sig .tc .vmem S512x512 .f32) (harg5 : arg5.IsWhole)
  (x0 : Vec F S2048x512 .bf16) (x1 : Vec F S2048x512 .bf16) (xo : Vec F S512x512 .f32)
theorem out_A (h0 h1) : out0_A_2 c i arg3 harg3 arg4 harg4 arg5 harg5 h0 h1 x0 x1 = k0_pay1 x0 x1 := by
  unfold out0_A_2
  rw [View.read_writes_junk_eq_canon]
  unfold kernelRun0_A
  dsimp only
  refine (View.canon_unit_zero zero_offsets _ _).trans ?_
  simp only [load_eq, ld_whole]
theorem out_B (h0 h1) : out0_B_2 c i arg3 harg3 arg4 harg4 arg5 harg5 h0 h1 x0 x1 xo = k0_pay2 xo x0 x1 := by
  unfold out0_B_2
  rw [View.read_writes_junk_eq_canon]
  unfold kernelRun0_B
  dsimp only
  refine (View.canon_unit_zero zero_offsets _ _).trans ?_
  simp only [load_eq, ld_whole]
end

theorem pay1_at (j : S512x512.Idx) : k0_pay1 (F := Ideal) (iblk m c 0 t) (iblk m c 1 t) j = ∑ r : Fin 2048, term m c (row t (j 0)) (j 1) (inner t r) := by
  pointwise [k0_pay1]
  simp only [blk0, blk1]
  rfl
theorem pay2_at (o : Vec Ideal S512x512 .f32) (j : S512x512.Idx) :
    k0_pay2 (F := Ideal) o (iblk m c 0 t) (iblk m c 1 t) j = o j + ∑ r : Fin 2048, term m c (row t (j 0)) (j 1) (inner t r) := by
  pointwise [k0_pay2]
  simp only [blk0, blk1]
  rfl

theorem after_first (h : t.val % 2 = 0) (j : S512x512.Idx) : outsAt0 m c t.val t.isLt j = part 2048 (term m c (row t (j 0)) (j 1)) 1 := by
  rw [outsAt0_A m c t h (by omega), out_A, pay1_at]
  exact part_one 2048 _ _ fun r => by show 2048 * (t.val % 2) + r.val = r.val; omega
theorem after_second (h : t.val % 2 = 1) (j : S512x512.Idx) : outsAt0 m c t.val t.isLt j = ∑ q : Fin 4096, term m c (row t (j 0)) (j 1) q := by
  rw [outsAt0_B m c t (by omega) h, out_B, pay2_at]
  have e : (row ⟨t.val - 1, Nat.lt_of_le_of_lt (Nat.sub_le _ _) t.isLt⟩ (j 0)) = row t (j 0) :=
    Fin.ext (show 512 * ((t.val - 1) / 2) + (j 0).val = 512 * (t.val / 2) + (j 0).val by omega)
  rw [after_first m c ⟨t.val - 1, Nat.lt_of_le_of_lt (Nat.sub_le _ _) t.isLt⟩ (show (t.val - 1) % 2 = 0 by omega) j, e]
  exact (part_succ 2048 _ 1 _ fun r => by show 2048 * (t.val % 2) + r.val = 2048 * 1 + r.val; omega).trans (part_all 2048 _ 2 rfl)

/-! ## The result -/

theorem reference_at (a : Fin 2048) (b : Fin 512) : val_main_v4 (F := Ideal) (o m c) (dz m c) (ix2 a b) = ∑ q : Fin 4096, term m c a b q := by
  rw [val_main_v4_apply, val_main_v3_apply, val_main_v2_apply]
  exact Finset.sum_congr rfl fun k _ => congrArg₂ (· * ·) (congrArg (dz m c) (by funext a; fin_cases a <;> rfl)) (congrArg (o m c) (by funext a; fin_cases a <;> rfl))

theorem final : (dats m 0 c).arrAt 2 cfg0.N = val_main_v4 (F := Ideal) (o m c) (dz m c) :=
  (dats m 0 c).arrAt_eq_of_cover 2 _ (fun t ht => by
    rw [flushed2]
    funext j
    show outsAt0 m c t.val t.isLt j = val_main_v4 (F := Ideal) (o m c) (dz m c) (((cfg0.win 2).blk t).view.emb j)
    rw [emb2, after_second m c t ((flush0_2 t).mp ht)]
    exact (reference_at m c _ _).symm) covered

theorem final_eq (a0 a1) (h0 : a0 = o m c) (h1 : a1 = dz m c) : val_main_v4 (F := Ideal) a0 a1 = (dats m 0 c).arrAt 2 cfg0.N := by
  rw [h0, h1, final]

theorem algebraic : letI := Cert.Kernel15Ideal.Gen.facts; letI := Cert.Reference15Ideal.Gen.facts;
    Cert.algebraic_Kernel15Ideal_Reference15Ideal := by
  intro m ρ m' ρ' hpre hargs
  refine ⟨fun c => (dats m 0 c).arrAt 2 cfg0.N, run_blocks m ρ, ?_⟩
  refine (θ_run _ _ _).mono (fun r h c => ?_) (Cert.Reference15Ideal.Value.run m' ρ')
  obtain ⟨e0, e1⟩ := hargs c
  obtain ⟨r0, rest⟩ := h c
  exact ⟨r0.trans ((val_main_v4_eq _ _).trans (final_eq m c _ _ e0 e1)), rest⟩

end Cert.Proof.XoDw

end
-- ==== Proof.XkvDw.lean ====
module

public import proofs.«01_k».proof.Proof.Product
public import proofs.«01_k».proof.Proof.Gen.Kernel16Ideal.Value
public import proofs.«01_k».proof.Proof.Gen.Reference16Ideal.Read
public import proofs.«01_k».proof.Proof.Gen.Reference16Ideal.Run
public import proofs.«01_k».proof.Defs

/-! The gradient of the matrix that projects the memory onto keys and values, `memᵀ @ dkv`: one product to a grid point, whose
    blocks of 512 rows tile the result. -/

@[expose] public section

set_option maxRecDepth 16384
noncomputable section

namespace Cert.Proof.XkvDw

open Idealize.ShloMosaic Idealize.ShloMosaic.TcCoe Idealize.SL.Sem Cert.Kernel16Ideal Cert.Kernel16Ideal.Gen Cert.Kernel16Ideal.Value
open Cert.Reference16Ideal.Read

variable (m : (ℓ : Loc nD τ sig) → Buf (Elt Ideal) ℓ) (c : Dev nD) (t : Fin cfg0.N)

abbrev mem : FVec Ideal S256x2048 .f32 := m ((c : Thread nD τ).loc main_arg0)
abbrev dkv : FVec Ideal S256x1024 .f32 := m ((c : Thread nD τ).loc main_arg1)

theorem V_v0 : V m c main_v0 = truncf .bf16 (mem m c) bitsLt_bf16_f32 := by
  show StableHlo.after hostOps0 _ (Proc.devRef .tc main_v0) = _
  after_results
theorem V_v1 : V m c main_v1 = truncf .bf16 (dkv m c) bitsLt_bf16_f32 := by
  show StableHlo.after hostOps0 _ (Proc.devRef .tc main_v1) = _
  after_results

/-! ## The blocks -/

theorem lt4 : t.val < 4 := lt_of_lt_of_eq t.isLt N_0
def row (r : Fin 512) : Fin 2048 := ⟨512 * t.val + r.val, by have := lt4 t; omega⟩

theorem idx : ∀ t : Fin cfg0.N, (win0_0.index t (0 : Fin 2) = 0 ∧ win0_0.index t (1 : Fin 2) = t.val)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)
theorem emb0 (j : S256x512.Idx) : ((cfg0.win 0).blk t).view.emb j = ix2 (j 0) (row t (j 1)) := by
  obtain ⟨⟨e0, e1⟩, -⟩ := idx t
  funext a; apply Fin.ext
  match a with
  | ⟨0, _⟩ => show win0_0.index t (0 : Fin 2) * 256 + 1 * (j 0).val = (j 0).val; omega
  | ⟨1, _⟩ => show win0_0.index t (1 : Fin 2) * 512 + 1 * (j 1).val = 512 * t.val + (j 1).val; omega
theorem emb1 (j : S256x1024.Idx) : ((cfg0.win 1).blk t).view.emb j = j := by
  obtain ⟨-, ⟨e0, e1⟩, -⟩ := idx t
  funext a; apply Fin.ext
  match a with
  | ⟨0, _⟩ => show win0_1.index t (0 : Fin 2) * 256 + 1 * (j 0).val = (j 0).val; omega
  | ⟨1, _⟩ => show win0_1.index t (1 : Fin 2) * 1024 + 1 * (j 1).val = (j 1).val; omega
theorem emb2 (j : S512x1024.Idx) : ((cfg0.win 2).blk t).view.emb j = ix2 (row t (j 0)) (j 1) := by
  obtain ⟨-, -, e0, e1⟩ := idx t
  funext a; apply Fin.ext
  match a with
  | ⟨0, _⟩ => show win0_2.index t (0 : Fin 2) * 512 + 1 * (j 0).val = 512 * t.val + (j 0).val; omega
  | ⟨1, _⟩ => show win0_2.index t (1 : Fin 2) * 1024 + 1 * (j 1).val = (j 1).val; omega

theorem blk0 (j : S256x512.Idx) : iblk m c 0 t j = mem m c (ix2 (j 0) (row t (j 1))) := by
  show V m c main_v0 (((cfg0.win 0).blk t).view.emb j) = _; rw [emb0, V_v0]; rfl
theorem blk1 (j : S256x1024.Idx) : iblk m c 1 t j = dkv m c j := by
  show V m c main_v1 (((cfg0.win 1).blk t).view.emb j) = _; rw [emb1, V_v1]; rfl

theorem covered (i : S2048x1024.Idx) : ∃ t : Fin cfg0.N, (cfg0.win 2).flush t = true ∧ i ∈ ((cfg0.win 2).blk t).view.set := by
  have b0 : (i 0).val < 2048 := (i 0).isLt
  let t : Fin cfg0.N := ⟨(i 0).val / 512, lt_of_lt_of_eq (by omega) N_0.symm⟩
  let j : S512x1024.Idx := ix2 ⟨(i 0).val % 512, Nat.mod_lt _ (by decide)⟩ (i 1)
  have e : ((cfg0.win 2).blk t).view.emb j = i := by
    rw [emb2]
    funext a; apply Fin.ext
    match a with
    | ⟨0, _⟩ => show 512 * ((i 0).val / 512) + (i 0).val % 512 = (i 0).val; omega
    | ⟨1, _⟩ => rfl
  exact ⟨t, flush0_2 t, e ▸ ((cfg0.win 2).blk t).view.emb_mem_set j⟩

/-! ## The result -/

section
variable {F : FTy → Type} [FloatOps F]
theorem block_out (b0 : Vec F S256x512 .bf16) (b1 : Vec F S256x1024 .bf16) : out0_2 b0 b1 = k0_pay1 b0 b1 := by
  unfold out0_2
  refine (View.canon_unit_zero zero_offsets _ _).trans ?_
  rw [show View.ld b0 r0_0 = b0 from View.ld_unit_zero zero_offsets _ b0, show View.ld b1 r0_1 = b1 from View.ld_unit_zero zero_offsets _ b1]
end

theorem reference_at (a : Fin 2048) (b : Fin 1024) : val_main_v3 (F := Ideal) (mem m c) (dkv m c) (ix2 a b)
    = ∑ k : Fin 256, mem m c (ix2 k a) * dkv m c (ix2 k b) := by
  rw [val_main_v3_apply, val_main_v2_apply]
  exact Finset.sum_congr rfl fun k _ => (mul_comm _ _).trans (congrArg₂ (· * ·) (congrArg (mem m c) (by funext a; fin_cases a <;> rfl)) (congrArg (dkv m c) (by funext a; fin_cases a <;> rfl)))
theorem final : (dats m 0 c).arrAt 2 cfg0.N = val_main_v3 (F := Ideal) (mem m c) (dkv m c) :=
  (dats m 0 c).arrAt_eq_of_cover 2 _ (fun t _ => by
    rw [flushed2, block_out]
    funext j
    show k0_pay1 (F := Ideal) (iblk m c 0 t) (iblk m c 1 t) j = val_main_v3 (F := Ideal) (mem m c) (dkv m c) (((cfg0.win 2).blk t).view.emb j)
    rw [emb2]
    refine Eq.trans ?_ (reference_at m c _ _).symm
    pointwise [k0_pay1]
    simp only [blk0, blk1]
    rfl) covered

theorem final_eq (a0 a1) (h0 : a0 = mem m c) (h1 : a1 = dkv m c) : val_main_v3 (F := Ideal) a0 a1 = (dats m 0 c).arrAt 2 cfg0.N := by
  rw [h0, h1, final]

theorem algebraic : letI := Cert.Kernel16Ideal.Gen.facts; letI := Cert.Reference16Ideal.Gen.facts;
    Cert.algebraic_Kernel16Ideal_Reference16Ideal := by
  intro m ρ m' ρ' hpre hargs
  refine ⟨fun c => (dats m 0 c).arrAt 2 cfg0.N, run_blocks m ρ, ?_⟩
  refine (θ_run _ _ _).mono (fun r h c => ?_) (Cert.Reference16Ideal.Value.run m' ρ')
  obtain ⟨e0, e1⟩ := hargs c
  obtain ⟨r0, rest⟩ := h c
  exact ⟨r0.trans ((val_main_v3_eq _ _).trans (final_eq m c _ _ e0 e1)), rest⟩

end Cert.Proof.XkvDw

end
-- ==== Proof.Xkv.lean ====
module

public import proofs.«01_k».proof.Proof.Product
public import proofs.«01_k».proof.Proof.Gen.Kernel17Ideal.Value
public import proofs.«01_k».proof.Proof.Gen.Reference17Ideal.Read
public import proofs.«01_k».proof.Proof.Gen.Reference17Ideal.Run
public import proofs.«01_k».proof.Defs

/-! The projection of the memory onto the cross-attention's keys and values, `mem @ w_xkv`, in one product. -/

@[expose] public section

set_option maxRecDepth 16384
noncomputable section

namespace Cert.Proof.Xkv

open Idealize.ShloMosaic Idealize.ShloMosaic.TcCoe Idealize.SL.Sem Cert.Kernel17Ideal Cert.Kernel17Ideal.Gen Cert.Kernel17Ideal.Value
open Cert.Reference17Ideal.Read

variable (m : (ℓ : Loc nD τ sig) → Buf (Elt Ideal) ℓ) (c : Dev nD) (t : Fin cfg0.N)

abbrev mem : FVec Ideal S256x2048 .f32 := m ((c : Thread nD τ).loc main_arg0)
abbrev w : FVec Ideal S2048x1024 .f32 := m ((c : Thread nD τ).loc main_arg1)

theorem V_v0 : V m c main_v0 = truncf .bf16 (mem m c) bitsLt_bf16_f32 := by
  show StableHlo.after hostOps0 _ (Proc.devRef .tc main_v0) = _
  after_results
theorem V_v1 : V m c main_v1 = truncf .bf16 (w m c) bitsLt_bf16_f32 := by
  show StableHlo.after hostOps0 _ (Proc.devRef .tc main_v1) = _
  after_results

/-! ## The blocks -/

theorem idx : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)
theorem emb0 (j : S256x2048.Idx) : ((cfg0.win 0).blk t).view.emb j = j := by
  obtain ⟨⟨e0, e1⟩, -⟩ := idx t
  funext a; apply Fin.ext
  match a with
  | ⟨0, _⟩ => show win0_0.index t (0 : Fin 2) * 256 + 1 * (j 0).val = (j 0).val; omega
  | ⟨1, _⟩ => show win0_0.index t (1 : Fin 2) * 2048 + 1 * (j 1).val = (j 1).val; omega
theorem emb1 (j : S2048x1024.Idx) : ((cfg0.win 1).blk t).view.emb j = j := by
  obtain ⟨-, ⟨e0, e1⟩, -⟩ := idx t
  funext a; apply Fin.ext
  match a with
  | ⟨0, _⟩ => show win0_1.index t (0 : Fin 2) * 2048 + 1 * (j 0).val = (j 0).val; omega
  | ⟨1, _⟩ => show win0_1.index t (1 : Fin 2) * 1024 + 1 * (j 1).val = (j 1).val; omega
theorem emb2 (j : S256x1024.Idx) : ((cfg0.win 2).blk t).view.emb j = j := by
  obtain ⟨-, -, e0, e1⟩ := idx t
  funext a; apply Fin.ext
  match a with
  | ⟨0, _⟩ => show win0_2.index t (0 : Fin 2) * 256 + 1 * (j 0).val = (j 0).val; omega
  | ⟨1, _⟩ => show win0_2.index t (1 : Fin 2) * 1024 + 1 * (j 1).val = (j 1).val; omega

theorem blk0 (j : S256x2048.Idx) : iblk m c 0 t j = mem m c j := by
  show V m c main_v0 (((cfg0.win 0).blk t).view.emb j) = _; rw [emb0, V_v0]; rfl
theorem blk1 (j : S2048x1024.Idx) : iblk m c 1 t j = w m c j := by
  show V m c main_v1 (((cfg0.win 1).blk t).view.emb j) = _; rw [emb1, V_v1]; rfl

theorem covered (i : S256x1024.Idx) : ∃ t : Fin cfg0.N, (cfg0.win 2).flush t = true ∧ i ∈ ((cfg0.win 2).blk t).view.set := by
  let t : Fin cfg0.N := ⟨0, lt_of_lt_of_eq (by omega) N_0.symm⟩
  have e : ((cfg0.win 2).blk t).view.emb i = i := emb2 t i
  exact ⟨t, flush0_2 t, e ▸ ((cfg0.win 2).blk t).view.emb_mem_set i⟩

/-! ## The result -/

section
variable {F : FTy → Type} [FloatOps F]
theorem block_out (b0 : Vec F S256x2048 .bf16) (b1 : Vec F S2048x1024 .bf16) : out0_2 b0 b1 = k0_pay1 b0 b1 := by
  unfold out0_2
  refine (View.canon_unit_zero zero_offsets _ _).trans ?_
  rw [show View.ld b0 r0_0 = b0 from View.ld_unit_zero zero_offsets _ b0, show View.ld b1 r0_1 = b1 from View.ld_unit_zero zero_offsets _ b1]
end

theorem final : (dats m 0 c).arrAt 2 cfg0.N = val_main_v1 (F := Ideal) (mem m c) (w m c) :=
  (dats m 0 c).arrAt_eq_of_cover 2 _ (fun t _ => by
    rw [flushed2, block_out]
    funext j
    show k0_pay1 (F := Ideal) (iblk m c 0 t) (iblk m c 1 t) j = val_main_v1 (F := Ideal) (mem m c) (w m c) (((cfg0.win 2).blk t).view.emb j)
    rw [emb2, val_main_v1_apply, val_main_v0_apply]
    pointwise [k0_pay1]
    simp only [blk0, blk1]
    exact Finset.sum_congr rfl fun k _ => congrArg₂ (· * ·) (congrArg (mem m c) (by funext a; fin_cases a <;> rfl)) (congrArg (w m c) (by funext a; fin_cases a <;> rfl))) covered

theorem final_eq (a0 a1) (h0 : a0 = mem m c) (h1 : a1 = w m c) : val_main_v1 (F := Ideal) a0 a1 = (dats m 0 c).arrAt 2 cfg0.N := by
  rw [h0, h1, final]

theorem algebraic : letI := Cert.Kernel17Ideal.Gen.facts; letI := Cert.Reference17Ideal.Gen.facts;
    Cert.algebraic_Kernel17Ideal_Reference17Ideal := by
  intro m ρ m' ρ' hpre hargs
  refine ⟨fun c => (dats m 0 c).arrAt 2 cfg0.N, run_blocks m ρ, ?_⟩
  refine (θ_run _ _ _).mono (fun r h c => ?_) (Cert.Reference17Ideal.Value.run m' ρ')
  obtain ⟨e0, e1⟩ := hargs c
  obtain ⟨r0, rest⟩ := h c
  exact ⟨r0.trans ((val_main_v1_eq _ _).trans (final_eq m c _ _ e0 e1)), rest⟩

end Cert.Proof.Xkv

end
-- ==== Proof.Merge.lean ====
module

public import proofs.«01_k».proof.Proof.Product
public import proofs.«01_k».proof.Proof.Gen.Kernel18Ideal.Value
public import proofs.«01_k».proof.Proof.Gen.Reference18Ideal.Read
public import proofs.«01_k».proof.Proof.Gen.Reference18Ideal.Run
public import proofs.«01_k».proof.Defs

/-! The merge of the mixer's two branches: the projection of each, and their sum weighted by the two gates. One point of the grid
    to a block of 1024 rows and 512 columns, which tile all three results. -/

@[expose] public section

set_option maxRecDepth 16384
noncomputable section

namespace Cert.Proof.Merge

open Idealize.ShloMosaic Idealize.ShloMosaic.TcCoe Idealize.SL.Sem Cert.Kernel18Ideal Cert.Kernel18Ideal.Gen Cert.Kernel18Ideal.Value
open Cert.Reference18Ideal.Read

variable (m : (ℓ : Loc nD τ sig) → Buf (Elt Ideal) ℓ) (c : Dev nD) (t : Fin cfg0.N)

abbrev sgu : FVec Ideal S4096x1024 .f32 := m ((c : Thread nD τ).loc main_arg0)
abbrev att : FVec Ideal S4096x1024 .f32 := m ((c : Thread nD τ).loc main_arg1)
abbrev wa : FVec Ideal S1024x2048 .f32 := m ((c : Thread nD τ).loc main_arg2)
abbrev wb : FVec Ideal S1024x2048 .f32 := m ((c : Thread nD τ).loc main_arg3)
abbrev p : FVec Ideal S4096x7680 .f32 := m ((c : Thread nD τ).loc main_arg4)
abbrev bg : FVec Ideal S1x4096 .f32 := m ((c : Thread nD τ).loc main_arg5)

theorem V_v0 : V m c main_v0 = truncf .bf16 (sgu m c) bitsLt_bf16_f32 := by
  show StableHlo.after hostOps0 _ (Proc.devRef .tc main_v0) = _
  after_results
theorem V_v1 : V m c main_v1 = truncf .bf16 (att m c) bitsLt_bf16_f32 := by
  show StableHlo.after hostOps0 _ (Proc.devRef .tc main_v1) = _
  after_results
theorem V_v3 : V m c main_v3 = truncf .bf16 (transpose S2048x1024 [1, 0] (wa m c) transposes_S1024x2048_S2048x1024_1_0) bitsLt_bf16_f32 := by
  show StableHlo.after hostOps0 _ (Proc.devRef .tc main_v3) = _
  after_results
theorem V_v5 : V m c main_v5 = truncf .bf16 (transpose S2048x1024 [1, 0] (wb m c) transposes_S1024x2048_S2048x1024_1_0) bitsLt_bf16_f32 := by
  show StableHlo.after hostOps0 _ (Proc.devRef .tc main_v5) = _
  after_results

/-! ## The blocks -/

theorem lt16 : t.val < 16 := lt_of_lt_of_eq t.isLt N_0
def row (r : Fin 1024) : Fin 4096 := ⟨1024 * (t.val % 4) + r.val, by omega⟩
def colm (s : Fin 512) : Fin 2048 := ⟨512 * (t.val / 4) + s.val, by have := lt16 t; omega⟩
/-- The columns of the two gates in the combined projection, and of their biases. -/
def ga (l : Fin 2048) : Fin 7680 := ⟨3584 + l.val, by omega⟩
def gb (l : Fin 2048) : Fin 7680 := ⟨5632 + l.val, by omega⟩
def ba (l : Fin 2048) : Fin 4096 := ⟨l.val, by omega⟩
def bb (l : Fin 2048) : Fin 4096 := ⟨2048 + l.val, by omega⟩
/-- The two gates. -/
def gateA (a : Fin 4096) (b : Fin 2048) : EReal := Ideal.logistic (p m c (ix2 a (ga b)) + bg m c (ix2 0 (ba b)))
def gateB (a : Fin 4096) (b : Fin 2048) : EReal := Ideal.logistic (p m c (ix2 a (gb b)) + bg m c (ix2 0 (bb b)))
/-- The two products. -/
def prodA (a : Fin 4096) (b : Fin 2048) : EReal := ∑ k : Fin 1024, sgu m c (ix2 a k) * wa m c (ix2 k b)
def prodB (a : Fin 4096) (b : Fin 2048) : EReal := ∑ k : Fin 1024, att m c (ix2 a k) * wb m c (ix2 k b)

theorem idx : ∀ t : Fin cfg0.N, (win0_0.index t (0 : Fin 2) = t.val % 4 ∧ win0_0.index t (1 : Fin 2) = 0)
    ∧ (win0_1.index t (0 : Fin 2) = t.val % 4 ∧ win0_1.index t (1 : Fin 2) = 0)
    ∧ (win0_2.index t (0 : Fin 2) = t.val / 4 ∧ win0_2.index t (1 : Fin 2) = 0)
    ∧ (win0_3.index t (0 : Fin 2) = t.val / 4 ∧ win0_3.index t (1 : Fin 2) = 0)
    ∧ (win0_4.index t (0 : Fin 2) = t.val % 4 ∧ win0_4.index t (1 : Fin 2) = t.val / 4 + 7)
    ∧ (win0_5.index t (0 : Fin 2) = t.val % 4 ∧ win0_5.index t (1 : Fin 2) = t.val / 4 + 11)
    ∧ (win0_6.index t (0 : Fin 2) = 0 ∧ win0_6.index t (1 : Fin 2) = t.val / 4)
    ∧ (win0_7.index t (0 : Fin 2) = 0 ∧ win0_7.index t (1 : Fin 2) = t.val / 4 + 4)
    ∧ (win0_8.index t (0 : Fin 2) = t.val % 4 ∧ win0_8.index t (1 : Fin 2) = t.val / 4)
    ∧ (win0_9.index t (0 : Fin 2) = t.val % 4 ∧ win0_9.index t (1 : Fin 2) = t.val / 4)
    ∧ (win0_10.index t (0 : Fin 2) = t.val % 4 ∧ win0_10.index t (1 : Fin 2) = t.val / 4) :=
  (by decide +kernel : ∀ t : Fin grid0.N, _)
theorem emb0 (j : S1024x1024.Idx) : ((cfg0.win 0).blk t).view.emb j = ix2 (row t (j 0)) (j 1) := by
  obtain ⟨⟨e0, e1⟩, -⟩ := idx t
  funext a; apply Fin.ext
  match a with
  | ⟨0, _⟩ => show win0_0.index t (0 : Fin 2) * 1024 + 1 * (j 0).val = 1024 * (t.val % 4) + (j 0).val; omega
  | ⟨1, _⟩ => show win0_0.index t (1 : Fin 2) * 1024 + 1 * (j 1).val = (j 1).val; omega
theorem emb1 (j : S1024x1024.Idx) : ((cfg0.win 1).blk t).view.emb j = ix2 (row t (j 0)) (j 1) := by
  obtain ⟨-, ⟨e0, e1⟩, -⟩ := idx t
  funext a; apply Fin.ext
  match a with
  | ⟨0, _⟩ => show win0_1.index t (0 : Fin 2) * 1024 + 1 * (j 0).val = 1024 * (t.val % 4) + (j 0).val; omega
  | ⟨1, _⟩ => show win0_1.index t (1 : Fin 2) * 1024 + 1 * (j 1).val = (j 1).val; omega
theorem emb2 (j : S512x1024.Idx) : ((cfg0.win 2).blk t).view.emb j = ix2 (colm t (j 0)) (j 1) := by
  obtain ⟨-, -, ⟨e0, e1⟩, -⟩ := idx t
  funext a; apply Fin.ext
  match a with
  | ⟨0, _⟩ => show win0_2.index t (0 : Fin 2) * 512 + 1 * (j 0).val = 512 * (t.val / 4) + (j 0).val; omega
  | ⟨1, _⟩ => show win0_2.index t (1 : Fin 2) * 1024 + 1 * (j 1).val = (j 1).val; omega
theorem emb3 (j : S512x1024.Idx) : ((cfg0.win 3).blk t).view.emb j = ix2 (colm t (j 0)) (j 1) := by
  obtain ⟨-, -, -, ⟨e0, e1⟩, -⟩ := idx t
  funext a; apply Fin.ext
  match a with
  | ⟨0, _⟩ => show win0_3.index t (0 : Fin 2) * 512 + 1 * (j 0).val = 512 * (t.val / 4) + (j 0).val; omega
  | ⟨1, _⟩ => show win0_3.index t (1 : Fin 2) * 1024 + 1 * (j 1).val = (j 1).val; omega
theorem emb4 (j : S1024x512.Idx) : ((cfg0.win 4).blk t).view.emb j = ix2 (row t (j 0)) (ga (colm t (j 1))) := by
  obtain ⟨-, -, -, -, ⟨e0, e1⟩, -⟩ := idx t
  funext a; apply Fin.ext
  match a with
  | ⟨0, _⟩ => show win0_4.index t (0 : Fin 2) * 1024 + 1 * (j 0).val = 1024 * (t.val % 4) + (j 0).val; omega
  | ⟨1, _⟩ => show win0_4.index t (1 : Fin 2) * 512 + 1 * (j 1).val = 3584 + (512 * (t.val / 4) + (j 1).val); omega
theorem emb5 (j : S1024x512.Idx) : ((cfg0.win 5).blk t).view.emb j = ix2 (row t (j 0)) (gb (colm t (j 1))) := by
  obtain ⟨-, -, -, -, -, ⟨e0, e1⟩, -⟩ := idx t
  funext a; apply Fin.ext
  match a with
  | ⟨0, _⟩ => show win0_5.index t (0 : Fin 2) * 1024 + 1 * (j 0).val = 1024 * (t.val % 4) + (j 0).val; omega
  | ⟨1, _⟩ => show win0_5.index t (1 : Fin 2) * 512 + 1 * (j 1).val = 5632 + (512 * (t.val / 4) + (j 1).val); omega
theorem emb6 (j : S1x512.Idx) : ((cfg0.win 6).blk t).view.emb j = ix2 0 (ba (colm t (j 1))) := by
  obtain ⟨-, -, -, -, -, -, ⟨e0, e1⟩, -⟩ := idx t
  have z : (j 0).val = 0 := by have := (j 0).isLt; simpa using this
  funext a; apply Fin.ext
  match a with
  | ⟨0, _⟩ => show win0_6.index t (0 : Fin 2) * 1 + 1 * (j 0).val = 0; omega
  | ⟨1, _⟩ => show win0_6.index t (1 : Fin 2) * 512 + 1 * (j 1).val = 512 * (t.val / 4) + (j 1).val; omega
theorem emb7 (j : S1x512.Idx) : ((cfg0.win 7).blk t).view.emb j = ix2 0 (bb (colm t (j 1))) := by
  obtain ⟨-, -, -, -, -, -, -, ⟨e0, e1⟩, -⟩ := idx t
  have z : (j 0).val = 0 := by have := (j 0).isLt; simpa using this
  funext a; apply Fin.ext
  match a with
  | ⟨0, _⟩ => show win0_7.index t (0 : Fin 2) * 1 + 1 * (j 0).val = 0; omega
  | ⟨1, _⟩ => show win0_7.index t (1 : Fin 2) * 512 + 1 * (j 1).val = 2048 + (512 * (t.val / 4) + (j 1).val); omega
theorem emb8 (j : S1024x512.Idx) : ((cfg0.win 8).blk t).view.emb j = ix2 (row t (j 0)) (colm t (j 1)) := by
  obtain ⟨-, -, -, -, -, -, -, -, ⟨e0, e1⟩, -⟩ := idx t
  funext a; apply Fin.ext
  match a with
  | ⟨0, _⟩ => show win0_8.index t (0 : Fin 2) * 1024 + 1 * (j 0).val = 1024 * (t.val % 4) + (j 0).val; omega
  | ⟨1, _⟩ => show win0_8.index t (1 : Fin 2) * 512 + 1 * (j 1).val = 512 * (t.val / 4) + (j 1).val; omega
theorem emb9 (j : S1024x512.Idx) : ((cfg0.win 9).blk t).view.emb j = ix2 (row t (j 0)) (colm t (j 1)) := by
  obtain ⟨-, -, -, -, -, -, -, -, -, ⟨e0, e1⟩, -⟩ := idx t
  funext a; apply Fin.ext
  match a with
  | ⟨0, _⟩ => show win0_9.index t (0 : Fin 2) * 1024 + 1 * (j 0).val = 1024 * (t.val % 4) + (j 0).val; omega
  | ⟨1, _⟩ => show win0_9.index t (1 : Fin 2) * 512 + 1 * (j 1).val = 512 * (t.val / 4) + (j 1).val; omega
theorem emb10 (j : S1024x512.Idx) : ((cfg0.win 10).blk t).view.emb j = ix2 (row t (j 0)) (colm t (j 1)) := by
  obtain ⟨-, -, -, -, -, -, -, -, -, -, e0, e1⟩ := idx t
  funext a; apply Fin.ext
  match a with
  | ⟨0, _⟩ => show win0_10.index t (0 : Fin 2) * 1024 + 1 * (j 0).val = 1024 * (t.val % 4) + (j 0).val; omega
  | ⟨1, _⟩ => show win0_10.index t (1 : Fin 2) * 512 + 1 * (j 1).val = 512 * (t.val / 4) + (j 1).val; omega

theorem blk0 (j : S1024x1024.Idx) : iblk m c 0 t j = sgu m c (ix2 (row t (j 0)) (j 1)) := by
  show V m c main_v0 (((cfg0.win 0).blk t).view.emb j) = _; rw [emb0, V_v0]; rfl
theorem blk1 (j : S1024x1024.Idx) : iblk m c 1 t j = att m c (ix2 (row t (j 0)) (j 1)) := by
  show V m c main_v1 (((cfg0.win 1).blk t).view.emb j) = _; rw [emb1, V_v1]; rfl
theorem blk2 (j : S512x1024.Idx) : iblk m c 2 t j = wa m c (ix2 (j 1) (colm t (j 0))) := by
  show V m c main_v3 (((cfg0.win 2).blk t).view.emb j) = _
  rw [emb2, V_v3]
  exact transpose_apply [1, 0] (wa m c) transposes_S1024x2048_S2048x1024_1_0 _ _ (fun b => by fin_cases b <;> rfl)
theorem blk3 (j : S512x1024.Idx) : iblk m c 3 t j = wb m c (ix2 (j 1) (colm t (j 0))) := by
  show V m c main_v5 (((cfg0.win 3).blk t).view.emb j) = _
  rw [emb3, V_v5]
  exact transpose_apply [1, 0] (wb m c) transposes_S1024x2048_S2048x1024_1_0 _ _ (fun b => by fin_cases b <;> rfl)
theorem blk4 (j : S1024x512.Idx) : iblk m c 4 t j = p m c (ix2 (row t (j 0)) (ga (colm t (j 1)))) := by
  show V m c main_arg4 (((cfg0.win 4).blk t).view.emb j) = _; rw [emb4, V_main_arg4]
theorem blk5 (j : S1024x512.Idx) : iblk m c 5 t j = p m c (ix2 (row t (j 0)) (gb (colm t (j 1)))) := by
  show V m c main_arg4 (((cfg0.win 5).blk t).view.emb j) = _; rw [emb5, V_main_arg4]
theorem blk6 (j : S1x512.Idx) : iblk m c 6 t j = bg m c (ix2 0 (ba (colm t (j 1)))) := by
  show V m c main_arg5 (((cfg0.win 6).blk t).view.emb j) = _; rw [emb6, V_main_arg5]
theorem blk7 (j : S1x512.Idx) : iblk m c 7 t j = bg m c (ix2 0 (bb (colm t (j 1)))) := by
  show V m c main_arg5 (((cfg0.win 7).blk t).view.emb j) = _; rw [emb7, V_main_arg5]

theorem point (i : S4096x2048.Idx) : ∃ (t : Fin cfg0.N) (j : S1024x512.Idx), i = ix2 (row t (j 0)) (colm t (j 1)) := by
  have b0 : (i 0).val < 4096 := (i 0).isLt
  have b1 : (i 1).val < 2048 := (i 1).isLt
  refine ⟨⟨4 * ((i 1).val / 512) + (i 0).val / 1024, lt_of_lt_of_eq (by omega) N_0.symm⟩,
    ix2 ⟨(i 0).val % 1024, Nat.mod_lt _ (by decide)⟩ ⟨(i 1).val % 512, Nat.mod_lt _ (by decide)⟩, ?_⟩
  funext a; apply Fin.ext
  match a with
  | ⟨0, _⟩ => show (i 0).val = 1024 * ((4 * ((i 1).val / 512) + (i 0).val / 1024) % 4) + (i 0).val % 1024; omega
  | ⟨1, _⟩ => show (i 1).val = 512 * ((4 * ((i 1).val / 512) + (i 0).val / 1024) / 4) + (i 1).val % 512; omega
theorem covered8 (i : S4096x2048.Idx) : ∃ t : Fin cfg0.N, (cfg0.win 8).flush t = true ∧ i ∈ ((cfg0.win 8).blk t).view.set := by
  obtain ⟨t, j, e⟩ := point i
  exact ⟨t, flush0_8 t, by rw [e, ← emb8]; exact ((cfg0.win 8).blk t).view.emb_mem_set j⟩
theorem covered9 (i : S4096x2048.Idx) : ∃ t : Fin cfg0.N, (cfg0.win 9).flush t = true ∧ i ∈ ((cfg0.win 9).blk t).view.set := by
  obtain ⟨t, j, e⟩ := point i
  exact ⟨t, flush0_9 t, by rw [e, ← emb9]; exact ((cfg0.win 9).blk t).view.emb_mem_set j⟩
theorem covered10 (i : S4096x2048.Idx) : ∃ t : Fin cfg0.N, (cfg0.win 10).flush t = true ∧ i ∈ ((cfg0.win 10).blk t).view.set := by
  obtain ⟨t, j, e⟩ := point i
  exact ⟨t, flush0_10 t, by rw [e, ← emb10]; exact ((cfg0.win 10).blk t).view.emb_mem_set j⟩

/-! ## The reference's terms -/

theorem ref_gateA (a : Fin 4096) (b : Fin 2048) : val_main_v14 (F := Ideal) (p m c) (bg m c) (ix2 a b) = gateA m c a b := by
  rw [val_main_v14_apply, val_main_v13_apply, val_main_cst_0_apply, val_main_v12_apply, val_main_v11_apply, val_main_cst_apply, val_main_v10_apply, val_main_v9_apply, val_main_v8_apply, val_main_v2_apply, val_main_v7_apply, val_main_v6_apply, val_main_v5_apply, val_main_v4_apply]
  simp only [Ideal.divf_def, Ideal.addf_def, Ideal.negf_def, Ideal.hostUnary_exp_def, Ideal.ofBits_def, Ideal.ofBits_one_f32]
  exact congrArg Ideal.logistic (congrArg₂ (· + ·) (congrArg (p m c) (by funext a; fin_cases a <;> rfl)) (congrArg (bg m c) (by funext d; apply Fin.ext; match d with | ⟨0, _⟩ => rfl | ⟨1, _⟩ => show b.val % 2048 = b.val; omega)))
theorem ref_gateB (a : Fin 4096) (b : Fin 2048) : val_main_v26 (F := Ideal) (p m c) (bg m c) (ix2 a b) = gateB m c a b := by
  rw [val_main_v26_apply, val_main_v25_apply, val_main_cst_2_apply, val_main_v24_apply, val_main_v23_apply, val_main_cst_1_apply, val_main_v22_apply, val_main_v21_apply, val_main_v20_apply, val_main_v3_apply, val_main_v19_apply, val_main_v18_apply, val_main_v17_apply, val_main_v16_apply]
  simp only [Ideal.divf_def, Ideal.addf_def, Ideal.negf_def, Ideal.hostUnary_exp_def, Ideal.ofBits_def, Ideal.ofBits_one_f32]
  exact congrArg Ideal.logistic (congrArg₂ (· + ·) (congrArg (p m c) (by funext a; fin_cases a <;> rfl)) (congrArg (bg m c) (by funext d; apply Fin.ext; match d with | ⟨0, _⟩ => rfl | ⟨1, _⟩ => show 2048 + b.val % 2048 = 2048 + b.val; omega)))
theorem ref_prodA (a : Fin 4096) (b : Fin 2048) : val_main_v0 (F := Ideal) (sgu m c) (wa m c) (ix2 a b) = prodA m c a b := by
  rw [val_main_v0_apply]
  exact Finset.sum_congr rfl fun k _ => congrArg₂ (· * ·) (congrArg (sgu m c) (by funext a; fin_cases a <;> rfl)) (congrArg (wa m c) (by funext a; fin_cases a <;> rfl))
theorem ref_prodB (a : Fin 4096) (b : Fin 2048) : val_main_v1 (F := Ideal) (att m c) (wb m c) (ix2 a b) = prodB m c a b := by
  rw [val_main_v1_apply]
  exact Finset.sum_congr rfl fun k _ => congrArg₂ (· * ·) (congrArg (att m c) (by funext a; fin_cases a <;> rfl)) (congrArg (wb m c) (by funext a; fin_cases a <;> rfl))
theorem ref_merged (a : Fin 4096) (b : Fin 2048) : val_main_v29 (F := Ideal) (sgu m c) (att m c) (wa m c) (wb m c) (p m c) (bg m c) (ix2 a b)
    = gateA m c a b * prodA m c a b + gateB m c a b * prodB m c a b := by
  rw [val_main_v29_apply, val_main_v28_apply, val_main_v15_apply, val_main_v27_apply, ref_gateA, ref_gateB, ref_prodA, ref_prodB]
  rfl

/-! ## The results -/

section
variable {F : FTy → Type} [FloatOps F] (x0 x1 : Vec F S1024x1024 .bf16) (x2 x3 : Vec F S512x1024 .bf16) (x4 x5 : Vec F S1024x512 .f32)
  (x6 x7 : Vec F S1x512 .f32)
theorem out8 : out0_8 x0 x1 x2 x3 x4 x5 x6 x7 = k0_pay4 x0 x2 := by
  unfold out0_8
  refine (View.canon_unit_zero zero_offsets _ _).trans ?_
  simp only [ld_whole]
theorem out9 : out0_9 x0 x1 x2 x3 x4 x5 x6 x7 = k0_pay5 x1 x3 := by
  unfold out0_9
  refine (View.canon_unit_zero zero_offsets _ _).trans ?_
  simp only [ld_whole]
theorem out10 : out0_10 x0 x1 x2 x3 x4 x5 x6 x7 = k0_pay1 (k0_pay6 x0 x2 x1 x3 x4 x6 x5 x7) := by
  unfold out0_10
  refine (View.canon_unit_zero zero_offsets _ _).trans ?_
  simp only [ld_whole]
end

theorem pay2_at (j : S1024x512.Idx) : k0_pay2 (F := Ideal) (iblk m c 0 t) (iblk m c 2 t) j = prodA m c (row t (j 0)) (colm t (j 1)) := by
  pointwise [k0_pay2]
  simp only [blk0, blk2]
  rfl
theorem pay3_at (j : S1024x512.Idx) : k0_pay3 (F := Ideal) (iblk m c 1 t) (iblk m c 3 t) j = prodB m c (row t (j 0)) (colm t (j 1)) := by
  pointwise [k0_pay3]
  simp only [blk1, blk3]
  rfl
theorem pay4_at (j : S1024x512.Idx) : k0_pay4 (F := Ideal) (iblk m c 0 t) (iblk m c 2 t) j = prodA m c (row t (j 0)) (colm t (j 1)) := by
  pointwise [k0_pay4]
  exact pay2_at m c t j
theorem pay5_at (j : S1024x512.Idx) : k0_pay5 (F := Ideal) (iblk m c 1 t) (iblk m c 3 t) j = prodB m c (row t (j 0)) (colm t (j 1)) := by
  pointwise [k0_pay5]
  exact pay3_at m c t j
theorem pay6_at (j : S1024x512.Idx) : k0_pay1 (F := Ideal) (k0_pay6 (iblk m c 0 t) (iblk m c 2 t) (iblk m c 1 t) (iblk m c 3 t) (iblk m c 4 t) (iblk m c 6 t) (iblk m c 5 t) (iblk m c 7 t)) j
    = gateA m c (row t (j 0)) (colm t (j 1)) * prodA m c (row t (j 0)) (colm t (j 1))
      + gateB m c (row t (j 0)) (colm t (j 1)) * prodB m c (row t (j 0)) (colm t (j 1)) := by
  unfold k0_pay6
  pointwise [k0_pay1, pay2_at, pay3_at]
  simp only [blk4, blk5, blk6, blk7]
  rfl

theorem final8 : (dats m 0 c).arrAt 8 cfg0.N = val_main_v0 (F := Ideal) (sgu m c) (wa m c) :=
  (dats m 0 c).arrAt_eq_of_cover 8 _ (fun t _ => by
    rw [flushed8, out8]
    funext j
    show _ = val_main_v0 (F := Ideal) (sgu m c) (wa m c) (((cfg0.win 8).blk t).view.emb j)
    rw [emb8]
    exact (pay4_at m c t j).trans (ref_prodA m c _ _).symm) covered8
theorem final9 : (dats m 0 c).arrAt 9 cfg0.N = val_main_v1 (F := Ideal) (att m c) (wb m c) :=
  (dats m 0 c).arrAt_eq_of_cover 9 _ (fun t _ => by
    rw [flushed9, out9]
    funext j
    show _ = val_main_v1 (F := Ideal) (att m c) (wb m c) (((cfg0.win 9).blk t).view.emb j)
    rw [emb9]
    exact (pay5_at m c t j).trans (ref_prodB m c _ _).symm) covered9
theorem final10 : (dats m 0 c).arrAt 10 cfg0.N = val_main_v29 (F := Ideal) (sgu m c) (att m c) (wa m c) (wb m c) (p m c) (bg m c) :=
  (dats m 0 c).arrAt_eq_of_cover 10 _ (fun t _ => by
    rw [flushed10, out10]
    funext j
    show _ = val_main_v29 (F := Ideal) (sgu m c) (att m c) (wa m c) (wb m c) (p m c) (bg m c) (((cfg0.win 10).blk t).view.emb j)
    rw [emb10]
    exact (pay6_at m c t j).trans (ref_merged m c _ _).symm) covered10

section
variable {a0 : FVec Ideal S4096x1024 .f32} {a1 : FVec Ideal S4096x1024 .f32} {a2 a3 : FVec Ideal S1024x2048 .f32} {a4 : FVec Ideal S4096x7680 .f32}
  {a5 : FVec Ideal S1x4096 .f32}
theorem agree8 (h0 : a0 = sgu m c) (h2 : a2 = wa m c) : val_main_v0 (F := Ideal) a0 a2 = (dats m 0 c).arrAt 8 cfg0.N := by
  rw [h0, h2, final8]
theorem agree9 (h1 : a1 = att m c) (h3 : a3 = wb m c) : val_main_v1 (F := Ideal) a1 a3 = (dats m 0 c).arrAt 9 cfg0.N := by
  rw [h1, h3, final9]
theorem agree10 (h0 : a0 = sgu m c) (h1 : a1 = att m c) (h2 : a2 = wa m c) (h3 : a3 = wb m c) (h4 : a4 = p m c) (h5 : a5 = bg m c) :
    val_main_v29 (F := Ideal) a0 a1 a2 a3 a4 a5 = (dats m 0 c).arrAt 10 cfg0.N := by
  rw [h0, h1, h2, h3, h4, h5, final10]
end

theorem algebraic : letI := Cert.Kernel18Ideal.Gen.facts; letI := Cert.Reference18Ideal.Gen.facts;
    Cert.algebraic_Kernel18Ideal_Reference18Ideal := by
  intro m ρ m' ρ' hpre hargs
  refine ⟨fun c => (dats m 0 c).arrAt 8 cfg0.N, fun c => (dats m 0 c).arrAt 9 cfg0.N, fun c => (dats m 0 c).arrAt 10 cfg0.N, run_blocks m ρ, ?_⟩
  refine (θ_run _ _ _).mono (fun r h c => ?_) (Cert.Reference18Ideal.Value.run m' ρ')
  obtain ⟨e0, e1, e2, e3, e4, e5⟩ := hargs c
  obtain ⟨r0, r1, r2, rest⟩ := h c
  exact ⟨r0.trans ((val_main_v0_eq _ _).trans (agree8 m c e0 e2)), r1.trans ((val_main_v1_eq _ _).trans (agree9 m c e1 e3)),
    r2.trans ((val_main_v29_eq _ _ _ _ _ _).trans (agree10 m c e0 e1 e2 e3 e4 e5)), rest⟩

end Cert.Proof.Merge

end
-- ==== Proof.OprojDx.lean ====
module

public import proofs.«01_k».proof.Proof.Product
public import proofs.«01_k».proof.Proof.Gen.Kernel19Ideal.Value
public import proofs.«01_k».proof.Proof.Gen.Reference19Ideal.Read
public import proofs.«01_k».proof.Proof.Gen.Reference19Ideal.Run
public import proofs.«01_k».proof.Defs

/-! The gradient through the mixer's output projection and its two gates. One point of the grid to a block of 1024 rows and 512
    columns; the gradients of the gates' biases are summed over the four row blocks. -/

@[expose] public section

set_option maxRecDepth 16384
noncomputable section

namespace Cert.Proof.OprojDx

open Idealize.ShloMosaic Idealize.ShloMosaic.TcCoe Idealize.SL.Sem Cert.Kernel19Ideal Cert.Kernel19Ideal.Gen Cert.Kernel19Ideal.Value
open Cert.Reference19Ideal.Read

variable (m : (ℓ : Loc nD τ sig) → Buf (Elt Ideal) ℓ) (c : Dev nD) (t : Fin cfg0.N)

abbrev dz : FVec Ideal S4096x2048 .f32 := m ((c : Thread nD τ).loc main_arg0)
abbrev wo : FVec Ideal S2048x2048 .f32 := m ((c : Thread nD τ).loc main_arg1)
abbrev p : FVec Ideal S4096x7680 .f32 := m ((c : Thread nD τ).loc main_arg2)
abbrev ya : FVec Ideal S4096x2048 .f32 := m ((c : Thread nD τ).loc main_arg3)
abbrev yb : FVec Ideal S4096x2048 .f32 := m ((c : Thread nD τ).loc main_arg4)
abbrev bg : FVec Ideal S1x4096 .f32 := m ((c : Thread nD τ).loc main_arg5)

theorem V_v0 : V m c main_v0 = truncf .bf16 (dz m c) bitsLt_bf16_f32 := by
  show StableHlo.after hostOps0 _ (Proc.devRef .tc main_v0) = _
  after_results
theorem V_v1 : V m c main_v1 = truncf .bf16 (wo m c) bitsLt_bf16_f32 := by
  show StableHlo.after hostOps0 _ (Proc.devRef .tc main_v1) = _
  after_results

/-! ## The blocks -/

theorem lt16 : t.val < 16 := lt_of_lt_of_eq t.isLt N_0
def row (r : Fin 1024) : Fin 4096 := ⟨1024 * (t.val % 4) + r.val, by omega⟩
def colm (s : Fin 512) : Fin 2048 := ⟨512 * (t.val / 4) + s.val, by have := lt16 t; omega⟩
/-- The columns of the two gates in the combined projection, and of their biases. -/
def ga (l : Fin 2048) : Fin 7680 := ⟨3584 + l.val, by omega⟩
def gb (l : Fin 2048) : Fin 7680 := ⟨5632 + l.val, by omega⟩
def ba (l : Fin 2048) : Fin 4096 := ⟨l.val, by omega⟩
def bb (l : Fin 2048) : Fin 4096 := ⟨2048 + l.val, by omega⟩
/-- The two gates. -/
def gateA (a : Fin 4096) (b : Fin 2048) : EReal := Ideal.logistic (p m c (ix2 a (ga b)) + bg m c (ix2 0 (ba b)))
def gateB (a : Fin 4096) (b : Fin 2048) : EReal := Ideal.logistic (p m c (ix2 a (gb b)) + bg m c (ix2 0 (bb b)))
/-- The gradient of the merged branches, and what becomes of it. -/
def dm (a : Fin 4096) (b : Fin 2048) : EReal := ∑ k : Fin 2048, dz m c (ix2 a k) * wo m c (ix2 b k)
def dgA (a : Fin 4096) (b : Fin 2048) : EReal := dm m c a b * ya m c (ix2 a b) * (gateA m c a b * (1 - gateA m c a b))
def dgB (a : Fin 4096) (b : Fin 2048) : EReal := dm m c a b * yb m c (ix2 a b) * (gateB m c a b * (1 - gateB m c a b))

theorem idx : ∀ t : Fin cfg0.N, (win0_0.index t (0 : Fin 2) = t.val % 4 ∧ win0_0.index t (1 : Fin 2) = 0)
    ∧ (win0_1.index t (0 : Fin 2) = t.val / 4 ∧ win0_1.index t (1 : Fin 2) = 0)
    ∧ (win0_2.index t (0 : Fin 2) = t.val % 4 ∧ win0_2.index t (1 : Fin 2) = t.val / 4 + 7)
    ∧ (win0_3.index t (0 : Fin 2) = t.val % 4 ∧ win0_3.index t (1 : Fin 2) = t.val / 4 + 11)
    ∧ (win0_4.index t (0 : Fin 2) = t.val % 4 ∧ win0_4.index t (1 : Fin 2) = t.val / 4)
    ∧ (win0_5.index t (0 : Fin 2) = t.val % 4 ∧ win0_5.index t (1 : Fin 2) = t.val / 4)
    ∧ (win0_6.index t (0 : Fin 2) = 0 ∧ win0_6.index t (1 : Fin 2) = t.val / 4)
    ∧ (win0_7.index t (0 : Fin 2) = 0 ∧ win0_7.index t (1 : Fin 2) = t.val / 4 + 4)
    ∧ (win0_8.index t (0 : Fin 2) = t.val % 4 ∧ win0_8.index t (1 : Fin 2) = t.val / 4)
    ∧ (win0_9.index t (0 : Fin 2) = t.val % 4 ∧ win0_9.index t (1 : Fin 2) = t.val / 4)
    ∧ (win0_10.index t (0 : Fin 2) = t.val % 4 ∧ win0_10.index t (1 : Fin 2) = t.val / 4 + 7)
    ∧ (win0_11.index t (0 : Fin 2) = t.val % 4 ∧ win0_11.index t (1 : Fin 2) = t.val / 4)
    ∧ (win0_12.index t (0 : Fin 2) = 0 ∧ win0_12.index t (1 : Fin 2) = t.val / 4)
    ∧ (win0_13.index t (0 : Fin 2) = 0 ∧ win0_13.index t (1 : Fin 2) = t.val / 4) :=
  (by decide +kernel : ∀ t : Fin grid0.N, _)
theorem emb0 (j : S1024x2048.Idx) : ((cfg0.win 0).blk t).view.emb j = ix2 (row t (j 0)) (j 1) := by
  obtain ⟨⟨e0, e1⟩, -⟩ := idx t
  funext a; apply Fin.ext
  match a with
  | ⟨0, _⟩ => show win0_0.index t (0 : Fin 2) * 1024 + 1 * (j 0).val = 1024 * (t.val % 4) + (j 0).val; omega
  | ⟨1, _⟩ => show win0_0.index t (1 : Fin 2) * 2048 + 1 * (j 1).val = (j 1).val; omega
theorem emb1 (j : S512x2048.Idx) : ((cfg0.win 1).blk t).view.emb j = ix2 (colm t (j 0)) (j 1) := by
  obtain ⟨-, ⟨e0, e1⟩, -⟩ := idx t
  funext a; apply Fin.ext
  match a with
  | ⟨0, _⟩ => show win0_1.index t (0 : Fin 2) * 512 + 1 * (j 0).val = 512 * (t.val / 4) + (j 0).val; omega
  | ⟨1, _⟩ => show win0_1.index t (1 : Fin 2) * 2048 + 1 * (j 1).val = (j 1).val; omega
theorem emb2 (j : S1024x512.Idx) : ((cfg0.win 2).blk t).view.emb j = ix2 (row t (j 0)) (ga (colm t (j 1))) := by
  obtain ⟨-, -, ⟨e0, e1⟩, -⟩ := idx t
  funext a; apply Fin.ext
  match a with
  | ⟨0, _⟩ => show win0_2.index t (0 : Fin 2) * 1024 + 1 * (j 0).val = 1024 * (t.val % 4) + (j 0).val; omega
  | ⟨1, _⟩ => show win0_2.index t (1 : Fin 2) * 512 + 1 * (j 1).val = 3584 + (512 * (t.val / 4) + (j 1).val); omega
theorem emb3 (j : S1024x512.Idx) : ((cfg0.win 3).blk t).view.emb j = ix2 (row t (j 0)) (gb (colm t (j 1))) := by
  obtain ⟨-, -, -, ⟨e0, e1⟩, -⟩ := idx t
  funext a; apply Fin.ext
  match a with
  | ⟨0, _⟩ => show win0_3.index t (0 : Fin 2) * 1024 + 1 * (j 0).val = 1024 * (t.val % 4) + (j 0).val; omega
  | ⟨1, _⟩ => show win0_3.index t (1 : Fin 2) * 512 + 1 * (j 1).val = 5632 + (512 * (t.val / 4) + (j 1).val); omega
theorem emb4 (j : S1024x512.Idx) : ((cfg0.win 4).blk t).view.emb j = ix2 (row t (j 0)) (colm t (j 1)) := by
  obtain ⟨-, -, -, -, ⟨e0, e1⟩, -⟩ := idx t
  funext a; apply Fin.ext
  match a with
  | ⟨0, _⟩ => show win0_4.index t (0 : Fin 2) * 1024 + 1 * (j 0).val = 1024 * (t.val % 4) + (j 0).val; omega
  | ⟨1, _⟩ => show win0_4.index t (1 : Fin 2) * 512 + 1 * (j 1).val = 512 * (t.val / 4) + (j 1).val; omega
theorem emb5 (j : S1024x512.Idx) : ((cfg0.win 5).blk t).view.emb j = ix2 (row t (j 0)) (colm t (j 1)) := by
  obtain ⟨-, -, -, -, -, ⟨e0, e1⟩, -⟩ := idx t
  funext a; apply Fin.ext
  match a with
  | ⟨0, _⟩ => show win0_5.index t (0 : Fin 2) * 1024 + 1 * (j 0).val = 1024 * (t.val % 4) + (j 0).val; omega
  | ⟨1, _⟩ => show win0_5.index t (1 : Fin 2) * 512 + 1 * (j 1).val = 512 * (t.val / 4) + (j 1).val; omega
theorem emb8 (j : S1024x512.Idx) : ((cfg0.win 8).blk t).view.emb j = ix2 (row t (j 0)) (colm t (j 1)) := by
  obtain ⟨-, -, -, -, -, -, -, -, ⟨e0, e1⟩, -⟩ := idx t
  funext a; apply Fin.ext
  match a with
  | ⟨0, _⟩ => show win0_8.index t (0 : Fin 2) * 1024 + 1 * (j 0).val = 1024 * (t.val % 4) + (j 0).val; omega
  | ⟨1, _⟩ => show win0_8.index t (1 : Fin 2) * 512 + 1 * (j 1).val = 512 * (t.val / 4) + (j 1).val; omega
theorem emb9 (j : S1024x512.Idx) : ((cfg0.win 9).blk t).view.emb j = ix2 (row t (j 0)) (colm t (j 1)) := by
  obtain ⟨-, -, -, -, -, -, -, -, -, ⟨e0, e1⟩, -⟩ := idx t
  funext a; apply Fin.ext
  match a with
  | ⟨0, _⟩ => show win0_9.index t (0 : Fin 2) * 1024 + 1 * (j 0).val = 1024 * (t.val % 4) + (j 0).val; omega
  | ⟨1, _⟩ => show win0_9.index t (1 : Fin 2) * 512 + 1 * (j 1).val = 512 * (t.val / 4) + (j 1).val; omega
theorem emb11 (j : S1024x512.Idx) : ((cfg0.win 11).blk t).view.emb j = ix2 (row t (j 0)) (colm t (j 1)) := by
  obtain ⟨-, -, -, -, -, -, -, -, -, -, -, ⟨e0, e1⟩, -⟩ := idx t
  funext a; apply Fin.ext
  match a with
  | ⟨0, _⟩ => show win0_11.index t (0 : Fin 2) * 1024 + 1 * (j 0).val = 1024 * (t.val % 4) + (j 0).val; omega
  | ⟨1, _⟩ => show win0_11.index t (1 : Fin 2) * 512 + 1 * (j 1).val = 512 * (t.val / 4) + (j 1).val; omega
theorem emb6 (j : S1x512.Idx) : ((cfg0.win 6).blk t).view.emb j = ix2 0 (ba (colm t (j 1))) := by
  obtain ⟨-, -, -, -, -, -, ⟨e0, e1⟩, -⟩ := idx t
  have z : (j 0).val = 0 := by have := (j 0).isLt; simpa using this
  funext a; apply Fin.ext
  match a with
  | ⟨0, _⟩ => show win0_6.index t (0 : Fin 2) * 1 + 1 * (j 0).val = 0; omega
  | ⟨1, _⟩ => show win0_6.index t (1 : Fin 2) * 512 + 1 * (j 1).val = 512 * (t.val / 4) + (j 1).val; omega
theorem emb7 (j : S1x512.Idx) : ((cfg0.win 7).blk t).view.emb j = ix2 0 (bb (colm t (j 1))) := by
  obtain ⟨-, -, -, -, -, -, -, ⟨e0, e1⟩, -⟩ := idx t
  have z : (j 0).val = 0 := by have := (j 0).isLt; simpa using this
  funext a; apply Fin.ext
  match a with
  | ⟨0, _⟩ => show win0_7.index t (0 : Fin 2) * 1 + 1 * (j 0).val = 0; omega
  | ⟨1, _⟩ => show win0_7.index t (1 : Fin 2) * 512 + 1 * (j 1).val = 2048 + (512 * (t.val / 4) + (j 1).val); omega
theorem emb12 (j : S1x512.Idx) : ((cfg0.win 12).blk t).view.emb j = ix2 0 (colm t (j 1)) := by
  obtain ⟨-, -, -, -, -, -, -, -, -, -, -, -, ⟨e0, e1⟩, -⟩ := idx t
  have z : (j 0).val = 0 := by have := (j 0).isLt; simpa using this
  funext a; apply Fin.ext
  match a with
  | ⟨0, _⟩ => show win0_12.index t (0 : Fin 2) * 1 + 1 * (j 0).val = 0; omega
  | ⟨1, _⟩ => show win0_12.index t (1 : Fin 2) * 512 + 1 * (j 1).val = 512 * (t.val / 4) + (j 1).val; omega
theorem emb13 (j : S1x512.Idx) : ((cfg0.win 13).blk t).view.emb j = ix2 0 (colm t (j 1)) := by
  obtain ⟨-, -, -, -, -, -, -, -, -, -, -, -, -, e0, e1⟩ := idx t
  have z : (j 0).val = 0 := by have := (j 0).isLt; simpa using this
  funext a; apply Fin.ext
  match a with
  | ⟨0, _⟩ => show win0_13.index t (0 : Fin 2) * 1 + 1 * (j 0).val = 0; omega
  | ⟨1, _⟩ => show win0_13.index t (1 : Fin 2) * 512 + 1 * (j 1).val = 512 * (t.val / 4) + (j 1).val; omega

theorem blk0 (j : S1024x2048.Idx) : iblk m c 0 t j = dz m c (ix2 (row t (j 0)) (j 1)) := by
  show V m c main_v0 (((cfg0.win 0).blk t).view.emb j) = _; rw [emb0, V_v0]; rfl
theorem blk1 (j : S512x2048.Idx) : iblk m c 1 t j = wo m c (ix2 (colm t (j 0)) (j 1)) := by
  show V m c main_v1 (((cfg0.win 1).blk t).view.emb j) = _; rw [emb1, V_v1]; rfl
theorem blk2 (j : S1024x512.Idx) : iblk m c 2 t j = p m c (ix2 (row t (j 0)) (ga (colm t (j 1)))) := by
  show V m c main_arg2 (((cfg0.win 2).blk t).view.emb j) = _; rw [emb2, V_main_arg2]
theorem blk3 (j : S1024x512.Idx) : iblk m c 3 t j = p m c (ix2 (row t (j 0)) (gb (colm t (j 1)))) := by
  show V m c main_arg2 (((cfg0.win 3).blk t).view.emb j) = _; rw [emb3, V_main_arg2]
theorem blk4 (j : S1024x512.Idx) : iblk m c 4 t j = ya m c (ix2 (row t (j 0)) (colm t (j 1))) := by
  show V m c main_arg3 (((cfg0.win 4).blk t).view.emb j) = _; rw [emb4, V_main_arg3]
theorem blk5 (j : S1024x512.Idx) : iblk m c 5 t j = yb m c (ix2 (row t (j 0)) (colm t (j 1))) := by
  show V m c main_arg4 (((cfg0.win 5).blk t).view.emb j) = _; rw [emb5, V_main_arg4]
theorem blk6 (j : S1x512.Idx) : iblk m c 6 t j = bg m c (ix2 0 (ba (colm t (j 1)))) := by
  show V m c main_arg5 (((cfg0.win 6).blk t).view.emb j) = _; rw [emb6, V_main_arg5]
theorem blk7 (j : S1x512.Idx) : iblk m c 7 t j = bg m c (ix2 0 (bb (colm t (j 1)))) := by
  show V m c main_arg5 (((cfg0.win 7).blk t).view.emb j) = _; rw [emb7, V_main_arg5]

theorem point (i : S4096x2048.Idx) : ∃ (t : Fin cfg0.N) (j : S1024x512.Idx), i = ix2 (row t (j 0)) (colm t (j 1)) := by
  have b0 : (i 0).val < 4096 := (i 0).isLt
  have b1 : (i 1).val < 2048 := (i 1).isLt
  refine ⟨⟨4 * ((i 1).val / 512) + (i 0).val / 1024, lt_of_lt_of_eq (by omega) N_0.symm⟩,
    ix2 ⟨(i 0).val % 1024, Nat.mod_lt _ (by decide)⟩ ⟨(i 1).val % 512, Nat.mod_lt _ (by decide)⟩, ?_⟩
  funext a; apply Fin.ext
  match a with
  | ⟨0, _⟩ => show (i 0).val = 1024 * ((4 * ((i 1).val / 512) + (i 0).val / 1024) % 4) + (i 0).val % 1024; omega
  | ⟨1, _⟩ => show (i 1).val = 512 * ((4 * ((i 1).val / 512) + (i 0).val / 1024) / 4) + (i 1).val % 512; omega
theorem covered8 (i : S4096x2048.Idx) : ∃ t : Fin cfg0.N, (cfg0.win 8).flush t = true ∧ i ∈ ((cfg0.win 8).blk t).view.set := by
  obtain ⟨t, j, e⟩ := point i
  exact ⟨t, flush0_8 t, by rw [e, ← emb8]; exact ((cfg0.win 8).blk t).view.emb_mem_set j⟩
theorem covered9 (i : S4096x2048.Idx) : ∃ t : Fin cfg0.N, (cfg0.win 9).flush t = true ∧ i ∈ ((cfg0.win 9).blk t).view.set := by
  obtain ⟨t, j, e⟩ := point i
  exact ⟨t, flush0_9 t, by rw [e, ← emb9]; exact ((cfg0.win 9).blk t).view.emb_mem_set j⟩
theorem covered11 (i : S4096x2048.Idx) : ∃ t : Fin cfg0.N, (cfg0.win 11).flush t = true ∧ i ∈ ((cfg0.win 11).blk t).view.set := by
  obtain ⟨t, j, e⟩ := point i
  exact ⟨t, flush0_11 t, by rw [e, ← emb11]; exact ((cfg0.win 11).blk t).view.emb_mem_set j⟩
theorem covered12 (i : S1x2048.Idx) : ∃ t : Fin cfg0.N, (cfg0.win 12).flush t = true ∧ i ∈ ((cfg0.win 12).blk t).view.set := by
  have b1 : (i 1).val < 2048 := (i 1).isLt
  have e0 : (i 0).val = 0 := by have := (i 0).isLt; simpa using this
  have ht : 4 * ((i 1).val / 512) + 3 < cfg0.N := lt_of_lt_of_eq (by omega) N_0.symm
  refine ⟨⟨_, ht⟩, (flush0_12 _).mpr (show (4 * ((i 1).val / 512) + 3) % 4 = 3 by omega), ?_⟩
  have e : i = ix2 0 (colm ⟨_, ht⟩ ⟨(i 1).val % 512, Nat.mod_lt _ (by decide)⟩) := by
    funext a; apply Fin.ext
    match a with
    | ⟨0, _⟩ => exact e0
    | ⟨1, _⟩ => show (i 1).val = 512 * ((4 * ((i 1).val / 512) + 3) / 4) + (i 1).val % 512; omega
  have q := ((cfg0.win 12).blk ⟨_, ht⟩).view.emb_mem_set (ix2 0 ⟨(i 1).val % 512, Nat.mod_lt _ (by decide)⟩ : S1x512.Idx)
  rw [emb12] at q
  exact (congrArg (· ∈ ((cfg0.win 12).blk ⟨_, ht⟩).view.set) e).mpr q
theorem covered13 (i : S1x2048.Idx) : ∃ t : Fin cfg0.N, (cfg0.win 13).flush t = true ∧ i ∈ ((cfg0.win 13).blk t).view.set := by
  have b1 : (i 1).val < 2048 := (i 1).isLt
  have e0 : (i 0).val = 0 := by have := (i 0).isLt; simpa using this
  have ht : 4 * ((i 1).val / 512) + 3 < cfg0.N := lt_of_lt_of_eq (by omega) N_0.symm
  refine ⟨⟨_, ht⟩, (flush0_13 _).mpr (show (4 * ((i 1).val / 512) + 3) % 4 = 3 by omega), ?_⟩
  have e : i = ix2 0 (colm ⟨_, ht⟩ ⟨(i 1).val % 512, Nat.mod_lt _ (by decide)⟩) := by
    funext a; apply Fin.ext
    match a with
    | ⟨0, _⟩ => exact e0
    | ⟨1, _⟩ => show (i 1).val = 512 * ((4 * ((i 1).val / 512) + 3) / 4) + (i 1).val % 512; omega
  have q := ((cfg0.win 13).blk ⟨_, ht⟩).view.emb_mem_set (ix2 0 ⟨(i 1).val % 512, Nat.mod_lt _ (by decide)⟩ : S1x512.Idx)
  rw [emb13] at q
  exact (congrArg (· ∈ ((cfg0.win 13).blk ⟨_, ht⟩).view.set) e).mpr q

/-! ## The reference's terms -/

theorem ref_gateA (a : Fin 4096) (b : Fin 2048) : val_main_v13 (F := Ideal) (p m c) (bg m c) (ix2 a b) = gateA m c a b := by
  rw [val_main_v13_apply, val_main_v12_apply, val_main_cst_0_apply, val_main_v11_apply, val_main_v10_apply, val_main_cst_apply, val_main_v9_apply, val_main_v8_apply, val_main_v7_apply, val_main_v0_apply, val_main_v6_apply, val_main_v5_apply, val_main_v4_apply, val_main_v2_apply]
  simp only [Ideal.divf_def, Ideal.addf_def, Ideal.negf_def, Ideal.hostUnary_exp_def, Ideal.ofBits_def, Ideal.ofBits_one_f32]
  exact congrArg Ideal.logistic (congrArg₂ (· + ·) (congrArg (p m c) (by funext a; fin_cases a <;> rfl)) (congrArg (bg m c) (by funext d; apply Fin.ext; match d with | ⟨0, _⟩ => rfl | ⟨1, _⟩ => show b.val % 2048 = b.val; omega)))
theorem ref_gateB (a : Fin 4096) (b : Fin 2048) : val_main_v27 (F := Ideal) (p m c) (bg m c) (ix2 a b) = gateB m c a b := by
  rw [val_main_v27_apply, val_main_v26_apply, val_main_cst_3_apply, val_main_v25_apply, val_main_v24_apply, val_main_cst_2_apply, val_main_v23_apply, val_main_v22_apply, val_main_v21_apply, val_main_v1_apply, val_main_v20_apply, val_main_v19_apply, val_main_v18_apply, val_main_v3_apply]
  simp only [Ideal.divf_def, Ideal.addf_def, Ideal.negf_def, Ideal.hostUnary_exp_def, Ideal.ofBits_def, Ideal.ofBits_one_f32]
  exact congrArg Ideal.logistic (congrArg₂ (· + ·) (congrArg (p m c) (by funext a; fin_cases a <;> rfl)) (congrArg (bg m c) (by funext d; apply Fin.ext; match d with | ⟨0, _⟩ => rfl | ⟨1, _⟩ => show 2048 + b.val % 2048 = 2048 + b.val; omega)))
theorem ref_dm (a : Fin 4096) (b : Fin 2048) : val_main_v34 (F := Ideal) (dz m c) (wo m c) (ix2 a b) = dm m c a b := by
  rw [val_main_v34_apply]
  exact Finset.sum_congr rfl fun k _ => congrArg₂ (· * ·) (congrArg (dz m c) (by funext a; fin_cases a <;> rfl)) (congrArg (wo m c) (by funext a; fin_cases a <;> rfl))
theorem ref_dya (a : Fin 4096) (b : Fin 2048) : val_main_v49 (F := Ideal) (dz m c) (wo m c) (p m c) (bg m c) (ix2 a b) = gateA m c a b * dm m c a b := by
  rw [val_main_v49_apply, val_main_v42_apply, ref_gateA, ref_dm]; rfl
theorem ref_dyb (a : Fin 4096) (b : Fin 2048) : val_main_v50 (F := Ideal) (dz m c) (wo m c) (p m c) (bg m c) (ix2 a b) = gateB m c a b * dm m c a b := by
  rw [val_main_v50_apply, val_main_v35_apply, ref_gateB, ref_dm]; rfl
theorem ref_gA (a : Fin 4096) (b : Fin 2048) : val_main_v44 (F := Ideal) (dz m c) (wo m c) (p m c) (ya m c) (bg m c) (ix2 a b) = dgA m c a b := by
  rw [val_main_v44_apply, val_main_v43_apply, val_main_v16_apply, val_main_v15_apply, val_main_v14_apply, val_main_cst_1_apply, ref_gateA, ref_dm]
  simp only [Ideal.mulf_def, Ideal.subf_def, Ideal.ofBits_def, Ideal.ofBits_one_f32]
  rfl
theorem ref_gB (a : Fin 4096) (b : Fin 2048) : val_main_v37 (F := Ideal) (dz m c) (wo m c) (p m c) (yb m c) (bg m c) (ix2 a b) = dgB m c a b := by
  rw [val_main_v37_apply, val_main_v36_apply, val_main_v30_apply, val_main_v29_apply, val_main_v28_apply, val_main_cst_4_apply, ref_gateB, ref_dm]
  simp only [Ideal.mulf_def, Ideal.subf_def, Ideal.ofBits_def, Ideal.ofBits_one_f32]
  rfl
theorem ref_dgB (a : Fin 4096) (b : Fin 2048) : val_main_v51 (F := Ideal) (dz m c) (wo m c) (p m c) (yb m c) (bg m c) (ix2 a b) = dgB m c a b := by
  rw [val_main_v51_apply, ref_gB]; rfl
theorem ref_sumA (i : S1x2048.Idx) : val_main_v48 (F := Ideal) (dz m c) (wo m c) (p m c) (ya m c) (bg m c) i = ∑ a, dgA m c a (i 1) := by
  rw [val_main_v48_apply, val_main_v47_apply, val_main_cst_8_apply]
  simp only [val_main_v46_apply, val_main_v45_apply, val_main_cst_7_apply, Ideal.ofBits_def, Ideal.ofBits_zero_f32, zero_add]
  refine (Fintype.sum_unique _).trans (Finset.sum_congr rfl fun a _ => ?_)
  refine Eq.trans (congrArg _ ?_) (ref_gA m c a (i 1))
  funext d; apply Fin.ext
  match d with
  | ⟨0, _⟩ => rfl
  | ⟨1, _⟩ => show 0 * 2048 + (i 1).val = (i 1).val; omega
theorem ref_sumB (i : S1x2048.Idx) : val_main_v41 (F := Ideal) (dz m c) (wo m c) (p m c) (yb m c) (bg m c) i = ∑ a, dgB m c a (i 1) := by
  rw [val_main_v41_apply, val_main_v40_apply, val_main_cst_6_apply]
  simp only [val_main_v39_apply, val_main_v38_apply, val_main_cst_5_apply, Ideal.ofBits_def, Ideal.ofBits_zero_f32, zero_add]
  refine (Fintype.sum_unique _).trans (Finset.sum_congr rfl fun a _ => ?_)
  refine Eq.trans (congrArg _ ?_) (ref_gB m c a (i 1))
  funext d; apply Fin.ext
  match d with
  | ⟨0, _⟩ => rfl
  | ⟨1, _⟩ => show 0 * 2048 + (i 1).val = (i 1).val; omega

/-! ## The results -/

section
variable {F : FTy → Type} [FloatOps F] (i : grid0.Coords)
  (arg3 : Memref sig .tc .vmem S1024x2048 .bf16) (harg3 : arg3.IsWhole)
  (arg4 : Memref sig .tc .vmem S512x2048 .bf16) (harg4 : arg4.IsWhole)
  (arg5 : Memref sig .tc .vmem S1024x512 .f32) (harg5 : arg5.IsWhole)
  (arg6 : Memref sig .tc .vmem S1024x512 .f32) (harg6 : arg6.IsWhole)
  (arg7 : Memref sig .tc .vmem S1024x512 .f32) (harg7 : arg7.IsWhole)
  (arg8 : Memref sig .tc .vmem S1024x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S1024x512 .bf16) (harg11 : arg11.IsWhole)
  (arg12 : Memref sig .tc .vmem S1024x512 .bf16) (harg12 : arg12.IsWhole)
  (arg13 : Memref sig .tc .vmem S1024x512 .bf16) (harg13 : arg13.IsWhole)
  (arg14 : Memref sig .tc .vmem S1024x512 .bf16) (harg14 : arg14.IsWhole)
  (arg15 : Memref sig .tc .vmem S1x512 .f32) (harg15 : arg15.IsWhole)
  (arg16 : Memref sig .tc .vmem S1x512 .f32) (harg16 : arg16.IsWhole)
  (x0 : Vec F S1024x2048 .bf16) (x1 : Vec F S512x2048 .bf16) (x2 x3 x4 x5 : Vec F S1024x512 .f32) (x6 x7 xo12 xo13 : Vec F S1x512 .f32)
theorem out_A8 (h0 h1 h2 h3) : out0_A_8 c i arg3 harg3 arg4 harg4 arg5 harg5 arg6 harg6 arg7 harg7 arg8 harg8 arg9 harg9 arg10 harg10 arg11 harg11 arg12 harg12 arg13 harg13 arg14 harg14 arg15 harg15 arg16 harg16 h0 h1 h2 h3 x0 x1 x2 x3 x4 x5 x6 x7 = k0_pay1 (k0_pay17 x0 x1 x2 x6) := by
  unfold out0_A_8
  rw [View.read_writes_junk_eq_canon]
  unfold kernelRun0_A
  dsimp only
  refine (View.canon_unit_zero zero_offsets _ _).trans ?_
  unfold kernelRun0_A.sl.r_5
  simp only [load_eq, ld_whole]
theorem out_A9 (h0 h1 h2 h3) : out0_A_9 c i arg3 harg3 arg4 harg4 arg5 harg5 arg6 harg6 arg7 harg7 arg8 harg8 arg9 harg9 arg10 harg10 arg11 harg11 arg12 harg12 arg13 harg13 arg14 harg14 arg15 harg15 arg16 harg16 h0 h1 h2 h3 x0 x1 x2 x3 x4 x5 x6 x7 = k0_pay2 (k0_pay14 x0 x1 x3 x7) := by
  unfold out0_A_9
  rw [View.read_writes_junk_eq_canon]
  unfold kernelRun0_A
  dsimp only
  refine (View.canon_unit_zero zero_offsets _ _).trans ?_
  unfold kernelRun0_A.sl.r_2
  simp only [load_eq, ld_whole]
theorem out_A11 (h0 h1 h2 h3) : out0_A_11 c i arg3 harg3 arg4 harg4 arg5 harg5 arg6 harg6 arg7 harg7 arg8 harg8 arg9 harg9 arg10 harg10 arg11 harg11 arg12 harg12 arg13 harg13 arg14 harg14 arg15 harg15 arg16 harg16 h0 h1 h2 h3 x0 x1 x2 x3 x4 x5 x6 x7 = k0_pay4 (k0_pay13 x0 x1 x3 x5 x7) := by
  unfold out0_A_11
  rw [View.read_writes_junk_eq_canon]
  unfold kernelRun0_A
  dsimp only
  refine (View.canon_unit_zero zero_offsets _ _).trans ?_
  unfold kernelRun0_A.sl.r_1
  simp only [load_eq, ld_whole]
theorem out_A12 (h0 h1 h2 h3) : out0_A_12 c i arg3 harg3 arg4 harg4 arg5 harg5 arg6 harg6 arg7 harg7 arg8 harg8 arg9 harg9 arg10 harg10 arg11 harg11 arg12 harg12 arg13 harg13 arg14 harg14 arg15 harg15 arg16 harg16 h0 h1 h2 h3 x0 x1 x2 x3 x4 x5 x6 x7 = k0_pay5 (k0_pay15 x0 x1 x2 x4 x6) := by
  unfold out0_A_12
  rw [View.read_writes_junk_eq_canon]
  unfold kernelRun0_A
  dsimp only
  refine (View.canon_unit_zero zero_offsets _ _).trans ?_
  unfold kernelRun0_A.sl.r_3
  simp only [load_eq, ld_whole]
theorem out_A13 (h0 h1 h2 h3) : out0_A_13 c i arg3 harg3 arg4 harg4 arg5 harg5 arg6 harg6 arg7 harg7 arg8 harg8 arg9 harg9 arg10 harg10 arg11 harg11 arg12 harg12 arg13 harg13 arg14 harg14 arg15 harg15 arg16 harg16 h0 h1 h2 h3 x0 x1 x2 x3 x4 x5 x6 x7 = k0_pay7 (k0_pay16 x0 x1 x3 x5 x7) := by
  unfold out0_A_13
  rw [View.read_writes_junk_eq_canon]
  unfold kernelRun0_A
  dsimp only
  refine (View.canon_unit_zero zero_offsets _ _).trans ?_
  unfold kernelRun0_A.sl.r_4
  simp only [load_eq, ld_whole]
theorem out_B8 (h0 h1 h2 h3) : out0_B_8 c i arg3 harg3 arg4 harg4 arg5 harg5 arg6 harg6 arg7 harg7 arg8 harg8 arg9 harg9 arg10 harg10 arg11 harg11 arg12 harg12 arg13 harg13 arg14 harg14 arg15 harg15 arg16 harg16 h0 h1 h2 h3 x0 x1 x2 x3 x4 x5 x6 x7 xo12 xo13 = k0_pay1 (k0_pay17 x0 x1 x2 x6) := by
  unfold out0_B_8
  rw [View.read_writes_junk_eq_canon]
  unfold kernelRun0_B
  dsimp only
  refine (View.canon_unit_zero zero_offsets _ _).trans ?_
  unfold kernelRun0_B.sl.r_5
  simp only [load_eq, ld_whole]
theorem out_B9 (h0 h1 h2 h3) : out0_B_9 c i arg3 harg3 arg4 harg4 arg5 harg5 arg6 harg6 arg7 harg7 arg8 harg8 arg9 harg9 arg10 harg10 arg11 harg11 arg12 harg12 arg13 harg13 arg14 harg14 arg15 harg15 arg16 harg16 h0 h1 h2 h3 x0 x1 x2 x3 x4 x5 x6 x7 xo12 xo13 = k0_pay2 (k0_pay14 x0 x1 x3 x7) := by
  unfold out0_B_9
  rw [View.read_writes_junk_eq_canon]
  unfold kernelRun0_B
  dsimp only
  refine (View.canon_unit_zero zero_offsets _ _).trans ?_
  unfold kernelRun0_B.sl.r_2
  simp only [load_eq, ld_whole]
theorem out_B11 (h0 h1 h2 h3) : out0_B_11 c i arg3 harg3 arg4 harg4 arg5 harg5 arg6 harg6 arg7 harg7 arg8 harg8 arg9 harg9 arg10 harg10 arg11 harg11 arg12 harg12 arg13 harg13 arg14 harg14 arg15 harg15 arg16 harg16 h0 h1 h2 h3 x0 x1 x2 x3 x4 x5 x6 x7 xo12 xo13 = k0_pay4 (k0_pay13 x0 x1 x3 x5 x7) := by
  unfold out0_B_11
  rw [View.read_writes_junk_eq_canon]
  unfold kernelRun0_B
  dsimp only
  refine (View.canon_unit_zero zero_offsets _ _).trans ?_
  unfold kernelRun0_B.sl.r_1
  simp only [load_eq, ld_whole]
theorem out_B12 (h0 h1 h2 h3) : out0_B_12 c i arg3 harg3 arg4 harg4 arg5 harg5 arg6 harg6 arg7 harg7 arg8 harg8 arg9 harg9 arg10 harg10 arg11 harg11 arg12 harg12 arg13 harg13 arg14 harg14 arg15 harg15 arg16 harg16 h0 h1 h2 h3 x0 x1 x2 x3 x4 x5 x6 x7 xo12 xo13 = k0_pay6 (k0_pay15 x0 x1 x2 x4 x6) xo12 := by
  unfold out0_B_12
  rw [View.read_writes_junk_eq_canon]
  unfold kernelRun0_B
  dsimp only
  refine (View.canon_unit_zero zero_offsets _ _).trans ?_
  unfold kernelRun0_B.sl.r_3
  simp only [load_eq, ld_whole]
theorem out_B13 (h0 h1 h2 h3) : out0_B_13 c i arg3 harg3 arg4 harg4 arg5 harg5 arg6 harg6 arg7 harg7 arg8 harg8 arg9 harg9 arg10 harg10 arg11 harg11 arg12 harg12 arg13 harg13 arg14 harg14 arg15 harg15 arg16 harg16 h0 h1 h2 h3 x0 x1 x2 x3 x4 x5 x6 x7 xo12 xo13 = k0_pay8 (k0_pay16 x0 x1 x3 x5 x7) xo13 := by
  unfold out0_B_13
  rw [View.read_writes_junk_eq_canon]
  unfold kernelRun0_B
  dsimp only
  refine (View.canon_unit_zero zero_offsets _ _).trans ?_
  unfold kernelRun0_B.sl.r_4
  simp only [load_eq, ld_whole]
end

theorem pay9_at (j : S1024x512.Idx) : k0_pay9 (F := Ideal) (iblk m c 0 t) (iblk m c 1 t) j = dm m c (row t (j 0)) (colm t (j 1)) := by
  pointwise [k0_pay9]
  simp only [blk0, blk1]
  rfl
theorem pay8_at (j : S1024x512.Idx) : k0_pay1 (F := Ideal) (k0_pay17 (iblk m c 0 t) (iblk m c 1 t) (iblk m c 2 t) (iblk m c 6 t)) j
    = gateA m c (row t (j 0)) (colm t (j 1)) * dm m c (row t (j 0)) (colm t (j 1)) := by
  unfold k0_pay17
  pointwise [k0_pay1, k0_pay10, pay9_at]
  simp only [blk2, blk6]
  exact mul_comm _ _
theorem pay2_at (j : S1024x512.Idx) : k0_pay2 (F := Ideal) (k0_pay14 (iblk m c 0 t) (iblk m c 1 t) (iblk m c 3 t) (iblk m c 7 t)) j
    = gateB m c (row t (j 0)) (colm t (j 1)) * dm m c (row t (j 0)) (colm t (j 1)) := by
  unfold k0_pay14
  pointwise [k0_pay2, k0_pay11, pay9_at]
  simp only [blk3, blk7]
  exact mul_comm _ _
theorem pay12_at (j : S1024x512.Idx) : k0_pay12 (F := Ideal) (iblk m c 0 t) (iblk m c 1 t) (iblk m c 2 t) (iblk m c 4 t) (iblk m c 6 t) j = dgA m c (row t (j 0)) (colm t (j 1)) := by
  pointwise [k0_pay12, k0_pay10, pay9_at]
  simp only [blk2, blk4, blk6, Ideal.ofBits_one_f32]
  rfl
theorem pay13_at (j : S1024x512.Idx) : k0_pay13 (F := Ideal) (iblk m c 0 t) (iblk m c 1 t) (iblk m c 3 t) (iblk m c 5 t) (iblk m c 7 t) j = dgB m c (row t (j 0)) (colm t (j 1)) := by
  pointwise [k0_pay13, k0_pay11, pay9_at]
  simp only [blk3, blk5, blk7, Ideal.ofBits_one_f32]
  rfl
theorem pay4_at (j : S1024x512.Idx) : k0_pay4 (F := Ideal) (k0_pay13 (iblk m c 0 t) (iblk m c 1 t) (iblk m c 3 t) (iblk m c 5 t) (iblk m c 7 t)) j = dgB m c (row t (j 0)) (colm t (j 1)) := by
  pointwise [k0_pay4]
  exact pay13_at m c t j
theorem firstA_at (i : S1x512.Idx) : k0_pay5 (F := Ideal) (k0_pay15 (iblk m c 0 t) (iblk m c 1 t) (iblk m c 2 t) (iblk m c 4 t) (iblk m c 6 t)) i = ∑ r, dgA m c (row t r) (colm t (i 1)) := by
  unfold k0_pay15
  pointwise [k0_pay5, pay12_at]
theorem nextA_at (w : FVec Ideal S1x512 .f32) (i : S1x512.Idx) : k0_pay6 (F := Ideal) (k0_pay15 (iblk m c 0 t) (iblk m c 1 t) (iblk m c 2 t) (iblk m c 4 t) (iblk m c 6 t)) w i = w i + ∑ r, dgA m c (row t r) (colm t (i 1)) := by
  unfold k0_pay15
  pointwise [k0_pay6, pay12_at]
theorem firstB_at (i : S1x512.Idx) : k0_pay7 (F := Ideal) (k0_pay16 (iblk m c 0 t) (iblk m c 1 t) (iblk m c 3 t) (iblk m c 5 t) (iblk m c 7 t)) i = ∑ r, dgB m c (row t r) (colm t (i 1)) := by
  unfold k0_pay16
  pointwise [k0_pay7, pay13_at]
theorem nextB_at (w : FVec Ideal S1x512 .f32) (i : S1x512.Idx) : k0_pay8 (F := Ideal) (k0_pay16 (iblk m c 0 t) (iblk m c 1 t) (iblk m c 3 t) (iblk m c 5 t) (iblk m c 7 t)) w i = w i + ∑ r, dgB m c (row t r) (colm t (i 1)) := by
  unfold k0_pay16
  pointwise [k0_pay8, pay13_at]
theorem point8 : (outsAt0 m c t.val t.isLt).1 = k0_pay1 (k0_pay17 (iblk m c 0 t) (iblk m c 1 t) (iblk m c 2 t) (iblk m c 6 t)) := by
  by_cases h : t.val % 4 = 0
  · rw [outsAt0_A m c t h (by omega) h (by omega)]; dsimp only; rw [out_A8]
  · rw [outsAt0_B m c t h (by omega) h (by omega)]; dsimp only; rw [out_B8]
theorem final8 : (dats m 0 c).arrAt 8 cfg0.N = val_main_v49 (F := Ideal) (dz m c) (wo m c) (p m c) (bg m c) :=
  (dats m 0 c).arrAt_eq_of_cover 8 _ (fun t _ => by
    rw [flushed8]
    funext j
    show (outsAt0 m c t.val t.isLt).1 j = val_main_v49 (F := Ideal) (dz m c) (wo m c) (p m c) (bg m c) (((cfg0.win 8).blk t).view.emb j)
    rw [emb8, point8]
    exact (pay8_at m c t j).trans (ref_dya m c _ _).symm) covered8
theorem point9 : (outsAt0 m c t.val t.isLt).2.1 = k0_pay2 (k0_pay14 (iblk m c 0 t) (iblk m c 1 t) (iblk m c 3 t) (iblk m c 7 t)) := by
  by_cases h : t.val % 4 = 0
  · rw [outsAt0_A m c t h (by omega) h (by omega)]; dsimp only; rw [out_A9]
  · rw [outsAt0_B m c t h (by omega) h (by omega)]; dsimp only; rw [out_B9]
theorem final9 : (dats m 0 c).arrAt 9 cfg0.N = val_main_v50 (F := Ideal) (dz m c) (wo m c) (p m c) (bg m c) :=
  (dats m 0 c).arrAt_eq_of_cover 9 _ (fun t _ => by
    rw [flushed9]
    funext j
    show (outsAt0 m c t.val t.isLt).2.1 j = val_main_v50 (F := Ideal) (dz m c) (wo m c) (p m c) (bg m c) (((cfg0.win 9).blk t).view.emb j)
    rw [emb9, point9]
    exact (pay2_at m c t j).trans (ref_dyb m c _ _).symm) covered9
theorem point11 : (outsAt0 m c t.val t.isLt).2.2.2.1 = k0_pay4 (k0_pay13 (iblk m c 0 t) (iblk m c 1 t) (iblk m c 3 t) (iblk m c 5 t) (iblk m c 7 t)) := by
  by_cases h : t.val % 4 = 0
  · rw [outsAt0_A m c t h (by omega) h (by omega)]; dsimp only; rw [out_A11]
  · rw [outsAt0_B m c t h (by omega) h (by omega)]; dsimp only; rw [out_B11]
theorem final11 : (dats m 0 c).arrAt 11 cfg0.N = val_main_v51 (F := Ideal) (dz m c) (wo m c) (p m c) (yb m c) (bg m c) :=
  (dats m 0 c).arrAt_eq_of_cover 11 _ (fun t _ => by
    rw [flushed11]
    funext j
    show (outsAt0 m c t.val t.isLt).2.2.2.1 j = val_main_v51 (F := Ideal) (dz m c) (wo m c) (p m c) (yb m c) (bg m c) (((cfg0.win 11).blk t).view.emb j)
    rw [emb11, point11]
    exact (pay4_at m c t j).trans (ref_dgB m c _ _).symm) covered11
def prev : Fin cfg0.N := ⟨t.val - 1, lt_of_le_of_lt (Nat.sub_le _ _) t.isLt⟩
/-- What output 12 holds after a point. -/
def sumA : Vec Ideal S1x512 .f32 := (outsAt0 m c t.val t.isLt).2.2.2.2.1
theorem firstA (h : t.val % 4 = 0) (i : S1x512.Idx) : sumA m c t i = ∑ r, dgA m c (row t r) (colm t (i 1)) := by
  unfold sumA; rw [outsAt0_A m c t h (by omega) h (by omega)]; dsimp only; rw [out_A12]; exact firstA_at m c t i
theorem nextA (h : t.val % 4 ≠ 0) (i : S1x512.Idx) : sumA m c t i = sumA m c (prev t) i + ∑ r, dgA m c (row t r) (colm t (i 1)) := by
  unfold sumA; rw [outsAt0_B m c t h (by omega) h (by omega)]; dsimp only; rw [out_B12]; exact nextA_at m c t _ i
theorem sumA_after : ∀ (k : ℕ) (t : Fin cfg0.N) (ht : t.val % 4 = k) (i : S1x512.Idx),
    sumA m c t i = part 1024 (fun a => dgA m c a (colm t (i 1))) (k + 1)
  | 0, t, ht, i => by
    rw [firstA m c t ht]
    exact part_one 1024 (fun a => dgA m c a (colm t (i 1))) (row t) fun r => by show 1024 * (t.val % 4) + r.val = r.val; omega
  | k + 1, t, ht, i => by
    have ih := sumA_after k (prev t) (show (t.val - 1) % 4 = k by omega) i
    have e : colm (prev t) (i 1) = colm t (i 1) := Fin.ext (show 512 * ((t.val - 1) / 4) + (i 1).val = 512 * (t.val / 4) + (i 1).val by omega)
    rw [nextA m c t (by omega), ih, e]
    exact part_succ 1024 (fun a => dgA m c a (colm t (i 1))) (k + 1) (row t) fun r => by
      show 1024 * (t.val % 4) + r.val = 1024 * (k + 1) + r.val; omega
theorem final12 : (dats m 0 c).arrAt 12 cfg0.N = val_main_v48 (F := Ideal) (dz m c) (wo m c) (p m c) (ya m c) (bg m c) :=
  (dats m 0 c).arrAt_eq_of_cover 12 _ (fun t ht => by
    have h := (flush0_12 t).mp ht
    rw [flushed12]
    funext j
    show sumA m c t j = val_main_v48 (F := Ideal) (dz m c) (wo m c) (p m c) (ya m c) (bg m c) (((cfg0.win 12).blk t).view.emb j)
    rw [emb12, sumA_after m c 3 t h]
    refine Eq.trans ?_ (ref_sumA m c (ix2 0 (colm t (j 1)))).symm
    exact part_all 1024 (fun a => dgA m c a (colm t (j 1))) 4 rfl) covered12
/-- What output 13 holds after a point. -/
def sumB : Vec Ideal S1x512 .f32 := (outsAt0 m c t.val t.isLt).2.2.2.2.2
theorem firstB (h : t.val % 4 = 0) (i : S1x512.Idx) : sumB m c t i = ∑ r, dgB m c (row t r) (colm t (i 1)) := by
  unfold sumB; rw [outsAt0_A m c t h (by omega) h (by omega)]; dsimp only; rw [out_A13]; exact firstB_at m c t i
theorem nextB (h : t.val % 4 ≠ 0) (i : S1x512.Idx) : sumB m c t i = sumB m c (prev t) i + ∑ r, dgB m c (row t r) (colm t (i 1)) := by
  unfold sumB; rw [outsAt0_B m c t h (by omega) h (by omega)]; dsimp only; rw [out_B13]; exact nextB_at m c t _ i
theorem sumB_after : ∀ (k : ℕ) (t : Fin cfg0.N) (ht : t.val % 4 = k) (i : S1x512.Idx),
    sumB m c t i = part 1024 (fun a => dgB m c a (colm t (i 1))) (k + 1)
  | 0, t, ht, i => by
    rw [firstB m c t ht]
    exact part_one 1024 (fun a => dgB m c a (colm t (i 1))) (row t) fun r => by show 1024 * (t.val % 4) + r.val = r.val; omega
  | k + 1, t, ht, i => by
    have ih := sumB_after k (prev t) (show (t.val - 1) % 4 = k by omega) i
    have e : colm (prev t) (i 1) = colm t (i 1) := Fin.ext (show 512 * ((t.val - 1) / 4) + (i 1).val = 512 * (t.val / 4) + (i 1).val by omega)
    rw [nextB m c t (by omega), ih, e]
    exact part_succ 1024 (fun a => dgB m c a (colm t (i 1))) (k + 1) (row t) fun r => by
      show 1024 * (t.val % 4) + r.val = 1024 * (k + 1) + r.val; omega
theorem final13 : (dats m 0 c).arrAt 13 cfg0.N = val_main_v41 (F := Ideal) (dz m c) (wo m c) (p m c) (yb m c) (bg m c) :=
  (dats m 0 c).arrAt_eq_of_cover 13 _ (fun t ht => by
    have h := (flush0_13 t).mp ht
    rw [flushed13]
    funext j
    show sumB m c t j = val_main_v41 (F := Ideal) (dz m c) (wo m c) (p m c) (yb m c) (bg m c) (((cfg0.win 13).blk t).view.emb j)
    rw [emb13, sumB_after m c 3 t h]
    refine Eq.trans ?_ (ref_sumB m c (ix2 0 (colm t (j 1)))).symm
    exact part_all 1024 (fun a => dgB m c a (colm t (j 1))) 4 rfl) covered13

section
variable {a0 : FVec Ideal S4096x2048 .f32} {a1 : FVec Ideal S2048x2048 .f32} {a2 : FVec Ideal S4096x7680 .f32} {a3 a4 : FVec Ideal S4096x2048 .f32}
  {a5 : FVec Ideal S1x4096 .f32} (h0 : a0 = dz m c) (h1 : a1 = wo m c) (h2 : a2 = p m c) (h5 : a5 = bg m c)
include h0 h1 h2 h5
theorem agree8 : val_main_v49 (F := Ideal) a0 a1 a2 a5 = (dats m 0 c).arrAt 8 cfg0.N := by rw [h0, h1, h2, h5, final8]
theorem agree9 : val_main_v50 (F := Ideal) a0 a1 a2 a5 = (dats m 0 c).arrAt 9 cfg0.N := by rw [h0, h1, h2, h5, final9]
theorem agree11 (h4 : a4 = yb m c) : val_main_v51 (F := Ideal) a0 a1 a2 a4 a5 = (dats m 0 c).arrAt 11 cfg0.N := by rw [h0, h1, h2, h4, h5, final11]
theorem agree12 (h3 : a3 = ya m c) : val_main_v48 (F := Ideal) a0 a1 a2 a3 a5 = (dats m 0 c).arrAt 12 cfg0.N := by rw [h0, h1, h2, h3, h5, final12]
theorem agree13 (h4 : a4 = yb m c) : val_main_v41 (F := Ideal) a0 a1 a2 a4 a5 = (dats m 0 c).arrAt 13 cfg0.N := by rw [h0, h1, h2, h4, h5, final13]
end

theorem algebraic : letI := Cert.Kernel19Ideal.Gen.facts; letI := Cert.Reference19Ideal.Gen.facts;
    Cert.algebraic_Kernel19Ideal_Reference19Ideal := by
  intro m ρ m' ρ' hpre hargs
  refine ⟨fun c => (dats m 0 c).arrAt 8 cfg0.N, fun c => (dats m 0 c).arrAt 9 cfg0.N, fun c => (dats m 0 c).arrAt 11 cfg0.N,
    fun c => (dats m 0 c).arrAt 12 cfg0.N, fun c => (dats m 0 c).arrAt 13 cfg0.N, ?_, ?_⟩
  · refine (θ_run _ _ _).mono (fun r h c => ?_) (run_blocks m ρ)
    obtain ⟨r0, r1, -, r3, r4, r5, rest⟩ := h c
    exact ⟨r0, r1, r3, r4, r5, rest⟩
  refine (θ_run _ _ _).mono (fun r h c => ?_) (Cert.Reference19Ideal.Value.run m' ρ')
  obtain ⟨e0, e1, e2, e3, e4, e5⟩ := hargs c
  obtain ⟨r0, r1, r2, r3, r4, rest⟩ := h c
  exact ⟨r0.trans ((val_main_v49_eq _ _ _ _).trans (agree8 m c e0 e1 e2 e5)), r1.trans ((val_main_v50_eq _ _ _ _).trans (agree9 m c e0 e1 e2 e5)),
    r2.trans ((val_main_v51_eq _ _ _ _ _).trans (agree11 m c e0 e1 e2 e5 e4)), r3.trans ((val_main_v48_eq _ _ _ _ _).trans (agree12 m c e0 e1 e2 e5 e3)),
    r4.trans ((val_main_v41_eq _ _ _ _ _).trans (agree13 m c e0 e1 e2 e5 e4)), rest⟩

end Cert.Proof.OprojDx

end
-- ==== Proof.XattnFwd.lean ====
module

public import proofs.«01_k».proof.Proof.Product
public import proofs.«01_k».proof.Proof.Spec
public import proofs.«01_k».proof.Proof.Gen.Kernel20Ideal.Value
public import proofs.«01_k».proof.Proof.Gen.Reference20Ideal.Read
public import proofs.«01_k».proof.Proof.Gen.Reference20Ideal.Run
public import proofs.«01_k».proof.Defs

/-! The forward cross-attention over the memory: the queries' projection, the softmax of the scaled scores of each head, the weighted
    sums of the values, the output projection, the residual and the layer norm behind it. One point of the grid to a block of 256
    rows; the four heads run the same operations and are stored side by side. -/

@[expose] public section

set_option maxRecDepth 16384
noncomputable section

namespace Cert.Proof.XattnFwd

open Idealize.ShloMosaic Idealize.ShloMosaic.TcCoe Idealize.SL.Sem Cert.Kernel20Ideal Cert.Kernel20Ideal.Gen Cert.Kernel20Ideal.Value
open Cert.Reference20Ideal.Read

variable (m : (ℓ : Loc nD τ sig) → Buf (Elt Ideal) ℓ) (c : Dev nD) (t : Fin cfg0.N)

abbrev x : FVec Ideal S4096x2048 .f32 := m ((c : Thread nD τ).loc main_arg0)
abbrev kv : FVec Ideal S256x1024 .f32 := m ((c : Thread nD τ).loc main_arg1)
abbrev wq : FVec Ideal S2048x512 .f32 := m ((c : Thread nD τ).loc main_arg2)
abbrev wo : FVec Ideal S512x2048 .f32 := m ((c : Thread nD τ).loc main_arg3)
abbrev g : FVec Ideal S1x2048 .f32 := m ((c : Thread nD τ).loc main_arg4)
abbrev b : FVec Ideal S1x2048 .f32 := m ((c : Thread nD τ).loc main_arg5)

theorem V_v0 : V m c main_v0 = truncf .bf16 (x m c) bitsLt_bf16_f32 := by
  show StableHlo.after hostOps0 _ (Proc.devRef .tc main_v0) = _
  after_results
theorem V_v1 : V m c main_v1 = truncf .bf16 (kv m c) bitsLt_bf16_f32 := by
  show StableHlo.after hostOps0 _ (Proc.devRef .tc main_v1) = _
  after_results
theorem V_v2 : V m c main_v2 = truncf .bf16 (wq m c) bitsLt_bf16_f32 := by
  show StableHlo.after hostOps0 _ (Proc.devRef .tc main_v2) = _
  after_results
theorem V_v4 : V m c main_v4 = truncf .bf16 (transpose S2048x512 [1, 0] (wo m c) transposes_S512x2048_S2048x512_1_0) bitsLt_bf16_f32 := by
  show StableHlo.after hostOps0 _ (Proc.devRef .tc main_v4) = _
  after_results

/-! ## The mathematics -/

/-- The softmax of a row. -/
def soft (f : Fin 256 → EReal) (k : Fin 256) : EReal :=
  Ideal.div (Ideal.exp (f k - Finset.univ.fold max ⊥ f)) (∑ l, Ideal.exp (f l - Finset.univ.fold max ⊥ f))
/-- The scaled score of a query against a key. -/
def score (q : Fin 128 → EReal) (k : Fin 128 → EReal) : EReal := (∑ e, q e * k e) * Ideal.ofBits .f32 0x3DB504F3#32
/-- The queries. -/
def query (i : Fin 4096) (a : Fin 512) : EReal := ∑ k : Fin 2048, x m c (ix2 i k) * wq m c (ix2 k a)
/-- The scores of one head. -/
def scores (i : Fin 4096) (h : Fin 4) (k : Fin 256) : EReal :=
  score (fun e => query m c i (col h e)) (fun e => kv m c (ix2 k (keyCol (col h e))))
/-- The attention output. -/
def ctx (i : Fin 4096) (a : Fin 512) : EReal := ∑ k : Fin 256, soft (scores m c i (headOf a)) k * kv m c (ix2 k (valCol a))

/-! ## The blocks -/

theorem lt16 : t.val < 16 := lt_of_lt_of_eq t.isLt N_0
def row (r : Fin 256) : Fin 4096 := ⟨256 * t.val + r.val, by have := lt16 t; omega⟩

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)
theorem emb0 (j : S256x2048.Idx) : ((cfg0.win 0).blk t).view.emb j = ix2 (row t (j 0)) (j 1) := by
  obtain ⟨⟨e0, e1⟩, -⟩ := idx t
  funext a; apply Fin.ext
  match a with
  | ⟨0, _⟩ => show win0_0.index t (0 : Fin 2) * 256 + 1 * (j 0).val = 256 * t.val + (j 0).val; omega
  | ⟨1, _⟩ => show win0_0.index t (1 : Fin 2) * 2048 + 1 * (j 1).val = (j 1).val; omega
theorem emb1 (j : S256x2048.Idx) : ((cfg0.win 1).blk t).view.emb j = ix2 (row t (j 0)) (j 1) := by
  obtain ⟨-, ⟨e0, e1⟩, -⟩ := idx t
  funext a; apply Fin.ext
  match a with
  | ⟨0, _⟩ => show win0_1.index t (0 : Fin 2) * 256 + 1 * (j 0).val = 256 * t.val + (j 0).val; omega
  | ⟨1, _⟩ => show win0_1.index t (1 : Fin 2) * 2048 + 1 * (j 1).val = (j 1).val; omega
theorem emb2 (j : S256x1024.Idx) : ((cfg0.win 2).blk t).view.emb j = j := by
  obtain ⟨-, -, ⟨e0, e1⟩, -⟩ := idx t
  funext a; apply Fin.ext
  match a with
  | ⟨0, _⟩ => show win0_2.index t (0 : Fin 2) * 256 + 1 * (j 0).val = (j 0).val; omega
  | ⟨1, _⟩ => show win0_2.index t (1 : Fin 2) * 1024 + 1 * (j 1).val = (j 1).val; omega
theorem emb3 (j : S2048x512.Idx) : ((cfg0.win 3).blk t).view.emb j = j := by
  obtain ⟨-, -, -, ⟨e0, e1⟩, -⟩ := idx t
  funext a; apply Fin.ext
  match a with
  | ⟨0, _⟩ => show win0_3.index t (0 : Fin 2) * 2048 + 1 * (j 0).val = (j 0).val; omega
  | ⟨1, _⟩ => show win0_3.index t (1 : Fin 2) * 512 + 1 * (j 1).val = (j 1).val; omega
theorem emb4 (j : S2048x512.Idx) : ((cfg0.win 4).blk t).view.emb j = j := by
  obtain ⟨-, -, -, -, ⟨e0, e1⟩, -⟩ := idx t
  funext a; apply Fin.ext
  match a with
  | ⟨0, _⟩ => show win0_4.index t (0 : Fin 2) * 2048 + 1 * (j 0).val = (j 0).val; omega
  | ⟨1, _⟩ => show win0_4.index t (1 : Fin 2) * 512 + 1 * (j 1).val = (j 1).val; omega
theorem emb5 (j : S1x2048.Idx) : ((cfg0.win 5).blk t).view.emb j = j := by
  obtain ⟨-, -, -, -, -, ⟨e0, e1⟩, -⟩ := idx t
  funext a; apply Fin.ext
  match a with
  | ⟨0, _⟩ => show win0_5.index t (0 : Fin 2) * 1 + 1 * (j 0).val = (j 0).val; omega
  | ⟨1, _⟩ => show win0_5.index t (1 : Fin 2) * 2048 + 1 * (j 1).val = (j 1).val; omega
theorem emb6 (j : S1x2048.Idx) : ((cfg0.win 6).blk t).view.emb j = j := by
  obtain ⟨-, -, -, -, -, -, ⟨e0, e1⟩, -⟩ := idx t
  funext a; apply Fin.ext
  match a with
  | ⟨0, _⟩ => show win0_6.index t (0 : Fin 2) * 1 + 1 * (j 0).val = (j 0).val; omega
  | ⟨1, _⟩ => show win0_6.index t (1 : Fin 2) * 2048 + 1 * (j 1).val = (j 1).val; omega
theorem emb7 (j : S256x2048.Idx) : ((cfg0.win 7).blk t).view.emb j = ix2 (row t (j 0)) (j 1) := by
  obtain ⟨-, -, -, -, -, -, -, ⟨e0, e1⟩, -⟩ := idx t
  funext a; apply Fin.ext
  match a with
  | ⟨0, _⟩ => show win0_7.index t (0 : Fin 2) * 256 + 1 * (j 0).val = 256 * t.val + (j 0).val; omega
  | ⟨1, _⟩ => show win0_7.index t (1 : Fin 2) * 2048 + 1 * (j 1).val = (j 1).val; omega
theorem emb8 (j : S256x2048.Idx) : ((cfg0.win 8).blk t).view.emb j = ix2 (row t (j 0)) (j 1) := by
  obtain ⟨-, -, -, -, -, -, -, -, ⟨e0, e1⟩, -⟩ := idx t
  funext a; apply Fin.ext
  match a with
  | ⟨0, _⟩ => show win0_8.index t (0 : Fin 2) * 256 + 1 * (j 0).val = 256 * t.val + (j 0).val; omega
  | ⟨1, _⟩ => show win0_8.index t (1 : Fin 2) * 2048 + 1 * (j 1).val = (j 1).val; omega
theorem emb9 (j : S256x2048.Idx) : ((cfg0.win 9).blk t).view.emb j = ix2 (row t (j 0)) (j 1) := by
  obtain ⟨-, -, -, -, -, -, -, -, -, ⟨e0, e1⟩, -⟩ := idx t
  funext a; apply Fin.ext
  match a with
  | ⟨0, _⟩ => show win0_9.index t (0 : Fin 2) * 256 + 1 * (j 0).val = 256 * t.val + (j 0).val; omega
  | ⟨1, _⟩ => show win0_9.index t (1 : Fin 2) * 2048 + 1 * (j 1).val = (j 1).val; omega
theorem emb10 (j : S256x1.Idx) : ((cfg0.win 10).blk t).view.emb j = ix2 (row t (j 0)) (j 1) := by
  obtain ⟨-, -, -, -, -, -, -, -, -, -, ⟨e0, e1⟩, -⟩ := idx t
  funext a; apply Fin.ext
  match a with
  | ⟨0, _⟩ => show win0_10.index t (0 : Fin 2) * 256 + 1 * (j 0).val = 256 * t.val + (j 0).val; omega
  | ⟨1, _⟩ => show win0_10.index t (1 : Fin 2) * 1 + 1 * (j 1).val = (j 1).val; omega
theorem emb11 (j : S256x512.Idx) : ((cfg0.win 11).blk t).view.emb j = ix2 (row t (j 0)) (j 1) := by
  obtain ⟨-, -, -, -, -, -, -, -, -, -, -, ⟨e0, e1⟩, -⟩ := idx t
  funext a; apply Fin.ext
  match a with
  | ⟨0, _⟩ => show win0_11.index t (0 : Fin 2) * 256 + 1 * (j 0).val = 256 * t.val + (j 0).val; omega
  | ⟨1, _⟩ => show win0_11.index t (1 : Fin 2) * 512 + 1 * (j 1).val = (j 1).val; omega
theorem emb12 (j : S256x512.Idx) : ((cfg0.win 12).blk t).view.emb j = ix2 (row t (j 0)) (j 1) := by
  obtain ⟨-, -, -, -, -, -, -, -, -, -, -, -, e0, e1⟩ := idx t
  funext a; apply Fin.ext
  match a with
  | ⟨0, _⟩ => show win0_12.index t (0 : Fin 2) * 256 + 1 * (j 0).val = 256 * t.val + (j 0).val; omega
  | ⟨1, _⟩ => show win0_12.index t (1 : Fin 2) * 512 + 1 * (j 1).val = (j 1).val; omega

theorem blk0 (j : S256x2048.Idx) : iblk m c 0 t j = x m c (ix2 (row t (j 0)) (j 1)) := by
  show V m c main_arg0 (((cfg0.win 0).blk t).view.emb j) = _; rw [emb0, V_main_arg0]; rfl
theorem blk1 (j : S256x2048.Idx) : iblk m c 1 t j = x m c (ix2 (row t (j 0)) (j 1)) := by
  show V m c main_v0 (((cfg0.win 1).blk t).view.emb j) = _; rw [emb1, V_v0]; rfl
theorem blk2 (j : S256x1024.Idx) : iblk m c 2 t j = kv m c j := by
  show V m c main_v1 (((cfg0.win 2).blk t).view.emb j) = _; rw [emb2, V_v1]; rfl
theorem blk3 (j : S2048x512.Idx) : iblk m c 3 t j = wq m c j := by
  show V m c main_v2 (((cfg0.win 3).blk t).view.emb j) = _; rw [emb3, V_v2]; rfl
theorem blk4 (j : S2048x512.Idx) : iblk m c 4 t j = wo m c (ix2 (j 1) (j 0)) := by
  show V m c main_v4 (((cfg0.win 4).blk t).view.emb j) = _
  rw [emb4, V_v4]
  exact transpose_apply [1, 0] (wo m c) transposes_S512x2048_S2048x512_1_0 _ _ (fun b => by fin_cases b <;> rfl)
theorem blk5 (j : S1x2048.Idx) : iblk m c 5 t j = g m c j := by
  show V m c main_arg4 (((cfg0.win 5).blk t).view.emb j) = _; rw [emb5, V_main_arg4]
theorem blk6 (j : S1x2048.Idx) : iblk m c 6 t j = b m c j := by
  show V m c main_arg5 (((cfg0.win 6).blk t).view.emb j) = _; rw [emb6, V_main_arg5]

theorem covered7 (i : S4096x2048.Idx) : ∃ t : Fin cfg0.N, (cfg0.win 7).flush t = true ∧ i ∈ ((cfg0.win 7).blk t).view.set := by
  have b0 : (i 0).val < 4096 := (i 0).isLt
  let t : Fin cfg0.N := ⟨(i 0).val / 256, lt_of_lt_of_eq (by omega) N_0.symm⟩
  let j : S256x2048.Idx := ix2 ⟨(i 0).val % 256, Nat.mod_lt _ (by decide)⟩ (i 1)
  have e : ((cfg0.win 7).blk t).view.emb j = i := by
    rw [emb7]
    funext a; apply Fin.ext
    match a with
    | ⟨0, _⟩ => show 256 * ((i 0).val / 256) + (i 0).val % 256 = (i 0).val; omega
    | ⟨1, _⟩ => rfl
  exact ⟨t, flush0_7 t, e ▸ ((cfg0.win 7).blk t).view.emb_mem_set j⟩
theorem covered8 (i : S4096x2048.Idx) : ∃ t : Fin cfg0.N, (cfg0.win 8).flush t = true ∧ i ∈ ((cfg0.win 8).blk t).view.set := by
  have b0 : (i 0).val < 4096 := (i 0).isLt
  let t : Fin cfg0.N := ⟨(i 0).val / 256, lt_of_lt_of_eq (by omega) N_0.symm⟩
  let j : S256x2048.Idx := ix2 ⟨(i 0).val % 256, Nat.mod_lt _ (by decide)⟩ (i 1)
  have e : ((cfg0.win 8).blk t).view.emb j = i := by
    rw [emb8]
    funext a; apply Fin.ext
    match a with
    | ⟨0, _⟩ => show 256 * ((i 0).val / 256) + (i 0).val % 256 = (i 0).val; omega
    | ⟨1, _⟩ => rfl
  exact ⟨t, flush0_8 t, e ▸ ((cfg0.win 8).blk t).view.emb_mem_set j⟩
theorem covered9 (i : S4096x2048.Idx) : ∃ t : Fin cfg0.N, (cfg0.win 9).flush t = true ∧ i ∈ ((cfg0.win 9).blk t).view.set := by
  have b0 : (i 0).val < 4096 := (i 0).isLt
  let t : Fin cfg0.N := ⟨(i 0).val / 256, lt_of_lt_of_eq (by omega) N_0.symm⟩
  let j : S256x2048.Idx := ix2 ⟨(i 0).val % 256, Nat.mod_lt _ (by decide)⟩ (i 1)
  have e : ((cfg0.win 9).blk t).view.emb j = i := by
    rw [emb9]
    funext a; apply Fin.ext
    match a with
    | ⟨0, _⟩ => show 256 * ((i 0).val / 256) + (i 0).val % 256 = (i 0).val; omega
    | ⟨1, _⟩ => rfl
  exact ⟨t, flush0_9 t, e ▸ ((cfg0.win 9).blk t).view.emb_mem_set j⟩
theorem covered10 (i : S4096x1.Idx) : ∃ t : Fin cfg0.N, (cfg0.win 10).flush t = true ∧ i ∈ ((cfg0.win 10).blk t).view.set := by
  have b0 : (i 0).val < 4096 := (i 0).isLt
  let t : Fin cfg0.N := ⟨(i 0).val / 256, lt_of_lt_of_eq (by omega) N_0.symm⟩
  let j : S256x1.Idx := ix2 ⟨(i 0).val % 256, Nat.mod_lt _ (by decide)⟩ (i 1)
  have e : ((cfg0.win 10).blk t).view.emb j = i := by
    rw [emb10]
    funext a; apply Fin.ext
    match a with
    | ⟨0, _⟩ => show 256 * ((i 0).val / 256) + (i 0).val % 256 = (i 0).val; omega
    | ⟨1, _⟩ => rfl
  exact ⟨t, flush0_10 t, e ▸ ((cfg0.win 10).blk t).view.emb_mem_set j⟩
theorem covered11 (i : S4096x512.Idx) : ∃ t : Fin cfg0.N, (cfg0.win 11).flush t = true ∧ i ∈ ((cfg0.win 11).blk t).view.set := by
  have b0 : (i 0).val < 4096 := (i 0).isLt
  let t : Fin cfg0.N := ⟨(i 0).val / 256, lt_of_lt_of_eq (by omega) N_0.symm⟩
  let j : S256x512.Idx := ix2 ⟨(i 0).val % 256, Nat.mod_lt _ (by decide)⟩ (i 1)
  have e : ((cfg0.win 11).blk t).view.emb j = i := by
    rw [emb11]
    funext a; apply Fin.ext
    match a with
    | ⟨0, _⟩ => show 256 * ((i 0).val / 256) + (i 0).val % 256 = (i 0).val; omega
    | ⟨1, _⟩ => rfl
  exact ⟨t, flush0_11 t, e ▸ ((cfg0.win 11).blk t).view.emb_mem_set j⟩
theorem covered12 (i : S4096x512.Idx) : ∃ t : Fin cfg0.N, (cfg0.win 12).flush t = true ∧ i ∈ ((cfg0.win 12).blk t).view.set := by
  have b0 : (i 0).val < 4096 := (i 0).isLt
  let t : Fin cfg0.N := ⟨(i 0).val / 256, lt_of_lt_of_eq (by omega) N_0.symm⟩
  let j : S256x512.Idx := ix2 ⟨(i 0).val % 256, Nat.mod_lt _ (by decide)⟩ (i 1)
  have e : ((cfg0.win 12).blk t).view.emb j = i := by
    rw [emb12]
    funext a; apply Fin.ext
    match a with
    | ⟨0, _⟩ => show 256 * ((i 0).val / 256) + (i 0).val % 256 = (i 0).val; omega
    | ⟨1, _⟩ => rfl
  exact ⟨t, flush0_12 t, e ▸ ((cfg0.win 12).blk t).view.emb_mem_set j⟩

/-! ## One head's operations -/

section
variable {F : FTy → Type} [FloatOps F]

def headCols (h : Fin 4) (x : FVec F S256x512 .bf16) : FVec F S256x128 .bf16 := fun i => x (ix2 (i 0) (col h (i 1)))
def keyCols (h : Fin 4) (x : FVec F S256x1024 .bf16) : FVec F S256x128 .bf16 := fun i => x (ix2 (i 0) (keyCol (col h (i 1))))
def valCols (h : Fin 4) (x : FVec F S256x1024 .bf16) : FVec F S256x128 .bf16 := fun i => x (ix2 (i 0) (valCol (col h (i 1))))
/-- The products of the queries with the keys. -/
def bRaw (q k : FVec F S256x128 .bf16) : FVec F S256x256 .f32 :=
  matmul dot_S256x128_S256x128_S256x256_1_1_0_0_n_n none q (shapeCast S256x128 k shapeCasts_S256x128_S256x128) (constant S256x256 .f32 0x00000000#32)
/-- The attention output. -/
def bHead (q k v : FVec F S256x128 .bf16) : FVec F S256x128 .bf16 := k0_pay13 (bRaw q k) v
/-- The attention output of the block, the four heads side by side. -/
def bCtx (q : FVec F S256x512 .bf16) (x2 : FVec F S256x1024 .bf16) : FVec F S256x512 .bf16 := fun i =>
  bHead (headCols (headOf (i 1)) q) (keyCols (headOf (i 1)) x2) (valCols (headOf (i 1)) x2) (ix2 (i 0) ⟨(i 1).val % 128, Nat.mod_lt _ (by decide)⟩)

section
variable (x1 : FVec F S256x2048 .bf16) (x3 : FVec F S2048x512 .bf16) (q : FVec F S256x512 .bf16) (k v : FVec F S256x128 .bf16)
theorem slice0 : extractStridedSlice S256x128 ![0, 0] q slices_S256x512_o0_0_S256x128 = headCols 0 q := by
  funext i; pointwise [headCols]; exact congrArg q (congrArg (ix2 (i 0)) (Fin.ext (by simp [col])))
theorem slice1 : extractStridedSlice S256x128 ![0, 128] q slices_S256x512_o0_128_S256x128 = headCols 1 q := by
  funext i; pointwise [headCols]; exact congrArg q (congrArg (ix2 (i 0)) (Fin.ext (by simp [col])))
theorem slice2 : extractStridedSlice S256x128 ![0, 256] q slices_S256x512_o0_256_S256x128 = headCols 2 q := by
  funext i; pointwise [headCols]; exact congrArg q (congrArg (ix2 (i 0)) (Fin.ext (by simp [col])))
theorem slice3 : extractStridedSlice S256x128 ![0, 384] q slices_S256x512_o0_384_S256x128 = headCols 3 q := by
  funext i; pointwise [headCols]; exact congrArg q (congrArg (ix2 (i 0)) (Fin.ext (by simp [col])))
theorem head0 : k0_pay11 x1 x3 k v = bHead (headCols 0 (k0_pay9 x1 x3)) k v := by rw [← slice0]; rfl
theorem head1 : k0_pay13 (k0_pay12 x1 x3 k) v = bHead (headCols 1 (k0_pay9 x1 x3)) k v := by rw [← slice1]; rfl
theorem head2 : k0_pay15 (k0_pay14 q k v) = bHead (headCols 2 q) k v := by rw [← slice2]; rfl
theorem head3 : k0_pay16 q k v = bHead (headCols 3 q) k v := by rw [← slice3]; rfl
end

theorem ldK (x : Vec F S256x1024 .bf16) (h : Fin 4) (o : ℕ) (ho : o = 128 * h.val) (inb : ∀ a, (![0, o] : Fin 2 → ℕ) a + (![256, 128] : Fin 2 → ℕ) a ≤ S256x1024.size a) :
    View.ld x (Rect.unit ![0, o] ![256, 128] inb) = keyCols h x := by
  funext i
  refine congrArg x (funext fun a => Fin.ext ?_)
  match a with
  | ⟨0, _⟩ => show 0 + 1 * (i 0).val = (i 0).val; omega
  | ⟨1, _⟩ => show o + 1 * (i 1).val = 128 * h.val + (i 1).val; omega
theorem ldV (x : Vec F S256x1024 .bf16) (h : Fin 4) (o : ℕ) (ho : o = 512 + 128 * h.val) (inb : ∀ a, (![0, o] : Fin 2 → ℕ) a + (![256, 128] : Fin 2 → ℕ) a ≤ S256x1024.size a) :
    View.ld x (Rect.unit ![0, o] ![256, 128] inb) = valCols h x := by
  funext i
  refine congrArg x (funext fun a => Fin.ext ?_)
  match a with
  | ⟨0, _⟩ => show 0 + 1 * (i 0).val = (i 0).val; omega
  | ⟨1, _⟩ => show o + 1 * (i 1).val = 512 + (128 * h.val + (i 1).val); omega

/-- The store of one head's columns holds those columns of the whole. -/
theorem bCtx_cols (q : FVec F S256x512 .bf16) (x2 : FVec F S256x1024 .bf16) (h : Fin 4) (o : ℕ) (ho : o = 128 * h.val)
    (inb : ∀ a, (![0, o] : Fin 2 → ℕ) a + S256x128.size a ≤ S256x512.size a) (x : (Rect.unit (s := S256x512) ![0, o] S256x128.size inb).shape.Idx) :
    bHead (headCols h q) (keyCols h x2) (valCols h x2) x = bCtx q x2 ((Rect.unit (s := S256x512) ![0, o] S256x128.size inb).emb x) := by
  have b1 : (x 1).val < 128 := (x 1).isLt
  have e1 : ((Rect.unit (s := S256x512) ![0, o] S256x128.size inb).emb x 1).val = o + (x 1).val := by
    rw [Rect.emb_apply]; show o + 1 * (x 1).val = _; omega
  have e0 : ((Rect.unit (s := S256x512) ![0, o] S256x128.size inb).emb x 0).val = 0 + (x 0).val := by
    rw [Rect.emb_apply]; show 0 + 1 * (x 0).val = _; omega
  have hh : headOf ((Rect.unit (s := S256x512) ![0, o] S256x128.size inb).emb x 1) = h :=
    Fin.ext (by
      show ((Rect.unit (s := S256x512) ![0, o] S256x128.size inb).emb x 1).val / 128 = h.val; omega)
  have hx : (ix2 ((Rect.unit (s := S256x512) ![0, o] S256x128.size inb).emb x 0)
      ⟨((Rect.unit (s := S256x512) ![0, o] S256x128.size inb).emb x 1).val % 128, Nat.mod_lt _ (by decide)⟩ : S256x128.Idx) = x := by
    funext a
    apply Fin.ext
    match a with
    | ⟨0, _⟩ => show ((Rect.unit (s := S256x512) ![0, o] S256x128.size inb).emb x 0).val = (x 0).val; omega
    | ⟨1, _⟩ => show ((Rect.unit (s := S256x512) ![0, o] S256x128.size inb).emb x 1).val % 128 = (x 1).val; omega
  show _ = bHead (headCols (headOf _) q) (keyCols (headOf _) x2) (valCols (headOf _) x2) (ix2 _ ⟨_, _⟩)
  rw [hh, hx]
end

theorem bHead_apply (q k v : FVec Ideal S256x128 .bf16) (i : S256x128.Idx) : bHead (F := Ideal) q k v i
    = ∑ l : Fin 256, soft (fun l => score (fun e => q (ix2 (i 0) e)) (fun e => k (ix2 l e))) l * v (ix2 l (i 1)) := by
  pointwise [bHead, bRaw, k0_pay13]
  simp only [bot_bits]
  rfl

/-! ## What a point writes -/

section
variable {F : FTy → Type} [FloatOps F] (i : grid0.Coords) (arg1 : Memref sig .tc .vmem S256x2048 .f32) (harg1 : arg1.IsWhole) (arg2 : Memref sig .tc .vmem S256x2048 .bf16) (harg2 : arg2.IsWhole) (arg3 : Memref sig .tc .vmem S256x1024 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S256x2048 .f32) (harg10 : arg10.IsWhole) (arg11 : Memref sig .tc .vmem S256x1 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole)
  (x0 : Vec F S256x2048 .f32) (x1 : Vec F S256x2048 .bf16) (x2 : Vec F S256x1024 .bf16) (x3 x4 : Vec F S2048x512 .bf16) (x5 x6 : Vec F S1x2048 .f32)
theorem scratch_eq : kernelRun0_A.sl.v101 c arg2 harg2 arg3 harg3 arg4 harg4 arg14 x1 x2 x3 = bCtx (k0_pay9 x1 x3) x2 := by
  unfold kernelRun0_A.sl.v101
  have hcov := View.cover_of_tiled (kernelRun0_A.sl.HS0_4 c arg2 harg2 arg3 harg3 arg4 harg4 x1 x2 x3) S256x128.size (by rfl)
  rw [View.readCov_eq_canon_ld _ _ _ hcov]
  refine (View.ld_unit_zero zero_offsets _ _).trans ?_
  funext y
  refine View.canon_apply_of_pieces _ _ ?_ y (hcov y)
  unfold kernelRun0_A.sl.HS0_4
  simp only [List.forall_mem_cons, kernelRun0_A.sl.r, kernelRun0_A.sl.r_1, kernelRun0_A.sl.r_2, load_eq, ld_whole, head0, head1, head2, head3,
    ldK _ 0 0 rfl, ldK _ 1 128 rfl, ldK _ 2 256 rfl, ldK _ 3 384 rfl, ldV _ 0 512 rfl, ldV _ 1 640 rfl, ldV _ 2 768 rfl, ldV _ 3 896 rfl]
  exact ⟨bCtx_cols _ x2 3 384 rfl _, bCtx_cols _ x2 2 256 rfl _, bCtx_cols _ x2 1 128 rfl _, bCtx_cols _ x2 0 0 rfl _,
    fun _ h => absurd h (List.not_mem_nil)⟩
theorem rows_eq : kernelRun0_A.sl.r_3 c arg1 harg1 arg2 harg2 arg3 harg3 arg4 harg4 arg5 harg5 arg14 x0 x1 x2 x3 x4
    = k0_pay18 (bCtx (k0_pay9 x1 x3) x2) x0 x4 := by
  unfold kernelRun0_A.sl.r_3
  simp only [load_eq, ld_whole, scratch_eq]
theorem out_7 : out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay5 (k0_pay18 (bCtx (k0_pay9 x1 x3) x2) x0 x4) x5 x6 := by
  unfold out0_A_7
  rw [View.read_writes_junk_eq_canon]
  unfold kernelRun0_A
  dsimp only
  refine (View.canon_unit_zero zero_offsets _ _).trans ?_
  simp only [load_eq, ld_whole, rows_eq]
theorem out_8 : out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay6 (k0_pay18 (bCtx (k0_pay9 x1 x3) x2) x0 x4) x5 x6 := by
  unfold out0_A_8
  rw [View.read_writes_junk_eq_canon]
  unfold kernelRun0_A
  dsimp only
  refine (View.canon_unit_zero zero_offsets _ _).trans ?_
  simp only [load_eq, ld_whole, rows_eq]
theorem out_9 : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay7 (k0_pay18 (bCtx (k0_pay9 x1 x3) x2) x0 x4) := by
  unfold out0_A_9
  rw [View.read_writes_junk_eq_canon]
  unfold kernelRun0_A
  dsimp only
  refine (View.canon_unit_zero zero_offsets _ _).trans ?_
  simp only [load_eq, ld_whole, rows_eq]
theorem out_10 : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay8 (k0_pay18 (bCtx (k0_pay9 x1 x3) x2) x0 x4) := by
  unfold out0_A_10
  rw [View.read_writes_junk_eq_canon]
  unfold kernelRun0_A
  dsimp only
  refine (View.canon_unit_zero zero_offsets _ _).trans ?_
  simp only [load_eq, ld_whole, rows_eq]
theorem out_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay10 x1 x3 := by
  unfold out0_A_11
  rw [View.read_writes_junk_eq_canon]
  unfold kernelRun0_A
  dsimp only
  refine (View.canon_unit_zero zero_offsets _ _).trans ?_
  simp only [load_eq, ld_whole]
theorem out_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay17 (bCtx (k0_pay9 x1 x3) x2) := by
  unfold out0_A_12
  rw [View.read_writes_junk_eq_canon]
  unfold kernelRun0_A
  dsimp only
  refine (View.canon_unit_zero zero_offsets _ _).trans ?_
  simp only [load_eq, ld_whole, scratch_eq]
end

/-- The rows the layer norm is taken of. -/
def rows (i : Fin 4096) (l : Fin 2048) : EReal :=
  Ideal.ofBits .f32 0x3FB504F3#32 * x m c (ix2 i l) + ∑ a : Fin 512, ctx m c i a * wo m c (ix2 a l)

theorem col_head (a : Fin 512) : col (headOf a) ⟨a.val % 128, Nat.mod_lt _ (by decide)⟩ = a := Fin.ext (by
  show 128 * (a.val / 128) + a.val % 128 = a.val; omega)
theorem query_block (j : S256x512.Idx) : k0_pay9 (F := Ideal) (iblk m c 1 t) (iblk m c 3 t) j = query m c (row t (j 0)) (j 1) := by
  pointwise [k0_pay9]
  simp only [blk1, blk3]
  rfl
theorem ctx_block (j : S256x512.Idx) :
    bCtx (F := Ideal) (k0_pay9 (iblk m c 1 t) (iblk m c 3 t)) (iblk m c 2 t) j = ctx m c (row t (j 0)) (j 1) := by
  unfold bCtx
  rw [bHead_apply]
  simp only [headCols, keyCols, valCols, query_block, blk2]
  refine Finset.sum_congr rfl fun l _ => ?_
  exact congrArg (fun a => soft (scores m c (row t (j 0)) (headOf (j 1))) l * kv m c (ix2 l (valCol a))) (col_head (j 1))
theorem rows_block (j : S256x2048.Idx) :
    k0_pay18 (F := Ideal) (bCtx (k0_pay9 (iblk m c 1 t) (iblk m c 3 t)) (iblk m c 2 t)) (iblk m c 0 t) (iblk m c 4 t) j
      = rows m c (row t (j 0)) (j 1) := by
  pointwise [k0_pay18]
  simp only [blk0, blk4, ctx_block]
  rfl

/-! ## The reference -/

open Cert.Reference20Ideal (S4096x4x128 S256x4x128 S4x4096x256 S4x4096)

theorem ref_query (i : S4096x512.Idx) : val_main_v0 (F := Ideal) (x m c) (wq m c) i = query m c (i 0) (i 1) := by
  rw [val_main_v0_apply]
  refine Finset.sum_congr rfl fun k _ => congrArg₂ (· * ·) (congrArg (x m c) ?_) (congrArg (wq m c) ?_)
  · funext a; fin_cases a <;> rfl
  · funext a; fin_cases a <;> rfl
theorem ref_heads (i : S4096x4x128.Idx) : val_main_v1 (F := Ideal) (x m c) (wq m c) i = query m c (i 0) (col (i 1) (i 2)) := by
  have b0 : (i 0).val < 4096 := (i 0).isLt
  have b1 : (i 1).val < 4 := (i 1).isLt
  have b2 : (i 2).val < 128 := (i 2).isLt
  have h0 : idx_main_v1 i 0 = i 0 := Fin.ext (by simp only [idx_main_v1]; omega)
  have h1 : idx_main_v1 i 1 = col (i 1) (i 2) := Fin.ext (by simp only [idx_main_v1, col]; omega)
  rw [val_main_v1_apply, ref_query, h0, h1]
theorem ref_keys (i : S256x4x128.Idx) : val_main_v4 (F := Ideal) (kv m c) i = kv m c (ix2 (i 0) (keyCol (col (i 1) (i 2)))) := by
  have b0 : (i 0).val < 256 := (i 0).isLt
  have b1 : (i 1).val < 4 := (i 1).isLt
  have b2 : (i 2).val < 128 := (i 2).isLt
  rw [val_main_v4_apply, val_main_v2_apply]
  refine congrArg (kv m c) (funext fun a => Fin.ext ?_)
  match a with
  | ⟨0, _⟩ => show (((i 0).val * 4 + (i 1).val) * 128 + (i 2).val) / 512 = (i 0).val; omega
  | ⟨1, _⟩ => show (((i 0).val * 4 + (i 1).val) * 128 + (i 2).val) % 512 = 128 * (i 1).val + (i 2).val; omega
theorem ref_vals (i : S256x4x128.Idx) : val_main_v5 (F := Ideal) (kv m c) i = kv m c (ix2 (i 0) (valCol (col (i 1) (i 2)))) := by
  have b0 : (i 0).val < 256 := (i 0).isLt
  have b1 : (i 1).val < 4 := (i 1).isLt
  have b2 : (i 2).val < 128 := (i 2).isLt
  rw [val_main_v5_apply, val_main_v3_apply]
  refine congrArg (kv m c) (funext fun a => Fin.ext ?_)
  match a with
  | ⟨0, _⟩ => show (((i 0).val * 4 + (i 1).val) * 128 + (i 2).val) / 512 = (i 0).val; omega
  | ⟨1, _⟩ => show 512 + (((i 0).val * 4 + (i 1).val) * 128 + (i 2).val) % 512 = 512 + (128 * (i 1).val + (i 2).val); omega
theorem ref_scores (i : S4x4096x256.Idx) : val_main_v8 (F := Ideal) (x m c) (kv m c) (wq m c) i = scores m c (i 1) (i 0) (i 2) := by
  rw [val_main_v8_apply, val_main_v6_apply, val_main_v7_apply, val_main_cst_apply]
  simp only [ref_heads, ref_keys]
  rfl
theorem ref_top (i : S4x4096.Idx) : val_main_v9 (F := Ideal) (x m c) (kv m c) (wq m c) i
    = Finset.univ.fold max ⊥ (scores m c (i 1) (i 0)) := by
  pointwise [val_main_v9]
  rw [val_main_cst_0_apply, Ideal.ofBits_def, bot_bits]
  exact congrArg (Finset.fold max ⊥ · Finset.univ) (funext fun k => ref_scores m c _)
theorem ref_weight (i : S4x4096x256.Idx) : val_main_v15 (F := Ideal) (x m c) (kv m c) (wq m c) i
    = Ideal.exp (scores m c (i 1) (i 0) (i 2) - Finset.univ.fold max ⊥ (scores m c (i 1) (i 0))) := by
  rw [val_main_v15_apply, val_main_v14_apply, val_main_v13_apply, val_main_v12_apply, val_main_v11_apply, val_main_v10_apply,
    val_main_cst_1_apply, ref_scores, ref_top, Ideal.maximumf_def, Ideal.ofBits_def, bot_bits, max_eq_right bot_le, Ideal.subf_def,
    Ideal.hostUnary_exp_def]
  rfl
theorem ref_soft (i : S4x4096x256.Idx) : val_main_v19 (F := Ideal) (x m c) (kv m c) (wq m c) i
    = soft (scores m c (i 1) (i 0)) (i 2) := by
  rw [val_main_v19_apply, val_main_v18_apply, val_main_v17_apply, val_main_v16_apply, val_main_cst_2_apply, Ideal.ofBits_def,
    Ideal.ofBits_zero_f32, zero_add, Ideal.hostDivf_def]
  simp only [ref_weight]
  rfl
theorem ref_ctx (i : S4096x512.Idx) : val_main_v22 (F := Ideal) (x m c) (kv m c) (wq m c) i = ctx m c (i 0) (i 1) := by
  have b0 : (i 0).val < 4096 := (i 0).isLt
  have b1 : (i 1).val < 512 := (i 1).isLt
  have h0 : idx_main_v22 i 0 = i 0 := Fin.ext (by simp only [idx_main_v22]; omega)
  have h1 : idx_main_v22 i 1 = headOf (i 1) := Fin.ext (by simp only [idx_main_v22, headOf]; omega)
  have h2 : col (idx_main_v22 i 1) (idx_main_v22 i 2) = i 1 := Fin.ext (by simp only [idx_main_v22, col]; omega)
  rw [val_main_v22_apply, val_main_v21_apply, val_main_v20_apply]
  simp only [ref_soft, ref_vals]
  refine Finset.sum_congr rfl fun k _ => (mul_comm _ _).trans ?_
  show soft (scores m c (idx_main_v22 i 0) (idx_main_v22 i 1)) k * kv m c (ix2 k (valCol (col (idx_main_v22 i 1) (idx_main_v22 i 2)))) = _
  rw [h0, h2, h1]
theorem ref_rows (i : S4096x2048.Idx) : val_main_v26 (F := Ideal) (x m c) (kv m c) (wq m c) (wo m c) i = rows m c (i 0) (i 1) := by
  rw [val_main_v26_apply, val_main_v24_apply, val_main_v23_apply, val_main_cst_3_apply, val_main_v25_apply]
  simp only [ref_ctx]
  refine congrArg₂ (· + ·) (congrArg _ (congrArg (x m c) ?_)) (Finset.sum_congr rfl fun k _ => congrArg _ (congrArg (wo m c) ?_))
  · funext a; fin_cases a <;> rfl
  · funext a; fin_cases a <;> rfl

/-! ## The results -/

theorem final7 : (dats m 0 c).arrAt 7 cfg0.N = val_main_v66 (F := Ideal) (x m c) (kv m c) (wq m c) (wo m c) (g m c) (b m c) :=
  (dats m 0 c).arrAt_eq_of_cover 7 _ (fun t _ => by
    rw [flushed7_A, out_7]
    funext j
    show (k0_pay5 (k0_pay18 (bCtx (k0_pay9 (iblk m c 1 t) (iblk m c 3 t)) (iblk m c 2 t)) (iblk m c 0 t) (iblk m c 4 t)) (iblk m c 5 t) (iblk m c 6 t) : FVec Ideal _ _) j = val_main_v66 (F := Ideal) (x m c) (kv m c) (wq m c) (wo m c) (g m c) (b m c) (((cfg0.win 7).blk t).view.emb j)
    rw [emb7]
    pointwise [k0_pay1, k0_pay2, k0_pay3, k0_pay4, k0_pay5, k0_pay6, k0_pay7, k0_pay8, val_main_cst_4, val_main_v27, val_main_v28, val_main_cst_5, val_main_v29, val_main_v30, val_main_v31, val_main_v32, val_main_v33, val_main_cst_6, val_main_v34, val_main_v35, val_main_cst_7, val_main_v36, val_main_v37, val_main_cst_8, val_main_v38, val_main_v39, val_main_v40, val_main_v41, val_main_v42, val_main_cst_9, val_main_v43, val_main_v44, val_main_cst_10, val_main_v45, val_main_v46, val_main_v47, val_main_v48, val_main_v49, val_main_cst_11, val_main_v50, val_main_v51, val_main_cst_12, val_main_v52, val_main_v53, val_main_v54, val_main_v55, val_main_cst_13, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73]
    simp only [rows_block, ref_rows, blk5, blk6]
    rfl) covered7
theorem final8 : (dats m 0 c).arrAt 8 cfg0.N = val_main_v67 (F := Ideal) (x m c) (kv m c) (wq m c) (wo m c) (g m c) (b m c) :=
  (dats m 0 c).arrAt_eq_of_cover 8 _ (fun t _ => by
    rw [flushed8_A, out_8]
    funext j
    show (k0_pay6 (k0_pay18 (bCtx (k0_pay9 (iblk m c 1 t) (iblk m c 3 t)) (iblk m c 2 t)) (iblk m c 0 t) (iblk m c 4 t)) (iblk m c 5 t) (iblk m c 6 t) : FVec Ideal _ _) j = val_main_v67 (F := Ideal) (x m c) (kv m c) (wq m c) (wo m c) (g m c) (b m c) (((cfg0.win 8).blk t).view.emb j)
    rw [emb8]
    pointwise [k0_pay1, k0_pay2, k0_pay3, k0_pay4, k0_pay5, k0_pay6, k0_pay7, k0_pay8, val_main_cst_4, val_main_v27, val_main_v28, val_main_cst_5, val_main_v29, val_main_v30, val_main_v31, val_main_v32, val_main_v33, val_main_cst_6, val_main_v34, val_main_v35, val_main_cst_7, val_main_v36, val_main_v37, val_main_cst_8, val_main_v38, val_main_v39, val_main_v40, val_main_v41, val_main_v42, val_main_cst_9, val_main_v43, val_main_v44, val_main_cst_10, val_main_v45, val_main_v46, val_main_v47, val_main_v48, val_main_v49, val_main_cst_11, val_main_v50, val_main_v51, val_main_cst_12, val_main_v52, val_main_v53, val_main_v54, val_main_v55, val_main_cst_13, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73]
    simp only [rows_block, ref_rows, blk5, blk6]
    rfl) covered8
theorem final9 : (dats m 0 c).arrAt 9 cfg0.N = val_main_v71 (F := Ideal) (x m c) (kv m c) (wq m c) (wo m c) :=
  (dats m 0 c).arrAt_eq_of_cover 9 _ (fun t _ => by
    rw [flushed9_A, out_9]
    funext j
    show (k0_pay7 (k0_pay18 (bCtx (k0_pay9 (iblk m c 1 t) (iblk m c 3 t)) (iblk m c 2 t)) (iblk m c 0 t) (iblk m c 4 t)) : FVec Ideal _ _) j = val_main_v71 (F := Ideal) (x m c) (kv m c) (wq m c) (wo m c) (((cfg0.win 9).blk t).view.emb j)
    rw [emb9]
    pointwise [k0_pay1, k0_pay2, k0_pay3, k0_pay4, k0_pay5, k0_pay6, k0_pay7, k0_pay8, val_main_cst_4, val_main_v27, val_main_v28, val_main_cst_5, val_main_v29, val_main_v30, val_main_v31, val_main_v32, val_main_v33, val_main_cst_6, val_main_v34, val_main_v35, val_main_cst_7, val_main_v36, val_main_v37, val_main_cst_8, val_main_v38, val_main_v39, val_main_v40, val_main_v41, val_main_v42, val_main_cst_9, val_main_v43, val_main_v44, val_main_cst_10, val_main_v45, val_main_v46, val_main_v47, val_main_v48, val_main_v49, val_main_cst_11, val_main_v50, val_main_v51, val_main_cst_12, val_main_v52, val_main_v53, val_main_v54, val_main_v55, val_main_cst_13, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73]
    simp only [rows_block, ref_rows, blk5, blk6]
    rfl) covered9
theorem final10 : (dats m 0 c).arrAt 10 cfg0.N = val_main_v40 (F := Ideal) (x m c) (kv m c) (wq m c) (wo m c) :=
  (dats m 0 c).arrAt_eq_of_cover 10 _ (fun t _ => by
    rw [flushed10_A, out_10]
    funext j
    show (k0_pay8 (k0_pay18 (bCtx (k0_pay9 (iblk m c 1 t) (iblk m c 3 t)) (iblk m c 2 t)) (iblk m c 0 t) (iblk m c 4 t)) : FVec Ideal _ _) j = val_main_v40 (F := Ideal) (x m c) (kv m c) (wq m c) (wo m c) (((cfg0.win 10).blk t).view.emb j)
    rw [emb10]
    pointwise [k0_pay1, k0_pay2, k0_pay3, k0_pay4, k0_pay5, k0_pay6, k0_pay7, k0_pay8, val_main_cst_4, val_main_v27, val_main_v28, val_main_cst_5, val_main_v29, val_main_v30, val_main_v31, val_main_v32, val_main_v33, val_main_cst_6, val_main_v34, val_main_v35, val_main_cst_7, val_main_v36, val_main_v37, val_main_cst_8, val_main_v38, val_main_v39, val_main_v40, val_main_v41, val_main_v42, val_main_cst_9, val_main_v43, val_main_v44, val_main_cst_10, val_main_v45, val_main_v46, val_main_v47, val_main_v48, val_main_v49, val_main_cst_11, val_main_v50, val_main_v51, val_main_cst_12, val_main_v52, val_main_v53, val_main_v54, val_main_v55, val_main_cst_13, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73]
    simp only [rows_block, ref_rows, blk5, blk6]
    rfl) covered10
theorem final11 : (dats m 0 c).arrAt 11 cfg0.N = val_main_v72 (F := Ideal) (x m c) (wq m c) :=
  (dats m 0 c).arrAt_eq_of_cover 11 _ (fun t _ => by
    rw [flushed11_A, out_11]
    funext j
    show (k0_pay10 (iblk m c 1 t) (iblk m c 3 t) : FVec Ideal _ _) j = val_main_v72 (F := Ideal) (x m c) (wq m c) (((cfg0.win 11).blk t).view.emb j)
    rw [emb11]
    pointwise [k0_pay10, val_main_v72]
    rw [query_block, ref_query]
    rfl) covered11
theorem final12 : (dats m 0 c).arrAt 12 cfg0.N = val_main_v73 (F := Ideal) (x m c) (kv m c) (wq m c) :=
  (dats m 0 c).arrAt_eq_of_cover 12 _ (fun t _ => by
    rw [flushed12_A, out_12]
    funext j
    show (k0_pay17 (bCtx (k0_pay9 (iblk m c 1 t) (iblk m c 3 t)) (iblk m c 2 t)) : FVec Ideal _ _) j = val_main_v73 (F := Ideal) (x m c) (kv m c) (wq m c) (((cfg0.win 12).blk t).view.emb j)
    rw [emb12]
    pointwise [k0_pay17, val_main_v73]
    rw [ctx_block, ref_ctx]
    rfl) covered12
theorem final_eq7 (a0 a1 a2 a3 a4 a5) (h0 : a0 = x m c) (h1 : a1 = kv m c) (h2 : a2 = wq m c) (h3 : a3 = wo m c) (h4 : a4 = g m c) (h5 : a5 = b m c) : val_main_v66 (F := Ideal) a0 a1 a2 a3 a4 a5 = (dats m 0 c).arrAt 7 cfg0.N := by
  rw [h0, h1, h2, h3, h4, h5, final7]
theorem final_eq8 (a0 a1 a2 a3 a4 a5) (h0 : a0 = x m c) (h1 : a1 = kv m c) (h2 : a2 = wq m c) (h3 : a3 = wo m c) (h4 : a4 = g m c) (h5 : a5 = b m c) : val_main_v67 (F := Ideal) a0 a1 a2 a3 a4 a5 = (dats m 0 c).arrAt 8 cfg0.N := by
  rw [h0, h1, h2, h3, h4, h5, final8]
theorem final_eq9 (a0 a1 a2 a3) (h0 : a0 = x m c) (h1 : a1 = kv m c) (h2 : a2 = wq m c) (h3 : a3 = wo m c) : val_main_v71 (F := Ideal) a0 a1 a2 a3 = (dats m 0 c).arrAt 9 cfg0.N := by
  rw [h0, h1, h2, h3, final9]
theorem final_eq10 (a0 a1 a2 a3) (h0 : a0 = x m c) (h1 : a1 = kv m c) (h2 : a2 = wq m c) (h3 : a3 = wo m c) : val_main_v40 (F := Ideal) a0 a1 a2 a3 = (dats m 0 c).arrAt 10 cfg0.N := by
  rw [h0, h1, h2, h3, final10]
theorem final_eq11 (a0 a2) (h0 : a0 = x m c) (h2 : a2 = wq m c) : val_main_v72 (F := Ideal) a0 a2 = (dats m 0 c).arrAt 11 cfg0.N := by
  rw [h0, h2, final11]
theorem final_eq12 (a0 a1 a2) (h0 : a0 = x m c) (h1 : a1 = kv m c) (h2 : a2 = wq m c) : val_main_v73 (F := Ideal) a0 a1 a2 = (dats m 0 c).arrAt 12 cfg0.N := by
  rw [h0, h1, h2, final12]

theorem algebraic : letI := Cert.Kernel20Ideal.Gen.facts; letI := Cert.Reference20Ideal.Gen.facts;
    Cert.algebraic_Kernel20Ideal_Reference20Ideal := by
  intro m ρ m' ρ' hpre hargs
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N, run_blocks m ρ, ?_⟩
  refine (θ_run _ _ _).mono (fun r h c => ?_) (Cert.Reference20Ideal.Value.run m' ρ')
  obtain ⟨e0, e1, e2, e3, e4, e5⟩ := hargs c
  obtain ⟨r0, r1, r2, r3, r4, r5, rest⟩ := h c
  exact ⟨r0.trans ((val_main_v66_eq m' c).trans (final_eq7 m c _ _ _ _ _ _ e0 e1 e2 e3 e4 e5)),
    r1.trans ((val_main_v67_eq m' c).trans (final_eq8 m c _ _ _ _ _ _ e0 e1 e2 e3 e4 e5)),
    r2.trans ((val_main_v71_eq m' c).trans (final_eq9 m c _ _ _ _ e0 e1 e2 e3)),
    r3.trans ((val_main_v40_eq m' c).trans (final_eq10 m c _ _ _ _ e0 e1 e2 e3)),
    r4.trans ((val_main_v72_eq _ _ ).trans (final_eq11 m c _ _ e0 e2)),
    r5.trans ((val_main_v73_eq _ _ _ ).trans (final_eq12 m c _ _ _ e0 e1 e2)), rest⟩

end Cert.Proof.XattnFwd

end
-- ==== Proof.LastLnRef.lean ====
module

public import proofs.«01_k».proof.Proof.Gen.Reference23Ideal.Read
public import proofs.«01_k».proof.Proof.Product

/-! The gradient of the layer norm at the end of a layer, `layer_norm(z, g, b)`, for a given gradient `dy` of its rows: the
    reference's results on finite arrays. -/

@[expose] public section

set_option maxRecDepth 16384
noncomputable section

namespace Cert.Proof.LastLn

open Cert.Reference23Ideal Cert.Reference23Ideal.Gen Cert.Reference23Ideal.Read Idealize.ShloMosaic

variable (z : Fin 4096 → Fin 2048 → ℝ) (g : Fin 2048 → ℝ) (dy : Fin 4096 → Fin 2048 → ℝ)

namespace Ref

/-! ## The layer normalisation -/

theorem v5 (i : S4096x1.Idx) : val_main_v5 (F := Ideal) (lift2 z) i = ((mean (z (i 0)) : ℝ) : EReal) := by
  rw [val_main_v5_apply, val_main_v3_apply, val_main_v2_apply, val_main_v4_apply, val_main_cst_0_apply, val_main_cst_apply]
  simp only [lift2_apply, Ideal.hostDivf_def, Ideal.ofBits_def, width_bits, Ideal.ofBits_zero_f32, coe_sum, zero_add,
    coe_div width_ne]
  rfl

theorem v7 (i : S4096x2048.Idx) : val_main_v7 (F := Ideal) (lift2 z) i = ((z (i 0) (i 1) - mean (z (i 0)) : ℝ) : EReal) := by
  rw [val_main_v7_apply, val_main_v6_apply, v5, lift2_apply, Ideal.subf_def, ← EReal.coe_sub]; rfl

theorem v16 (i : S4096x2048.Idx) : val_main_v16 (F := Ideal) (lift2 z) i = ((z (i 0) (i 1) - mean (z (i 0)) : ℝ) : EReal) := by
  rw [val_main_v16_apply, val_main_v15_apply, v5, lift2_apply, Ideal.subf_def, ← EReal.coe_sub]; rfl

theorem v10 (i : S4096x2048.Idx) :
    val_main_v10 (F := Ideal) (lift2 z) i = ((2 * (z (i 0) (i 1) - mean (z (i 0))) : ℝ) : EReal) := by
  rw [val_main_v10_apply, val_main_v9_apply, v7, val_main_cst_1_apply, Ideal.mulf_def, Ideal.ofBits_def, two_bits, ← EReal.coe_mul]

theorem v18 (i : S4096x1.Idx) : val_main_v18 (F := Ideal) (lift2 z) i = ((var (z (i 0)) + eps : ℝ) : EReal) := by
  rw [val_main_v18_apply, val_main_v14_apply, val_main_v12_apply, val_main_v11_apply, val_main_v13_apply, val_main_v17_apply,
    val_main_cst_2_apply, val_main_cst_3_apply, val_main_cst_4_apply]
  simp only [val_main_v8_apply, v7, Ideal.hostDivf_def, Ideal.ofBits_def, Ideal.mulf_def, Ideal.addf_def, width_bits, eps_bits,
    Ideal.ofBits_zero_f32, ← EReal.coe_mul, coe_sum, zero_add, coe_div width_ne, ← EReal.coe_add]
  rfl

theorem v19 (i : S4096x1.Idx) : val_main_v19 (F := Ideal) (lift2 z) i = ((rstd (z (i 0)) : ℝ) : EReal) := by
  rw [val_main_v19_apply, v18, Ideal.hostUnary_rsqrt_def, coe_rsqrt (var_eps_pos _), rstd]

theorem v22 (i : S4096x1.Idx) :
    val_main_v22 (F := Ideal) (lift2 z) i = ((-(1 / 2) * (rstd (z (i 0)) / (var (z (i 0)) + eps)) : ℝ) : EReal) := by
  rw [val_main_v22_apply, val_main_v21_apply, val_main_v20_apply, v19, v18, val_main_cst_5_apply, Ideal.mulf_def, Ideal.ofBits_def,
    Ideal.hostDivf_def, neg_half_bits, coe_div (var_eps_pos _).ne', ← EReal.coe_mul]

theorem v24 (i : S4096x2048.Idx) : val_main_v24 (F := Ideal) (lift2 z) i = ((xhat (z (i 0)) (i 1) : ℝ) : EReal) := by
  rw [val_main_v24_apply, val_main_v23_apply, v19, v16, Ideal.mulf_def, ← EReal.coe_mul]; rfl

theorem v31 (i : S4096x2048.Idx) : val_main_v31 (F := Ideal) (lift2 dy) i = ((dy (i 0) (i 1) : ℝ) : EReal) := by
  have b0 : (i 0).val < 4096 := (i 0).isLt
  have b1 : (i 1).val < 2048 := (i 1).isLt
  have h0 : idx_main_v31 i 0 = i 0 := Fin.ext (by simp only [idx_main_v31]; omega)
  have h1 : idx_main_v31 i 1 = i 1 := Fin.ext (by simp only [idx_main_v31]; omega)
  rw [val_main_v31_apply, lift2_apply, h0, h1]

/-! ## The results -/

theorem v65 (i : S1x2048.Idx) : val_main_v65 (F := Ideal) (lift2 dy) i
    = ((∑ r, dy r (i 1) : ℝ) : EReal) := by
  have b0 : (i 0).val < 1 := (i 0).isLt
  have b1 : (i 1).val < 2048 := (i 1).isLt
  rw [val_main_v65_apply, val_main_v34_apply, val_main_cst_7_apply, Fin.sum_univ_one, val_main_v33_apply,
    val_main_v32_apply, val_main_cst_6_apply]
  simp only [v31, lift2_apply, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v33 (idx_main_v34 (idx_main_v65 i) 0) 0 = i 1 :=
    Fin.ext (by simp only [idx_main_v33, idx_main_v34, idx_main_v65, Fin.val_zero]; omega)
  rw [← h0]; rfl

theorem v66 (i : S1x2048.Idx) : val_main_v66 (F := Ideal) (lift2 z) (lift2 dy) i
    = ((∑ r, xhat (z r) (i 1) * dy r (i 1) : ℝ) : EReal) := by
  have b0 : (i 0).val < 1 := (i 0).isLt
  have b1 : (i 1).val < 2048 := (i 1).isLt
  rw [val_main_v66_apply, val_main_v40_apply, val_main_cst_9_apply, Fin.sum_univ_one, val_main_v37_apply,
    val_main_v36_apply, val_main_cst_8_apply]
  simp only [val_main_v35_apply, v24, v31, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v37 (idx_main_v40 (idx_main_v66 i) 0) 0 = i 1 :=
    Fin.ext (by simp only [idx_main_v37, idx_main_v40, idx_main_v66, Fin.val_zero]; omega)
  rw [← h0]; rfl

theorem v39 (i : S4096x2048.Idx) : val_main_v39 (F := Ideal) (liftRow g) (lift2 dy) i
    = ((dy (i 0) (i 1) * g (i 1) : ℝ) : EReal) := by
  have b0 : (i 0).val < 4096 := (i 0).isLt
  have b1 : (i 1).val < 2048 := (i 1).isLt
  rw [val_main_v39_apply, val_main_v38_apply, val_main_v25_apply, val_main_v0_apply, v31, liftRow_apply, Ideal.mulf_def,
    ← EReal.coe_mul]
  have h : idx_main_v0 (idx_main_v25 (idx_main_v38 i)) 1 = i 1 := Fin.ext (Nat.mod_eq_of_lt b1)
  rw [h]

theorem v45 (i : S4096x2048.Idx) : val_main_v45 (F := Ideal) (lift2 z) (liftRow g) (lift2 dy) i
    = ((dy (i 0) (i 1) * g (i 1) * rstd (z (i 0)) : ℝ) : EReal) := by
  rw [val_main_v45_apply, val_main_v44_apply, v39, v19, Ideal.mulf_def, ← EReal.coe_mul]; rfl

theorem v54 (i : S4096x2048.Idx) : val_main_v54 (F := Ideal) (lift2 z) (liftRow g) (lift2 dy) i
    = (((∑ k, (z (i 0) k - mean (z (i 0))) * (dy (i 0) k * g k)) * (-(1 / 2) * (rstd (z (i 0)) / (var (z (i 0)) + eps))) / 2048
      * (2 * (z (i 0) (i 1) - mean (z (i 0)))) : ℝ) : EReal) := by
  have b0 : (i 0).val < 4096 := (i 0).isLt
  have b1 : (i 1).val < 2048 := (i 1).isLt
  have h0 : idx_main_v43 (idx_main_v52 (idx_main_v53 i) 0) 0 = i 0 :=
    Fin.ext (by simp only [idx_main_v43, idx_main_v52, idx_main_v53, Fin.val_zero]; omega)
  rw [val_main_v54_apply, v10, val_main_v53_apply, val_main_v52_apply, val_main_cst_13_apply, Fin.sum_univ_one,
    val_main_v51_apply, val_main_v50_apply, val_main_cst_12_apply, val_main_v46_apply, v22, val_main_v43_apply,
    val_main_v42_apply, val_main_cst_10_apply]
  simp only [val_main_v41_apply, v16, v39, width_bits, coe_div width_ne, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h2 : idx_main_v52 (idx_main_v53 i) 0 0 = i 0 :=
    Fin.ext (by simp only [idx_main_v52, idx_main_v53, Fin.val_zero])
  have e0 : ∀ j k, idx_main_v42 j k 0 = j 0 := fun _ _ => rfl
  have e1 : ∀ j k, idx_main_v42 j k 1 = k := fun _ _ => rfl
  simp only [e0, e1, h0, h2]

theorem v64 (i : S4096x2048.Idx) : val_main_v64 (F := Ideal) (lift2 z) (liftRow g) (lift2 dy) i
    = ((normBack (rstd (z (i 0))) (xhat (z (i 0))) (fun k => dy (i 0) k * g k) (i 1) : ℝ) : EReal) := by
  have b0 : (i 0).val < 4096 := (i 0).isLt
  have b1 : (i 1).val < 2048 := (i 1).isLt
  have h0 : idx_main_v49 (idx_main_v62 (idx_main_v63 i) 0) 0 = i 0 :=
    Fin.ext (by simp only [idx_main_v49, idx_main_v62, idx_main_v63, Fin.val_zero]; omega)
  have h1 : idx_main_v57 (idx_main_v62 (idx_main_v63 i) 0) 0 = i 0 := h0
  rw [val_main_v64_apply, val_main_v58_apply, v45, v54, val_main_v63_apply, val_main_v62_apply, val_main_cst_16_apply,
    Fin.sum_univ_one, val_main_v61_apply, val_main_v60_apply, val_main_cst_15_apply, val_main_v59_apply, val_main_v49_apply,
    val_main_v48_apply, val_main_v57_apply, val_main_v56_apply, val_main_cst_11_apply, val_main_cst_14_apply]
  simp only [val_main_v47_apply, val_main_v55_apply, v45, v54, width_bits, coe_div width_ne, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have e0 : ∀ j k, idx_main_v48 j k 0 = j 0 := fun _ _ => rfl
  have e1 : ∀ j k, idx_main_v48 j k 1 = k := fun _ _ => rfl
  have f0 : ∀ j k, idx_main_v56 j k 0 = j 0 := fun _ _ => rfl
  have f1 : ∀ j k, idx_main_v56 j k 1 = k := fun _ _ => rfl
  simp only [e0, e1, f0, f1, h0, h1]
  have h := normBack_chain (n := 2048) (by norm_num) (z (i 0)) (fun k => dy (i 0) k * g k) (i 1)
  rw [Nat.cast_ofNat] at h
  exact congrArg _ h

theorem v67 (i : S4096x2048.Idx) : val_main_v67 (F := Ideal) (lift2 z) (liftRow g) (lift2 dy) i
    = ((normBack (rstd (z (i 0))) (xhat (z (i 0))) (fun k => dy (i 0) k * g k) (i 1) : ℝ) : EReal) := by
  rw [val_main_v67_apply, Ideal.truncf_def, v64]

end Ref

end Cert.Proof.LastLn

end
-- ==== Proof.LastLn.lean ====
module

public import proofs.«01_k».proof.Proof.LastLnRef
public import proofs.«01_k».proof.Proof.Algebraic
public import proofs.«01_k».proof.Proof.Gen.Kernel23Ideal.Value
public import proofs.«01_k».proof.Proof.Gen.Reference23Ideal.Run
public import proofs.«01_k».proof.Proof.Gen.Pre_finite23
public import proofs.«01_k».proof.Defs

/-! The gradient of the layer norm at the end of a layer: every point takes 256 rows of the incoming gradient, writes the gradient of its rows, and adds the block's share to the gradients of scale and shift. -/

@[expose] public section

set_option maxRecDepth 16384
noncomputable section

namespace Cert.Proof.LastLn

open Idealize.ShloMosaic Idealize.ShloMosaic.TcCoe Idealize.SL.Sem Cert.Kernel23Ideal Cert.Kernel23Ideal.Gen Cert.Kernel23Ideal.Value

variable (m : (ℓ : Loc nD τ sig) → Buf (Elt Ideal) ℓ) (c : Dev nD) (t : Fin cfg0.N)

/-! ## The arrays the call reads -/

theorem V_v13 : V m c main_v13 = Ker.hRstd (F := Ideal) (m ((c : Thread nD τ).loc main_arg0)) := by
  show StableHlo.after hostOps0 _ (Proc.devRef .tc main_v13) = _
  after_results
  rfl
theorem V_v17 : V m c main_v17 = Ker.hXhat (F := Ideal) (m ((c : Thread nD τ).loc main_arg0)) := by
  show StableHlo.after hostOps0 _ (Proc.devRef .tc main_v17) = _
  after_results
  rfl

/-! ## The blocks -/

theorem lt16 : t.val < 16 := lt_of_lt_of_eq t.isLt N_0
def row (r : Fin 256) : Fin 4096 := ⟨256 * t.val + r.val, by have := lt16 t; omega⟩
/-- The point before. -/
def prev : Fin cfg0.N := ⟨t.val - 1, Nat.lt_of_le_of_lt (Nat.sub_le _ _) t.isLt⟩

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)
theorem emb0 (j : S256x2048.Idx) : ((cfg0.win 0).blk t).view.emb j = ix2 (row t (j 0)) (j 1) := by
  obtain ⟨⟨e0, e1⟩, -⟩ := idx t
  funext a; apply Fin.ext
  match a with
  | ⟨0, _⟩ => show win0_0.index t (0 : Fin 2) * 256 + 1 * (j 0).val = 256 * t.val + (j 0).val; omega
  | ⟨1, _⟩ => show win0_0.index t (1 : Fin 2) * 2048 + 1 * (j 1).val = (j 1).val; omega
theorem emb1 (j : S256x2048.Idx) : ((cfg0.win 1).blk t).view.emb j = ix2 (row t (j 0)) (j 1) := by
  obtain ⟨-, ⟨e0, e1⟩, -⟩ := idx t
  funext a; apply Fin.ext
  match a with
  | ⟨0, _⟩ => show win0_1.index t (0 : Fin 2) * 256 + 1 * (j 0).val = 256 * t.val + (j 0).val; omega
  | ⟨1, _⟩ => show win0_1.index t (1 : Fin 2) * 2048 + 1 * (j 1).val = (j 1).val; omega
theorem emb2 (j : S256x1.Idx) : ((cfg0.win 2).blk t).view.emb j = ix2 (row t (j 0)) (j 1) := by
  obtain ⟨-, -, ⟨e0, e1⟩, -⟩ := idx t
  funext a; apply Fin.ext
  match a with
  | ⟨0, _⟩ => show win0_2.index t (0 : Fin 2) * 256 + 1 * (j 0).val = 256 * t.val + (j 0).val; omega
  | ⟨1, _⟩ => show win0_2.index t (1 : Fin 2) * 1 + 1 * (j 1).val = (j 1).val; omega
theorem emb3 (j : S1x2048.Idx) : ((cfg0.win 3).blk t).view.emb j = j := by
  obtain ⟨-, -, -, ⟨e0, e1⟩, -⟩ := idx t
  funext a; apply Fin.ext
  match a with
  | ⟨0, _⟩ => show win0_3.index t (0 : Fin 2) * 1 + 1 * (j 0).val = (j 0).val; omega
  | ⟨1, _⟩ => show win0_3.index t (1 : Fin 2) * 2048 + 1 * (j 1).val = (j 1).val; omega
theorem emb4 (j : S256x2048.Idx) : ((cfg0.win 4).blk t).view.emb j = ix2 (row t (j 0)) (j 1) := by
  obtain ⟨-, -, -, -, ⟨e0, e1⟩, -⟩ := idx t
  funext a; apply Fin.ext
  match a with
  | ⟨0, _⟩ => show win0_4.index t (0 : Fin 2) * 256 + 1 * (j 0).val = 256 * t.val + (j 0).val; omega
  | ⟨1, _⟩ => show win0_4.index t (1 : Fin 2) * 2048 + 1 * (j 1).val = (j 1).val; omega
theorem emb5 (j : S256x2048.Idx) : ((cfg0.win 5).blk t).view.emb j = ix2 (row t (j 0)) (j 1) := by
  obtain ⟨-, -, -, -, -, ⟨e0, e1⟩, -⟩ := idx t
  funext a; apply Fin.ext
  match a with
  | ⟨0, _⟩ => show win0_5.index t (0 : Fin 2) * 256 + 1 * (j 0).val = 256 * t.val + (j 0).val; omega
  | ⟨1, _⟩ => show win0_5.index t (1 : Fin 2) * 2048 + 1 * (j 1).val = (j 1).val; omega
theorem emb6 (j : S1x2048.Idx) : ((cfg0.win 6).blk t).view.emb j = j := by
  obtain ⟨-, -, -, -, -, -, ⟨e0, e1⟩, -⟩ := idx t
  funext a; apply Fin.ext
  match a with
  | ⟨0, _⟩ => show win0_6.index t (0 : Fin 2) * 1 + 1 * (j 0).val = (j 0).val; omega
  | ⟨1, _⟩ => show win0_6.index t (1 : Fin 2) * 2048 + 1 * (j 1).val = (j 1).val; omega
theorem emb7 (j : S1x2048.Idx) : ((cfg0.win 7).blk t).view.emb j = j := by
  obtain ⟨-, -, -, -, -, -, -, e0, e1⟩ := idx t
  funext a; apply Fin.ext
  match a with
  | ⟨0, _⟩ => show win0_7.index t (0 : Fin 2) * 1 + 1 * (j 0).val = (j 0).val; omega
  | ⟨1, _⟩ => show win0_7.index t (1 : Fin 2) * 2048 + 1 * (j 1).val = (j 1).val; omega

theorem point (i : S4096x2048.Idx) : ∃ (t : Fin cfg0.N) (j : S256x2048.Idx), i = ix2 (row t (j 0)) (j 1) := by
  have b0 : (i 0).val < 4096 := (i 0).isLt
  refine ⟨⟨(i 0).val / 256, lt_of_lt_of_eq (by omega) N_0.symm⟩, ix2 ⟨(i 0).val % 256, Nat.mod_lt _ (by decide)⟩ (i 1), ?_⟩
  funext a; apply Fin.ext
  match a with
  | ⟨0, _⟩ => show (i 0).val = 256 * ((i 0).val / 256) + (i 0).val % 256; omega
  | ⟨1, _⟩ => rfl
theorem covered4 (i : S4096x2048.Idx) : ∃ t : Fin cfg0.N, (cfg0.win 4).flush t = true ∧ i ∈ ((cfg0.win 4).blk t).view.set := by
  obtain ⟨t, j, e⟩ := point i
  exact ⟨t, flush0_4 t, by rw [e, ← emb4]; exact ((cfg0.win 4).blk t).view.emb_mem_set j⟩
theorem covered5 (i : S4096x2048.Idx) : ∃ t : Fin cfg0.N, (cfg0.win 5).flush t = true ∧ i ∈ ((cfg0.win 5).blk t).view.set := by
  obtain ⟨t, j, e⟩ := point i
  exact ⟨t, flush0_5 t, by rw [e, ← emb5]; exact ((cfg0.win 5).blk t).view.emb_mem_set j⟩
def lastPoint : Fin cfg0.N := ⟨15, lt_of_lt_of_eq (by omega : 15 < 16) N_0.symm⟩
theorem covered6 (i : S1x2048.Idx) : ∃ t : Fin cfg0.N, (cfg0.win 6).flush t = true ∧ i ∈ ((cfg0.win 6).blk t).view.set :=
  ⟨lastPoint, (flush0_6 _).mpr rfl, by have h := ((cfg0.win 6).blk lastPoint).view.emb_mem_set i; rwa [emb6] at h⟩
theorem covered7 (i : S1x2048.Idx) : ∃ t : Fin cfg0.N, (cfg0.win 7).flush t = true ∧ i ∈ ((cfg0.win 7).blk t).view.set :=
  ⟨lastPoint, (flush0_7 _).mpr rfl, by have h := ((cfg0.win 7).blk lastPoint).view.emb_mem_set i; rwa [emb7] at h⟩

/-! ## What a point writes -/

section
variable {F : FTy → Type} [FloatOps F] (i : grid0.Coords) (arg1 : Memref sig .tc .vmem S256x2048 .f32) (harg1 : arg1.IsWhole) (arg2 : Memref sig .tc .vmem S256x2048 .f32) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x2048 .f32) (harg8 : arg8.IsWhole)
  (x0 : Vec F S256x2048 .f32) (x1 : Vec F S256x2048 .f32) (x2 : Vec F S256x1 .f32) (x3 : Vec F S1x2048 .f32) (xo6 : Vec F S1x2048 .f32) (xo7 : Vec F S1x2048 .f32)
theorem out_A4 (h0 h1 h2 h3) : out0_A_4 c i arg1 harg1 arg2 harg2 arg3 harg3 arg4 harg4 arg5 harg5 arg6 harg6 arg7 harg7 arg8 harg8 h0 h1 h2 h3 x0 x1 x2 x3 = k0_pay7 x0 x1 x2 x3 := by
  unfold out0_A_4
  rw [View.read_writes_junk_eq_canon]
  unfold kernelRun0_A
  dsimp only
  refine (View.canon_unit_zero zero_offsets _ _).trans ?_
  simp only [load_eq, ld_whole]
theorem out_A5 (h0 h1 h2 h3) : out0_A_5 c i arg1 harg1 arg2 harg2 arg3 harg3 arg4 harg4 arg5 harg5 arg6 harg6 arg7 harg7 arg8 harg8 h0 h1 h2 h3 x0 x1 x2 x3 = k0_pay8 x0 x1 x2 x3 := by
  unfold out0_A_5
  rw [View.read_writes_junk_eq_canon]
  unfold kernelRun0_A
  dsimp only
  refine (View.canon_unit_zero zero_offsets _ _).trans ?_
  simp only [load_eq, ld_whole]
theorem out_A6 (h0 h1 h2 h3) : out0_A_6 c i arg1 harg1 arg2 harg2 arg3 harg3 arg4 harg4 arg5 harg5 arg6 harg6 arg7 harg7 arg8 harg8 h0 h1 h2 h3 x0 x1 x2 x3 = k0_pay10 x0 x1 := by
  unfold out0_A_6
  rw [View.read_writes_junk_eq_canon]
  unfold kernelRun0_A
  dsimp only
  refine (View.canon_unit_zero zero_offsets _ _).trans ?_
  simp only [load_eq, ld_whole]
theorem out_A7 (h0 h1 h2 h3) : out0_A_7 c i arg1 harg1 arg2 harg2 arg3 harg3 arg4 harg4 arg5 harg5 arg6 harg6 arg7 harg7 arg8 harg8 h0 h1 h2 h3 x0 x1 x2 x3 = k0_pay3 x0 := by
  unfold out0_A_7
  rw [View.read_writes_junk_eq_canon]
  unfold kernelRun0_A
  dsimp only
  refine (View.canon_unit_zero zero_offsets _ _).trans ?_
  unfold kernelRun0_A.sl.r
  simp only [load_eq, ld_whole]
theorem out_B4 (h0 h1 h2 h3) : out0_B_4 c i arg1 harg1 arg2 harg2 arg3 harg3 arg4 harg4 arg5 harg5 arg6 harg6 arg7 harg7 arg8 harg8 h0 h1 h2 h3 x0 x1 x2 x3 xo6 xo7 = k0_pay7 x0 x1 x2 x3 := by
  unfold out0_B_4
  rw [View.read_writes_junk_eq_canon]
  unfold kernelRun0_B
  dsimp only
  refine (View.canon_unit_zero zero_offsets _ _).trans ?_
  simp only [load_eq, ld_whole]
theorem out_B5 (h0 h1 h2 h3) : out0_B_5 c i arg1 harg1 arg2 harg2 arg3 harg3 arg4 harg4 arg5 harg5 arg6 harg6 arg7 harg7 arg8 harg8 h0 h1 h2 h3 x0 x1 x2 x3 xo6 xo7 = k0_pay8 x0 x1 x2 x3 := by
  unfold out0_B_5
  rw [View.read_writes_junk_eq_canon]
  unfold kernelRun0_B
  dsimp only
  refine (View.canon_unit_zero zero_offsets _ _).trans ?_
  simp only [load_eq, ld_whole]
theorem out_B6 (h0 h1 h2 h3) : out0_B_6 c i arg1 harg1 arg2 harg2 arg3 harg3 arg4 harg4 arg5 harg5 arg6 harg6 arg7 harg7 arg8 harg8 h0 h1 h2 h3 x0 x1 x2 x3 xo6 xo7 = k0_pay1 (k0_pay9 x0 x1) xo6 := by
  unfold out0_B_6
  rw [View.read_writes_junk_eq_canon]
  unfold kernelRun0_B
  dsimp only
  refine (View.canon_unit_zero zero_offsets _ _).trans ?_
  unfold kernelRun0_B.sl.r_1
  simp only [load_eq, ld_whole]
theorem out_B7 (h0 h1 h2 h3) : out0_B_7 c i arg1 harg1 arg2 harg2 arg3 harg3 arg4 harg4 arg5 harg5 arg6 harg6 arg7 harg7 arg8 harg8 h0 h1 h2 h3 x0 x1 x2 x3 xo6 xo7 = k0_pay4 x0 xo7 := by
  unfold out0_B_7
  rw [View.read_writes_junk_eq_canon]
  unfold kernelRun0_B
  dsimp only
  refine (View.canon_unit_zero zero_offsets _ _).trans ?_
  unfold kernelRun0_B.sl.r
  simp only [load_eq, ld_whole]
end

theorem written4 : (outsAt0 m c t.val t.isLt).1 = k0_pay7 (iblk m c 0 t) (iblk m c 1 t) (iblk m c 2 t) (iblk m c 3 t) := by
  have l := lt16 t
  rcases Nat.eq_zero_or_pos t.val with h | h
  · rw [outsAt0_A m c t (by omega) (by omega) (by omega) (by omega)]; dsimp only; rw [out_A4]
  · rw [outsAt0_B m c t (by omega) (by omega) (by omega) (by omega)]; dsimp only; rw [out_B4]
theorem written5 : (outsAt0 m c t.val t.isLt).2.1 = k0_pay8 (iblk m c 0 t) (iblk m c 1 t) (iblk m c 2 t) (iblk m c 3 t) := by
  have l := lt16 t
  rcases Nat.eq_zero_or_pos t.val with h | h
  · rw [outsAt0_A m c t (by omega) (by omega) (by omega) (by omega)]; dsimp only; rw [out_A5]
  · rw [outsAt0_B m c t (by omega) (by omega) (by omega) (by omega)]; dsimp only; rw [out_B5]
/-- What output 6 holds after a point. -/
def gainAt : Vec Ideal S1x2048 .f32 := (outsAt0 m c t.val t.isLt).2.2.1
theorem gain_first (h : t.val = 0) : gainAt m c t = k0_pay10 (iblk m c 0 t) (iblk m c 1 t) := by
  have l := lt16 t
  unfold gainAt; rw [outsAt0_A m c t (by omega) (by omega) (by omega) (by omega)]; dsimp only; rw [out_A6]
theorem gain_next (h : t.val ≠ 0) : gainAt m c t = k0_pay1 (k0_pay9 (iblk m c 0 t) (iblk m c 1 t)) (gainAt m c (prev t)) := by
  have l := lt16 t
  unfold gainAt; rw [outsAt0_B m c t (by omega) (by omega) (by omega) (by omega)]; dsimp only; rw [out_B6]; rfl
/-- What output 7 holds after a point. -/
def shiftAt : Vec Ideal S1x2048 .f32 := (outsAt0 m c t.val t.isLt).2.2.2
theorem shift_first (h : t.val = 0) : shiftAt m c t = k0_pay3 (iblk m c 0 t) := by
  have l := lt16 t
  unfold shiftAt; rw [outsAt0_A m c t (by omega) (by omega) (by omega) (by omega)]; dsimp only; rw [out_A7]
theorem shift_next (h : t.val ≠ 0) : shiftAt m c t = k0_pay4 (iblk m c 0 t) (shiftAt m c (prev t)) := by
  have l := lt16 t
  unfold shiftAt; rw [outsAt0_B m c t (by omega) (by omega) (by omega) (by omega)]; dsimp only; rw [out_B7]; rfl

/-! ## The operations on real arrays -/

section
variable (U X : Fin 256 → Fin 2048 → ℝ) (s : Fin 256 → ℝ) (g : Fin 2048 → ℝ)
theorem norm_real (i : S256x2048.Idx) : k0_pay7 (F := Ideal) (lift2 U) (lift2 X) (liftCol s) (liftRow g) i
    = ((normBack (s (i 0)) (X (i 0)) (fun j => U (i 0) j * g j) (i 1) : ℝ) : EReal) := by
  pointwise [k0_pay1, k0_pay2, k0_pay3, k0_pay4, k0_pay5, k0_pay6, k0_pay7, k0_pay8, k0_pay9, k0_pay10]
  simp only [lift2_apply, liftCol_apply, liftRow_apply, width_bits, ← EReal.coe_mul, coe_sum, coe_div width_ne, ← EReal.coe_sub]
  rfl
theorem norm_cast_real (i : S256x2048.Idx) : k0_pay8 (F := Ideal) (lift2 U) (lift2 X) (liftCol s) (liftRow g) i
    = ((normBack (s (i 0)) (X (i 0)) (fun j => U (i 0) j * g j) (i 1) : ℝ) : EReal) := by
  pointwise [k0_pay1, k0_pay2, k0_pay3, k0_pay4, k0_pay5, k0_pay6, k0_pay7, k0_pay8, k0_pay9, k0_pay10]
  simp only [lift2_apply, liftCol_apply, liftRow_apply, width_bits, ← EReal.coe_mul, coe_sum, coe_div width_ne, ← EReal.coe_sub]
  rfl
theorem gain_first_real (i : S1x2048.Idx) : k0_pay10 (F := Ideal) (lift2 U) (lift2 X) i = (((∑ r, X r (i 1) * U r (i 1)) : ℝ) : EReal) := by
  pointwise [k0_pay1, k0_pay2, k0_pay3, k0_pay4, k0_pay5, k0_pay6, k0_pay7, k0_pay8, k0_pay9, k0_pay10]
  simp only [lift2_apply, liftCol_apply, liftRow_apply, width_bits, ← EReal.coe_mul, coe_sum, coe_div width_ne, ← EReal.coe_sub, mul_comm]
  rfl
theorem gain_real (w : FVec Ideal S1x2048 .f32) (i : S1x2048.Idx) : k0_pay1 (F := Ideal) (k0_pay9 (lift2 U) (lift2 X)) w i = w i + (((∑ r, X r (i 1) * U r (i 1)) : ℝ) : EReal) := by
  pointwise [k0_pay1, k0_pay2, k0_pay3, k0_pay4, k0_pay5, k0_pay6, k0_pay7, k0_pay8, k0_pay9, k0_pay10]
  simp only [lift2_apply, liftCol_apply, liftRow_apply, width_bits, ← EReal.coe_mul, coe_sum, coe_div width_ne, ← EReal.coe_sub, mul_comm]
  rfl
theorem shift_first_real (i : S1x2048.Idx) : k0_pay3 (F := Ideal) (lift2 U) i = (((∑ r, U r (i 1)) : ℝ) : EReal) := by
  pointwise [k0_pay1, k0_pay2, k0_pay3, k0_pay4, k0_pay5, k0_pay6, k0_pay7, k0_pay8, k0_pay9, k0_pay10]
  simp only [lift2_apply, liftCol_apply, liftRow_apply, width_bits, ← EReal.coe_mul, coe_sum, coe_div width_ne, ← EReal.coe_sub]
  rfl
theorem shift_real (w : FVec Ideal S1x2048 .f32) (i : S1x2048.Idx) : k0_pay4 (F := Ideal) (lift2 U) w i = w i + (((∑ r, U r (i 1)) : ℝ) : EReal) := by
  pointwise [k0_pay1, k0_pay2, k0_pay3, k0_pay4, k0_pay5, k0_pay6, k0_pay7, k0_pay8, k0_pay9, k0_pay10]
  simp only [lift2_apply, liftCol_apply, liftRow_apply, width_bits, ← EReal.coe_mul, coe_sum, coe_div width_ne, ← EReal.coe_sub]
  rfl
end

/-! ## Real arguments -/

section
variable (z : Fin 4096 → Fin 2048 → ℝ) (g : Fin 2048 → ℝ) (dy : Fin 4096 → Fin 2048 → ℝ)

/-- The arguments are these real arrays. -/
structure Args : Prop where
  a0 : m ((c : Thread nD τ).loc main_arg0) = lift2 z
  a1 : m ((c : Thread nD τ).loc main_arg1) = liftRow g
  a3 : m ((c : Thread nD τ).loc main_arg3) = lift2 dy

variable {m c z g dy} (H : Args m c z g dy) (t : Fin cfg0.N)
include H

theorem blk0 : iblk m c 0 t = lift2 fun r => dy (row t r) := by
  funext j; show V m c main_arg3 (((cfg0.win 0).blk t).view.emb j) = _; rw [emb0, V_main_arg3, H.a3]; rfl
theorem blk1 : iblk m c 1 t = lift2 fun r => xhat (z (row t r)) := by
  funext j; show V m c main_v17 (((cfg0.win 1).blk t).view.emb j) = _; rw [emb1, V_v17, H.a0]; exact Ker.hXhat_real z (ix2 (row t (j 0)) (j 1))
theorem blk2 : iblk m c 2 t = liftCol fun r => rstd (z (row t r)) := by
  funext j; show V m c main_v13 (((cfg0.win 2).blk t).view.emb j) = _; rw [emb2, V_v13, H.a0]; exact Ker.hRstd_real z (ix2 (row t (j 0)) (j 1))
theorem blk3 : iblk m c 3 t = liftRow g := by
  funext j; show V m c main_arg1 (((cfg0.win 3).blk t).view.emb j) = _; rw [emb3, V_main_arg1, H.a1]

/-! ## The arrays after the run -/

theorem final4 : (dats m 0 c).arrAt 4 cfg0.N = fun i => ((normBack (rstd (z (i 0))) (xhat (z (i 0))) (fun k => dy (i 0) k * g k) (i 1) : ℝ) : EReal) :=
  (dats m 0 c).arrAt_eq_of_cover 4 _ (fun t _ => by
    rw [flushed4, written4, blk0 H t, blk1 H t, blk2 H t, blk3 H t]
    funext j
    refine (norm_real _ _ _ _ j).trans ?_
    show _ = (fun i : S4096x2048.Idx => ((normBack (rstd (z (i 0))) (xhat (z (i 0))) (fun k => dy (i 0) k * g k) (i 1) : ℝ) : EReal)) (((cfg0.win 4).blk t).view.emb j)
    rw [emb4]
    rfl) covered4
theorem final5 : (dats m 0 c).arrAt 5 cfg0.N = fun i => ((normBack (rstd (z (i 0))) (xhat (z (i 0))) (fun k => dy (i 0) k * g k) (i 1) : ℝ) : EReal) :=
  (dats m 0 c).arrAt_eq_of_cover 5 _ (fun t _ => by
    rw [flushed5, written5, blk0 H t, blk1 H t, blk2 H t, blk3 H t]
    funext j
    refine (norm_cast_real _ _ _ _ j).trans ?_
    show _ = (fun i : S4096x2048.Idx => ((normBack (rstd (z (i 0))) (xhat (z (i 0))) (fun k => dy (i 0) k * g k) (i 1) : ℝ) : EReal)) (((cfg0.win 5).blk t).view.emb j)
    rw [emb5]
    rfl) covered5
theorem gain_after : ∀ (k : ℕ) (t : Fin cfg0.N) (ht : t.val = k) (i : S1x2048.Idx),
    gainAt m c t i = ((part 256 (fun r => xhat (z r) (i 1) * dy r (i 1)) (k + 1) : ℝ) : EReal)
  | 0, t, ht, i => by
    rw [gain_first m c t ht, blk0 H t, blk1 H t]
    refine (gain_first_real _ _ i).trans (congrArg _ ?_)
    exact part_one 256 (fun r => xhat (z r) (i 1) * dy r (i 1)) (row t) fun r => by show 256 * t.val + r.val = r.val; omega
  | k + 1, t, ht, i => by
    have ih := gain_after k (prev t) (show t.val - 1 = k by omega) i
    rw [gain_next m c t (by omega), blk0 H t, blk1 H t]
    refine (gain_real _ _ _ i).trans ?_
    rw [ih, ← EReal.coe_add]
    refine congrArg _ ?_
    exact part_succ 256 (fun r => xhat (z r) (i 1) * dy r (i 1)) (k + 1) (row t) fun r => by
      show 256 * t.val + r.val = 256 * (k + 1) + r.val; omega
theorem final6 : (dats m 0 c).arrAt 6 cfg0.N = fun i => ((∑ r, xhat (z r) (i 1) * dy r (i 1) : ℝ) : EReal) :=
  (dats m 0 c).arrAt_eq_of_cover 6 _ (fun t ht => by
    have h := (flush0_6 t).mp ht
    have l := lt16 t
    rw [flushed6]
    funext j
    show gainAt m c t j = (fun i : S1x2048.Idx => ((∑ r, xhat (z r) (i 1) * dy r (i 1) : ℝ) : EReal)) (((cfg0.win 6).blk t).view.emb j)
    rw [emb6, gain_after H 15 t (by omega)]
    exact congrArg (fun r : ℝ => ((r : ℝ) : EReal)) (part_all 256 _ 16 rfl)) covered6
theorem shift_after : ∀ (k : ℕ) (t : Fin cfg0.N) (ht : t.val = k) (i : S1x2048.Idx),
    shiftAt m c t i = ((part 256 (fun r => dy r (i 1)) (k + 1) : ℝ) : EReal)
  | 0, t, ht, i => by
    rw [shift_first m c t ht, blk0 H t]
    refine (shift_first_real _ i).trans (congrArg _ ?_)
    exact part_one 256 (fun r => dy r (i 1)) (row t) fun r => by show 256 * t.val + r.val = r.val; omega
  | k + 1, t, ht, i => by
    have ih := shift_after k (prev t) (show t.val - 1 = k by omega) i
    rw [shift_next m c t (by omega), blk0 H t]
    refine (shift_real _ _ i).trans ?_
    rw [ih, ← EReal.coe_add]
    refine congrArg _ ?_
    exact part_succ 256 (fun r => dy r (i 1)) (k + 1) (row t) fun r => by
      show 256 * t.val + r.val = 256 * (k + 1) + r.val; omega
theorem final7 : (dats m 0 c).arrAt 7 cfg0.N = fun i => ((∑ r, dy r (i 1) : ℝ) : EReal) :=
  (dats m 0 c).arrAt_eq_of_cover 7 _ (fun t ht => by
    have h := (flush0_7 t).mp ht
    have l := lt16 t
    rw [flushed7]
    funext j
    show shiftAt m c t j = (fun i : S1x2048.Idx => ((∑ r, dy r (i 1) : ℝ) : EReal)) (((cfg0.win 7).blk t).view.emb j)
    rw [emb7, shift_after H 15 t (by omega)]
    exact congrArg (fun r : ℝ => ((r : ℝ) : EReal)) (part_all 256 _ 16 rfl)) covered7
end

/-! ## Both runs -/

theorem real_args (x0 : FVec Ideal Cert.Pre_finite23.S4096x2048 .f32) (x1 x2 : FVec Ideal Cert.Pre_finite23.S1x2048 .f32)
    (x3 : FVec Ideal Cert.Pre_finite23.S4096x2048 .f32)
    (h : letI := Cert.Pre_finite23.Gen.facts; Cert.Pre_finite23.fn (F := Ideal) x0 x1 x2 x3 = fun _ => 1#1) :
    (∀ i, ∃ r : ℝ, x0 i = r) ∧ (∀ i, ∃ r : ℝ, x1 i = r) ∧ (∀ i, ∃ r : ℝ, x3 i = r) := by
  have e := congrFun h (fun a => a.elim0)
  dsimp only [Cert.Pre_finite23.fn, andi] at e
  simp only [IntOp.andi_eq_one] at e
  obtain ⟨⟨e0, e1⟩, e3⟩ := e
  exact ⟨fun i => real_at x0 _ i (Host.reduce_andi_all _ _ _ _ _ e0 i), fun i => real_at x1 _ i (Host.reduce_andi_all _ _ _ _ _ e1 i),
    fun i => real_at x3 _ i (Host.reduce_andi_all _ _ _ _ _ e3 i)⟩

theorem exists_args (h : letI := Cert.Pre_finite23.Gen.facts; Cert.Pre_Kernel23Ideal_finite23 m) : ∃ z g dy, Args m c z g dy := by
  obtain ⟨h0, h1, h3⟩ := real_args _ _ _ _ (h c)
  obtain ⟨z, hz⟩ := exists_lift2 _ h0
  obtain ⟨g, hg⟩ := exists_liftRow _ h1
  obtain ⟨dy, hdy⟩ := exists_lift2 _ h3
  exact ⟨z, g, dy, hz, hg, hdy⟩

section
variable {m c} {x0 : FVec Ideal Cert.Reference23Ideal.S4096x2048 .f32} {x1 : FVec Ideal Cert.Reference23Ideal.S1x2048 .f32}
  {x3 : FVec Ideal Cert.Reference23Ideal.S4096x2048 .f32} {z : Fin 4096 → Fin 2048 → ℝ} {g : Fin 2048 → ℝ} {dy : Fin 4096 → Fin 2048 → ℝ} (H : Args m c z g dy)
  (l0 : x0 = m ((c : Thread nD τ).loc main_arg0)) (l1 : x1 = m ((c : Thread nD τ).loc main_arg1))
  (l3 : x3 = m ((c : Thread nD τ).loc main_arg3))
include H l0 l1 l3

theorem agree4 : Cert.Reference23Ideal.Read.val_main_v64 (F := Ideal) x0 x1 x3 = (dats m 0 c).arrAt 4 cfg0.N := by
  rw [l0, l1, l3, H.a0, H.a1, H.a3, final4 H]
  exact funext (Ref.v64 z g dy)
theorem agree5 : Cert.Reference23Ideal.Read.val_main_v67 (F := Ideal) x0 x1 x3 = (dats m 0 c).arrAt 5 cfg0.N := by
  rw [l0, l1, l3, H.a0, H.a1, H.a3, final5 H]
  exact funext (Ref.v67 z g dy)
theorem agree6 : Cert.Reference23Ideal.Read.val_main_v66 (F := Ideal) x0 x3 = (dats m 0 c).arrAt 6 cfg0.N := by
  rw [l0, l3, H.a0, H.a3, final6 H]
  exact funext (Ref.v66 z dy)
theorem agree7 : Cert.Reference23Ideal.Read.val_main_v65 (F := Ideal) x3 = (dats m 0 c).arrAt 7 cfg0.N := by
  rw [l3, H.a3, final7 H]
  exact funext (Ref.v65 dy)
end

theorem algebraic : letI := Cert.Kernel23Ideal.Gen.facts; letI := Cert.Reference23Ideal.Gen.facts; letI := Cert.Pre_finite23.Gen.facts
    Cert.algebraic_Kernel23Ideal_Reference23Ideal_pre_finite23 := by
  intro m ρ m' ρ' hpre hargs
  refine ⟨fun c => (dats m 0 c).arrAt 4 cfg0.N, fun c => (dats m 0 c).arrAt 5 cfg0.N, fun c => (dats m 0 c).arrAt 6 cfg0.N, fun c => (dats m 0 c).arrAt 7 cfg0.N, run_blocks m ρ, ?_⟩
  refine (θ_run _ _ _).mono (fun r h c => ?_) (Cert.Reference23Ideal.Value.run m' ρ')
  obtain ⟨e0, e1, _, e3⟩ := hargs c
  obtain ⟨z, g, dy, H⟩ := exists_args m c hpre
  obtain ⟨r0, r1, r2, r3, rest⟩ := h c
  exact ⟨r0.trans ((Cert.Reference23Ideal.Read.val_main_v64_eq m' c).trans (agree4 H e0 e1 e3)),
    r1.trans ((Cert.Reference23Ideal.Read.val_main_v67_eq m' c).trans (agree5 H e0 e1 e3)),
    r2.trans ((Cert.Reference23Ideal.Read.val_main_v66_eq _ _).trans (agree6 H e0 e1 e3)),
    r3.trans ((Cert.Reference23Ideal.Read.val_main_v65_eq _).trans (agree7 H e0 e1 e3)), rest⟩

end Cert.Proof.LastLn

end
-- ==== Proof.LastLossRef.lean ====
module

public import proofs.«01_k».proof.Proof.Gen.Reference22Ideal.Read
public import proofs.«01_k».proof.Proof.Product

/-! The loss `0.5 * sum(mean((layer_norm(z, g, b) - target)²))` and its gradient through the last layer norm: the mathematics row by row
    over the real numbers, and the reference's results on finite arrays. -/

@[expose] public section

set_option maxRecDepth 16384
noncomputable section

namespace Cert.Proof.LastLoss

open Cert.Reference22Ideal Cert.Reference22Ideal.Gen Cert.Reference22Ideal.Read Idealize.ShloMosaic

theorem half_bits : Ideal.ofBits .f32 0x3F000000#32 = ((1 / 2 : ℝ) : EReal) := by
  simp [Ideal.ofBits, Ideal.ieee, -EReal.coe_mul]; norm_num
theorem inv_width_bits : Ideal.ofBits .f32 0x3A000000#32 = ((1 / 2048 : ℝ) : EReal) := by
  simp [Ideal.ofBits, Ideal.ieee, -EReal.coe_mul]; norm_num

variable (z : Fin 4096 → Fin 2048 → ℝ) (g b : Fin 2048 → ℝ) (tg : Fin 4096 → Fin 2048 → ℝ)

/-- The error of an entry. -/
def Err (r : Fin 4096) (j : Fin 2048) : ℝ := xhat (z r) j * g j + b j - tg r j
/-- The gradient of the loss at the normalised rows. -/
def Dr (r : Fin 4096) (j : Fin 2048) : ℝ := Err z g b tg r j * (1 / 2048)
/-- A row's share of the loss, before the factor one half. -/
def rowLoss (r : Fin 4096) : ℝ := (∑ j, Err z g b tg r j * Err z g b tg r j) * (1 / 2048)

namespace Ref

/-! ## The layer normalisation -/

theorem v5 (i : S4096x1.Idx) : val_main_v5 (F := Ideal) (lift2 z) i = ((mean (z (i 0)) : ℝ) : EReal) := by
  rw [val_main_v5_apply, val_main_v3_apply, val_main_v2_apply, val_main_v4_apply, val_main_cst_0_apply, val_main_cst_apply]
  simp only [lift2_apply, Ideal.hostDivf_def, Ideal.ofBits_def, width_bits, Ideal.ofBits_zero_f32, coe_sum, zero_add,
    coe_div width_ne]
  rfl

theorem v7 (i : S4096x2048.Idx) : val_main_v7 (F := Ideal) (lift2 z) i = ((z (i 0) (i 1) - mean (z (i 0)) : ℝ) : EReal) := by
  rw [val_main_v7_apply, val_main_v6_apply, v5, lift2_apply, Ideal.subf_def, ← EReal.coe_sub]; rfl

theorem v16 (i : S4096x2048.Idx) : val_main_v16 (F := Ideal) (lift2 z) i = ((z (i 0) (i 1) - mean (z (i 0)) : ℝ) : EReal) := by
  rw [val_main_v16_apply, val_main_v15_apply, v5, lift2_apply, Ideal.subf_def, ← EReal.coe_sub]; rfl

theorem v10 (i : S4096x2048.Idx) :
    val_main_v10 (F := Ideal) (lift2 z) i = ((2 * (z (i 0) (i 1) - mean (z (i 0))) : ℝ) : EReal) := by
  rw [val_main_v10_apply, val_main_v9_apply, v7, val_main_cst_1_apply, Ideal.mulf_def, Ideal.ofBits_def, two_bits, ← EReal.coe_mul]

theorem v18 (i : S4096x1.Idx) : val_main_v18 (F := Ideal) (lift2 z) i = ((var (z (i 0)) + eps : ℝ) : EReal) := by
  rw [val_main_v18_apply, val_main_v14_apply, val_main_v12_apply, val_main_v11_apply, val_main_v13_apply, val_main_v17_apply,
    val_main_cst_2_apply, val_main_cst_3_apply, val_main_cst_4_apply]
  simp only [val_main_v8_apply, v7, Ideal.hostDivf_def, Ideal.ofBits_def, Ideal.mulf_def, Ideal.addf_def, width_bits, eps_bits,
    Ideal.ofBits_zero_f32, ← EReal.coe_mul, coe_sum, zero_add, coe_div width_ne, ← EReal.coe_add]
  rfl

theorem v19 (i : S4096x1.Idx) : val_main_v19 (F := Ideal) (lift2 z) i = ((rstd (z (i 0)) : ℝ) : EReal) := by
  rw [val_main_v19_apply, v18, Ideal.hostUnary_rsqrt_def, coe_rsqrt (var_eps_pos _), rstd]

theorem v22 (i : S4096x1.Idx) :
    val_main_v22 (F := Ideal) (lift2 z) i = ((-(1 / 2) * (rstd (z (i 0)) / (var (z (i 0)) + eps)) : ℝ) : EReal) := by
  rw [val_main_v22_apply, val_main_v21_apply, val_main_v20_apply, v19, v18, val_main_cst_5_apply, Ideal.mulf_def, Ideal.ofBits_def,
    Ideal.hostDivf_def, neg_half_bits, coe_div (var_eps_pos _).ne', ← EReal.coe_mul]

theorem v24 (i : S4096x2048.Idx) : val_main_v24 (F := Ideal) (lift2 z) i = ((xhat (z (i 0)) (i 1) : ℝ) : EReal) := by
  rw [val_main_v24_apply, val_main_v23_apply, v19, v16, Ideal.mulf_def, ← EReal.coe_mul]; rfl

theorem v30 (i : S4096x2048.Idx) : val_main_v30 (F := Ideal) (lift2 z) (liftRow g) (liftRow b) i
    = ((xhat (z (i 0)) (i 1) * g (i 1) + b (i 1) : ℝ) : EReal) := by
  rw [val_main_v30_apply, val_main_v27_apply, v24, val_main_v26_apply, val_main_v25_apply, val_main_v0_apply, val_main_v29_apply,
    val_main_v28_apply, val_main_v1_apply, liftRow_apply, liftRow_apply, Ideal.addf_def, Ideal.mulf_def, ← EReal.coe_mul,
    ← EReal.coe_add]
  have h : ∀ j : Fin 2048, (⟨j.val % 2048, Nat.mod_lt _ (by norm_num)⟩ : Fin 2048) = j := fun j => Fin.ext (Nat.mod_eq_of_lt j.isLt)
  exact congrArg (fun j => ((xhat (z (i 0)) (i 1) * g j + b j : ℝ) : EReal)) (h (i 1))

theorem v31 (i : S4096x2048.Idx) : val_main_v31 (F := Ideal) (lift2 z) (liftRow g) (liftRow b) (lift2 tg) i
    = ((Err z g b tg (i 0) (i 1) : ℝ) : EReal) := by
  rw [val_main_v31_apply, v30, lift2_apply, Ideal.subf_def, ← EReal.coe_sub]; rfl

theorem v45 (i : S4096x2048.Idx) : val_main_v45 (F := Ideal) (lift2 z) (liftRow g) (liftRow b) (lift2 tg) i
    = ((Dr z g b tg (i 0) (i 1) : ℝ) : EReal) := by
  rw [val_main_v45_apply, val_main_v44_apply, val_main_v43_apply, val_main_v41_apply, val_main_v40_apply, val_main_cst_11_apply,
    val_main_cst_12_apply, val_main_v42_apply, val_main_cst_13_apply, val_main_v34_apply, val_main_v33_apply, val_main_cst_6_apply, v31]
  simp only [Ideal.mulf_def, Ideal.hostDivf_def, Ideal.ofBits_def, half_bits, one_bits, two_bits, width_bits, ← EReal.coe_mul, coe_div width_ne]
  refine congrArg _ ?_
  unfold Dr
  ring

theorem v37 (i : S4096.Idx) : val_main_v37 (F := Ideal) (lift2 z) (liftRow g) (liftRow b) (lift2 tg) i
    = ((rowLoss z g b tg (i 0) : ℝ) : EReal) := by
  rw [val_main_v37_apply, val_main_v35_apply, val_main_cst_7_apply, val_main_v36_apply, val_main_cst_8_apply]
  simp only [val_main_v32_apply, v31, Ideal.mulf_def, Ideal.hostDivf_def, Ideal.ofBits_def, Ideal.ofBits_zero_f32, width_bits, ← EReal.coe_mul,
    coe_sum, zero_add, coe_div width_ne]
  exact congrArg _ (div_eq_mul_one_div _ _)

theorem v39 (i : S_.Idx) : val_main_v39 (F := Ideal) (lift2 z) (liftRow g) (liftRow b) (lift2 tg) i
    = ((1 / 2 * ∑ r, rowLoss z g b tg r : ℝ) : EReal) := by
  rw [val_main_v39_apply, val_main_cst_10_apply, val_main_v38_apply, val_main_cst_9_apply]
  simp only [v37, Ideal.mulf_def, Ideal.ofBits_def, half_bits, Ideal.ofBits_zero_f32, coe_sum, zero_add, ← EReal.coe_mul]
  rfl

theorem v82 (i : S1x1.Idx) : val_main_v82 (F := Ideal) (lift2 z) (liftRow g) (liftRow b) (lift2 tg) i
    = ((1 / 2 * ∑ r, rowLoss z g b tg r : ℝ) : EReal) := by
  unfold val_main_v82 shapeCast
  exact v39 z g b tg _

/-! ## The results -/

theorem v79 (i : S1x2048.Idx) : val_main_v79 (F := Ideal) (lift2 z) (liftRow g) (liftRow b) (lift2 tg) i
    = ((∑ r, Dr z g b tg r (i 1) : ℝ) : EReal) := by
  have b0 : (i 0).val < 1 := (i 0).isLt
  have b1 : (i 1).val < 2048 := (i 1).isLt
  rw [val_main_v79_apply, val_main_v48_apply, val_main_cst_15_apply, Fin.sum_univ_one, val_main_v47_apply,
    val_main_v46_apply, val_main_cst_14_apply]
  simp only [v45, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v47 (idx_main_v48 (idx_main_v79 i) 0) 0 = i 1 :=
    Fin.ext (by simp only [idx_main_v47, idx_main_v48, idx_main_v79, Fin.val_zero]; omega)
  rw [← h0]; rfl

theorem v80 (i : S1x2048.Idx) : val_main_v80 (F := Ideal) (lift2 z) (liftRow g) (liftRow b) (lift2 tg) i
    = ((∑ r, xhat (z r) (i 1) * Dr z g b tg r (i 1) : ℝ) : EReal) := by
  have b0 : (i 0).val < 1 := (i 0).isLt
  have b1 : (i 1).val < 2048 := (i 1).isLt
  rw [val_main_v80_apply, val_main_v54_apply, val_main_cst_17_apply, Fin.sum_univ_one, val_main_v51_apply,
    val_main_v50_apply, val_main_cst_16_apply]
  simp only [val_main_v49_apply, v24, v45, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h0 : idx_main_v51 (idx_main_v54 (idx_main_v80 i) 0) 0 = i 1 :=
    Fin.ext (by simp only [idx_main_v51, idx_main_v54, idx_main_v80, Fin.val_zero]; omega)
  rw [← h0]; rfl

theorem v53 (i : S4096x2048.Idx) : val_main_v53 (F := Ideal) (lift2 z) (liftRow g) (liftRow b) (lift2 tg) i
    = ((Dr z g b tg (i 0) (i 1) * g (i 1) : ℝ) : EReal) := by
  have b0 : (i 0).val < 4096 := (i 0).isLt
  have b1 : (i 1).val < 2048 := (i 1).isLt
  rw [val_main_v53_apply, val_main_v52_apply, val_main_v25_apply, val_main_v0_apply, v45, liftRow_apply, Ideal.mulf_def,
    ← EReal.coe_mul]
  have h : idx_main_v0 (idx_main_v25 (idx_main_v52 i)) 1 = i 1 := Fin.ext (Nat.mod_eq_of_lt b1)
  rw [h]

theorem v59 (i : S4096x2048.Idx) : val_main_v59 (F := Ideal) (lift2 z) (liftRow g) (liftRow b) (lift2 tg) i
    = ((Dr z g b tg (i 0) (i 1) * g (i 1) * rstd (z (i 0)) : ℝ) : EReal) := by
  rw [val_main_v59_apply, val_main_v58_apply, v53, v19, Ideal.mulf_def, ← EReal.coe_mul]; rfl

theorem v68 (i : S4096x2048.Idx) : val_main_v68 (F := Ideal) (lift2 z) (liftRow g) (liftRow b) (lift2 tg) i
    = (((∑ k, (z (i 0) k - mean (z (i 0))) * (Dr z g b tg (i 0) k * g k)) * (-(1 / 2) * (rstd (z (i 0)) / (var (z (i 0)) + eps))) / 2048
      * (2 * (z (i 0) (i 1) - mean (z (i 0)))) : ℝ) : EReal) := by
  have b0 : (i 0).val < 4096 := (i 0).isLt
  have b1 : (i 1).val < 2048 := (i 1).isLt
  have h0 : idx_main_v57 (idx_main_v66 (idx_main_v67 i) 0) 0 = i 0 :=
    Fin.ext (by simp only [idx_main_v57, idx_main_v66, idx_main_v67, Fin.val_zero]; omega)
  rw [val_main_v68_apply, v10, val_main_v67_apply, val_main_v66_apply, val_main_cst_21_apply, Fin.sum_univ_one,
    val_main_v65_apply, val_main_v64_apply, val_main_cst_20_apply, val_main_v60_apply, v22, val_main_v57_apply,
    val_main_v56_apply, val_main_cst_18_apply]
  simp only [val_main_v55_apply, v16, v53, width_bits, coe_div width_ne, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have h2 : idx_main_v66 (idx_main_v67 i) 0 0 = i 0 :=
    Fin.ext (by simp only [idx_main_v66, idx_main_v67, Fin.val_zero])
  have e0 : ∀ j k, idx_main_v56 j k 0 = j 0 := fun _ _ => rfl
  have e1 : ∀ j k, idx_main_v56 j k 1 = k := fun _ _ => rfl
  simp only [e0, e1, h0, h2]

theorem v78 (i : S4096x2048.Idx) : val_main_v78 (F := Ideal) (lift2 z) (liftRow g) (liftRow b) (lift2 tg) i
    = ((normBack (rstd (z (i 0))) (xhat (z (i 0))) (fun k => Dr z g b tg (i 0) k * g k) (i 1) : ℝ) : EReal) := by
  have b0 : (i 0).val < 4096 := (i 0).isLt
  have b1 : (i 1).val < 2048 := (i 1).isLt
  have h0 : idx_main_v63 (idx_main_v76 (idx_main_v77 i) 0) 0 = i 0 :=
    Fin.ext (by simp only [idx_main_v63, idx_main_v76, idx_main_v77, Fin.val_zero]; omega)
  have h1 : idx_main_v71 (idx_main_v76 (idx_main_v77 i) 0) 0 = i 0 := h0
  rw [val_main_v78_apply, val_main_v72_apply, v59, v68, val_main_v77_apply, val_main_v76_apply, val_main_cst_24_apply,
    Fin.sum_univ_one, val_main_v75_apply, val_main_v74_apply, val_main_cst_23_apply, val_main_v73_apply, val_main_v63_apply,
    val_main_v62_apply, val_main_v71_apply, val_main_v70_apply, val_main_cst_19_apply, val_main_cst_22_apply]
  simp only [val_main_v61_apply, val_main_v69_apply, v59, v68, width_bits, coe_div width_ne, Ideal.addf_def, Ideal.subf_def, Ideal.mulf_def, Ideal.hostDivf_def, Ideal.hostNegf_def, Ideal.negf_def, Ideal.ofBits_def, Ideal.ofBits_zero_f32, ← EReal.coe_mul, ← EReal.coe_add, ← EReal.coe_sub, ← EReal.coe_neg, coe_sum, zero_add, add_zero]
  have e0 : ∀ j k, idx_main_v62 j k 0 = j 0 := fun _ _ => rfl
  have e1 : ∀ j k, idx_main_v62 j k 1 = k := fun _ _ => rfl
  have f0 : ∀ j k, idx_main_v70 j k 0 = j 0 := fun _ _ => rfl
  have f1 : ∀ j k, idx_main_v70 j k 1 = k := fun _ _ => rfl
  simp only [e0, e1, f0, f1, h0, h1]
  have h := normBack_chain (n := 2048) (by norm_num) (z (i 0)) (fun k => Dr z g b tg (i 0) k * g k) (i 1)
  rw [Nat.cast_ofNat] at h
  exact congrArg _ h

theorem v81 (i : S4096x2048.Idx) : val_main_v81 (F := Ideal) (lift2 z) (liftRow g) (liftRow b) (lift2 tg) i
    = ((normBack (rstd (z (i 0))) (xhat (z (i 0))) (fun k => Dr z g b tg (i 0) k * g k) (i 1) : ℝ) : EReal) := by
  rw [val_main_v81_apply, Ideal.truncf_def, v78]

end Ref

end Cert.Proof.LastLoss

end
-- ==== Proof.LastLoss.lean ====
module

public import proofs.«01_k».proof.Proof.LastLossRef
public import proofs.«01_k».proof.Proof.Algebraic
public import proofs.«01_k».proof.Proof.Gen.Kernel22Ideal.Value
public import proofs.«01_k».proof.Proof.Gen.Reference22Ideal.Run
public import proofs.«01_k».proof.Proof.Gen.Pre_finite22
public import proofs.«01_k».proof.Defs

/-! The loss and its gradient through the layer norm of the last layer: every point takes the error of its 256 rows, adds their share of
    the loss and writes the gradient of its rows, and adds the block's share to the gradients of scale and shift. -/

@[expose] public section

set_option maxRecDepth 16384
noncomputable section

namespace Cert.Proof.LastLoss

open Idealize.ShloMosaic Idealize.ShloMosaic.TcCoe Idealize.SL.Sem Cert.Kernel22Ideal Cert.Kernel22Ideal.Gen Cert.Kernel22Ideal.Value

variable (m : (ℓ : Loc nD τ sig) → Buf (Elt Ideal) ℓ) (c : Dev nD) (t : Fin cfg0.N)

/-! ## The arrays the call reads -/

theorem V_v13 : V m c main_v13 = Ker.hRstd (F := Ideal) (m ((c : Thread nD τ).loc main_arg0)) := by
  show StableHlo.after hostOps0 _ (Proc.devRef .tc main_v13) = _
  after_results
  rfl
theorem V_v17 : V m c main_v17 = Ker.hXhat (F := Ideal) (m ((c : Thread nD τ).loc main_arg0)) := by
  show StableHlo.after hostOps0 _ (Proc.devRef .tc main_v17) = _
  after_results
  rfl
/-- The rows of the layer norm, as the host operations before the call compute them. -/
def hNorm (x : FVec Ideal S4096x2048 .f32) (g b : FVec Ideal S1x2048 .f32) : FVec Ideal S4096x2048 .f32 :=
  addf (mulf (Ker.hXhat x) (broadcastInDim S4096x2048 ![0, 1] bcast_S1x2048_S4096x2048_0_1 g))
    (broadcastInDim S4096x2048 ![0, 1] bcast_S1x2048_S4096x2048_0_1 b)
theorem V_v21 : V m c main_v21 = hNorm (m ((c : Thread nD τ).loc main_arg0)) (m ((c : Thread nD τ).loc main_arg1))
    (m ((c : Thread nD τ).loc main_arg2)) := by
  show StableHlo.after hostOps0 _ (Proc.devRef .tc main_v21) = _
  after_results
  rfl
theorem hNorm_real (z : Fin 4096 → Fin 2048 → ℝ) (g b : Fin 2048 → ℝ) (i : S4096x2048.Idx) :
    hNorm (lift2 z) (liftRow g) (liftRow b) i = ((xhat (z (i 0)) (i 1) * g (i 1) + b (i 1) : ℝ) : EReal) := by
  pointwise [hNorm]
  simp only [Ker.hXhat_real, liftRow_apply, ← EReal.coe_mul, ← EReal.coe_add]
  rfl

/-! ## The blocks -/

theorem lt16 : t.val < 16 := lt_of_lt_of_eq t.isLt N_0
def row (r : Fin 256) : Fin 4096 := ⟨256 * t.val + r.val, by have := lt16 t; omega⟩
/-- The point before. -/
def prev : Fin cfg0.N := ⟨t.val - 1, Nat.lt_of_le_of_lt (Nat.sub_le _ _) t.isLt⟩

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)
theorem emb0 (j : S256x2048.Idx) : ((cfg0.win 0).blk t).view.emb j = ix2 (row t (j 0)) (j 1) := by
  obtain ⟨⟨e0, e1⟩, -⟩ := idx t
  funext a; apply Fin.ext
  match a with
  | ⟨0, _⟩ => show win0_0.index t (0 : Fin 2) * 256 + 1 * (j 0).val = 256 * t.val + (j 0).val; omega
  | ⟨1, _⟩ => show win0_0.index t (1 : Fin 2) * 2048 + 1 * (j 1).val = (j 1).val; omega
theorem emb1 (j : S256x2048.Idx) : ((cfg0.win 1).blk t).view.emb j = ix2 (row t (j 0)) (j 1) := by
  obtain ⟨-, ⟨e0, e1⟩, -⟩ := idx t
  funext a; apply Fin.ext
  match a with
  | ⟨0, _⟩ => show win0_1.index t (0 : Fin 2) * 256 + 1 * (j 0).val = 256 * t.val + (j 0).val; omega
  | ⟨1, _⟩ => show win0_1.index t (1 : Fin 2) * 2048 + 1 * (j 1).val = (j 1).val; omega
theorem emb2 (j : S256x1.Idx) : ((cfg0.win 2).blk t).view.emb j = ix2 (row t (j 0)) (j 1) := by
  obtain ⟨-, -, ⟨e0, e1⟩, -⟩ := idx t
  funext a; apply Fin.ext
  match a with
  | ⟨0, _⟩ => show win0_2.index t (0 : Fin 2) * 256 + 1 * (j 0).val = 256 * t.val + (j 0).val; omega
  | ⟨1, _⟩ => show win0_2.index t (1 : Fin 2) * 1 + 1 * (j 1).val = (j 1).val; omega
theorem emb3 (j : S1x2048.Idx) : ((cfg0.win 3).blk t).view.emb j = j := by
  obtain ⟨-, -, -, ⟨e0, e1⟩, -⟩ := idx t
  funext a; apply Fin.ext
  match a with
  | ⟨0, _⟩ => show win0_3.index t (0 : Fin 2) * 1 + 1 * (j 0).val = (j 0).val; omega
  | ⟨1, _⟩ => show win0_3.index t (1 : Fin 2) * 2048 + 1 * (j 1).val = (j 1).val; omega
theorem emb4 (j : S256x2048.Idx) : ((cfg0.win 4).blk t).view.emb j = ix2 (row t (j 0)) (j 1) := by
  obtain ⟨-, -, -, -, ⟨e0, e1⟩, -⟩ := idx t
  funext a; apply Fin.ext
  match a with
  | ⟨0, _⟩ => show win0_4.index t (0 : Fin 2) * 256 + 1 * (j 0).val = 256 * t.val + (j 0).val; omega
  | ⟨1, _⟩ => show win0_4.index t (1 : Fin 2) * 2048 + 1 * (j 1).val = (j 1).val; omega
theorem emb5 (j : S256x2048.Idx) : ((cfg0.win 5).blk t).view.emb j = ix2 (row t (j 0)) (j 1) := by
  obtain ⟨-, -, -, -, -, ⟨e0, e1⟩, -⟩ := idx t
  funext a; apply Fin.ext
  match a with
  | ⟨0, _⟩ => show win0_5.index t (0 : Fin 2) * 256 + 1 * (j 0).val = 256 * t.val + (j 0).val; omega
  | ⟨1, _⟩ => show win0_5.index t (1 : Fin 2) * 2048 + 1 * (j 1).val = (j 1).val; omega
theorem emb6 (j : S256x2048.Idx) : ((cfg0.win 6).blk t).view.emb j = ix2 (row t (j 0)) (j 1) := by
  obtain ⟨-, -, -, -, -, -, ⟨e0, e1⟩, -⟩ := idx t
  funext a; apply Fin.ext
  match a with
  | ⟨0, _⟩ => show win0_6.index t (0 : Fin 2) * 256 + 1 * (j 0).val = 256 * t.val + (j 0).val; omega
  | ⟨1, _⟩ => show win0_6.index t (1 : Fin 2) * 2048 + 1 * (j 1).val = (j 1).val; omega
theorem emb7 (j : S1x2048.Idx) : ((cfg0.win 7).blk t).view.emb j = j := by
  obtain ⟨-, -, -, -, -, -, -, ⟨e0, e1⟩, -⟩ := idx t
  funext a; apply Fin.ext
  match a with
  | ⟨0, _⟩ => show win0_7.index t (0 : Fin 2) * 1 + 1 * (j 0).val = (j 0).val; omega
  | ⟨1, _⟩ => show win0_7.index t (1 : Fin 2) * 2048 + 1 * (j 1).val = (j 1).val; omega
theorem emb8 (j : S1x2048.Idx) : ((cfg0.win 8).blk t).view.emb j = j := by
  obtain ⟨-, -, -, -, -, -, -, -, ⟨e0, e1⟩, -⟩ := idx t
  funext a; apply Fin.ext
  match a with
  | ⟨0, _⟩ => show win0_8.index t (0 : Fin 2) * 1 + 1 * (j 0).val = (j 0).val; omega
  | ⟨1, _⟩ => show win0_8.index t (1 : Fin 2) * 2048 + 1 * (j 1).val = (j 1).val; omega
theorem emb9 (j : S1x1.Idx) : ((cfg0.win 9).blk t).view.emb j = j := by
  obtain ⟨-, -, -, -, -, -, -, -, -, e0, e1⟩ := idx t
  funext a; apply Fin.ext
  match a with
  | ⟨0, _⟩ => show win0_9.index t (0 : Fin 2) * 1 + 1 * (j 0).val = (j 0).val; omega
  | ⟨1, _⟩ => show win0_9.index t (1 : Fin 2) * 1 + 1 * (j 1).val = (j 1).val; omega

theorem point (i : S4096x2048.Idx) : ∃ (t : Fin cfg0.N) (j : S256x2048.Idx), i = ix2 (row t (j 0)) (j 1) := by
  have b0 : (i 0).val < 4096 := (i 0).isLt
  refine ⟨⟨(i 0).val / 256, lt_of_lt_of_eq (by omega) N_0.symm⟩, ix2 ⟨(i 0).val % 256, Nat.mod_lt _ (by decide)⟩ (i 1), ?_⟩
  funext a; apply Fin.ext
  match a with
  | ⟨0, _⟩ => show (i 0).val = 256 * ((i 0).val / 256) + (i 0).val % 256; omega
  | ⟨1, _⟩ => rfl
theorem covered5 (i : S4096x2048.Idx) : ∃ t : Fin cfg0.N, (cfg0.win 5).flush t = true ∧ i ∈ ((cfg0.win 5).blk t).view.set := by
  obtain ⟨t, j, e⟩ := point i
  exact ⟨t, flush0_5 t, by rw [e, ← emb5]; exact ((cfg0.win 5).blk t).view.emb_mem_set j⟩
theorem covered6 (i : S4096x2048.Idx) : ∃ t : Fin cfg0.N, (cfg0.win 6).flush t = true ∧ i ∈ ((cfg0.win 6).blk t).view.set := by
  obtain ⟨t, j, e⟩ := point i
  exact ⟨t, flush0_6 t, by rw [e, ← emb6]; exact ((cfg0.win 6).blk t).view.emb_mem_set j⟩
def lastPoint : Fin cfg0.N := ⟨15, lt_of_lt_of_eq (by omega : 15 < 16) N_0.symm⟩
theorem covered7 (i : S1x2048.Idx) : ∃ t : Fin cfg0.N, (cfg0.win 7).flush t = true ∧ i ∈ ((cfg0.win 7).blk t).view.set :=
  ⟨lastPoint, (flush0_7 _).mpr rfl, by have h := ((cfg0.win 7).blk lastPoint).view.emb_mem_set i; rwa [emb7] at h⟩
theorem covered8 (i : S1x2048.Idx) : ∃ t : Fin cfg0.N, (cfg0.win 8).flush t = true ∧ i ∈ ((cfg0.win 8).blk t).view.set :=
  ⟨lastPoint, (flush0_8 _).mpr rfl, by have h := ((cfg0.win 8).blk lastPoint).view.emb_mem_set i; rwa [emb8] at h⟩
theorem covered9 (i : S1x1.Idx) : ∃ t : Fin cfg0.N, (cfg0.win 9).flush t = true ∧ i ∈ ((cfg0.win 9).blk t).view.set :=
  ⟨lastPoint, (flush0_9 _).mpr rfl, by have h := ((cfg0.win 9).blk lastPoint).view.emb_mem_set i; rwa [emb9] at h⟩

/-! ## What a point writes -/

section
variable {F : FTy → Type} [FloatOps F] (i : grid0.Coords) (arg1 : Memref sig .tc .vmem S256x2048 .f32) (harg1 : arg1.IsWhole) (arg2 : Memref sig .tc .vmem S256x2048 .f32) (harg2 : arg2.IsWhole) (arg3 : Memref sig .tc .vmem S256x1 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x1 .f32) (harg10 : arg10.IsWhole)
  (x0 : Vec F S256x2048 .f32) (x1 : Vec F S256x2048 .f32) (x2 : Vec F S256x1 .f32) (x3 : Vec F S1x2048 .f32) (x4 : Vec F S256x2048 .f32) (xo7 : Vec F S1x2048 .f32) (xo8 : Vec F S1x2048 .f32) (xo9 : Vec F S1x1 .f32)
theorem out_A5 (h0 h1 h2 h3 h4 h5) : out0_A_5 c i arg1 harg1 arg2 harg2 arg3 harg3 arg4 harg4 arg5 harg5 arg6 harg6 arg7 harg7 arg8 harg8 arg9 harg9 arg10 harg10 h0 h1 h2 h3 h4 h5 x0 x1 x2 x3 x4 = k0_pay2 (k0_pay10 x1) (k0_pay16 x2) (k0_pay17 x0 x4 x3) (k0_pay18 x0 x4 x3) (k0_pay19 x0 x1 x4 x3) := by
  unfold out0_A_5
  rw [View.read_writes_junk_eq_canon]
  unfold kernelRun0_A
  dsimp only
  refine (View.canon_unit_zero zero_offsets _ _).trans ?_
  unfold kernelRun0_A.sl.r kernelRun0_A.sl.r_2 kernelRun0_A.sl.r_3 kernelRun0_A.sl.r_4 kernelRun0_A.sl.r_5
  simp only [load_eq, ld_whole]
theorem out_A6 (h0 h1 h2 h3 h4 h5) : out0_A_6 c i arg1 harg1 arg2 harg2 arg3 harg3 arg4 harg4 arg5 harg5 arg6 harg6 arg7 harg7 arg8 harg8 arg9 harg9 arg10 harg10 h0 h1 h2 h3 h4 h5 x0 x1 x2 x3 x4 = k0_pay3 (k0_pay10 x1) (k0_pay16 x2) (k0_pay17 x0 x4 x3) (k0_pay18 x0 x4 x3) (k0_pay19 x0 x1 x4 x3) := by
  unfold out0_A_6
  rw [View.read_writes_junk_eq_canon]
  unfold kernelRun0_A
  dsimp only
  refine (View.canon_unit_zero zero_offsets _ _).trans ?_
  unfold kernelRun0_A.sl.r kernelRun0_A.sl.r_2 kernelRun0_A.sl.r_3 kernelRun0_A.sl.r_4 kernelRun0_A.sl.r_5
  simp only [load_eq, ld_whole]
theorem out_A7 (h0 h1 h2 h3 h4 h5) : out0_A_7 c i arg1 harg1 arg2 harg2 arg3 harg3 arg4 harg4 arg5 harg5 arg6 harg6 arg7 harg7 arg8 harg8 arg9 harg9 arg10 harg10 h0 h1 h2 h3 h4 h5 x0 x1 x2 x3 x4 = k0_pay5 (k0_pay10 x1) (k0_pay12 x0 x4) := by
  unfold out0_A_7
  rw [View.read_writes_junk_eq_canon]
  unfold kernelRun0_A
  dsimp only
  refine (View.canon_unit_zero zero_offsets _ _).trans ?_
  unfold kernelRun0_A.sl.r kernelRun0_A.sl.r_1
  simp only [load_eq, ld_whole]
theorem out_A8 (h0 h1 h2 h3 h4 h5) : out0_A_8 c i arg1 harg1 arg2 harg2 arg3 harg3 arg4 harg4 arg5 harg5 arg6 harg6 arg7 harg7 arg8 harg8 arg9 harg9 arg10 harg10 h0 h1 h2 h3 h4 h5 x0 x1 x2 x3 x4 = k0_pay8 (k0_pay12 x0 x4) := by
  unfold out0_A_8
  rw [View.read_writes_junk_eq_canon]
  unfold kernelRun0_A
  dsimp only
  refine (View.canon_unit_zero zero_offsets _ _).trans ?_
  unfold kernelRun0_A.sl.r_1
  simp only [load_eq, ld_whole]
theorem out_A9 (h0 h1 h2 h3 h4 h5) : out0_A_9 c i arg1 harg1 arg2 harg2 arg3 harg3 arg4 harg4 arg5 harg5 arg6 harg6 arg7 harg7 arg8 harg8 arg9 harg9 arg10 harg10 h0 h1 h2 h3 h4 h5 x0 x1 x2 x3 x4 = k0_pay14 x0 x4 := by
  unfold out0_A_9
  rw [View.read_writes_junk_eq_canon]
  unfold kernelRun0_A
  dsimp only
  refine (View.canon_unit_zero zero_offsets _ _).trans ?_
  simp only [load_eq, ld_whole]
theorem out_B5 (h0 h1 h2 h3 h4 h5) : out0_B_5 c i arg1 harg1 arg2 harg2 arg3 harg3 arg4 harg4 arg5 harg5 arg6 harg6 arg7 harg7 arg8 harg8 arg9 harg9 arg10 harg10 h0 h1 h2 h3 h4 h5 x0 x1 x2 x3 x4 xo7 xo8 xo9 = k0_pay2 (k0_pay10 x1) (k0_pay16 x2) (k0_pay17 x0 x4 x3) (k0_pay18 x0 x4 x3) (k0_pay19 x0 x1 x4 x3) := by
  unfold out0_B_5
  rw [View.read_writes_junk_eq_canon]
  unfold kernelRun0_B
  dsimp only
  refine (View.canon_unit_zero zero_offsets _ _).trans ?_
  unfold kernelRun0_B.sl.r kernelRun0_B.sl.r_2 kernelRun0_B.sl.r_3 kernelRun0_B.sl.r_4 kernelRun0_B.sl.r_5
  simp only [load_eq, ld_whole]
theorem out_B6 (h0 h1 h2 h3 h4 h5) : out0_B_6 c i arg1 harg1 arg2 harg2 arg3 harg3 arg4 harg4 arg5 harg5 arg6 harg6 arg7 harg7 arg8 harg8 arg9 harg9 arg10 harg10 h0 h1 h2 h3 h4 h5 x0 x1 x2 x3 x4 xo7 xo8 xo9 = k0_pay3 (k0_pay10 x1) (k0_pay16 x2) (k0_pay17 x0 x4 x3) (k0_pay18 x0 x4 x3) (k0_pay19 x0 x1 x4 x3) := by
  unfold out0_B_6
  rw [View.read_writes_junk_eq_canon]
  unfold kernelRun0_B
  dsimp only
  refine (View.canon_unit_zero zero_offsets _ _).trans ?_
  unfold kernelRun0_B.sl.r kernelRun0_B.sl.r_2 kernelRun0_B.sl.r_3 kernelRun0_B.sl.r_4 kernelRun0_B.sl.r_5
  simp only [load_eq, ld_whole]
theorem out_B7 (h0 h1 h2 h3 h4 h5) : out0_B_7 c i arg1 harg1 arg2 harg2 arg3 harg3 arg4 harg4 arg5 harg5 arg6 harg6 arg7 harg7 arg8 harg8 arg9 harg9 arg10 harg10 h0 h1 h2 h3 h4 h5 x0 x1 x2 x3 x4 xo7 xo8 xo9 = k0_pay6 (k0_pay10 x1) (k0_pay12 x0 x4) xo7 := by
  unfold out0_B_7
  rw [View.read_writes_junk_eq_canon]
  unfold kernelRun0_B
  dsimp only
  refine (View.canon_unit_zero zero_offsets _ _).trans ?_
  unfold kernelRun0_B.sl.r kernelRun0_B.sl.r_1
  simp only [load_eq, ld_whole]
theorem out_B8 (h0 h1 h2 h3 h4 h5) : out0_B_8 c i arg1 harg1 arg2 harg2 arg3 harg3 arg4 harg4 arg5 harg5 arg6 harg6 arg7 harg7 arg8 harg8 arg9 harg9 arg10 harg10 h0 h1 h2 h3 h4 h5 x0 x1 x2 x3 x4 xo7 xo8 xo9 = k0_pay9 (k0_pay12 x0 x4) xo8 := by
  unfold out0_B_8
  rw [View.read_writes_junk_eq_canon]
  unfold kernelRun0_B
  dsimp only
  refine (View.canon_unit_zero zero_offsets _ _).trans ?_
  unfold kernelRun0_B.sl.r_1
  simp only [load_eq, ld_whole]
theorem out_B9 (h0 h1 h2 h3 h4 h5) : out0_B_9 c i arg1 harg1 arg2 harg2 arg3 harg3 arg4 harg4 arg5 harg5 arg6 harg6 arg7 harg7 arg8 harg8 arg9 harg9 arg10 harg10 h0 h1 h2 h3 h4 h5 x0 x1 x2 x3 x4 xo7 xo8 xo9 = k0_pay15 x0 x4 xo9 := by
  unfold out0_B_9
  rw [View.read_writes_junk_eq_canon]
  unfold kernelRun0_B
  dsimp only
  refine (View.canon_unit_zero zero_offsets _ _).trans ?_
  simp only [load_eq, ld_whole]
end

theorem written5 : (outsAt0 m c t.val t.isLt).1 = k0_pay2 (k0_pay10 (iblk m c 1 t)) (k0_pay16 (iblk m c 2 t)) (k0_pay17 (iblk m c 0 t) (iblk m c 4 t) (iblk m c 3 t)) (k0_pay18 (iblk m c 0 t) (iblk m c 4 t) (iblk m c 3 t)) (k0_pay19 (iblk m c 0 t) (iblk m c 1 t) (iblk m c 4 t) (iblk m c 3 t)) := by
  have l := lt16 t
  rcases Nat.eq_zero_or_pos t.val with h | h
  · rw [outsAt0_A m c t (by omega) (by omega) (by omega) (by omega) (by omega) (by omega)]; dsimp only; rw [out_A5]
  · rw [outsAt0_B m c t (by omega) (by omega) (by omega) (by omega) (by omega) (by omega)]; dsimp only; rw [out_B5]
theorem written6 : (outsAt0 m c t.val t.isLt).2.1 = k0_pay3 (k0_pay10 (iblk m c 1 t)) (k0_pay16 (iblk m c 2 t)) (k0_pay17 (iblk m c 0 t) (iblk m c 4 t) (iblk m c 3 t)) (k0_pay18 (iblk m c 0 t) (iblk m c 4 t) (iblk m c 3 t)) (k0_pay19 (iblk m c 0 t) (iblk m c 1 t) (iblk m c 4 t) (iblk m c 3 t)) := by
  have l := lt16 t
  rcases Nat.eq_zero_or_pos t.val with h | h
  · rw [outsAt0_A m c t (by omega) (by omega) (by omega) (by omega) (by omega) (by omega)]; dsimp only; rw [out_A6]
  · rw [outsAt0_B m c t (by omega) (by omega) (by omega) (by omega) (by omega) (by omega)]; dsimp only; rw [out_B6]
/-- What output 7 holds after a point. -/
def gainAt : Vec Ideal S1x2048 .f32 := (outsAt0 m c t.val t.isLt).2.2.1
theorem gain_first (h : t.val = 0) : gainAt m c t = k0_pay5 (k0_pay10 (iblk m c 1 t)) (k0_pay12 (iblk m c 0 t) (iblk m c 4 t)) := by
  have l := lt16 t
  unfold gainAt; rw [outsAt0_A m c t (by omega) (by omega) (by omega) (by omega) (by omega) (by omega)]; dsimp only; rw [out_A7]
theorem gain_next (h : t.val ≠ 0) : gainAt m c t = k0_pay6 (k0_pay10 (iblk m c 1 t)) (k0_pay12 (iblk m c 0 t) (iblk m c 4 t)) (gainAt m c (prev t)) := by
  have l := lt16 t
  unfold gainAt; rw [outsAt0_B m c t (by omega) (by omega) (by omega) (by omega) (by omega) (by omega)]; dsimp only; rw [out_B7]; rfl
/-- What output 8 holds after a point. -/
def shiftAt : Vec Ideal S1x2048 .f32 := (outsAt0 m c t.val t.isLt).2.2.2.1
theorem shift_first (h : t.val = 0) : shiftAt m c t = k0_pay8 (k0_pay12 (iblk m c 0 t) (iblk m c 4 t)) := by
  have l := lt16 t
  unfold shiftAt; rw [outsAt0_A m c t (by omega) (by omega) (by omega) (by omega) (by omega) (by omega)]; dsimp only; rw [out_A8]
theorem shift_next (h : t.val ≠ 0) : shiftAt m c t = k0_pay9 (k0_pay12 (iblk m c 0 t) (iblk m c 4 t)) (shiftAt m c (prev t)) := by
  have l := lt16 t
  unfold shiftAt; rw [outsAt0_B m c t (by omega) (by omega) (by omega) (by omega) (by omega) (by omega)]; dsimp only; rw [out_B8]; rfl
/-- What output 9 holds after a point. -/
def lossAt : Vec Ideal S1x1 .f32 := (outsAt0 m c t.val t.isLt).2.2.2.2
theorem loss_first (h : t.val = 0) : lossAt m c t = k0_pay14 (iblk m c 0 t) (iblk m c 4 t) := by
  have l := lt16 t
  unfold lossAt; rw [outsAt0_A m c t (by omega) (by omega) (by omega) (by omega) (by omega) (by omega)]; dsimp only; rw [out_A9]
theorem loss_next (h : t.val ≠ 0) : lossAt m c t = k0_pay15 (iblk m c 0 t) (iblk m c 4 t) (lossAt m c (prev t)) := by
  have l := lt16 t
  unfold lossAt; rw [outsAt0_B m c t (by omega) (by omega) (by omega) (by omega) (by omega) (by omega)]; dsimp only; rw [out_B9]; rfl

/-! ## The operations on real arrays -/

section
variable (Y X T : Fin 256 → Fin 2048 → ℝ) (s : Fin 256 → ℝ) (g : Fin 2048 → ℝ)
theorem norm_real (i : S256x2048.Idx) : k0_pay2 (F := Ideal) (k0_pay10 (lift2 X)) (k0_pay16 (liftCol s)) (k0_pay17 (lift2 Y) (lift2 T) (liftRow g)) (k0_pay18 (lift2 Y) (lift2 T) (liftRow g)) (k0_pay19 (lift2 Y) (lift2 X) (lift2 T) (liftRow g)) i
    = ((normBack (s (i 0)) (X (i 0)) (fun j => ((Y (i 0) j - T (i 0) j) * (1 / 2048)) * g j) (i 1) : ℝ) : EReal) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  simp only [lift2_apply, liftCol_apply, liftRow_apply, width_bits, inv_width_bits, half_bits, ← EReal.coe_mul, coe_sum, coe_div width_ne, ← EReal.coe_sub]
  rfl
theorem norm_cast_real (i : S256x2048.Idx) : k0_pay3 (F := Ideal) (k0_pay10 (lift2 X)) (k0_pay16 (liftCol s)) (k0_pay17 (lift2 Y) (lift2 T) (liftRow g)) (k0_pay18 (lift2 Y) (lift2 T) (liftRow g)) (k0_pay19 (lift2 Y) (lift2 X) (lift2 T) (liftRow g)) i
    = ((normBack (s (i 0)) (X (i 0)) (fun j => ((Y (i 0) j - T (i 0) j) * (1 / 2048)) * g j) (i 1) : ℝ) : EReal) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  simp only [lift2_apply, liftCol_apply, liftRow_apply, width_bits, inv_width_bits, half_bits, ← EReal.coe_mul, coe_sum, coe_div width_ne, ← EReal.coe_sub]
  rfl
theorem gain_first_real (i : S1x2048.Idx) : k0_pay5 (F := Ideal) (k0_pay10 (lift2 X)) (k0_pay12 (lift2 Y) (lift2 T)) i = (((∑ r, X r (i 1) * ((Y r (i 1) - T r (i 1)) * (1 / 2048))) : ℝ) : EReal) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  simp only [lift2_apply, liftCol_apply, liftRow_apply, width_bits, inv_width_bits, half_bits, ← EReal.coe_mul, coe_sum, coe_div width_ne, ← EReal.coe_sub, mul_comm]
  rfl
theorem gain_real (w : FVec Ideal S1x2048 .f32) (i : S1x2048.Idx) : k0_pay6 (F := Ideal) (k0_pay10 (lift2 X)) (k0_pay12 (lift2 Y) (lift2 T)) w i = w i + (((∑ r, X r (i 1) * ((Y r (i 1) - T r (i 1)) * (1 / 2048))) : ℝ) : EReal) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  simp only [lift2_apply, liftCol_apply, liftRow_apply, width_bits, inv_width_bits, half_bits, ← EReal.coe_mul, coe_sum, coe_div width_ne, ← EReal.coe_sub, mul_comm]
  rfl
theorem shift_first_real (i : S1x2048.Idx) : k0_pay8 (F := Ideal) (k0_pay12 (lift2 Y) (lift2 T)) i = (((∑ r, ((Y r (i 1) - T r (i 1)) * (1 / 2048))) : ℝ) : EReal) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  simp only [lift2_apply, liftCol_apply, liftRow_apply, width_bits, inv_width_bits, half_bits, ← EReal.coe_mul, coe_sum, coe_div width_ne, ← EReal.coe_sub]
  rfl
theorem shift_real (w : FVec Ideal S1x2048 .f32) (i : S1x2048.Idx) : k0_pay9 (F := Ideal) (k0_pay12 (lift2 Y) (lift2 T)) w i = w i + (((∑ r, ((Y r (i 1) - T r (i 1)) * (1 / 2048))) : ℝ) : EReal) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  simp only [lift2_apply, liftCol_apply, liftRow_apply, width_bits, inv_width_bits, half_bits, ← EReal.coe_mul, coe_sum, coe_div width_ne, ← EReal.coe_sub]
  rfl
theorem loss_first_real (i : S1x1.Idx) : k0_pay14 (F := Ideal) (lift2 Y) (lift2 T) i = (((1 / 2 * ∑ r, (∑ j, (Y r j - T r j) * (Y r j - T r j)) * (1 / 2048)) : ℝ) : EReal) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  simp only [lift2_apply, liftCol_apply, liftRow_apply, width_bits, inv_width_bits, half_bits, ← EReal.coe_mul, coe_sum, coe_div width_ne, ← EReal.coe_sub]
  rfl
theorem loss_real (w : FVec Ideal S1x1 .f32) (i : S1x1.Idx) : k0_pay15 (F := Ideal) (lift2 Y) (lift2 T) w i = w i + (((1 / 2 * ∑ r, (∑ j, (Y r j - T r j) * (Y r j - T r j)) * (1 / 2048)) : ℝ) : EReal) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  simp only [lift2_apply, liftCol_apply, liftRow_apply, width_bits, inv_width_bits, half_bits, ← EReal.coe_mul, coe_sum, coe_div width_ne, ← EReal.coe_sub]
  rfl
end

/-! ## Real arguments -/

section
variable (z : Fin 4096 → Fin 2048 → ℝ) (g b : Fin 2048 → ℝ) (tg : Fin 4096 → Fin 2048 → ℝ)

/-- The arguments are these real arrays. -/
structure Args : Prop where
  a0 : m ((c : Thread nD τ).loc main_arg0) = lift2 z
  a1 : m ((c : Thread nD τ).loc main_arg1) = liftRow g
  a2 : m ((c : Thread nD τ).loc main_arg2) = liftRow b
  a3 : m ((c : Thread nD τ).loc main_arg3) = lift2 tg

variable {m c z g b tg} (H : Args m c z g b tg) (t : Fin cfg0.N)
include H

theorem blk0 : iblk m c 0 t = lift2 fun r l => xhat (z (row t r)) l * g l + b l := by
  funext j; show V m c main_v21 (((cfg0.win 0).blk t).view.emb j) = _; rw [emb0, V_v21, H.a0, H.a1, H.a2]; exact hNorm_real z g b (ix2 (row t (j 0)) (j 1))
theorem blk1 : iblk m c 1 t = lift2 fun r => xhat (z (row t r)) := by
  funext j; show V m c main_v17 (((cfg0.win 1).blk t).view.emb j) = _; rw [emb1, V_v17, H.a0]; exact Ker.hXhat_real z (ix2 (row t (j 0)) (j 1))
theorem blk2 : iblk m c 2 t = liftCol fun r => rstd (z (row t r)) := by
  funext j; show V m c main_v13 (((cfg0.win 2).blk t).view.emb j) = _; rw [emb2, V_v13, H.a0]; exact Ker.hRstd_real z (ix2 (row t (j 0)) (j 1))
theorem blk3 : iblk m c 3 t = liftRow g := by
  funext j; show V m c main_arg1 (((cfg0.win 3).blk t).view.emb j) = _; rw [emb3, V_main_arg1, H.a1]
theorem blk4 : iblk m c 4 t = lift2 fun r => tg (row t r) := by
  funext j; show V m c main_arg3 (((cfg0.win 4).blk t).view.emb j) = _; rw [emb4, V_main_arg3, H.a3]; rfl

/-! ## The arrays after the run -/

theorem final5 : (dats m 0 c).arrAt 5 cfg0.N = fun i => ((normBack (rstd (z (i 0))) (xhat (z (i 0))) (fun k => Dr z g b tg (i 0) k * g k) (i 1) : ℝ) : EReal) :=
  (dats m 0 c).arrAt_eq_of_cover 5 _ (fun t _ => by
    rw [flushed5, written5, blk0 H t, blk1 H t, blk2 H t, blk3 H t, blk4 H t]
    funext j
    refine (norm_real _ _ _ _ _ j).trans ?_
    show _ = (fun i : S4096x2048.Idx => ((normBack (rstd (z (i 0))) (xhat (z (i 0))) (fun k => Dr z g b tg (i 0) k * g k) (i 1) : ℝ) : EReal)) (((cfg0.win 5).blk t).view.emb j)
    rw [emb5]
    rfl) covered5
theorem final6 : (dats m 0 c).arrAt 6 cfg0.N = fun i => ((normBack (rstd (z (i 0))) (xhat (z (i 0))) (fun k => Dr z g b tg (i 0) k * g k) (i 1) : ℝ) : EReal) :=
  (dats m 0 c).arrAt_eq_of_cover 6 _ (fun t _ => by
    rw [flushed6, written6, blk0 H t, blk1 H t, blk2 H t, blk3 H t, blk4 H t]
    funext j
    refine (norm_cast_real _ _ _ _ _ j).trans ?_
    show _ = (fun i : S4096x2048.Idx => ((normBack (rstd (z (i 0))) (xhat (z (i 0))) (fun k => Dr z g b tg (i 0) k * g k) (i 1) : ℝ) : EReal)) (((cfg0.win 6).blk t).view.emb j)
    rw [emb6]
    rfl) covered6
theorem gain_after : ∀ (k : ℕ) (t : Fin cfg0.N) (ht : t.val = k) (i : S1x2048.Idx),
    gainAt m c t i = ((part 256 (fun r => xhat (z r) (i 1) * Dr z g b tg r (i 1)) (k + 1) : ℝ) : EReal)
  | 0, t, ht, i => by
    rw [gain_first m c t ht, blk0 H t, blk1 H t, blk4 H t]
    refine (gain_first_real _ _ _ i).trans (congrArg _ ?_)
    exact part_one 256 (fun r => xhat (z r) (i 1) * Dr z g b tg r (i 1)) (row t) fun r => by show 256 * t.val + r.val = r.val; omega
  | k + 1, t, ht, i => by
    have ih := gain_after k (prev t) (show t.val - 1 = k by omega) i
    rw [gain_next m c t (by omega), blk0 H t, blk1 H t, blk4 H t]
    refine (gain_real _ _ _ _ i).trans ?_
    rw [ih, ← EReal.coe_add]
    refine congrArg _ ?_
    exact part_succ 256 (fun r => xhat (z r) (i 1) * Dr z g b tg r (i 1)) (k + 1) (row t) fun r => by
      show 256 * t.val + r.val = 256 * (k + 1) + r.val; omega
theorem final7 : (dats m 0 c).arrAt 7 cfg0.N = fun i => ((∑ r, xhat (z r) (i 1) * Dr z g b tg r (i 1) : ℝ) : EReal) :=
  (dats m 0 c).arrAt_eq_of_cover 7 _ (fun t ht => by
    have h := (flush0_7 t).mp ht
    have l := lt16 t
    rw [flushed7]
    funext j
    show gainAt m c t j = (fun i : S1x2048.Idx => ((∑ r, xhat (z r) (i 1) * Dr z g b tg r (i 1) : ℝ) : EReal)) (((cfg0.win 7).blk t).view.emb j)
    rw [emb7, gain_after H 15 t (by omega)]
    exact congrArg (fun r : ℝ => ((r : ℝ) : EReal)) (part_all 256 _ 16 rfl)) covered7
theorem shift_after : ∀ (k : ℕ) (t : Fin cfg0.N) (ht : t.val = k) (i : S1x2048.Idx),
    shiftAt m c t i = ((part 256 (fun r => Dr z g b tg r (i 1)) (k + 1) : ℝ) : EReal)
  | 0, t, ht, i => by
    rw [shift_first m c t ht, blk0 H t, blk4 H t]
    refine (shift_first_real _ _ i).trans (congrArg _ ?_)
    exact part_one 256 (fun r => Dr z g b tg r (i 1)) (row t) fun r => by show 256 * t.val + r.val = r.val; omega
  | k + 1, t, ht, i => by
    have ih := shift_after k (prev t) (show t.val - 1 = k by omega) i
    rw [shift_next m c t (by omega), blk0 H t, blk4 H t]
    refine (shift_real _ _ _ i).trans ?_
    rw [ih, ← EReal.coe_add]
    refine congrArg _ ?_
    exact part_succ 256 (fun r => Dr z g b tg r (i 1)) (k + 1) (row t) fun r => by
      show 256 * t.val + r.val = 256 * (k + 1) + r.val; omega
theorem final8 : (dats m 0 c).arrAt 8 cfg0.N = fun i => ((∑ r, Dr z g b tg r (i 1) : ℝ) : EReal) :=
  (dats m 0 c).arrAt_eq_of_cover 8 _ (fun t ht => by
    have h := (flush0_8 t).mp ht
    have l := lt16 t
    rw [flushed8]
    funext j
    show shiftAt m c t j = (fun i : S1x2048.Idx => ((∑ r, Dr z g b tg r (i 1) : ℝ) : EReal)) (((cfg0.win 8).blk t).view.emb j)
    rw [emb8, shift_after H 15 t (by omega)]
    exact congrArg (fun r : ℝ => ((r : ℝ) : EReal)) (part_all 256 _ 16 rfl)) covered8
theorem loss_after : ∀ (k : ℕ) (t : Fin cfg0.N) (ht : t.val = k) (i : S1x1.Idx),
    lossAt m c t i = ((1 / 2 * part 256 (fun r => rowLoss z g b tg r) (k + 1) : ℝ) : EReal)
  | 0, t, ht, i => by
    rw [loss_first m c t ht, blk0 H t, blk4 H t]
    refine (loss_first_real _ _ i).trans (congrArg _ ?_)
    exact congrArg (1 / 2 * ·) (part_one 256 (fun r => rowLoss z g b tg r) (row t) fun r => by show 256 * t.val + r.val = r.val; omega)
  | k + 1, t, ht, i => by
    have ih := loss_after k (prev t) (show t.val - 1 = k by omega) i
    rw [loss_next m c t (by omega), blk0 H t, blk4 H t]
    refine (loss_real _ _ _ i).trans ?_
    rw [ih, ← EReal.coe_add]
    refine congrArg _ ?_
    rw [← mul_add]
    exact congrArg (1 / 2 * ·) (part_succ 256 (fun r => rowLoss z g b tg r) (k + 1) (row t) fun r => by
      show 256 * t.val + r.val = 256 * (k + 1) + r.val; omega)
theorem final9 : (dats m 0 c).arrAt 9 cfg0.N = fun i => ((1 / 2 * ∑ r, rowLoss z g b tg r : ℝ) : EReal) :=
  (dats m 0 c).arrAt_eq_of_cover 9 _ (fun t ht => by
    have h := (flush0_9 t).mp ht
    have l := lt16 t
    rw [flushed9]
    funext j
    show lossAt m c t j = (fun i : S1x1.Idx => ((1 / 2 * ∑ r, rowLoss z g b tg r : ℝ) : EReal)) (((cfg0.win 9).blk t).view.emb j)
    rw [emb9, loss_after H 15 t (by omega)]
    exact congrArg (fun r : ℝ => ((1 / 2 * r : ℝ) : EReal)) (part_all 256 _ 16 rfl)) covered9
end

/-! ## Both runs -/

theorem real_args (x0 : FVec Ideal Cert.Pre_finite22.S4096x2048 .f32) (x1 x2 : FVec Ideal Cert.Pre_finite22.S1x2048 .f32)
    (x3 : FVec Ideal Cert.Pre_finite22.S4096x2048 .f32)
    (h : letI := Cert.Pre_finite22.Gen.facts; Cert.Pre_finite22.fn (F := Ideal) x0 x1 x2 x3 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have e := congrFun h (fun a => a.elim0)
  dsimp only [Cert.Pre_finite22.fn, Cert.Pre_finite22.fn_part1, andi] at e
  simp only [IntOp.andi_eq_one] at e
  obtain ⟨⟨⟨e0, e1⟩, e2⟩, e3⟩ := e
  exact ⟨fun i => real_at x0 _ i (Host.reduce_andi_all _ _ _ _ _ e0 i), fun i => real_at x1 _ i (Host.reduce_andi_all _ _ _ _ _ e1 i),
    fun i => real_at x2 _ i (Host.reduce_andi_all _ _ _ _ _ e2 i), fun i => real_at x3 _ i (Host.reduce_andi_all _ _ _ _ _ e3 i)⟩

theorem exists_args (h : letI := Cert.Pre_finite22.Gen.facts; Cert.Pre_Kernel22Ideal_finite22 m) : ∃ z g b tg, Args m c z g b tg := by
  obtain ⟨h0, h1, h2, h3⟩ := real_args _ _ _ _ (h c)
  obtain ⟨z, hz⟩ := exists_lift2 _ h0
  obtain ⟨g, hg⟩ := exists_liftRow _ h1
  obtain ⟨b, hb⟩ := exists_liftRow _ h2
  obtain ⟨tg, htg⟩ := exists_lift2 _ h3
  exact ⟨z, g, b, tg, hz, hg, hb, htg⟩

section
variable {m c} {x0 : FVec Ideal Cert.Reference22Ideal.S4096x2048 .f32} {x1 x2 : FVec Ideal Cert.Reference22Ideal.S1x2048 .f32}
  {x3 : FVec Ideal Cert.Reference22Ideal.S4096x2048 .f32} {z : Fin 4096 → Fin 2048 → ℝ} {g b : Fin 2048 → ℝ} {tg : Fin 4096 → Fin 2048 → ℝ} (H : Args m c z g b tg)
  (l0 : x0 = m ((c : Thread nD τ).loc main_arg0)) (l1 : x1 = m ((c : Thread nD τ).loc main_arg1))
  (l2 : x2 = m ((c : Thread nD τ).loc main_arg2)) (l3 : x3 = m ((c : Thread nD τ).loc main_arg3))
include H l0 l1 l2 l3

theorem agree5 : Cert.Reference22Ideal.Read.val_main_v78 (F := Ideal) x0 x1 x2 x3 = (dats m 0 c).arrAt 5 cfg0.N := by
  rw [l0, l1, l2, l3, H.a0, H.a1, H.a2, H.a3, final5 H]
  exact funext (Ref.v78 z g b tg)
theorem agree6 : Cert.Reference22Ideal.Read.val_main_v81 (F := Ideal) x0 x1 x2 x3 = (dats m 0 c).arrAt 6 cfg0.N := by
  rw [l0, l1, l2, l3, H.a0, H.a1, H.a2, H.a3, final6 H]
  exact funext (Ref.v81 z g b tg)
theorem agree7 : Cert.Reference22Ideal.Read.val_main_v80 (F := Ideal) x0 x1 x2 x3 = (dats m 0 c).arrAt 7 cfg0.N := by
  rw [l0, l1, l2, l3, H.a0, H.a1, H.a2, H.a3, final7 H]
  exact funext (Ref.v80 z g b tg)
theorem agree8 : Cert.Reference22Ideal.Read.val_main_v79 (F := Ideal) x0 x1 x2 x3 = (dats m 0 c).arrAt 8 cfg0.N := by
  rw [l0, l1, l2, l3, H.a0, H.a1, H.a2, H.a3, final8 H]
  exact funext (Ref.v79 z g b tg)
theorem agree9 : Cert.Reference22Ideal.Read.val_main_v82 (F := Ideal) x0 x1 x2 x3 = (dats m 0 c).arrAt 9 cfg0.N := by
  rw [l0, l1, l2, l3, H.a0, H.a1, H.a2, H.a3, final9 H]
  exact funext (Ref.v82 z g b tg)
end

theorem algebraic : letI := Cert.Kernel22Ideal.Gen.facts; letI := Cert.Reference22Ideal.Gen.facts; letI := Cert.Pre_finite22.Gen.facts
    Cert.algebraic_Kernel22Ideal_Reference22Ideal_pre_finite22 := by
  intro m ρ m' ρ' hpre hargs
  refine ⟨fun c => (dats m 0 c).arrAt 5 cfg0.N, fun c => (dats m 0 c).arrAt 6 cfg0.N, fun c => (dats m 0 c).arrAt 7 cfg0.N, fun c => (dats m 0 c).arrAt 8 cfg0.N, fun c => (dats m 0 c).arrAt 9 cfg0.N, run_blocks m ρ, ?_⟩
  refine (θ_run _ _ _).mono (fun r h c => ?_) (Cert.Reference22Ideal.Value.run m' ρ')
  obtain ⟨e0, e1, e2, e3⟩ := hargs c
  obtain ⟨z, g, b, tg, H⟩ := exists_args m c hpre
  obtain ⟨r0, r1, r2, r3, r4, rest⟩ := h c
  exact ⟨r0.trans ((Cert.Reference22Ideal.Read.val_main_v78_eq m' c).trans (agree5 H e0 e1 e2 e3)),
    r1.trans ((Cert.Reference22Ideal.Read.val_main_v81_eq m' c).trans (agree6 H e0 e1 e2 e3)),
    r2.trans ((Cert.Reference22Ideal.Read.val_main_v80_eq m' c).trans (agree7 H e0 e1 e2 e3)),
    r3.trans ((Cert.Reference22Ideal.Read.val_main_v79_eq _ _ _ _).trans (agree8 H e0 e1 e2 e3)),
    r4.trans ((Cert.Reference22Ideal.Read.val_main_v82_eq m' c).trans (agree9 H e0 e1 e2 e3)), rest⟩

end Cert.Proof.LastLoss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite3
public import proofs.«01_k».proof.Proof.Gen.Pre_finite22
public import proofs.«01_k».proof.Proof.Gen.Pre_finite23
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Algebraic
public import proofs.«01_k».proof.Proof.DownDx
public import proofs.«01_k».proof.Proof.UpDx
public import proofs.«01_k».proof.Proof.DownDw
public import proofs.«01_k».proof.Proof.UpDw
public import proofs.«01_k».proof.Proof.Up
public import proofs.«01_k».proof.Proof.DownLn
public import proofs.«01_k».proof.Proof.Proj
public import proofs.«01_k».proof.Proof.ProjDx
public import proofs.«01_k».proof.Proof.ProjDw
public import proofs.«01_k».proof.Proof.OprojLn
public import proofs.«01_k».proof.Proof.OprojDw
public import proofs.«01_k».proof.Proof.BranchDw
public import Idealize.ShloMosaic.Adequacy
public import Idealize.ShloMosaic.Init
public import proofs.«01_k».proof.Proof.XqDw
public import proofs.«01_k».proof.Proof.XoDw
public import proofs.«01_k».proof.Proof.XkvDw
public import proofs.«01_k».proof.Proof.Xkv
public import proofs.«01_k».proof.Proof.Merge
public import proofs.«01_k».proof.Proof.OprojDx
public import proofs.«01_k».proof.Proof.XattnFwd
public import proofs.«01_k».proof.Proof.LastLn
public import proofs.«01_k».proof.Proof.LastLoss

@[expose] public section

noncomputable section

namespace Cert.Proof

open Idealize.ShloMosaic Idealize.SL.Sem

theorem frame_reference : letI := Cert.ReferenceIdeal.Gen.facts; Cert.quiescent_ReferenceIdeal := by
  intro m ρ _
  exact (θ_run Cert.ReferenceIdeal.defs _ _).mono (fun r h => ⟨fun c => (h c).2.2.2.2.2.2, Idealize.ShloMosaic.sem_eq_zero_of_no_sems (by decide) r.2⟩)
    (Cert.ReferenceIdeal.Value.run (F := Ideal) m ρ)
theorem frame_reference2 : letI := Cert.Reference2Ideal.Gen.facts; Cert.quiescent_Reference2Ideal := by
  intro m ρ _
  exact (θ_run Cert.Reference2Ideal.defs _ _).mono (fun r h => ⟨fun c => (h c).2, Idealize.ShloMosaic.sem_eq_zero_of_no_sems (by decide) r.2⟩)
    (Cert.Reference2Ideal.Value.run (F := Ideal) m ρ)
theorem frame_reference3 : letI := Cert.Reference3Ideal.Gen.facts; Cert.quiescent_Reference3Ideal := by
  intro m ρ _
  exact (θ_run Cert.Reference3Ideal.defs _ _).mono (fun r h => ⟨fun c => (h c).2.2.2.2, Idealize.ShloMosaic.sem_eq_zero_of_no_sems (by decide) r.2⟩)
    (Cert.Reference3Ideal.Value.run (F := Ideal) m ρ)
theorem frame_reference4 : letI := Cert.Reference4Ideal.Gen.facts; Cert.quiescent_Reference4Ideal := by
  intro m ρ _
  exact (θ_run Cert.Reference4Ideal.defs _ _).mono (fun r h => ⟨fun c => (h c).2, Idealize.ShloMosaic.sem_eq_zero_of_no_sems (by decide) r.2⟩)
    (Cert.Reference4Ideal.Value.run (F := Ideal) m ρ)
theorem frame_reference5 : letI := Cert.Reference5Ideal.Gen.facts; Cert.quiescent_Reference5Ideal := by
  intro m ρ _
  exact (θ_run Cert.Reference5Ideal.defs _ _).mono (fun r h => ⟨fun c => (h c).2, Idealize.ShloMosaic.sem_eq_zero_of_no_sems (by decide) r.2⟩)
    (Cert.Reference5Ideal.Value.run (F := Ideal) m ρ)
theorem frame_reference6 : letI := Cert.Reference6Ideal.Gen.facts; Cert.quiescent_Reference6Ideal := by
  intro m ρ _
  exact (θ_run Cert.Reference6Ideal.defs _ _).mono (fun r h => ⟨fun c => (h c).2.2, Idealize.ShloMosaic.sem_eq_zero_of_no_sems (by decide) r.2⟩)
    (Cert.Reference6Ideal.Value.run (F := Ideal) m ρ)
theorem frame_reference7 : letI := Cert.Reference7Ideal.Gen.facts; Cert.quiescent_Reference7Ideal := by
  intro m ρ _
  exact (θ_run Cert.Reference7Ideal.defs _ _).mono (fun r h => ⟨fun c => (h c).2.2.2.2, Idealize.ShloMosaic.sem_eq_zero_of_no_sems (by decide) r.2⟩)
    (Cert.Reference7Ideal.Value.run (F := Ideal) m ρ)
theorem frame_reference8 : letI := Cert.Reference8Ideal.Gen.facts; Cert.quiescent_Reference8Ideal := by
  intro m ρ _
  exact (θ_run Cert.Reference8Ideal.defs _ _).mono (fun r h => ⟨fun c => (h c).2, Idealize.ShloMosaic.sem_eq_zero_of_no_sems (by decide) r.2⟩)
    (Cert.Reference8Ideal.Value.run (F := Ideal) m ρ)
theorem frame_reference9 : letI := Cert.Reference9Ideal.Gen.facts; Cert.quiescent_Reference9Ideal := by
  intro m ρ _
  exact (θ_run Cert.Reference9Ideal.defs _ _).mono (fun r h => ⟨fun c => (h c).2, Idealize.ShloMosaic.sem_eq_zero_of_no_sems (by decide) r.2⟩)
    (Cert.Reference9Ideal.Value.run (F := Ideal) m ρ)
theorem frame_reference10 : letI := Cert.Reference10Ideal.Gen.facts; Cert.quiescent_Reference10Ideal := by
  intro m ρ _
  exact (θ_run Cert.Reference10Ideal.defs _ _).mono (fun r h => ⟨fun c => (h c).2, Idealize.ShloMosaic.sem_eq_zero_of_no_sems (by decide) r.2⟩)
    (Cert.Reference10Ideal.Value.run (F := Ideal) m ρ)
theorem frame_reference11 : letI := Cert.Reference11Ideal.Gen.facts; Cert.quiescent_Reference11Ideal := by
  intro m ρ _
  exact (θ_run Cert.Reference11Ideal.defs _ _).mono (fun r h => ⟨fun c => (h c).2.2.2.2, Idealize.ShloMosaic.sem_eq_zero_of_no_sems (by decide) r.2⟩)
    (Cert.Reference11Ideal.Value.run (F := Ideal) m ρ)
theorem frame_reference12 : letI := Cert.Reference12Ideal.Gen.facts; Cert.quiescent_Reference12Ideal := by
  intro m ρ _
  exact (θ_run Cert.Reference12Ideal.defs _ _).mono (fun r h => ⟨fun c => (h c).2, Idealize.ShloMosaic.sem_eq_zero_of_no_sems (by decide) r.2⟩)
    (Cert.Reference12Ideal.Value.run (F := Ideal) m ρ)
theorem frame_reference13 : letI := Cert.Reference13Ideal.Gen.facts; Cert.quiescent_Reference13Ideal := by
  intro m ρ _
  exact (θ_run Cert.Reference13Ideal.defs _ _).mono (fun r h => ⟨fun c => (h c).2, Idealize.ShloMosaic.sem_eq_zero_of_no_sems (by decide) r.2⟩)
    (Cert.Reference13Ideal.Value.run (F := Ideal) m ρ)
theorem frame_reference14 : letI := Cert.Reference14Ideal.Gen.facts; Cert.quiescent_Reference14Ideal := by
  intro m ρ _
  exact (θ_run Cert.Reference14Ideal.defs _ _).mono (fun r h => ⟨fun c => (h c).2, Idealize.ShloMosaic.sem_eq_zero_of_no_sems (by decide) r.2⟩)
    (Cert.Reference14Ideal.Value.run (F := Ideal) m ρ)
theorem frame_reference15 : letI := Cert.Reference15Ideal.Gen.facts; Cert.quiescent_Reference15Ideal := by
  intro m ρ _
  exact (θ_run Cert.Reference15Ideal.defs _ _).mono (fun r h => ⟨fun c => (h c).2, Idealize.ShloMosaic.sem_eq_zero_of_no_sems (by decide) r.2⟩)
    (Cert.Reference15Ideal.Value.run (F := Ideal) m ρ)
theorem frame_reference16 : letI := Cert.Reference16Ideal.Gen.facts; Cert.quiescent_Reference16Ideal := by
  intro m ρ _
  exact (θ_run Cert.Reference16Ideal.defs _ _).mono (fun r h => ⟨fun c => (h c).2, Idealize.ShloMosaic.sem_eq_zero_of_no_sems (by decide) r.2⟩)
    (Cert.Reference16Ideal.Value.run (F := Ideal) m ρ)
theorem frame_reference17 : letI := Cert.Reference17Ideal.Gen.facts; Cert.quiescent_Reference17Ideal := by
  intro m ρ _
  exact (θ_run Cert.Reference17Ideal.defs _ _).mono (fun r h => ⟨fun c => (h c).2, Idealize.ShloMosaic.sem_eq_zero_of_no_sems (by decide) r.2⟩)
    (Cert.Reference17Ideal.Value.run (F := Ideal) m ρ)
theorem frame_reference18 : letI := Cert.Reference18Ideal.Gen.facts; Cert.quiescent_Reference18Ideal := by
  intro m ρ _
  exact (θ_run Cert.Reference18Ideal.defs _ _).mono (fun r h => ⟨fun c => (h c).2.2.2, Idealize.ShloMosaic.sem_eq_zero_of_no_sems (by decide) r.2⟩)
    (Cert.Reference18Ideal.Value.run (F := Ideal) m ρ)
theorem frame_reference19 : letI := Cert.Reference19Ideal.Gen.facts; Cert.quiescent_Reference19Ideal := by
  intro m ρ _
  exact (θ_run Cert.Reference19Ideal.defs _ _).mono (fun r h => ⟨fun c => (h c).2.2.2.2.2, Idealize.ShloMosaic.sem_eq_zero_of_no_sems (by decide) r.2⟩)
    (Cert.Reference19Ideal.Value.run (F := Ideal) m ρ)
theorem frame_reference20 : letI := Cert.Reference20Ideal.Gen.facts; Cert.quiescent_Reference20Ideal := by
  intro m ρ _
  exact (θ_run Cert.Reference20Ideal.defs _ _).mono (fun r h => ⟨fun c => (h c).2.2.2.2.2.2, Idealize.ShloMosaic.sem_eq_zero_of_no_sems (by decide) r.2⟩)
    (Cert.Reference20Ideal.Value.run (F := Ideal) m ρ)
theorem frame_reference23 : letI := Cert.Reference23Ideal.Gen.facts; Cert.quiescent_Reference23Ideal := by
  intro m ρ _
  exact (θ_run Cert.Reference23Ideal.defs _ _).mono (fun r h => ⟨fun c => (h c).2.2.2.2, Idealize.ShloMosaic.sem_eq_zero_of_no_sems (by decide) r.2⟩)
    (Cert.Reference23Ideal.Value.run (F := Ideal) m ρ)
theorem frame_reference22 : letI := Cert.Reference22Ideal.Gen.facts; Cert.quiescent_Reference22Ideal := by
  intro m ρ _
  exact (θ_run Cert.Reference22Ideal.defs _ _).mono (fun r h => ⟨fun c => (h c).2.2.2.2.2, Idealize.ShloMosaic.sem_eq_zero_of_no_sems (by decide) r.2⟩)
    (Cert.Reference22Ideal.Value.run (F := Ideal) m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts,
    Cert.Kernel14Ideal.Gen.facts, Cert.Reference14Ideal.Gen.facts, Cert.Kernel15.Gen.facts, Cert.Kernel15Ideal.Gen.facts,
    Cert.Reference15Ideal.Gen.facts, Cert.Kernel16.Gen.facts, Cert.Kernel16Ideal.Gen.facts, Cert.Reference16Ideal.Gen.facts,
    Cert.Kernel17.Gen.facts, Cert.Kernel17Ideal.Gen.facts, Cert.Reference17Ideal.Gen.facts, Cert.Kernel18.Gen.facts,
    Cert.Kernel18Ideal.Gen.facts, Cert.Reference18Ideal.Gen.facts, Cert.Kernel19.Gen.facts, Cert.Kernel19Ideal.Gen.facts,
    Cert.Reference19Ideal.Gen.facts, Cert.Kernel20.Gen.facts, Cert.Kernel20Ideal.Gen.facts, Cert.Reference20Ideal.Gen.facts,
    Cert.Kernel23.Gen.facts, Cert.Kernel23Ideal.Gen.facts, Cert.Reference23Ideal.Gen.facts, Cert.Kernel22.Gen.facts,
    Cert.Kernel22Ideal.Gen.facts, Cert.Reference22Ideal.Gen.facts, Cert.Pre_finite.Gen.facts, Cert.Pre_finite3.Gen.facts,
    Cert.Pre_finite23.Gen.facts, Cert.Pre_finite22.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    fun m ρ _ => Cert.Kernel3Ideal.Gen.frame m ρ,
    frame_reference3,
    fun m ρ _ => frame_reference3 m ρ trivial,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    fun m ρ _ => Cert.Kernel17.Gen.frame m ρ,
    fun m ρ _ => Cert.Kernel17Ideal.Gen.frame m ρ,
    frame_reference17,
    fun m ρ _ => Cert.Kernel18.Gen.frame m ρ,
    fun m ρ _ => Cert.Kernel18Ideal.Gen.frame m ρ,
    frame_reference18,
    fun m ρ _ => Cert.Kernel19.Gen.frame m ρ,
    fun m ρ _ => Cert.Kernel19Ideal.Gen.frame m ρ,
    frame_reference19,
    fun m ρ _ => Cert.Kernel20.Gen.frame m ρ,
    fun m ρ _ => Cert.Kernel20Ideal.Gen.frame m ρ,
    frame_reference20,
    fun m ρ _ => Cert.Kernel23.Gen.frame m ρ,
    fun m ρ _ => Cert.Kernel23Ideal.Gen.frame m ρ,
    fun m ρ _ => Cert.Kernel23Ideal.Gen.frame m ρ,
    frame_reference23,
    fun m ρ _ => frame_reference23 m ρ trivial,
    fun m ρ _ => Cert.Kernel22.Gen.frame m ρ,
    fun m ρ _ => Cert.Kernel22Ideal.Gen.frame m ρ,
    fun m ρ _ => Cert.Kernel22Ideal.Gen.frame m ρ,
    frame_reference22,
    fun m ρ _ => frame_reference22 m ρ trivial,
    trivial,
    algebraic,
    trivial,
    DownDx.algebraic,
    trivial,
    UpDx.algebraic,
    trivial,
    DownDw.algebraic,
    trivial,
    UpDw.algebraic,
    trivial,
    Up.algebraic,
    trivial,
    DownLn.algebraic,
    trivial,
    Proj.algebraic,
    trivial,
    ProjDx.algebraic,
    trivial,
    ProjDw.algebraic,
    trivial,
    OprojLn.algebraic,
    trivial,
    OprojDw.algebraic,
    trivial,
    BranchDw.algebraic,
    trivial,
    XqDw.algebraic,
    trivial,
    XoDw.algebraic,
    trivial,
    XkvDw.algebraic,
    trivial,
    Xkv.algebraic,
    trivial,
    Merge.algebraic,
    trivial,
    OprojDx.algebraic,
    trivial,
    XattnFwd.algebraic,
    trivial,
    LastLn.algebraic,
    trivial,
    LastLoss.algebraic⟩

end Cert.Proof

end
